-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_counts_of_a_routing [hPre_counts_of_a_routing : Cert.Pre_counts_of_a_routing.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_of_a_routing.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counts_of_a_routing [hPre_counts_of_a_routing : Cert.Pre_counts_of_a_routing.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_of_a_routing.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_counts_of_a_routing_down [hPre_counts_of_a_routing_down : Cert.Pre_counts_of_a_routing_down.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_counts_of_a_routing_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_counts_of_a_routing_down [hPre_counts_of_a_routing_down : Cert.Pre_counts_of_a_routing_down.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_counts_of_a_routing_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_counts_of_a_routing [hKernel2Ideal : Cert.Kernel2Ideal.Facts] [hPre_counts_of_a_routing : Cert.Pre_counts_of_a_routing.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_counts_of_a_routing m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_counts_of_a_routing [hReference2Ideal : Cert.Reference2Ideal.Facts] [hPre_counts_of_a_routing : Cert.Pre_counts_of_a_routing.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counts_of_a_routing m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_counts_of_a_routing_down [hKernel3Ideal : Cert.Kernel3Ideal.Facts] [hPre_counts_of_a_routing_down : Cert.Pre_counts_of_a_routing_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_counts_of_a_routing_down m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_counts_of_a_routing_down [hReference3Ideal : Cert.Reference3Ideal.Facts] [hPre_counts_of_a_routing_down : Cert.Pre_counts_of_a_routing_down.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_counts_of_a_routing_down m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "gelu_c_cubic" .f32 0x3D122279#32 (((6693141 / 8388608) * (12003091 / 268435456) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_counts_of_a_routing [hKernel2Ideal : Cert.Kernel2Ideal.Facts] [hReference2Ideal : Cert.Reference2Ideal.Facts] [hPre_counts_of_a_routing : Cert.Pre_counts_of_a_routing.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_counts_of_a_routing m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v91)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v91) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_counts_of_a_routing_down [hKernel3Ideal : Cert.Kernel3Ideal.Facts] [hReference3Ideal : Cert.Reference3Ideal.Facts] [hPre_counts_of_a_routing_down : Cert.Pre_counts_of_a_routing_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_counts_of_a_routing_down m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v91)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v91) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_counts_of_a_routing : Cert.Pre_counts_of_a_routing.Facts) (hPre_counts_of_a_routing_down : Cert.Pre_counts_of_a_routing_down.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_counts_of_a_routing (hKernel2Ideal := hKernel2Ideal) (hPre_counts_of_a_routing := hPre_counts_of_a_routing)
    ∧ quiescent_Reference2Ideal (hReference2Ideal := hReference2Ideal)
    ∧ quiescent_Reference2Ideal_pre_counts_of_a_routing (hReference2Ideal := hReference2Ideal) (hPre_counts_of_a_routing := hPre_counts_of_a_routing)
    ∧ quiescent_Kernel3 (hKernel3 := hKernel3)
    ∧ quiescent_Kernel3Ideal (hKernel3Ideal := hKernel3Ideal)
    ∧ quiescent_Kernel3Ideal_pre_counts_of_a_routing_down (hKernel3Ideal := hKernel3Ideal) (hPre_counts_of_a_routing_down := hPre_counts_of_a_routing_down)
    ∧ quiescent_Reference3Ideal (hReference3Ideal := hReference3Ideal)
    ∧ quiescent_Reference3Ideal_pre_counts_of_a_routing_down (hReference3Ideal := hReference3Ideal) (hPre_counts_of_a_routing_down := hPre_counts_of_a_routing_down)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_counts_of_a_routing (hKernel2Ideal := hKernel2Ideal) (hReference2Ideal := hReference2Ideal) (hPre_counts_of_a_routing := hPre_counts_of_a_routing)
    ∧ preserves_Kernel3_Kernel3Ideal
    ∧ algebraic_Kernel3Ideal_Reference3Ideal_pre_counts_of_a_routing_down (hKernel3Ideal := hKernel3Ideal) (hReference3Ideal := hReference3Ideal) (hPre_counts_of_a_routing_down := hPre_counts_of_a_routing_down)
-- ==== Pre_counts_of_a_routing.lean ====
abbrev S32 : Shape := ⟨1, ![32]⟩
abbrev S786432x128 : Shape := ⟨2, ![786432, 128]⟩
abbrev S1x32x2048x4096 : Shape := ⟨4, ![1, 32, 2048, 4096]⟩
abbrev S1x32x4096 : Shape := ⟨3, ![1, 32, 4096]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : FVec F S786432x128 .f32) (main_arg2 : FVec F S1x32x2048x4096 .f32) (main_arg3 : FVec F S1x32x4096 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 8192#32
  let main_v2 : IVec S32 32 := broadcastInDim S32 ![] bcast_S_S32 main_c_0
  let main_v3 : IVec S32 1 := cmpi .sle main_arg0 main_v2
  let main_v4 : IVec S32 1 := andi main_v1 main_v3
  main_v4
-- ==== Pre_counts_of_a_routing_down.lean ====
abbrev S32 : Shape := ⟨1, ![32]⟩
abbrev S49152x2048 : Shape := ⟨2, ![49152, 2048]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : FVec F S49152x2048 .bf16) (main_arg2 : FVec F S1x32x2048x2048 .f32) (main_arg3 : FVec F S1x32x2048 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 8192#32
  let main_v2 : IVec S32 32 := broadcastInDim S32 ![] bcast_S_S32 main_c_0
  let main_v3 : IVec S32 1 := cmpi .sle main_arg0 main_v2
  let main_v4 : IVec S32 1 := andi main_v1 main_v3
  main_v4
-- ==== Kernel.lean ====
abbrev S8192x2048 : Shape := ⟨2, ![8192, 2048]⟩
abbrev S1x2048x14368 : Shape := ⟨3, ![1, 2048, 14368]⟩
abbrev S1x14368x2048 : Shape := ⟨3, ![1, 14368, 2048]⟩
abbrev S8192x14336 : Shape := ⟨2, ![8192, 14336]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩
abbrev S256x2048 : Shape := ⟨2, ![256, 2048]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x14368, .f32⟩
  | .hbm, ⟨2, _⟩ => ⟨S1x14368x2048, .f32⟩
  | .hbm, ⟨3, _⟩ => ⟨S8192x14336, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c4_i32 : BitVec 32 := 4#32
  let v1 : BitVec 1 := Scalar.cmpi .sge arg0 c4_i32
  let c32_i32 : BitVec 32 := 32#32
  let c0_i32 : BitVec 32 := 0#32
  let v2 : BitVec 32 := Scalar.select v1 c32_i32 c0_i32
  let v3 : BitVec 32 := Scalar.addi v0 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4_i32 : BitVec 32 := 4#32
  let v1 : BitVec 1 := Scalar.cmpi .sge arg0 c4_i32
  let c32_i32 : BitVec 32 := 32#32
  let c0_i32 : BitVec 32 := 0#32
  let v2 : BitVec 32 := Scalar.select v1 c32_i32 c0_i32
  let v3 : BitVec 32 := Scalar.addi v0 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "gelu_c_cubic" => some (((6693141 / 8388608) * (12003091 / 268435456) : ℝ) : EReal)
  | _ => none
-- ==== ReferenceIdeal.lean ====
abbrev S8192x2048 : Shape := ⟨2, ![8192, 2048]⟩
abbrev S1x2048x14368 : Shape := ⟨3, ![1, 2048, 14368]⟩
abbrev S2048x14368 : Shape := ⟨2, ![2048, 14368]⟩
abbrev S8192x14368 : Shape := ⟨2, ![8192, 14368]⟩
abbrev S8192x4096 : Shape := ⟨2, ![8192, 4096]⟩
abbrev S_ : Shape := ⟨0, ![]⟩
abbrev S8192x14336 : Shape := ⟨2, ![8192, 14336]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x14368, .f32⟩
  | .hbm, ⟨2, _⟩ => ⟨S8192x2048, .f32⟩
  | .hbm, ⟨3, _⟩ => ⟨S2048x14368, .f32⟩
  | .hbm, ⟨4, _⟩ => ⟨S8192x14368, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x14336, .f32⟩
  | .hbm, ⟨61, _⟩ => ⟨S8192x14336, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel2.lean ====
abbrev S32 : Shape := ⟨1, ![32]⟩
abbrev S786432x128 : Shape := ⟨2, ![786432, 128]⟩
abbrev S1x32x2048x4096 : Shape := ⟨4, ![1, 32, 2048, 4096]⟩
abbrev S1x32x4096 : Shape := ⟨3, ![1, 32, 4096]⟩
abbrev S_ : Shape := ⟨0, ![]⟩
abbrev S1 : Shape := ⟨1, ![1]⟩
abbrev S96 : Shape := ⟨1, ![96]⟩
abbrev S1x32 : Shape := ⟨2, ![1, 32]⟩
abbrev S96x1 : Shape := ⟨2, ![96, 1]⟩
abbrev S96x32 : Shape := ⟨2, ![96, 32]⟩
abbrev S95 : Shape := ⟨1, ![95]⟩
abbrev S32x2048x4096 : Shape := ⟨3, ![32, 2048, 4096]⟩
abbrev S32x4096 : Shape := ⟨2, ![32, 4096]⟩
abbrev S32x1x4096 : Shape := ⟨3, ![32, 1, 4096]⟩
abbrev S49152x2048 : Shape := ⟨2, ![49152, 2048]⟩
abbrev S8192x128 : Shape := ⟨2, ![8192, 128]⟩
abbrev S1x1x1024 : Shape := ⟨3, ![1, 1, 1024]⟩
abbrev S512x1024 : Shape := ⟨2, ![512, 1024]⟩
abbrev S2x2x2048x1024 : Shape := ⟨4, ![2, 2, 2048, 1024]⟩
abbrev S2 : Shape := ⟨1, ![2]⟩
abbrev S2048x1024 : Shape := ⟨2, ![2048, 1024]⟩
abbrev S1x1x2048x1024 : Shape := ⟨4, ![1, 1, 2048, 1024]⟩
abbrev S1x2048x1024 : Shape := ⟨3, ![1, 2048, 1024]⟩
abbrev S128x128 : Shape := ⟨2, ![128, 128]⟩
abbrev S128x2048 : Shape := ⟨2, ![128, 2048]⟩
abbrev S128x1024 : Shape := ⟨2, ![128, 1024]⟩
abbrev S1x1024 : Shape := ⟨2, ![1, 1024]⟩
abbrev S384x1024 : Shape := ⟨2, ![384, 1024]⟩
abbrev S256x128 : Shape := ⟨2, ![256, 128]⟩
abbrev S256x2048 : Shape := ⟨2, ![256, 2048]⟩
abbrev S256x1024 : Shape := ⟨2, ![256, 1024]⟩

abbrev nBuf : Space → Nat
  | .hbm => 159
  | .vmem => 11
  | .smem => 9
  | _ => 0

abbrev hbmTy0_0 (i : Nat) : BufTy := match i % 128 with
  | 0 => ⟨S32, .i32⟩
  | 1 => ⟨S786432x128, .f32⟩
  | 2 => ⟨S1x32x2048x4096, .f32⟩
  | 3 => ⟨S1x32x4096, .f32⟩
  | 4 => ⟨S_, .i32⟩
  | 5 => ⟨S32, .i32⟩
  | 6 => ⟨S32, .i32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S32, .i32⟩
  | 35 => ⟨S1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i1⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S96, .i32⟩
  | 55 => ⟨S_, .i32⟩
  | 56 => ⟨S96, .i32⟩
  | 57 => ⟨S96, .i32⟩
  | 58 => ⟨S1x32, .i32⟩
  | 59 => ⟨S96x1, .i32⟩
  | 60 => ⟨S96x32, .i32⟩
  | 61 => ⟨S96x32, .i32⟩
  | 62 => ⟨S96x32, .i1⟩
  | 63 => ⟨S96x32, .i32⟩
  | 64 => ⟨S_, .i32⟩
  | 65 => ⟨S96, .i32⟩
  | 66 => ⟨S_, .i32⟩
  | 67 => ⟨S96, .i32⟩
  | 68 => ⟨S_, .i32⟩
  | 69 => ⟨S96, .i32⟩
  | 70 => ⟨S96, .i1⟩
  | 71 => ⟨S_, .i32⟩
  | 72 => ⟨S96, .i32⟩
  | 73 => ⟨S96, .i32⟩
  | 74 => ⟨S96, .i32⟩
  | 75 => ⟨S96x1, .i32⟩
  | 76 => ⟨S96, .i32⟩
  | 77 => ⟨S_, .i32⟩
  | 78 => ⟨S96, .i32⟩
  | 79 => ⟨S96, .i1⟩
  | 80 => ⟨S_, .i32⟩
  | 81 => ⟨S96, .i32⟩
  | 82 => ⟨S96, .i32⟩
  | 83 => ⟨S96, .i32⟩
  | 84 => ⟨S96x1, .i32⟩
  | 85 => ⟨S96, .i32⟩
  | 86 => ⟨S96, .i32⟩
  | 87 => ⟨S96, .i32⟩
  | 88 => ⟨S_, .i32⟩
  | 89 => ⟨S_, .i32⟩
  | 90 => ⟨S_, .i32⟩
  | 91 => ⟨S96, .i32⟩
  | 92 => ⟨S96, .i32⟩
  | 93 => ⟨S_, .i32⟩
  | 94 => ⟨S96, .i32⟩
  | 95 => ⟨S96, .i32⟩
  | 96 => ⟨S96, .i32⟩
  | 97 => ⟨S96, .i1⟩
  | 98 => ⟨S_, .i32⟩
  | 99 => ⟨S_, .i32⟩
  | 100 => ⟨S96, .i32⟩
  | 101 => ⟨S_, .i32⟩
  | 102 => ⟨S1, .i32⟩
  | 103 => ⟨S95, .i32⟩
  | 104 => ⟨S96, .i32⟩
  | 105 => ⟨S96, .i1⟩
  | 106 => ⟨S_, .i32⟩
  | 107 => ⟨S96, .i32⟩
  | 108 => ⟨S96, .i1⟩
  | 109 => ⟨S96, .i1⟩
  | 110 => ⟨S_, .i32⟩
  | 111 => ⟨S_, .i32⟩
  | 112 => ⟨S96, .i32⟩
  | 113 => ⟨S_, .i32⟩
  | 114 => ⟨S96, .i32⟩
  | 115 => ⟨S1, .i32⟩
  | 116 => ⟨S_, .i32⟩
  | 117 => ⟨S_, .i32⟩
  | 118 => ⟨S_, .i32⟩
  | 119 => ⟨S_, .i32⟩
  | 120 => ⟨S_, .i32⟩
  | 121 => ⟨S96, .i32⟩
  | 122 => ⟨S96, .i1⟩
  | 123 => ⟨S_, .i32⟩
  | 124 => ⟨S96, .i32⟩
  | 125 => ⟨S96, .i1⟩
  | 126 => ⟨S_, .i32⟩
  | 127 => ⟨S_, .i32⟩
  | _ => ⟨S32, .i32⟩

abbrev hbmTy0_1 (i : Nat) : BufTy := match i % 128 with
  | 0 => ⟨S96, .i32⟩
  | 1 => ⟨S96, .i32⟩
  | 2 => ⟨S_, .i32⟩
  | 3 => ⟨S_, .i32⟩
  | 4 => ⟨S96, .i32⟩
  | 5 => ⟨S95, .i32⟩
  | 6 => ⟨S_, .i32⟩
  | 7 => ⟨S1, .i32⟩
  | 8 => ⟨S96, .i32⟩
  | 9 => ⟨S_, .i32⟩
  | 10 => ⟨S96, .i32⟩
  | 11 => ⟨S96, .i1⟩
  | 12 => ⟨S_, .i32⟩
  | 13 => ⟨S96, .i32⟩
  | 14 => ⟨S96, .i32⟩
  | 15 => ⟨S_, .i32⟩
  | 16 => ⟨S96, .i32⟩
  | 17 => ⟨S96, .i1⟩
  | 18 => ⟨S_, .i32⟩
  | 19 => ⟨S96, .i32⟩
  | 20 => ⟨S96, .i32⟩
  | 21 => ⟨S96, .i32⟩
  | 22 => ⟨S96x1, .i32⟩
  | 23 => ⟨S96, .i32⟩
  | 24 => ⟨S1, .i32⟩
  | 25 => ⟨S_, .i32⟩
  | 26 => ⟨S96, .i32⟩
  | 27 => ⟨S32x2048x4096, .f32⟩
  | 28 => ⟨S32x4096, .f32⟩
  | 29 => ⟨S32x1x4096, .f32⟩
  | 30 => ⟨S49152x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S2x2x2048x1024, .f32⟩
  | .local _ .vmem, ⟨9, _⟩ => ⟨S2048x1024, .bf16⟩
  | .local _ .vmem, ⟨10, _⟩ => ⟨S2048x1024, .bf16⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | .local _ .smem, ⟨4, _⟩ => ⟨S96, .i32⟩
  | .local _ .smem, ⟨5, _⟩ => ⟨S96, .i32⟩
  | .local _ .smem, ⟨6, _⟩ => ⟨S96, .i32⟩
  | .local _ .smem, ⟨7, _⟩ => ⟨S96, .i32⟩
  | .local _ .smem, ⟨8, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v11 : Ref sig .tc := ⟨.hbm, 49, rfl⟩
abbrev main_c_4 : Ref sig .tc := ⟨.hbm, 50, rfl⟩
abbrev main_v13 : Ref sig .tc := ⟨.hbm, 51, rfl⟩
abbrev main_c_5 : Ref sig .tc := ⟨.hbm, 52, rfl⟩
abbrev main_v14 : Ref sig .tc := ⟨.hbm, 53, rfl⟩
abbrev main_v15 : Ref sig .tc := ⟨.hbm, 54, rfl⟩
abbrev main_c_6 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_7 : Ref sig .tc := ⟨.hbm, 64, rfl⟩
abbrev main_v25 : Ref sig .tc := ⟨.hbm, 65, rfl⟩
abbrev main_c_8 : Ref sig .tc := ⟨.hbm, 66, rfl⟩
abbrev main_v26 : Ref sig .tc := ⟨.hbm, 67, rfl⟩
abbrev main_c_9 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_11 : Ref sig .tc := ⟨.hbm, 77, rfl⟩
abbrev main_v35 : Ref sig .tc := ⟨.hbm, 78, rfl⟩
abbrev main_v36 : Ref sig .tc := ⟨.hbm, 79, rfl⟩
abbrev main_c_12 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_13 : Ref sig .tc := ⟨.hbm, 88, rfl⟩
abbrev main_c_14 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_15 : Ref sig .tc := ⟨.hbm, 98, rfl⟩
abbrev main_call4_v0 : Ref sig .tc := ⟨.hbm, 99, rfl⟩
abbrev main_call4_v1 : Ref sig .tc := ⟨.hbm, 100, rfl⟩
abbrev main_c_16 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_17 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_call5_call0_c : Ref sig .tc := ⟨.hbm, 110, rfl⟩
abbrev main_call5_call0_v0 : Ref sig .tc := ⟨.hbm, 111, rfl⟩
abbrev main_v56 : Ref sig .tc := ⟨.hbm, 112, rfl⟩
abbrev main_c_18 : Ref sig .tc := ⟨.hbm, 113, rfl⟩
abbrev main_v57 : Ref sig .tc := ⟨.hbm, 114, rfl⟩
abbrev main_v59 : Ref sig .tc := ⟨.hbm, 115, rfl⟩
abbrev main_v60 : Ref sig .tc := ⟨.hbm, 116, rfl⟩
abbrev main_c_19 : Ref sig .tc := ⟨.hbm, 117, rfl⟩
abbrev main_v61 : Ref sig .tc := ⟨.hbm, 118, rfl⟩
abbrev main_c_20 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_c_21 : Ref sig .tc := ⟨.hbm, 123, rfl⟩
abbrev main_v66 : Ref sig .tc := ⟨.hbm, 124, rfl⟩
abbrev main_v67 : Ref sig .tc := ⟨.hbm, 125, rfl⟩
abbrev main_c_22 : Ref sig .tc := ⟨.hbm, 126, rfl⟩
abbrev main_call6_v0 : Ref sig .tc := ⟨.hbm, 127, rfl⟩
abbrev main_call6_v1 : Ref sig .tc := ⟨.hbm, 128, rfl⟩
abbrev main_v68 : Ref sig .tc := ⟨.hbm, 129, rfl⟩
abbrev main_call7_c : Ref sig .tc := ⟨.hbm, 130, rfl⟩
abbrev main_call7_v0 : Ref sig .tc := ⟨.hbm, 131, rfl⟩
abbrev main_v69 : Ref sig .tc := ⟨.hbm, 132, rfl⟩
abbrev main_v70 : Ref sig .tc := ⟨.hbm, 133, rfl⟩
abbrev main_c_23 : Ref sig .tc := ⟨.hbm, 134, rfl⟩
abbrev main_v71 : Ref sig .tc := ⟨.hbm, 135, rfl⟩
abbrev main_v72 : Ref sig .tc := ⟨.hbm, 136, rfl⟩
abbrev main_c_24 : Ref sig .tc := ⟨.hbm, 137, rfl⟩
abbrev main_v73 : Ref sig .tc := ⟨.hbm, 138, rfl⟩
abbrev main_v74 : Ref sig .tc := ⟨.hbm, 139, rfl⟩
abbrev main_c_25 : Ref sig .tc := ⟨.hbm, 140, rfl⟩
abbrev main_v75 : Ref sig .tc := ⟨.hbm, 141, rfl⟩
abbrev main_v76 : Ref sig .tc := ⟨.hbm, 142, rfl⟩
abbrev main_c_26 : Ref sig .tc := ⟨.hbm, 143, rfl⟩
abbrev main_v77 : Ref sig .tc := ⟨.hbm, 144, rfl⟩
abbrev main_v78 : Ref sig .tc := ⟨.hbm, 145, rfl⟩
abbrev main_c_27 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_call8_v0 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v16 : Ref sig .tc := ⟨.smem, 0, rfl⟩
abbrev main_v12 : Ref sig .tc := ⟨.smem, 1, rfl⟩
abbrev main_v27 : Ref sig .tc := ⟨.smem, 2, rfl⟩
abbrev main_v47 : Ref sig .tc := ⟨.smem, 3, rfl⟩
abbrev main_v55 : Ref sig .tc := ⟨.smem, 4, rfl⟩
abbrev main_v58 : Ref sig .tc := ⟨.smem, 5, rfl⟩
abbrev main_v65 : Ref sig .tc := ⟨.smem, 6, rfl⟩
abbrev main_v86 : Ref sig .tc := ⟨.smem, 7, rfl⟩
abbrev main_v87 : Ref sig .tc := ⟨.smem, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 96], ![false, false]⟩

abbrev pre0 : Pipeline.Prefetch sig := ⟨9, ![main_v16.idx, main_v12.idx, main_v27.idx, main_v47.idx, main_v55.idx, main_v58.idx, main_v65.idx, main_v86.idx, main_v87.idx], fun | 0 => main_v16.names | 1 => main_v12.names | 2 => main_v27.names | 3 => main_v47.names | 4 => main_v55.names | 5 => main_v58.names | 6 => main_v65.names | 7 => main_v86.names | 8 => main_v87.names | ⟨_ + 9, h⟩ => absurd h (Nat.not_lt.2 (Nat.le_add_left _ _)), fun | 0 => rfl | 1 => rfl | 2 => rfl | 3 => rfl | 4 => rfl | 5 => rfl | 6 => rfl | 7 => rfl | 8 => rfl | ⟨_ + 9, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v32 : Index := Scalar.indexCast arg1
  ![v32.toNat]
def k0_cond2 (i : grid0.Coords) : BitVec 1 :=
  let arg0 : BitVec 32 := BitVec.ofNat 32 (i 0).val
  let c0_i32_15 : BitVec 32 := 0#32
  let v45 : BitVec 1 := Scalar.cmpi .eq arg0 c0_i32_15
  let arg1 : BitVec 32 := BitVec.ofNat 32 (i 1).val
  let c0_i32_16 : BitVec 32 := 0#32
  let v46 : BitVec 1 := Scalar.cmpi .eq arg1 c0_i32_16
  let v47 : BitVec 1 := Scalar.andi v45 v46
  let v48 : BitVec 32 := Scalar.extui v47
  let c0_i32_17 : BitVec 32 := 0#32
  let v49 : BitVec 1 := Scalar.cmpi .ne v48 c0_i32_17
  v49

def k0_off3 (i : grid0.Coords) : Fin 1 → Nat :=
  let arg1 : BitVec 32 := BitVec.ofNat 32 (i 1).val
  let v94 : Index := Scalar.indexCast arg1
  ![v94.toNat]
def k0_mult1 (i : grid0.Coords) : BitVec 32 :=
  let arg0 : BitVec 32 := BitVec.ofNat 32 (i 0).val
  let c1024_i32_42 : BitVec 32 := 1024#32
  let v96 : BitVec 32 := Scalar.muli arg0 c1024_i32_42
  v96
def k0_mult2 (i : grid0.Coords) : BitVec 32 :=
  let c2_i32_43 : BitVec 32 := 2#32
  let arg0 : BitVec 32 := BitVec.ofNat 32 (i 0).val
  let v97 : BitVec 32 := Scalar.addi c2_i32_43 arg0
  let c1024_i32_44 : BitVec 32 := 1024#32
  let v98 : BitVec 32 := Scalar.muli v97 c1024_i32_44
  v98
def k0_off4 (i : grid0.Coords) (v30 : BitVec 32) (v33 : BitVec 32) : Fin 1 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  ![v44.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off5 (i : grid0.Coords) (v30 : BitVec 32) (v33 : BitVec 32) : Fin 4 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let c0_i32_45 : BitVec 32 := 0#32
  let c0_i32_46 : BitVec 32 := 0#32
  let c0_i32_47 : BitVec 32 := 0#32
  ![v44.toNat, 0, 0, 0]
def k0_off6 (i : grid0.Coords) (v95 : BitVec 32) : Fin 3 → Nat :=
  let c0_i32_48 : BitVec 32 := 0#32
  let arg0 : BitVec 32 := BitVec.ofNat 32 (i 0).val
  let c1024_i32_42 : BitVec 32 := 1024#32
  let v96 : BitVec 32 := Scalar.muli arg0 c1024_i32_42
  let v99 : BitVec 32 := v96
  ![v95.toNat, 0, v99.toNat]

def k0_off7 (i : grid0.Coords) (v30 : BitVec 32) (v33 : BitVec 32) : Fin 1 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  ![v44.toNat]
def k0_off8 (i : grid0.Coords) (v30 : BitVec 32) (v33 : BitVec 32) : Fin 4 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let c1_i32_49 : BitVec 32 := 1#32
  let c0_i32_50 : BitVec 32 := 0#32
  let c0_i32_51 : BitVec 32 := 0#32
  ![v44.toNat, 1, 0, 0]
def k0_off9 (i : grid0.Coords) (v95 : BitVec 32) : Fin 3 → Nat :=
  let c0_i32_52 : BitVec 32 := 0#32
  let c2_i32_43 : BitVec 32 := 2#32
  let arg0 : BitVec 32 := BitVec.ofNat 32 (i 0).val
  let v97 : BitVec 32 := Scalar.addi c2_i32_43 arg0
  let c1024_i32_44 : BitVec 32 := 1024#32
  let v98 : BitVec 32 := Scalar.muli v97 c1024_i32_44
  let v100 : BitVec 32 := v98
  ![v95.toNat, 0, v100.toNat]

def k0_chk2 (i : grid0.Coords) (v1 : BitVec 32) (v95 : BitVec 32) : Prop :=
  (∀ (k0_h1 : k0_cond1 v1 = 1#1), ∀ (k0_h2 : k0_cond2 i = 1#1), ∀ a, (k0_off6 i v95) a + S1x2048x1024.size a ≤ S32x2048x4096.size a) ∧
  (∀ (k0_h1 : k0_cond1 v1 = 1#1), ∀ (k0_h2 : k0_cond2 i = 1#1), ∀ a, (k0_off9 i v95) a + S1x2048x1024.size a ≤ S32x2048x4096.size a)
theorem k0_off6_inb : ∀ (i : grid0.Coords) (v1 : BitVec 32) (v95 : BitVec 32) (k0_hw2 : k0_chk2 i v1 v95), ∀ (k0_h1 : k0_cond1 v1 = 1#1), ∀ (k0_h2 : k0_cond2 i = 1#1), ∀ a, (k0_off6 i v95) a + S1x2048x1024.size a ≤ S32x2048x4096.size a := fun i v1 v95 k0_hw2 k0_h1 k0_h2 => k0_hw2.1 k0_h1 k0_h2
theorem k0_off9_inb : ∀ (i : grid0.Coords) (v1 : BitVec 32) (v95 : BitVec 32) (k0_hw2 : k0_chk2 i v1 v95), ∀ (k0_h1 : k0_cond1 v1 = 1#1), ∀ (k0_h2 : k0_cond2 i = 1#1), ∀ a, (k0_off9 i v95) a + S1x2048x1024.size a ≤ S32x2048x4096.size a := fun i v1 v95 k0_hw2 k0_h1 k0_h2 => k0_hw2.2 k0_h1 k0_h2

def k0_off10 (i : grid0.Coords) : Fin 1 → Nat :=
  let arg1 : BitVec 32 := BitVec.ofNat 32 (i 1).val
  let v50 : Index := Scalar.indexCast arg1
  ![v50.toNat]
def k0_mult3 (i : grid0.Coords) : BitVec 32 :=
  let arg0 : BitVec 32 := BitVec.ofNat 32 (i 0).val
  let c1024_i32 : BitVec 32 := 1024#32
  let v52 : BitVec 32 := Scalar.muli arg0 c1024_i32
  v52
def k0_mult4 (i : grid0.Coords) : BitVec 32 :=
  let c2_i32_18 : BitVec 32 := 2#32
  let arg0 : BitVec 32 := BitVec.ofNat 32 (i 0).val
  let v53 : BitVec 32 := Scalar.addi c2_i32_18 arg0
  let c1024_i32_19 : BitVec 32 := 1024#32
  let v54 : BitVec 32 := Scalar.muli v53 c1024_i32_19
  v54
def k0_off11 (i : grid0.Coords) (v30 : BitVec 32) (v33 : BitVec 32) : Fin 1 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  ![v44.toNat]
def k0_off12 (i : grid0.Coords) (v30 : BitVec 32) (v33 : BitVec 32) : Fin 4 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let c0_i32_20 : BitVec 32 := 0#32
  let c0_i32_21 : BitVec 32 := 0#32
  let c0_i32_22 : BitVec 32 := 0#32
  ![v44.toNat, 0, 0, 0]
def k0_off13 (i : grid0.Coords) (v51 : BitVec 32) : Fin 3 → Nat :=
  let c0_i32_23 : BitVec 32 := 0#32
  let arg0 : BitVec 32 := BitVec.ofNat 32 (i 0).val
  let c1024_i32 : BitVec 32 := 1024#32
  let v52 : BitVec 32 := Scalar.muli arg0 c1024_i32
  let v55 : BitVec 32 := v52
  ![v51.toNat, 0, v55.toNat]

def k0_off14 (i : grid0.Coords) (v30 : BitVec 32) (v33 : BitVec 32) : Fin 1 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  ![v44.toNat]
def k0_off15 (i : grid0.Coords) (v30 : BitVec 32) (v33 : BitVec 32) : Fin 4 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let c1_i32_24 : BitVec 32 := 1#32
  let c0_i32_25 : BitVec 32 := 0#32
  let c0_i32_26 : BitVec 32 := 0#32
  ![v44.toNat, 1, 0, 0]
def k0_off16 (i : grid0.Coords) (v51 : BitVec 32) : Fin 3 → Nat :=
  let c0_i32_27 : BitVec 32 := 0#32
  let c2_i32_18 : BitVec 32 := 2#32
  let arg0 : BitVec 32 := BitVec.ofNat 32 (i 0).val
  let v53 : BitVec 32 := Scalar.addi c2_i32_18 arg0
  let c1024_i32_19 : BitVec 32 := 1024#32
  let v54 : BitVec 32 := Scalar.muli v53 c1024_i32_19
  let v56 : BitVec 32 := v54
  ![v51.toNat, 0, v56.toNat]

def k0_chk3 (i : grid0.Coords) (v1 : BitVec 32) (v51 : BitVec 32) : Prop :=
  (∀ (k0_h1 : k0_cond1 v1 = 1#1), ∀ a, (k0_off13 i v51) a + S1x2048x1024.size a ≤ S32x2048x4096.size a) ∧
  (∀ (k0_h1 : k0_cond1 v1 = 1#1), ∀ a, (k0_off16 i v51) a + S1x2048x1024.size a ≤ S32x2048x4096.size a)
theorem k0_off13_inb : ∀ (i : grid0.Coords) (v1 : BitVec 32) (v51 : BitVec 32) (k0_hw3 : k0_chk3 i v1 v51), ∀ (k0_h1 : k0_cond1 v1 = 1#1), ∀ a, (k0_off13 i v51) a + S1x2048x1024.size a ≤ S32x2048x4096.size a := fun i v1 v51 k0_hw3 k0_h1 => k0_hw3.1 k0_h1
theorem k0_off16_inb : ∀ (i : grid0.Coords) (v1 : BitVec 32) (v51 : BitVec 32) (k0_hw3 : k0_chk3 i v1 v51), ∀ (k0_h1 : k0_cond1 v1 = 1#1), ∀ a, (k0_off16 i v51) a + S1x2048x1024.size a ≤ S32x2048x4096.size a := fun i v1 v51 k0_hw3 k0_h1 => k0_hw3.2 k0_h1

def k0_off17 (i : grid0.Coords) : Fin 1 → Nat :=
  let arg1 : BitVec 32 := BitVec.ofNat 32 (i 1).val
  let v69 : Index := Scalar.indexCast arg1
  ![v69.toNat]
def k0_off18 (i : grid0.Coords) : Fin 1 → Nat :=
  let arg1 : BitVec 32 := BitVec.ofNat 32 (i 1).val
  let v94 : Index := Scalar.indexCast arg1
  ![v94.toNat]
def k0_mult5 (i : grid0.Coords) : BitVec 32 :=
  let arg0 : BitVec 32 := BitVec.ofNat 32 (i 0).val
  let c1024_i32_42 : BitVec 32 := 1024#32
  let v96 : BitVec 32 := Scalar.muli arg0 c1024_i32_42
  v96
def k0_mult6 (i : grid0.Coords) : BitVec 32 :=
  let c2_i32_43 : BitVec 32 := 2#32
  let arg0 : BitVec 32 := BitVec.ofNat 32 (i 0).val
  let v97 : BitVec 32 := Scalar.addi c2_i32_43 arg0
  let c1024_i32_44 : BitVec 32 := 1024#32
  let v98 : BitVec 32 := Scalar.muli v97 c1024_i32_44
  v98
def k0_off19 (i : grid0.Coords) (v30 : BitVec 32) (v33 : BitVec 32) : Fin 1 → Nat :=
  let c1_i32_45 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v99 : BitVec 32 := Scalar.subi c1_i32_45 v44
  ![v99.toNat]
def k0_cond3 (v70 : BitVec 32) : BitVec 1 :=
  let c1_i32_28 : BitVec 32 := 1#32
  let v71 : BitVec 1 := Scalar.cmpi .eq v70 c1_i32_28
  let v_true : BitVec 1 := 1#1
  let v72 : BitVec 1 := Scalar.xori v71 v_true
  let v73 : BitVec 32 := Scalar.extui v72
  let c0_i32_29 : BitVec 32 := 0#32
  let v74 : BitVec 1 := Scalar.cmpi .ne v73 c0_i32_29
  v74

def k0_off20 (i : grid0.Coords) (v30 : BitVec 32) (v33 : BitVec 32) : Fin 4 → Nat :=
  let c1_i32_45 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v99 : BitVec 32 := Scalar.subi c1_i32_45 v44
  let c0_i32_46 : BitVec 32 := 0#32
  let c0_i32_47 : BitVec 32 := 0#32
  let c0_i32_48 : BitVec 32 := 0#32
  ![v99.toNat, 0, 0, 0]
def k0_off21 (i : grid0.Coords) (v95 : BitVec 32) : Fin 3 → Nat :=
  let c0_i32_49 : BitVec 32 := 0#32
  let arg0 : BitVec 32 := BitVec.ofNat 32 (i 0).val
  let c1024_i32_42 : BitVec 32 := 1024#32
  let v96 : BitVec 32 := Scalar.muli arg0 c1024_i32_42
  let v100 : BitVec 32 := v96
  ![v95.toNat, 0, v100.toNat]

def k0_off22 (i : grid0.Coords) (v30 : BitVec 32) (v33 : BitVec 32) : Fin 1 → Nat :=
  let c1_i32_45 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v99 : BitVec 32 := Scalar.subi c1_i32_45 v44
  ![v99.toNat]
def k0_off23 (i : grid0.Coords) (v30 : BitVec 32) (v33 : BitVec 32) : Fin 4 → Nat :=
  let c1_i32_45 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v99 : BitVec 32 := Scalar.subi c1_i32_45 v44
  let c1_i32_50 : BitVec 32 := 1#32
  let c0_i32_51 : BitVec 32 := 0#32
  let c0_i32_52 : BitVec 32 := 0#32
  ![v99.toNat, 1, 0, 0]
def k0_off24 (i : grid0.Coords) (v95 : BitVec 32) : Fin 3 → Nat :=
  let c0_i32_53 : BitVec 32 := 0#32
  let c2_i32_43 : BitVec 32 := 2#32
  let arg0 : BitVec 32 := BitVec.ofNat 32 (i 0).val
  let v97 : BitVec 32 := Scalar.addi c2_i32_43 arg0
  let c1024_i32_44 : BitVec 32 := 1024#32
  let v98 : BitVec 32 := Scalar.muli v97 c1024_i32_44
  let v101 : BitVec 32 := v98
  ![v95.toNat, 0, v101.toNat]

def k0_chk5 (i : grid0.Coords) (v1 : BitVec 32) (v70 : BitVec 32) (v95 : BitVec 32) : Prop :=
  (∀ (k0_h1 : k0_cond1 v1 = 1#1), ∀ (k0_h3 : k0_cond3 v70 = 1#1), ∀ a, (k0_off21 i v95) a + S1x2048x1024.size a ≤ S32x2048x4096.size a) ∧
  (∀ (k0_h1 : k0_cond1 v1 = 1#1), ∀ (k0_h3 : k0_cond3 v70 = 1#1), ∀ a, (k0_off24 i v95) a + S1x2048x1024.size a ≤ S32x2048x4096.size a)
theorem k0_off21_inb : ∀ (i : grid0.Coords) (v1 : BitVec 32) (v70 : BitVec 32) (v95 : BitVec 32) (k0_hw5 : k0_chk5 i v1 v70 v95), ∀ (k0_h1 : k0_cond1 v1 = 1#1), ∀ (k0_h3 : k0_cond3 v70 = 1#1), ∀ a, (k0_off21 i v95) a + S1x2048x1024.size a ≤ S32x2048x4096.size a := fun i v1 v70 v95 k0_hw5 k0_h1 k0_h3 => k0_hw5.1 k0_h1 k0_h3
theorem k0_off24_inb : ∀ (i : grid0.Coords) (v1 : BitVec 32) (v70 : BitVec 32) (v95 : BitVec 32) (k0_hw5 : k0_chk5 i v1 v70 v95), ∀ (k0_h1 : k0_cond1 v1 = 1#1), ∀ (k0_h3 : k0_cond3 v70 = 1#1), ∀ a, (k0_off24 i v95) a + S1x2048x1024.size a ≤ S32x2048x4096.size a := fun i v1 v70 v95 k0_hw5 k0_h1 k0_h3 => k0_hw5.2 k0_h1 k0_h3

def k0_off25 (i : grid0.Coords) : Fin 1 → Nat :=
  let arg1 : BitVec 32 := BitVec.ofNat 32 (i 1).val
  let v94 : Index := Scalar.indexCast arg1
  ![v94.toNat]
def k0_mult7 (i : grid0.Coords) : BitVec 32 :=
  let arg0 : BitVec 32 := BitVec.ofNat 32 (i 0).val
  let c1_i32_42 : BitVec 32 := 1#32
  let v96 : BitVec 32 := Scalar.addi arg0 c1_i32_42
  let c1024_i32_43 : BitVec 32 := 1024#32
  let v97 : BitVec 32 := Scalar.muli v96 c1024_i32_43
  v97
def k0_mult8 (i : grid0.Coords) : BitVec 32 :=
  let c2_i32_44 : BitVec 32 := 2#32
  let arg0 : BitVec 32 := BitVec.ofNat 32 (i 0).val
  let c1_i32_42 : BitVec 32 := 1#32
  let v96 : BitVec 32 := Scalar.addi arg0 c1_i32_42
  let v98 : BitVec 32 := Scalar.addi c2_i32_44 v96
  let c1024_i32_45 : BitVec 32 := 1024#32
  let v99 : BitVec 32 := Scalar.muli v98 c1024_i32_45
  v99
def k0_off26 (i : grid0.Coords) (v30 : BitVec 32) (v33 : BitVec 32) : Fin 1 → Nat :=
  let c1_i32_46 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v100 : BitVec 32 := Scalar.subi c1_i32_46 v44
  ![v100.toNat]
def k0_cond4 (i : grid0.Coords) (v70 : BitVec 32) : BitVec 1 :=
  let c1_i32_28 : BitVec 32 := 1#32
  let v71 : BitVec 1 := Scalar.cmpi .eq v70 c1_i32_28
  let arg0 : BitVec 32 := BitVec.ofNat 32 (i 0).val
  let c1_i32_30 : BitVec 32 := 1#32
  let v75 : BitVec 32 := Scalar.addi arg0 c1_i32_30
  let c2_i32_31 : BitVec 32 := 2#32
  let v76 : BitVec 1 := Scalar.cmpi .slt v75 c2_i32_31
  let v77 : BitVec 1 := Scalar.andi v71 v76
  let v78 : BitVec 32 := Scalar.extui v77
  let c0_i32_32 : BitVec 32 := 0#32
  let v79 : BitVec 1 := Scalar.cmpi .ne v78 c0_i32_32
  v79

def k0_off27 (i : grid0.Coords) (v30 : BitVec 32) (v33 : BitVec 32) : Fin 4 → Nat :=
  let c1_i32_46 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v100 : BitVec 32 := Scalar.subi c1_i32_46 v44
  let c0_i32_47 : BitVec 32 := 0#32
  let c0_i32_48 : BitVec 32 := 0#32
  let c0_i32_49 : BitVec 32 := 0#32
  ![v100.toNat, 0, 0, 0]
def k0_off28 (i : grid0.Coords) (v95 : BitVec 32) : Fin 3 → Nat :=
  let c0_i32_50 : BitVec 32 := 0#32
  let arg0 : BitVec 32 := BitVec.ofNat 32 (i 0).val
  let c1_i32_42 : BitVec 32 := 1#32
  let v96 : BitVec 32 := Scalar.addi arg0 c1_i32_42
  let c1024_i32_43 : BitVec 32 := 1024#32
  let v97 : BitVec 32 := Scalar.muli v96 c1024_i32_43
  let v101 : BitVec 32 := v97
  ![v95.toNat, 0, v101.toNat]

def k0_off29 (i : grid0.Coords) (v30 : BitVec 32) (v33 : BitVec 32) : Fin 1 → Nat :=
  let c1_i32_46 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v100 : BitVec 32 := Scalar.subi c1_i32_46 v44
  ![v100.toNat]
def k0_off30 (i : grid0.Coords) (v30 : BitVec 32) (v33 : BitVec 32) : Fin 4 → Nat :=
  let c1_i32_46 : BitVec 32 := 1#32
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v100 : BitVec 32 := Scalar.subi c1_i32_46 v44
  let c1_i32_51 : BitVec 32 := 1#32
  let c0_i32_52 : BitVec 32 := 0#32
  let c0_i32_53 : BitVec 32 := 0#32
  ![v100.toNat, 1, 0, 0]

def k0_chk4 (i : grid0.Coords) (v1 : BitVec 32) (v30 : BitVec 32) (v33 : BitVec 32) (v70 : BitVec 32) : Prop :=
  (∀ (k0_h1 : k0_cond1 v1 = 1#1), ∀ (k0_h3 : k0_cond3 v70 = 1#1), ∀ a, (k0_off19 i v30 v33) a + S1.size a ≤ S2.size a) ∧
  (∀ (k0_h1 : k0_cond1 v1 = 1#1), ∀ (k0_h3 : k0_cond3 v70 = 1#1), ∀ a, (k0_off20 i v30 v33) a + S1x1x2048x1024.size a ≤ S2x2x2048x1024.size a) ∧
  (∀ (k0_h1 : k0_cond1 v1 = 1#1), ∀ (k0_h3 : k0_cond3 v70 = 1#1), ∀ a, (k0_off22 i v30 v33) a + S1.size a ≤ S2.size a) ∧
  (∀ (k0_h1 : k0_cond1 v1 = 1#1), ∀ (k0_h3 : k0_cond3 v70 = 1#1), ∀ a, (k0_off23 i v30 v33) a + S1x1x2048x1024.size a ≤ S2x2x2048x1024.size a) ∧
  (∀ (k0_h1 : k0_cond1 v1 = 1#1), ∀ (k0_h4 : k0_cond4 i v70 = 1#1), ∀ a, (k0_off26 i v30 v33) a + S1.size a ≤ S2.size a) ∧
  (∀ (k0_h1 : k0_cond1 v1 = 1#1), ∀ (k0_h4 : k0_cond4 i v70 = 1#1), ∀ a, (k0_off27 i v30 v33) a + S1x1x2048x1024.size a ≤ S2x2x2048x1024.size a) ∧
  (∀ (k0_h1 : k0_cond1 v1 = 1#1), ∀ (k0_h4 : k0_cond4 i v70 = 1#1), ∀ a, (k0_off29 i v30 v33) a + S1.size a ≤ S2.size a) ∧
  (∀ (k0_h1 : k0_cond1 v1 = 1#1), ∀ (k0_h4 : k0_cond4 i v70 = 1#1), ∀ a, (k0_off30 i v30 v33) a + S1x1x2048x1024.size a ≤ S2x2x2048x1024.size a)
theorem k0_off19_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h3 : k0_cond3 v70 = 1#1), ∀ a, (k0_off19 i v30 v33) a + S1.size a ≤ S2.size a := fun i v1 v30 v33 v70 k0_hw4 k0_h1 k0_h3 => k0_hw4.1 k0_h1 k0_h3
theorem k0_off20_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h3 : k0_cond3 v70 = 1#1), ∀ a, (k0_off20 i v30 v33) a + S1x1x2048x1024.size a ≤ S2x2x2048x1024.size a := fun i v1 v30 v33 v70 k0_hw4 k0_h1 k0_h3 => k0_hw4.2.1 k0_h1 k0_h3
theorem k0_off22_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h3 : k0_cond3 v70 = 1#1), ∀ a, (k0_off22 i v30 v33) a + S1.size a ≤ S2.size a := fun i v1 v30 v33 v70 k0_hw4 k0_h1 k0_h3 => k0_hw4.2.2.1 k0_h1 k0_h3
theorem k0_off23_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h3 : k0_cond3 v70 = 1#1), ∀ a, (k0_off23 i v30 v33) a + S1x1x2048x1024.size a ≤ S2x2x2048x1024.size a := fun i v1 v30 v33 v70 k0_hw4 k0_h1 k0_h3 => k0_hw4.2.2.2.1 k0_h1 k0_h3
theorem k0_off26_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h4 : k0_cond4 i v70 = 1#1), ∀ a, (k0_off26 i v30 v33) a + S1.size a ≤ S2.size a := fun i v1 v30 v33 v70 k0_hw4 k0_h1 k0_h4 => k0_hw4.2.2.2.2.1 k0_h1 k0_h4
theorem k0_off27_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h4 : k0_cond4 i v70 = 1#1), ∀ a, (k0_off27 i v30 v33) a + S1x1x2048x1024.size a ≤ S2x2x2048x1024.size a := fun i v1 v30 v33 v70 k0_hw4 k0_h1 k0_h4 => k0_hw4.2.2.2.2.2.1 k0_h1 k0_h4
theorem k0_off29_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h4 : k0_cond4 i v70 = 1#1), ∀ a, (k0_off29 i v30 v33) a + S1.size a ≤ S2.size a := fun i v1 v30 v33 v70 k0_hw4 k0_h1 k0_h4 => k0_hw4.2.2.2.2.2.2.1 k0_h1 k0_h4
theorem k0_off30_inb : ∀ (i : grid0.Coords) (v1 : BitVec 32) (v30 : BitVec 32) (v33 : BitVec 32) (v70 : BitVec 32) (k0_hw4 : k0_chk4 i v1 v30 v33 v70), ∀ (k0_h1 : k0_cond1 v1 = 1#1), ∀ (k0_h4 : k0_cond4 i v70 = 1#1), ∀ a, (k0_off30 i v30 v33) a + S1x1x2048x1024.size a ≤ S2x2x2048x1024.size a := fun i v1 v30 v33 v70 k0_hw4 k0_h1 k0_h4 => k0_hw4.2.2.2.2.2.2.2 k0_h1 k0_h4

def k0_off31 (i : grid0.Coords) (v95 : BitVec 32) : Fin 3 → Nat :=
  let c0_i32_54 : BitVec 32 := 0#32
  let c2_i32_44 : BitVec 32 := 2#32
  let arg0 : BitVec 32 := BitVec.ofNat 32 (i 0).val
  let c1_i32_42 : BitVec 32 := 1#32
  let v96 : BitVec 32 := Scalar.addi arg0 c1_i32_42
  let v98 : BitVec 32 := Scalar.addi c2_i32_44 v96
  let c1024_i32_45 : BitVec 32 := 1024#32
  let v99 : BitVec 32 := Scalar.muli v98 c1024_i32_45
  let v102 : BitVec 32 := v99
  ![v95.toNat, 0, v102.toNat]

def k0_chk6 (i : grid0.Coords) (v1 : BitVec 32) (v70 : BitVec 32) (v95 : BitVec 32) : Prop :=
  (∀ (k0_h1 : k0_cond1 v1 = 1#1), ∀ (k0_h4 : k0_cond4 i v70 = 1#1), ∀ a, (k0_off28 i v95) a + S1x2048x1024.size a ≤ S32x2048x4096.size a) ∧
  (∀ (k0_h1 : k0_cond1 v1 = 1#1), ∀ (k0_h4 : k0_cond4 i v70 = 1#1), ∀ a, (k0_off31 i v95) a + S1x2048x1024.size a ≤ S32x2048x4096.size a)
theorem k0_off28_inb : ∀ (i : grid0.Coords) (v1 : BitVec 32) (v70 : BitVec 32) (v95 : BitVec 32) (k0_hw6 : k0_chk6 i v1 v70 v95), ∀ (k0_h1 : k0_cond1 v1 = 1#1), ∀ (k0_h4 : k0_cond4 i v70 = 1#1), ∀ a, (k0_off28 i v95) a + S1x2048x1024.size a ≤ S32x2048x4096.size a := fun i v1 v70 v95 k0_hw6 k0_h1 k0_h4 => k0_hw6.1 k0_h1 k0_h4
theorem k0_off31_inb : ∀ (i : grid0.Coords) (v1 : BitVec 32) (v70 : BitVec 32) (v95 : BitVec 32) (k0_hw6 : k0_chk6 i v1 v70 v95), ∀ (k0_h1 : k0_cond1 v1 = 1#1), ∀ (k0_h4 : k0_cond4 i v70 = 1#1), ∀ a, (k0_off31 i v95) a + S1x2048x1024.size a ≤ S32x2048x4096.size a := fun i v1 v70 v95 k0_hw6 k0_h1 k0_h4 => k0_hw6.2 k0_h1 k0_h4

def k0_off32 (i : grid0.Coords) (v30 : BitVec 32) (v33 : BitVec 32) : Fin 4 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v80 : Index := Scalar.indexCast v44
  let c0_33 : Index := 0#32
  let c0_34 : Index := 0#32
  let c0_35 : Index := 0#32
  ![v80.toNat, 0, 0, 0]
def k0_off33 (i : grid0.Coords) (v30 : BitVec 32) (v33 : BitVec 32) : Fin 4 → Nat :=
  let arg0 : BitVec 32 := BitVec.ofNat 32 (i 0).val
  let v31 : BitVec 32 := Scalar.muli arg0 v30
  let v34 : BitVec 32 := Scalar.addi v31 v33
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let c0_i32_12 : BitVec 32 := 0#32
  let v38 : BitVec 1 := Scalar.cmpi .ne v37 c0_i32_12
  let v42 : BitVec 1 := Scalar.andi v41 v38
  let v43 : BitVec 32 := Scalar.addi v37 v36
  let v44 : BitVec 32 := Scalar.select v42 v43 v37
  let v87 : Index := Scalar.indexCast v44
  let c1 : Index := 1#32
  let c0_38 : Index := 0#32
  let c0_39 : Index := 0#32
  ![v87.toNat, 1, 0, 0]

def k0_chk1 (i : grid0.Coords) (v1 : BitVec 32) (v30 : BitVec 32) (v33 : BitVec 32) : Prop :=
  (∀ (k0_h1 : k0_cond1 v1 = 1#1), ∀ (k0_h2 : k0_cond2 i = 1#1), ∀ a, (k0_off4 i v30 v33) a + S1.size a ≤ S2.size a) ∧
  (∀ (k0_h1 : k0_cond1 v1 = 1#1), ∀ (k0_h2 : k0_cond2 i = 1#1), ∀ a, (k0_off5 i v30 v33) a + S1x1x2048x1024.size a ≤ S2x2x2048x1024.size a) ∧
  (∀ (k0_h1 : k0_cond1 v1 = 1#1), ∀ (k0_h2 : k0_cond2 i = 1#1), ∀ a, (k0_off7 i v30 v33) a + S1.size a ≤ S2.size a) ∧
  (∀ (k0_h1 : k0_cond1 v1 = 1#1), ∀ (k0_h2 : k0_cond2 i = 1#1), ∀ a, (k0_off8 i v30 v33) a + S1x1x2048x1024.size a ≤ S2x2x2048x1024.size a) ∧
  (∀ (k0_h1 : k0_cond1 v1 = 1#1), ∀ a, (k0_off11 i v30 v33) a + S1.size a ≤ S2.size a) ∧
  (∀ (k0_h1 : k0_cond1 v1 = 1#1), ∀ a, (k0_off12 i v30 v33) a + S1x1x2048x1024.size a ≤ S2x2x2048x1024.size a) ∧
  (∀ (k0_h1 : k0_cond1 v1 = 1#1), ∀ a, (k0_off14 i v30 v33) a + S1.size a ≤ S2.size a) ∧
  (∀ (k0_h1 : k0_cond1 v1 = 1#1), ∀ a, (k0_off15 i v30 v33) a + S1x1x2048x1024.size a ≤ S2x2x2048x1024.size a) ∧
  (∀ (k0_h1 : k0_cond1 v1 = 1#1), ∀ a, (k0_off32 i v30 v33) a + S1x1x2048x1024.size a ≤ S2x2x2048x1024.size a) ∧
  (∀ (k0_h1 : k0_cond1 v1 = 1#1), ∀ a, (k0_off33 i v30 v33) a + S1x1x2048x1024.size a ≤ S2x2x2048x1024.size a)
theorem k0_off4_inb : ∀ (i : grid0.Coords) (v1 : BitVec 32) (v30 : BitVec 32) (v33 : BitVec 32) (k0_hw1 : k0_chk1 i v1 v30 v33), ∀ (k0_h1 : k0_cond1 v1 = 1#1), ∀ (k0_h2 : k0_cond2 i = 1#1), ∀ a, (k0_off4 i v30 v33) a + S1.size a ≤ S2.size a := fun i v1 v30 v33 k0_hw1 k0_h1 k0_h2 => k0_hw1.1 k0_h1 k0_h2
theorem k0_off5_inb : ∀ (i : grid0.Coords) (v1 : BitVec 32) (v30 : BitVec 32) (v33 : BitVec 32) (k0_hw1 : k0_chk1 i v1 v30 v33), ∀ (k0_h1 : k0_cond1 v1 = 1#1), ∀ (k0_h2 : k0_cond2 i = 1#1), ∀ a, (k0_off5 i v30 v33) a + S1x1x2048x1024.size a ≤ S2x2x2048x1024.size a := fun i v1 v30 v33 k0_hw1 k0_h1 k0_h2 => k0_hw1.2.1 k0_h1 k0_h2
theorem k0_off7_inb : ∀ (i : grid0.Coords) (v1 : BitVec 32) (v30 : BitVec 32) (v33 : BitVec 32) (k0_hw1 : k0_chk1 i v1 v30 v33), ∀ (k0_h1 : k0_cond1 v1 = 1#1), ∀ (k0_h2 : k0_cond2 i = 1#1), ∀ a, (k0_off7 i v30 v33) a + S1.size a ≤ S2.size a := fun i v1 v30 v33 k0_hw1 k0_h1 k0_h2 => k0_hw1.2.2.1 k0_h1 k0_h2
theorem k0_off8_inb : ∀ (i : grid0.Coords) (v1 : BitVec 32) (v30 : BitVec 32) (v33 : BitVec 32) (k0_hw1 : k0_chk1 i v1 v30 v33), ∀ (k0_h1 : k0_cond1 v1 = 1#1), ∀ (k0_h2 : k0_cond2 i = 1#1), ∀ a, (k0_off8 i v30 v33) a + S1x1x2048x1024.size a ≤ S2x2x2048x1024.size a := fun i v1 v30 v33 k0_hw1 k0_h1 k0_h2 => k0_hw1.2.2.2.1 k0_h1 k0_h2
theorem k0_off11_inb : ∀ (i : grid0.Coords) (v1 : BitVec 32) (v30 : BitVec 32) (v33 : BitVec 32) (k0_hw1 : k0_chk1 i v1 v30 v33), ∀ (k0_h1 : k0_cond1 v1 = 1#1), ∀ a, (k0_off11 i v30 v33) a + S1.size a ≤ S2.size a := fun i v1 v30 v33 k0_hw1 k0_h1 => k0_hw1.2.2.2.2.1 k0_h1
theorem k0_off12_inb : ∀ (i : grid0.Coords) (v1 : BitVec 32) (v30 : BitVec 32) (v33 : BitVec 32) (k0_hw1 : k0_chk1 i v1 v30 v33), ∀ (k0_h1 : k0_cond1 v1 = 1#1), ∀ a, (k0_off12 i v30 v33) a + S1x1x2048x1024.size a ≤ S2x2x2048x1024.size a := fun i v1 v30 v33 k0_hw1 k0_h1 => k0_hw1.2.2.2.2.2.1 k0_h1
theorem k0_off14_inb : ∀ (i : grid0.Coords) (v1 : BitVec 32) (v30 : BitVec 32) (v33 : BitVec 32) (k0_hw1 : k0_chk1 i v1 v30 v33), ∀ (k0_h1 : k0_cond1 v1 = 1#1), ∀ a, (k0_off14 i v30 v33) a + S1.size a ≤ S2.size a := fun i v1 v30 v33 k0_hw1 k0_h1 => k0_hw1.2.2.2.2.2.2.1 k0_h1
theorem k0_off15_inb : ∀ (i : grid0.Coords) (v1 : BitVec 32) (v30 : BitVec 32) (v33 : BitVec 32) (k0_hw1 : k0_chk1 i v1 v30 v33), ∀ (k0_h1 : k0_cond1 v1 = 1#1), ∀ a, (k0_off15 i v30 v33) a + S1x1x2048x1024.size a ≤ S2x2x2048x1024.size a := fun i v1 v30 v33 k0_hw1 k0_h1 => k0_hw1.2.2.2.2.2.2.2.1 k0_h1
theorem k0_off32_inb : ∀ (i : grid0.Coords) (v1 : BitVec 32) (v30 : BitVec 32) (v33 : BitVec 32) (k0_hw1 : k0_chk1 i v1 v30 v33), ∀ (k0_h1 : k0_cond1 v1 = 1#1), ∀ a, (k0_off32 i v30 v33) a + S1x1x2048x1024.size a ≤ S2x2x2048x1024.size a := fun i v1 v30 v33 k0_hw1 k0_h1 => k0_hw1.2.2.2.2.2.2.2.2.1 k0_h1
theorem k0_off33_inb : ∀ (i : grid0.Coords) (v1 : BitVec 32) (v30 : BitVec 32) (v33 : BitVec 32) (k0_hw1 : k0_chk1 i v1 v30 v33), ∀ (k0_h1 : k0_cond1 v1 = 1#1), ∀ a, (k0_off33 i v30 v33) a + S1x1x2048x1024.size a ≤ S2x2x2048x1024.size a := fun i v1 v30 v33 k0_hw1 k0_h1 => k0_hw1.2.2.2.2.2.2.2.2.2 k0_h1

def k0_off34 (i : grid0.Coords) : Fin 1 → Nat :=
  let arg1 : BitVec 32 := BitVec.ofNat 32 (i 1).val
  let v5 : Index := Scalar.indexCast arg1
  ![v5.toNat]
def k0_cond5 (v6 : BitVec 32) : BitVec 1 :=
  let c0_i32_0 : BitVec 32 := 0#32
  let v7 : BitVec 1 := Scalar.cmpi .sle v6 c0_i32_0
  let v8 : BitVec 32 := Scalar.extui v7
  let c0_i32_1 : BitVec 32 := 0#32
  let v9 : BitVec 1 := Scalar.cmpi .ne v8 c0_i32_1
  v9

def k0_cond6 (v6 : BitVec 32) : BitVec 1 :=
  let c0_i32_2 : BitVec 32 := 0#32
  let v10 : BitVec 1 := Scalar.cmpi .sgt v6 c0_i32_2
  let c128_i32 : BitVec 32 := 128#32
  let v11 : BitVec 1 := Scalar.cmpi .sle v6 c128_i32
  let v12 : BitVec 1 := Scalar.andi v10 v11
  let v13 : BitVec 32 := Scalar.extui v12
  let c0_i32_3 : BitVec 32 := 0#32
  let v14 : BitVec 1 := Scalar.cmpi .ne v13 c0_i32_3
  v14

def k0_cond7 (v6 : BitVec 32) : BitVec 1 :=
  let c128_i32_4 : BitVec 32 := 128#32
  let v15 : BitVec 1 := Scalar.cmpi .sgt v6 c128_i32_4
  let c256_i32 : BitVec 32 := 256#32
  let v16 : BitVec 1 := Scalar.cmpi .sle v6 c256_i32
  let v17 : BitVec 1 := Scalar.andi v15 v16
  let v18 : BitVec 32 := Scalar.extui v17
  let c0_i32_5 : BitVec 32 := 0#32
  let v19 : BitVec 1 := Scalar.cmpi .ne v18 c0_i32_5
  v19

def k0_cond8 (v6 : BitVec 32) : BitVec 1 :=
  let c256_i32_6 : BitVec 32 := 256#32
  let v20 : BitVec 1 := Scalar.cmpi .sgt v6 c256_i32_6
  let c384_i32 : BitVec 32 := 384#32
  let v21 : BitVec 1 := Scalar.cmpi .sle v6 c384_i32
  let v22 : BitVec 1 := Scalar.andi v20 v21
  let v23 : BitVec 32 := Scalar.extui v22
  let c0_i32_7 : BitVec 32 := 0#32
  let v24 : BitVec 1 := Scalar.cmpi .ne v23 c0_i32_7
  v24

def k0_cond9 (v6 : BitVec 32) : BitVec 1 :=
  let c384_i32_8 : BitVec 32 := 384#32
  let v25 : BitVec 1 := Scalar.cmpi .sgt v6 c384_i32_8
  let c512_i32 : BitVec 32 := 512#32
  let v26 : BitVec 1 := Scalar.cmpi .sle v6 c512_i32
  let v27 : BitVec 1 := Scalar.andi v25 v26
  let v28 : BitVec 32 := Scalar.extui v27
  let c0_i32_9 : BitVec 32 := 0#32
  let v29 : BitVec 1 := Scalar.cmpi .ne v28 c0_i32_9
  v29

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S96) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S96) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_4 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S96) ![v0.toNat] S1.size (k0_off1_inb i)) numel1_S1
  let c0_i32 : BitVec 32 := 0#32
  ![v1.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32 : Shape := ⟨1, ![32]⟩
abbrev S786432x128 : Shape := ⟨2, ![786432, 128]⟩
abbrev S1x32x2048x4096 : Shape := ⟨4, ![1, 32, 2048, 4096]⟩
abbrev S1x32x4096 : Shape := ⟨3, ![1, 32, 4096]⟩
abbrev S49152x2048 : Shape := ⟨2, ![49152, 2048]⟩
abbrev S_ : Shape := ⟨0, ![]⟩
abbrev S32x1 : Shape := ⟨2, ![32, 1]⟩
abbrev S49152 : Shape := ⟨1, ![49152]⟩
abbrev S1x49152 : Shape := ⟨2, ![1, 49152]⟩
abbrev S32x49152 : Shape := ⟨2, ![32, 49152]⟩
abbrev S32x2048x4096 : Shape := ⟨3, ![32, 2048, 4096]⟩
abbrev S32x4096x49152 : Shape := ⟨3, ![32, 4096, 49152]⟩
abbrev S32x49152x4096 : Shape := ⟨3, ![32, 49152, 4096]⟩
abbrev S32x4096 : Shape := ⟨2, ![32, 4096]⟩
abbrev S32x1x4096 : Shape := ⟨3, ![32, 1, 4096]⟩
abbrev S32x49152x2048 : Shape := ⟨3, ![32, 49152, 2048]⟩
abbrev S32x49152x1 : Shape := ⟨3, ![32, 49152, 1]⟩

abbrev nBuf : Space → Nat
  | .hbm => 115
  | .vmem => 0
  | .smem => 0
  | _ => 0

abbrev bufTy : (tb : Table) → Fin (tcTables nBuf tb) → BufTy
  | .hbm, ⟨0, _⟩ => ⟨S32, .i32⟩
  | .hbm, ⟨1, _⟩ => ⟨S786432x128, .f32⟩
  | .hbm, ⟨2, _⟩ => ⟨S1x32x2048x4096, .f32⟩
  | .hbm, ⟨3, _⟩ => ⟨S1x32x4096, .f32⟩
  | .hbm, ⟨4, _⟩ => ⟨S49152x2048, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S32, .i32⟩
  | .hbm, ⟨42, _⟩ => ⟨S_, .i32⟩
  | .hbm, ⟨43, _⟩ => ⟨S32, .i32⟩
  | .hbm, ⟨44, _⟩ => ⟨S32, .i1⟩
  | .hbm, ⟨45, _⟩ => ⟨S32, .i32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i1⟩
  | .hbm, ⟨50, _⟩ => ⟨S32, .i1⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S32, .i32⟩
  | .hbm, ⟨55, _⟩ => ⟨S_, .i32⟩
  | .hbm, ⟨56, _⟩ => ⟨S32, .i32⟩
  | .hbm, ⟨57, _⟩ => ⟨S32, .i32⟩
  | .hbm, ⟨58, _⟩ => ⟨S32x1, .i32⟩
  | .hbm, ⟨59, _⟩ => ⟨S49152, .i32⟩
  | .hbm, ⟨60, _⟩ => ⟨S1x49152, .i32⟩
  | .hbm, ⟨61, _⟩ => ⟨S32x49152, .i32⟩
  | .hbm, ⟨62, _⟩ => ⟨S32x49152, .i32⟩
  | .hbm, ⟨63, _⟩ => ⟨S32x49152, .i1⟩
  | .hbm, ⟨64, _⟩ => ⟨S32x1, .i32⟩
  | .hbm, ⟨65, _⟩ => ⟨S1x49152, .i32⟩
  | .hbm, ⟨66, _⟩ => ⟨S32x49152, .i32⟩
  | .hbm, ⟨67, _⟩ => ⟨S32x49152, .i32⟩
  | .hbm, ⟨68, _⟩ => ⟨S32x49152, .i1⟩
  | .hbm, ⟨69, _⟩ => ⟨S32x49152, .i1⟩
  | .hbm, ⟨70, _⟩ => ⟨S32x2048x4096, .f32⟩
  | .hbm, ⟨71, _⟩ => ⟨S32x4096x49152, .f32⟩
  | .hbm, ⟨72, _⟩ => ⟨S32x49152x4096, .f32⟩
  | .hbm, ⟨73, _⟩ => ⟨S32x4096, .f32⟩
  | .hbm, ⟨74, _⟩ => ⟨S32x1x4096, .f32⟩
  | .hbm, ⟨75, _⟩ => ⟨S32x49152x4096, .f32⟩
  | .hbm, ⟨76, _⟩ => ⟨S32x49152x4096, .f32⟩
  | .hbm, ⟨77, _⟩ => ⟨S32x49152x2048, .f32⟩
  | .hbm, ⟨78, _⟩ => ⟨S_, .f32⟩
  | .hbm, ⟨79, _⟩ => ⟨S32x49152x2048, .f32⟩
  | .hbm, ⟨80, _⟩ => ⟨S32x49152x2048, .f32⟩
  | .hbm, ⟨81, _⟩ => ⟨S32x49152x2048, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32x49152x2048, .f32⟩
  | .hbm, ⟨86, _⟩ => ⟨S32x49152x2048, .f32⟩
  | .hbm, ⟨87, _⟩ => ⟨S_, .f32⟩
  | .hbm, ⟨88, _⟩ => ⟨S32x49152x2048, .f32⟩
  | .hbm, ⟨89, _⟩ => ⟨S32x49152x2048, .f32⟩
  | .hbm, ⟨90, _⟩ => ⟨S_, .f32⟩
  | .hbm, ⟨91, _⟩ => ⟨S32x49152x2048, .f32⟩
  | .hbm, ⟨92, _⟩ => ⟨S32x49152x2048, .f32⟩
  | .hbm, ⟨93, _⟩ => ⟨S32x49152x2048, .f32⟩
  | .hbm, ⟨94, _⟩ => ⟨S32x49152x2048, .f32⟩
  | .hbm, ⟨95, _⟩ => ⟨S_, .f32⟩
  | .hbm, ⟨96, _⟩ => ⟨S32x49152x2048, .f32⟩
  | .hbm, ⟨97, _⟩ => ⟨S32x49152x2048, .f32⟩
  | .hbm, ⟨98, _⟩ => ⟨S_, .f32⟩
  | .hbm, ⟨99, _⟩ => ⟨S32x49152x2048, .f32⟩
  | .hbm, ⟨100, _⟩ => ⟨S32x49152x2048, .f32⟩
  | .hbm, ⟨101, _⟩ => ⟨S32x49152x2048, .f32⟩
  | .hbm, ⟨102, _⟩ => ⟨S_, .f32⟩
  | .hbm, ⟨103, _⟩ => ⟨S32x49152x2048, .f32⟩
  | .hbm, ⟨104, _⟩ => ⟨S32x49152x2048, .f32⟩
  | .hbm, ⟨105, _⟩ => ⟨S32x49152x2048, .f32⟩
  | .hbm, ⟨106, _⟩ => ⟨S32x49152x1, .i1⟩
  | .hbm, ⟨107, _⟩ => ⟨S_, .f32⟩
  | .hbm, ⟨108, _⟩ => ⟨S_, .f32⟩
  | .hbm, ⟨109, _⟩ => ⟨S32x49152x2048, .i1⟩
  | .hbm, ⟨110, _⟩ => ⟨S32x49152x2048, .f32⟩
  | .hbm, ⟨111, _⟩ => ⟨S32x49152x2048, .f32⟩
  | .hbm, ⟨112, _⟩ => ⟨S_, .f32⟩
  | .hbm, ⟨113, _⟩ => ⟨S49152x2048, .f32⟩
  | .hbm, ⟨114, _⟩ => ⟨S49152x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_call1_call0_c : Ref sig .tc := ⟨.hbm, 29, rfl⟩
abbrev main_call1_call0_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v11 : Ref sig .tc := ⟨.hbm, 54, rfl⟩
abbrev main_c_4 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_5 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v37 : Ref sig .tc := ⟨.hbm, 89, rfl⟩
abbrev main_cst_7 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_8 : Ref sig .tc := ⟨.hbm, 95, rfl⟩
abbrev main_v42 : Ref sig .tc := ⟨.hbm, 96, rfl⟩
abbrev main_v43 : Ref sig .tc := ⟨.hbm, 97, rfl⟩
abbrev main_cst_9 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_10 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_11 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v51 : Ref sig .tc := ⟨.hbm, 111, rfl⟩
abbrev main_cst_12 : Ref sig .tc := ⟨.hbm, 112, rfl⟩
abbrev main_v52 : Ref sig .tc := ⟨.hbm, 113, rfl⟩
abbrev main_v53 : Ref sig .tc := ⟨.hbm, 114, rfl⟩

abbrev nD : Nat := 1
abbrev τ : Topo := Topo.v7x

variable {F : FTy → Type} [FloatOps F]
-- ==== Kernel3.lean ====
abbrev S32 : Shape := ⟨1, ![32]⟩
abbrev S49152x2048 : Shape := ⟨2, ![49152, 2048]⟩
abbrev S1x32x2048x2048 : Shape := ⟨4, ![1, 32, 2048, 2048]⟩
abbrev S1x32x2048 : Shape := ⟨3, ![1, 32, 2048]⟩
abbrev S_ : Shape := ⟨0, ![]⟩
abbrev S1 : Shape := ⟨1, ![1]⟩
abbrev S96 : Shape := ⟨1, ![96]⟩
abbrev S1x32 : Shape := ⟨2, ![1, 32]⟩
abbrev S96x1 : Shape := ⟨2, ![96, 1]⟩
abbrev S96x32 : Shape := ⟨2, ![96, 32]⟩
abbrev S95 : Shape := ⟨1, ![95]⟩
abbrev S32x2048x2048 : Shape := ⟨3, ![32, 2048, 2048]⟩
abbrev S32x2048 : Shape := ⟨2, ![32, 2048]⟩
abbrev S32x1x2048 : Shape := ⟨3, ![32, 1, 2048]⟩
abbrev S786432x128 : Shape := ⟨2, ![786432, 128]⟩
abbrev S512x2048 : Shape := ⟨2, ![512, 2048]⟩
abbrev S1x1x2048 : Shape := ⟨3, ![1, 1, 2048]⟩
abbrev S8192x128 : Shape := ⟨2, ![8192, 128]⟩
abbrev S2x1x2048x2048 : Shape := ⟨4, ![2, 1, 2048, 2048]⟩
abbrev S2 : Shape := ⟨1, ![2]⟩
abbrev S2048x2048 : Shape := ⟨2, ![2048, 2048]⟩
abbrev S1x1x2048x2048 : Shape := ⟨4, ![1, 1, 2048, 2048]⟩
abbrev S1x2048x2048 : Shape := ⟨3, ![1, 2048, 2048]⟩
abbrev S128x2048 : Shape := ⟨2, ![128, 2048]⟩
abbrev S1x2048 : Shape := ⟨2, ![1, 2048]⟩
abbrev S128x128 : Shape := ⟨2, ![128, 128]⟩
abbrev S6144x128 : Shape := ⟨2, ![6144, 128]⟩
abbrev S256x2048 : Shape := ⟨2, ![256, 2048]⟩
abbrev S256x128 : Shape := ⟨2, ![256, 128]⟩
abbrev S4096x128 : Shape := ⟨2, ![4096, 128]⟩
abbrev S2048x128 : Shape := ⟨2, ![2048, 128]⟩

abbrev nBuf : Space → Nat
  | .hbm => 159
  | .vmem => 8
  | .smem => 9
  | _ => 0

abbrev hbmTy0_0 (i : Nat) : BufTy := match i % 128 with
  | 0 => ⟨S32, .i32⟩
  | 1 => ⟨S49152x2048, .bf16⟩
  | 2 => ⟨S1x32x2048x2048, .f32⟩
  | 3 => ⟨S1x32x2048, .f32⟩
  | 4 => ⟨S_, .i32⟩
  | 5 => ⟨S32, .i32⟩
  | 6 => ⟨S32, .i32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S32, .i32⟩
  | 35 => ⟨S1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i1⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S96, .i32⟩
  | 55 => ⟨S_, .i32⟩
  | 56 => ⟨S96, .i32⟩
  | 57 => ⟨S96, .i32⟩
  | 58 => ⟨S1x32, .i32⟩
  | 59 => ⟨S96x1, .i32⟩
  | 60 => ⟨S96x32, .i32⟩
  | 61 => ⟨S96x32, .i32⟩
  | 62 => ⟨S96x32, .i1⟩
  | 63 => ⟨S96x32, .i32⟩
  | 64 => ⟨S_, .i32⟩
  | 65 => ⟨S96, .i32⟩
  | 66 => ⟨S_, .i32⟩
  | 67 => ⟨S96, .i32⟩
  | 68 => ⟨S_, .i32⟩
  | 69 => ⟨S96, .i32⟩
  | 70 => ⟨S96, .i1⟩
  | 71 => ⟨S_, .i32⟩
  | 72 => ⟨S96, .i32⟩
  | 73 => ⟨S96, .i32⟩
  | 74 => ⟨S96, .i32⟩
  | 75 => ⟨S96x1, .i32⟩
  | 76 => ⟨S96, .i32⟩
  | 77 => ⟨S_, .i32⟩
  | 78 => ⟨S96, .i32⟩
  | 79 => ⟨S96, .i1⟩
  | 80 => ⟨S_, .i32⟩
  | 81 => ⟨S96, .i32⟩
  | 82 => ⟨S96, .i32⟩
  | 83 => ⟨S96, .i32⟩
  | 84 => ⟨S96x1, .i32⟩
  | 85 => ⟨S96, .i32⟩
  | 86 => ⟨S96, .i32⟩
  | 87 => ⟨S96, .i32⟩
  | 88 => ⟨S_, .i32⟩
  | 89 => ⟨S_, .i32⟩
  | 90 => ⟨S_, .i32⟩
  | 91 => ⟨S96, .i32⟩
  | 92 => ⟨S96, .i32⟩
  | 93 => ⟨S_, .i32⟩
  | 94 => ⟨S96, .i32⟩
  | 95 => ⟨S96, .i32⟩
  | 96 => ⟨S96, .i32⟩
  | 97 => ⟨S96, .i1⟩
  | 98 => ⟨S_, .i32⟩
  | 99 => ⟨S_, .i32⟩
  | 100 => ⟨S96, .i32⟩
  | 101 => ⟨S_, .i32⟩
  | 102 => ⟨S1, .i32⟩
  | 103 => ⟨S95, .i32⟩
  | 104 => ⟨S96, .i32⟩
  | 105 => ⟨S96, .i1⟩
  | 106 => ⟨S_, .i32⟩
  | 107 => ⟨S96, .i32⟩
  | 108 => ⟨S96, .i1⟩
  | 109 => ⟨S96, .i1⟩
  | 110 => ⟨S_, .i32⟩
  | 111 => ⟨S_, .i32⟩
  | 112 => ⟨S96, .i32⟩
  | 113 => ⟨S_, .i32⟩
  | 114 => ⟨S96, .i32⟩
  | 115 => ⟨S1, .i32⟩
  | 116 => ⟨S_, .i32⟩
  | 117 => ⟨S_, .i32⟩
  | 118 => ⟨S_, .i32⟩
  | 119 => ⟨S_, .i32⟩
  | 120 => ⟨S_, .i32⟩
  | 121 => ⟨S96, .i32⟩
  | 122 => ⟨S96, .i1⟩
  | 123 => ⟨S_, .i32⟩
  | 124 => ⟨S96, .i32⟩
  | 125 => ⟨S96, .i1⟩
  | 126 => ⟨S_, .i32⟩
  | 127 => ⟨S_, .i32⟩
  | _ => ⟨S32, .i32⟩

abbrev hbmTy0_1 (i : Nat) : BufTy := match i % 128 with
  | 0 => ⟨S96, .i32⟩
  | 1 => ⟨S96, .i32⟩
  | 2 => ⟨S_, .i32⟩
  | 3 => ⟨S_, .i32⟩
  | 4 => ⟨S96, .i32⟩
  | 5 => ⟨S95, .i32⟩
  | 6 => ⟨S_, .i32⟩
  | 7 => ⟨S1, .i32⟩
  | 8 => ⟨S96, .i32⟩
  | 9 => ⟨S_, .i32⟩
  | 10 => ⟨S96, .i32⟩
  | 11 => ⟨S96, .i1⟩
  | 12 => ⟨S_, .i32⟩
  | 13 => ⟨S96, .i32⟩
  | 14 => ⟨S96, .i32⟩
  | 15 => ⟨S_, .i32⟩
  | 16 => ⟨S96, .i32⟩
  | 17 => ⟨S96, .i1⟩
  | 18 => ⟨S_, .i32⟩
  | 19 => ⟨S96, .i32⟩
  | 20 => ⟨S96, .i32⟩
  | 21 => ⟨S96, .i32⟩
  | 22 => ⟨S96x1, .i32⟩
  | 23 => ⟨S96, .i32⟩
  | 24 => ⟨S1, .i32⟩
  | 25 => ⟨S_, .i32⟩
  | 26 => ⟨S96, .i32⟩
  | 27 => ⟨S32x2048x2048, .f32⟩
  | 28 => ⟨S32x2048, .f32⟩
  | 29 => ⟨S32x1x2048, .f32⟩
  | 30 => ⟨S786432x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x1x2048, .f32⟩
  | .local _ .vmem, ⟨3, _⟩ => ⟨S1x1x2048, .f32⟩
  | .local _ .vmem, ⟨4, _⟩ => ⟨S8192x128, .f32⟩
  | .local _ .vmem, ⟨5, _⟩ => ⟨S8192x128, .f32⟩
  | .local _ .vmem, ⟨6, _⟩ => ⟨S2x1x2048x2048, .f32⟩
  | .local _ .vmem, ⟨7, _⟩ => ⟨S2048x2048, .bf16⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | .local _ .smem, ⟨4, _⟩ => ⟨S96, .i32⟩
  | .local _ .smem, ⟨5, _⟩ => ⟨S96, .i32⟩
  | .local _ .smem, ⟨6, _⟩ => ⟨S96, .i32⟩
  | .local _ .smem, ⟨7, _⟩ => ⟨S96, .i32⟩
  | .local _ .smem, ⟨8, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v11 : Ref sig .tc := ⟨.hbm, 49, rfl⟩
abbrev main_c_4 : Ref sig .tc := ⟨.hbm, 50, rfl⟩
abbrev main_v13 : Ref sig .tc := ⟨.hbm, 51, rfl⟩
abbrev main_c_5 : Ref sig .tc := ⟨.hbm, 52, rfl⟩
abbrev main_v14 : Ref sig .tc := ⟨.hbm, 53, rfl⟩
abbrev main_v15 : Ref sig .tc := ⟨.hbm, 54, rfl⟩
abbrev main_c_6 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_7 : Ref sig .tc := ⟨.hbm, 64, rfl⟩
abbrev main_v25 : Ref sig .tc := ⟨.hbm, 65, rfl⟩
abbrev main_c_8 : Ref sig .tc := ⟨.hbm, 66, rfl⟩
abbrev main_v26 : Ref sig .tc := ⟨.hbm, 67, rfl⟩
abbrev main_c_9 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_11 : Ref sig .tc := ⟨.hbm, 77, rfl⟩
abbrev main_v35 : Ref sig .tc := ⟨.hbm, 78, rfl⟩
abbrev main_v36 : Ref sig .tc := ⟨.hbm, 79, rfl⟩
abbrev main_c_12 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_13 : Ref sig .tc := ⟨.hbm, 88, rfl⟩
abbrev main_c_14 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_15 : Ref sig .tc := ⟨.hbm, 98, rfl⟩
abbrev main_call4_v0 : Ref sig .tc := ⟨.hbm, 99, rfl⟩
abbrev main_call4_v1 : Ref sig .tc := ⟨.hbm, 100, rfl⟩
abbrev main_c_16 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_17 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_call5_call0_c : Ref sig .tc := ⟨.hbm, 110, rfl⟩
abbrev main_call5_call0_v0 : Ref sig .tc := ⟨.hbm, 111, rfl⟩
abbrev main_v56 : Ref sig .tc := ⟨.hbm, 112, rfl⟩
abbrev main_c_18 : Ref sig .tc := ⟨.hbm, 113, rfl⟩
abbrev main_v57 : Ref sig .tc := ⟨.hbm, 114, rfl⟩
abbrev main_v59 : Ref sig .tc := ⟨.hbm, 115, rfl⟩
abbrev main_v60 : Ref sig .tc := ⟨.hbm, 116, rfl⟩
abbrev main_c_19 : Ref sig .tc := ⟨.hbm, 117, rfl⟩
abbrev main_v61 : Ref sig .tc := ⟨.hbm, 118, rfl⟩
abbrev main_c_20 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_c_21 : Ref sig .tc := ⟨.hbm, 123, rfl⟩
abbrev main_v66 : Ref sig .tc := ⟨.hbm, 124, rfl⟩
abbrev main_v67 : Ref sig .tc := ⟨.hbm, 125, rfl⟩
abbrev main_c_22 : Ref sig .tc := ⟨.hbm, 126, rfl⟩
abbrev main_call6_v0 : Ref sig .tc := ⟨.hbm, 127, rfl⟩
abbrev main_call6_v1 : Ref sig .tc := ⟨.hbm, 128, rfl⟩
abbrev main_v68 : Ref sig .tc := ⟨.hbm, 129, rfl⟩
abbrev main_call7_c : Ref sig .tc := ⟨.hbm, 130, rfl⟩
abbrev main_call7_v0 : Ref sig .tc := ⟨.hbm, 131, rfl⟩
abbrev main_v69 : Ref sig .tc := ⟨.hbm, 132, rfl⟩
abbrev main_v70 : Ref sig .tc := ⟨.hbm, 133, rfl⟩
abbrev main_c_23 : Ref sig .tc := ⟨.hbm, 134, rfl⟩
abbrev main_v71 : Ref sig .tc := ⟨.hbm, 135, rfl⟩
abbrev main_v72 : Ref sig .tc := ⟨.hbm, 136, rfl⟩
abbrev main_c_24 : Ref sig .tc := ⟨.hbm, 137, rfl⟩
abbrev main_v73 : Ref sig .tc := ⟨.hbm, 138, rfl⟩
abbrev main_v74 : Ref sig .tc := ⟨.hbm, 139, rfl⟩
abbrev main_c_25 : Ref sig .tc := ⟨.hbm, 140, rfl⟩
abbrev main_v75 : Ref sig .tc := ⟨.hbm, 141, rfl⟩
abbrev main_v76 : Ref sig .tc := ⟨.hbm, 142, rfl⟩
abbrev main_c_26 : Ref sig .tc := ⟨.hbm, 143, rfl⟩
abbrev main_v77 : Ref sig .tc := ⟨.hbm, 144, rfl⟩
abbrev main_v78 : Ref sig .tc := ⟨.hbm, 145, rfl⟩
abbrev main_c_27 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_call8_v0 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v16 : Ref sig .tc := ⟨.smem, 0, rfl⟩
abbrev main_v12 : Ref sig .tc := ⟨.smem, 1, rfl⟩
abbrev main_v27 : Ref sig .tc := ⟨.smem, 2, rfl⟩
abbrev main_v47 : Ref sig .tc := ⟨.smem, 3, rfl⟩
abbrev main_v55 : Ref sig .tc := ⟨.smem, 4, rfl⟩
abbrev main_v58 : Ref sig .tc := ⟨.smem, 5, rfl⟩
abbrev main_v65 : Ref sig .tc := ⟨.smem, 6, rfl⟩
abbrev main_v86 : Ref sig .tc := ⟨.smem, 7, rfl⟩
abbrev main_v87 : Ref sig .tc := ⟨.smem, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![96], ![false]⟩

abbrev pre0 : Pipeline.Prefetch sig := ⟨9, ![main_v16.idx, main_v12.idx, main_v27.idx, main_v47.idx, main_v55.idx, main_v58.idx, main_v65.idx, main_v86.idx, main_v87.idx], fun | 0 => main_v16.names | 1 => main_v12.names | 2 => main_v27.names | 3 => main_v47.names | 4 => main_v55.names | 5 => main_v58.names | 6 => main_v65.names | 7 => main_v86.names | 8 => main_v87.names | ⟨_ + 9, h⟩ => absurd h (Nat.not_lt.2 (Nat.le_add_left _ _)), fun | 0 => rfl | 1 => rfl | 2 => rfl | 3 => rfl | 4 => rfl | 5 => rfl | 6 => rfl | 7 => rfl | 8 => rfl | ⟨_ + 9, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v32 : Index := Scalar.indexCast arg0
  ![v32.toNat]
def k0_cond2 (i : grid0.Coords) : BitVec 1 :=
  let v_true : BitVec 1 := 1#1
  let arg0 : BitVec 32 := BitVec.ofNat 32 (i 0).val
  let c0_i32_16 : BitVec 32 := 0#32
  let v45 : BitVec 1 := Scalar.cmpi .eq arg0 c0_i32_16
  let v46 : BitVec 1 := Scalar.andi v_true v45
  let v47 : BitVec 32 := Scalar.extui v46
  let c0_i32_17 : BitVec 32 := 0#32
  let v48 : BitVec 1 := Scalar.cmpi .ne v47 c0_i32_17
  v48

def k0_off3 (i : grid0.Coords) : Fin 1 → Nat :=
  let arg0 : BitVec 32 := BitVec.ofNat 32 (i 0).val
  let v73 : Index := Scalar.indexCast arg0
  ![v73.toNat]
def k0_off4 (v30 : BitVec 32) (v33 : BitVec 32) : Fin 1 → Nat :=
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  ![v44.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off5 (v30 : BitVec 32) (v33 : BitVec 32) : Fin 4 → Nat :=
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let c0_i32_32 : BitVec 32 := 0#32
  let c0_i32_33 : BitVec 32 := 0#32
  let c0_i32_34 : BitVec 32 := 0#32
  ![v44.toNat, 0, 0, 0]
def k0_off6 (v74 : BitVec 32) : Fin 3 → Nat :=
  let c0_i32_35 : BitVec 32 := 0#32
  let c0_i32_36 : BitVec 32 := 0#32
  ![v74.toNat, 0, 0]

def k0_chk2 (i : grid0.Coords) (v1 : BitVec 32) (v74 : BitVec 32) : Prop :=
  (∀ (k0_h1 : k0_cond1 v1 = 1#1), ∀ (k0_h2 : k0_cond2 i = 1#1), ∀ a, (k0_off6 v74) a + S1x2048x2048.size a ≤ S32x2048x2048.size a)
theorem k0_off6_inb : ∀ (i : grid0.Coords) (v1 : BitVec 32) (v74 : BitVec 32) (k0_hw2 : k0_chk2 i v1 v74), ∀ (k0_h1 : k0_cond1 v1 = 1#1), ∀ (k0_h2 : k0_cond2 i = 1#1), ∀ a, (k0_off6 v74) a + S1x2048x2048.size a ≤ S32x2048x2048.size a := fun i v1 v74 k0_hw2 k0_h1 k0_h2 => k0_hw2 k0_h1 k0_h2

def k0_off7 (i : grid0.Coords) : Fin 1 → Nat :=
  let arg0 : BitVec 32 := BitVec.ofNat 32 (i 0).val
  let v49 : Index := Scalar.indexCast arg0
  ![v49.toNat]
def k0_off8 (v30 : BitVec 32) (v33 : BitVec 32) : Fin 1 → Nat :=
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  ![v44.toNat]
def k0_off9 (v30 : BitVec 32) (v33 : BitVec 32) : Fin 4 → Nat :=
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let c0_i32_18 : BitVec 32 := 0#32
  let c0_i32_19 : BitVec 32 := 0#32
  let c0_i32_20 : BitVec 32 := 0#32
  ![v44.toNat, 0, 0, 0]
def k0_off10 (v50 : BitVec 32) : Fin 3 → Nat :=
  let c0_i32_21 : BitVec 32 := 0#32
  let c0_i32_22 : BitVec 32 := 0#32
  ![v50.toNat, 0, 0]

def k0_chk3 (v1 : BitVec 32) (v50 : BitVec 32) : Prop :=
  (∀ (k0_h1 : k0_cond1 v1 = 1#1), ∀ a, (k0_off10 v50) a + S1x2048x2048.size a ≤ S32x2048x2048.size a)
theorem k0_off10_inb : ∀ (v1 : BitVec 32) (v50 : BitVec 32) (k0_hw3 : k0_chk3 v1 v50), ∀ (k0_h1 : k0_cond1 v1 = 1#1), ∀ a, (k0_off10 v50) a + S1x2048x2048.size a ≤ S32x2048x2048.size a := fun v1 v50 k0_hw3 k0_h1 => k0_hw3 k0_h1

def k0_off11 (i : grid0.Coords) : Fin 1 → Nat :=
  let arg0 : BitVec 32 := BitVec.ofNat 32 (i 0).val
  let v57 : Index := Scalar.indexCast arg0
  ![v57.toNat]
def k0_off12 (i : grid0.Coords) : Fin 1 → Nat :=
  let arg0 : BitVec 32 := BitVec.ofNat 32 (i 0).val
  let v73 : Index := Scalar.indexCast arg0
  ![v73.toNat]
def k0_off13 (v30 : BitVec 32) (v33 : BitVec 32) : Fin 1 → Nat :=
  let c1_i32_32 : BitVec 32 := 1#32
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let v75 : BitVec 32 := Scalar.subi c1_i32_32 v44
  ![v75.toNat]
def k0_cond3 (v58 : BitVec 32) : BitVec 1 :=
  let c1_i32_23 : BitVec 32 := 1#32
  let v59 : BitVec 1 := Scalar.cmpi .eq v58 c1_i32_23
  let true_24 : BitVec 1 := 1#1
  let v60 : BitVec 1 := Scalar.xori v59 true_24
  let v61 : BitVec 32 := Scalar.extui v60
  let c0_i32_25 : BitVec 32 := 0#32
  let v62 : BitVec 1 := Scalar.cmpi .ne v61 c0_i32_25
  v62

def k0_off14 (v30 : BitVec 32) (v33 : BitVec 32) : Fin 4 → Nat :=
  let c1_i32_32 : BitVec 32 := 1#32
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let v75 : BitVec 32 := Scalar.subi c1_i32_32 v44
  let c0_i32_33 : BitVec 32 := 0#32
  let c0_i32_34 : BitVec 32 := 0#32
  let c0_i32_35 : BitVec 32 := 0#32
  ![v75.toNat, 0, 0, 0]
def k0_off15 (v74 : BitVec 32) : Fin 3 → Nat :=
  let c0_i32_36 : BitVec 32 := 0#32
  let c0_i32_37 : BitVec 32 := 0#32
  ![v74.toNat, 0, 0]

def k0_chk5 (v1 : BitVec 32) (v58 : BitVec 32) (v74 : BitVec 32) : Prop :=
  (∀ (k0_h1 : k0_cond1 v1 = 1#1), ∀ (k0_h3 : k0_cond3 v58 = 1#1), ∀ a, (k0_off15 v74) a + S1x2048x2048.size a ≤ S32x2048x2048.size a)
theorem k0_off15_inb : ∀ (v1 : BitVec 32) (v58 : BitVec 32) (v74 : BitVec 32) (k0_hw5 : k0_chk5 v1 v58 v74), ∀ (k0_h1 : k0_cond1 v1 = 1#1), ∀ (k0_h3 : k0_cond3 v58 = 1#1), ∀ a, (k0_off15 v74) a + S1x2048x2048.size a ≤ S32x2048x2048.size a := fun v1 v58 v74 k0_hw5 k0_h1 k0_h3 => k0_hw5 k0_h1 k0_h3

def k0_off16 (i : grid0.Coords) : Fin 1 → Nat :=
  let arg0 : BitVec 32 := BitVec.ofNat 32 (i 0).val
  let v73 : Index := Scalar.indexCast arg0
  ![v73.toNat]
def k0_off17 (v30 : BitVec 32) (v33 : BitVec 32) : Fin 1 → Nat :=
  let c1_i32_32 : BitVec 32 := 1#32
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let v75 : BitVec 32 := Scalar.subi c1_i32_32 v44
  ![v75.toNat]
def k0_cond4 (v58 : BitVec 32) : BitVec 1 :=
  let c1_i32_23 : BitVec 32 := 1#32
  let v59 : BitVec 1 := Scalar.cmpi .eq v58 c1_i32_23
  let v_false : BitVec 1 := 0#1
  let v63 : BitVec 1 := Scalar.andi v59 v_false
  let v64 : BitVec 32 := Scalar.extui v63
  let c0_i32_26 : BitVec 32 := 0#32
  let v65 : BitVec 1 := Scalar.cmpi .ne v64 c0_i32_26
  v65

def k0_off18 (v30 : BitVec 32) (v33 : BitVec 32) : Fin 4 → Nat :=
  let c1_i32_32 : BitVec 32 := 1#32
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let v75 : BitVec 32 := Scalar.subi c1_i32_32 v44
  let c0_i32_33 : BitVec 32 := 0#32
  let c0_i32_34 : BitVec 32 := 0#32
  let c0_i32_35 : BitVec 32 := 0#32
  ![v75.toNat, 0, 0, 0]

def k0_chk4 (v1 : BitVec 32) (v30 : BitVec 32) (v33 : BitVec 32) (v58 : BitVec 32) : Prop :=
  (∀ (k0_h1 : k0_cond1 v1 = 1#1), ∀ (k0_h3 : k0_cond3 v58 = 1#1), ∀ a, (k0_off13 v30 v33) a + S1.size a ≤ S2.size a) ∧
  (∀ (k0_h1 : k0_cond1 v1 = 1#1), ∀ (k0_h3 : k0_cond3 v58 = 1#1), ∀ a, (k0_off14 v30 v33) a + S1x1x2048x2048.size a ≤ S2x1x2048x2048.size a) ∧
  (∀ (k0_h1 : k0_cond1 v1 = 1#1), ∀ (k0_h4 : k0_cond4 v58 = 1#1), ∀ a, (k0_off17 v30 v33) a + S1.size a ≤ S2.size a) ∧
  (∀ (k0_h1 : k0_cond1 v1 = 1#1), ∀ (k0_h4 : k0_cond4 v58 = 1#1), ∀ a, (k0_off18 v30 v33) a + S1x1x2048x2048.size a ≤ S2x1x2048x2048.size a)
theorem k0_off13_inb : ∀ (v1 : BitVec 32) (v30 : BitVec 32) (v33 : BitVec 32) (v58 : BitVec 32) (k0_hw4 : k0_chk4 v1 v30 v33 v58), ∀ (k0_h1 : k0_cond1 v1 = 1#1), ∀ (k0_h3 : k0_cond3 v58 = 1#1), ∀ a, (k0_off13 v30 v33) a + S1.size a ≤ S2.size a := fun v1 v30 v33 v58 k0_hw4 k0_h1 k0_h3 => k0_hw4.1 k0_h1 k0_h3
theorem k0_off14_inb : ∀ (v1 : BitVec 32) (v30 : BitVec 32) (v33 : BitVec 32) (v58 : BitVec 32) (k0_hw4 : k0_chk4 v1 v30 v33 v58), ∀ (k0_h1 : k0_cond1 v1 = 1#1), ∀ (k0_h3 : k0_cond3 v58 = 1#1), ∀ a, (k0_off14 v30 v33) a + S1x1x2048x2048.size a ≤ S2x1x2048x2048.size a := fun v1 v30 v33 v58 k0_hw4 k0_h1 k0_h3 => k0_hw4.2.1 k0_h1 k0_h3
theorem k0_off17_inb : ∀ (v1 : BitVec 32) (v30 : BitVec 32) (v33 : BitVec 32) (v58 : BitVec 32) (k0_hw4 : k0_chk4 v1 v30 v33 v58), ∀ (k0_h1 : k0_cond1 v1 = 1#1), ∀ (k0_h4 : k0_cond4 v58 = 1#1), ∀ a, (k0_off17 v30 v33) a + S1.size a ≤ S2.size a := fun v1 v30 v33 v58 k0_hw4 k0_h1 k0_h4 => k0_hw4.2.2.1 k0_h1 k0_h4
theorem k0_off18_inb : ∀ (v1 : BitVec 32) (v30 : BitVec 32) (v33 : BitVec 32) (v58 : BitVec 32) (k0_hw4 : k0_chk4 v1 v30 v33 v58), ∀ (k0_h1 : k0_cond1 v1 = 1#1), ∀ (k0_h4 : k0_cond4 v58 = 1#1), ∀ a, (k0_off18 v30 v33) a + S1x1x2048x2048.size a ≤ S2x1x2048x2048.size a := fun v1 v30 v33 v58 k0_hw4 k0_h1 k0_h4 => k0_hw4.2.2.2 k0_h1 k0_h4

def k0_off19 (v74 : BitVec 32) : Fin 3 → Nat :=
  let c0_i32_36 : BitVec 32 := 0#32
  let c0_i32_37 : BitVec 32 := 0#32
  ![v74.toNat, 0, 0]

def k0_chk6 (v1 : BitVec 32) (v58 : BitVec 32) (v74 : BitVec 32) : Prop :=
  (∀ (k0_h1 : k0_cond1 v1 = 1#1), ∀ (k0_h4 : k0_cond4 v58 = 1#1), ∀ a, (k0_off19 v74) a + S1x2048x2048.size a ≤ S32x2048x2048.size a)
theorem k0_off19_inb : ∀ (v1 : BitVec 32) (v58 : BitVec 32) (v74 : BitVec 32) (k0_hw6 : k0_chk6 v1 v58 v74), ∀ (k0_h1 : k0_cond1 v1 = 1#1), ∀ (k0_h4 : k0_cond4 v58 = 1#1), ∀ a, (k0_off19 v74) a + S1x2048x2048.size a ≤ S32x2048x2048.size a := fun v1 v58 v74 k0_hw6 k0_h1 k0_h4 => k0_hw6 k0_h1 k0_h4

def k0_off20 (v30 : BitVec 32) (v33 : BitVec 32) : Fin 4 → Nat :=
  let c0_i32_10 : BitVec 32 := 0#32
  let v31 : BitVec 32 := Scalar.muli c0_i32_10 v30
  let v34 : BitVec 32 := Scalar.addi v31 v33
  let c2_i32 : BitVec 32 := 2#32
  let c0_i32_11 : BitVec 32 := 0#32
  let v35 : BitVec 1 := Scalar.cmpi .eq c2_i32 c0_i32_11
  let c1_i32_12 : BitVec 32 := 1#32
  let v36 : BitVec 32 := Scalar.select v35 c1_i32_12 c2_i32
  let v37 : BitVec 32 := Scalar.remsi v34 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let v66 : Index := Scalar.indexCast v44
  let c0_27 : Index := 0#32
  let c0_28 : Index := 0#32
  let c0_29 : Index := 0#32
  ![v66.toNat, 0, 0, 0]

def k0_chk1 (i : grid0.Coords) (v1 : BitVec 32) (v30 : BitVec 32) (v33 : BitVec 32) : Prop :=
  (∀ (k0_h1 : k0_cond1 v1 = 1#1), ∀ (k0_h2 : k0_cond2 i = 1#1), ∀ a, (k0_off4 v30 v33) a + S1.size a ≤ S2.size a) ∧
  (∀ (k0_h1 : k0_cond1 v1 = 1#1), ∀ (k0_h2 : k0_cond2 i = 1#1), ∀ a, (k0_off5 v30 v33) a + S1x1x2048x2048.size a ≤ S2x1x2048x2048.size a) ∧
  (∀ (k0_h1 : k0_cond1 v1 = 1#1), ∀ a, (k0_off8 v30 v33) a + S1.size a ≤ S2.size a) ∧
  (∀ (k0_h1 : k0_cond1 v1 = 1#1), ∀ a, (k0_off9 v30 v33) a + S1x1x2048x2048.size a ≤ S2x1x2048x2048.size a) ∧
  (∀ (k0_h1 : k0_cond1 v1 = 1#1), ∀ a, (k0_off20 v30 v33) a + S1x1x2048x2048.size a ≤ S2x1x2048x2048.size a)
theorem k0_off4_inb : ∀ (i : grid0.Coords) (v1 : BitVec 32) (v30 : BitVec 32) (v33 : BitVec 32) (k0_hw1 : k0_chk1 i v1 v30 v33), ∀ (k0_h1 : k0_cond1 v1 = 1#1), ∀ (k0_h2 : k0_cond2 i = 1#1), ∀ a, (k0_off4 v30 v33) a + S1.size a ≤ S2.size a := fun i v1 v30 v33 k0_hw1 k0_h1 k0_h2 => k0_hw1.1 k0_h1 k0_h2
theorem k0_off5_inb : ∀ (i : grid0.Coords) (v1 : BitVec 32) (v30 : BitVec 32) (v33 : BitVec 32) (k0_hw1 : k0_chk1 i v1 v30 v33), ∀ (k0_h1 : k0_cond1 v1 = 1#1), ∀ (k0_h2 : k0_cond2 i = 1#1), ∀ a, (k0_off5 v30 v33) a + S1x1x2048x2048.size a ≤ S2x1x2048x2048.size a := fun i v1 v30 v33 k0_hw1 k0_h1 k0_h2 => k0_hw1.2.1 k0_h1 k0_h2
theorem k0_off8_inb : ∀ (i : grid0.Coords) (v1 : BitVec 32) (v30 : BitVec 32) (v33 : BitVec 32) (k0_hw1 : k0_chk1 i v1 v30 v33), ∀ (k0_h1 : k0_cond1 v1 = 1#1), ∀ a, (k0_off8 v30 v33) a + S1.size a ≤ S2.size a := fun i v1 v30 v33 k0_hw1 k0_h1 => k0_hw1.2.2.1 k0_h1
theorem k0_off9_inb : ∀ (i : grid0.Coords) (v1 : BitVec 32) (v30 : BitVec 32) (v33 : BitVec 32) (k0_hw1 : k0_chk1 i v1 v30 v33), ∀ (k0_h1 : k0_cond1 v1 = 1#1), ∀ a, (k0_off9 v30 v33) a + S1x1x2048x2048.size a ≤ S2x1x2048x2048.size a := fun i v1 v30 v33 k0_hw1 k0_h1 => k0_hw1.2.2.2.1 k0_h1
theorem k0_off20_inb : ∀ (i : grid0.Coords) (v1 : BitVec 32) (v30 : BitVec 32) (v33 : BitVec 32) (k0_hw1 : k0_chk1 i v1 v30 v33), ∀ (k0_h1 : k0_cond1 v1 = 1#1), ∀ a, (k0_off20 v30 v33) a + S1x1x2048x2048.size a ≤ S2x1x2048x2048.size a := fun i v1 v30 v33 k0_hw1 k0_h1 => k0_hw1.2.2.2.2 k0_h1

def k0_off21 (i : grid0.Coords) : Fin 1 → Nat :=
  let arg0 : BitVec 32 := BitVec.ofNat 32 (i 0).val
  let v5 : Index := Scalar.indexCast arg0
  ![v5.toNat]
def k0_cond5 (v6 : BitVec 32) : BitVec 1 :=
  let c0_i32_0 : BitVec 32 := 0#32
  let v7 : BitVec 1 := Scalar.cmpi .sle v6 c0_i32_0
  let v8 : BitVec 32 := Scalar.extui v7
  let c0_i32_1 : BitVec 32 := 0#32
  let v9 : BitVec 1 := Scalar.cmpi .ne v8 c0_i32_1
  v9

def k0_cond6 (v6 : BitVec 32) : BitVec 1 :=
  let c0_i32_2 : BitVec 32 := 0#32
  let v10 : BitVec 1 := Scalar.cmpi .sgt v6 c0_i32_2
  let c128_i32 : BitVec 32 := 128#32
  let v11 : BitVec 1 := Scalar.cmpi .sle v6 c128_i32
  let v12 : BitVec 1 := Scalar.andi v10 v11
  let v13 : BitVec 32 := Scalar.extui v12
  let c0_i32_3 : BitVec 32 := 0#32
  let v14 : BitVec 1 := Scalar.cmpi .ne v13 c0_i32_3
  v14

def k0_cond7 (v6 : BitVec 32) : BitVec 1 :=
  let c128_i32_4 : BitVec 32 := 128#32
  let v15 : BitVec 1 := Scalar.cmpi .sgt v6 c128_i32_4
  let c256_i32 : BitVec 32 := 256#32
  let v16 : BitVec 1 := Scalar.cmpi .sle v6 c256_i32
  let v17 : BitVec 1 := Scalar.andi v15 v16
  let v18 : BitVec 32 := Scalar.extui v17
  let c0_i32_5 : BitVec 32 := 0#32
  let v19 : BitVec 1 := Scalar.cmpi .ne v18 c0_i32_5
  v19

def k0_cond8 (v6 : BitVec 32) : BitVec 1 :=
  let c256_i32_6 : BitVec 32 := 256#32
  let v20 : BitVec 1 := Scalar.cmpi .sgt v6 c256_i32_6
  let c384_i32 : BitVec 32 := 384#32
  let v21 : BitVec 1 := Scalar.cmpi .sle v6 c384_i32
  let v22 : BitVec 1 := Scalar.andi v20 v21
  let v23 : BitVec 32 := Scalar.extui v22
  let c0_i32_7 : BitVec 32 := 0#32
  let v24 : BitVec 1 := Scalar.cmpi .ne v23 c0_i32_7
  v24

def k0_cond9 (v6 : BitVec 32) : BitVec 1 :=
  let c384_i32_8 : BitVec 32 := 384#32
  let v25 : BitVec 1 := Scalar.cmpi .sgt v6 c384_i32_8
  let c512_i32 : BitVec 32 := 512#32
  let v26 : BitVec 1 := Scalar.cmpi .sle v6 c512_i32
  let v27 : BitVec 1 := Scalar.andi v25 v26
  let v28 : BitVec 32 := Scalar.extui v27
  let c0_i32_9 : BitVec 32 := 0#32
  let v29 : BitVec 1 := Scalar.cmpi .ne v28 c0_i32_9
  v29

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S32 : Shape := ⟨1, ![32]⟩
abbrev S49152x2048 : Shape := ⟨2, ![49152, 2048]⟩
abbrev S1x32x2048x2048 : Shape := ⟨4, ![1, 32, 2048, 2048]⟩
abbrev S1x32x2048 : Shape := ⟨3, ![1, 32, 2048]⟩
abbrev S_ : Shape := ⟨0, ![]⟩
abbrev S32x1 : Shape := ⟨2, ![32, 1]⟩
abbrev S49152 : Shape := ⟨1, ![49152]⟩
abbrev S1x49152 : Shape := ⟨2, ![1, 49152]⟩
abbrev S32x49152 : Shape := ⟨2, ![32, 49152]⟩
abbrev S32x2048x2048 : Shape := ⟨3, ![32, 2048, 2048]⟩
abbrev S32x2048x49152 : Shape := ⟨3, ![32, 2048, 49152]⟩
abbrev S32x49152x2048 : Shape := ⟨3, ![32, 49152, 2048]⟩
abbrev S32x2048 : Shape := ⟨2, ![32, 2048]⟩
abbrev S32x1x2048 : Shape := ⟨3, ![32, 1, 2048]⟩
abbrev S32x49152x1 : Shape := ⟨3, ![32, 49152, 1]⟩
abbrev S786432x128 : Shape := ⟨2, ![786432, 128]⟩

abbrev nBuf : Space → Nat
  | .hbm => 86
  | .vmem => 0
  | .smem => 0
  | _ => 0

abbrev bufTy : (tb : Table) → Fin (tcTables nBuf tb) → BufTy
  | .hbm, ⟨0, _⟩ => ⟨S32, .i32⟩
  | .hbm, ⟨1, _⟩ => ⟨S49152x2048, .bf16⟩
  | .hbm, ⟨2, _⟩ => ⟨S1x32x2048x2048, .f32⟩
  | .hbm, ⟨3, _⟩ => ⟨S1x32x2048, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32x1, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i1⟩
  | .hbm, ⟨44, _⟩ => ⟨S32, .i32⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i1⟩
  | .hbm, ⟨49, _⟩ => ⟨S32, .i1⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32x1, .i32⟩
  | .hbm, ⟨58, _⟩ => ⟨S49152, .i32⟩
  | .hbm, ⟨59, _⟩ => ⟨S1x49152, .i32⟩
  | .hbm, ⟨60, _⟩ => ⟨S32x49152, .i32⟩
  | .hbm, ⟨61, _⟩ => ⟨S32x49152, .i32⟩
  | .hbm, ⟨62, _⟩ => ⟨S32x49152, .i1⟩
  | .hbm, ⟨63, _⟩ => ⟨S32x1, .i32⟩
  | .hbm, ⟨64, _⟩ => ⟨S1x49152, .i32⟩
  | .hbm, ⟨65, _⟩ => ⟨S32x49152, .i32⟩
  | .hbm, ⟨66, _⟩ => ⟨S32x49152, .i32⟩
  | .hbm, ⟨67, _⟩ => ⟨S32x49152, .i1⟩
  | .hbm, ⟨68, _⟩ => ⟨S32x49152, .i1⟩
  | .hbm, ⟨69, _⟩ => ⟨S49152x2048, .f32⟩
  | .hbm, ⟨70, _⟩ => ⟨S32x2048x2048, .f32⟩
  | .hbm, ⟨71, _⟩ => ⟨S32x2048x49152, .f32⟩
  | .hbm, ⟨72, _⟩ => ⟨S32x49152x2048, .f32⟩
  | .hbm, ⟨73, _⟩ => ⟨S32x2048, .f32⟩
  | .hbm, ⟨74, _⟩ => ⟨S32x1x2048, .f32⟩
  | .hbm, ⟨75, _⟩ => ⟨S32x49152x2048, .f32⟩
  | .hbm, ⟨76, _⟩ => ⟨S32x49152x2048, .f32⟩
  | .hbm, ⟨77, _⟩ => ⟨S32x49152x1, .i1⟩
  | .hbm, ⟨78, _⟩ => ⟨S_, .f32⟩
  | .hbm, ⟨79, _⟩ => ⟨S_, .f32⟩
  | .hbm, ⟨80, _⟩ => ⟨S32x49152x2048, .i1⟩
  | .hbm, ⟨81, _⟩ => ⟨S32x49152x2048, .f32⟩
  | .hbm, ⟨82, _⟩ => ⟨S32x49152x2048, .f32⟩
  | .hbm, ⟨83, _⟩ => ⟨S_, .f32⟩
  | .hbm, ⟨84, _⟩ => ⟨S49152x2048, .f32⟩
  | .hbm, ⟨85, _⟩ => ⟨S786432x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v10 : Ref sig .tc := ⟨.hbm, 53, rfl⟩
abbrev main_c_4 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v34 : Ref sig .tc := ⟨.hbm, 82, rfl⟩
abbrev main_cst_5 : Ref sig .tc := ⟨.hbm, 83, rfl⟩
abbrev main_v35 : Ref sig .tc := ⟨.hbm, 84, rfl⟩
abbrev main_v36 : Ref sig .tc := ⟨.hbm, 85, rfl⟩

abbrev nD : Nat := 1
abbrev τ : Topo := Topo.v7x

variable {F : FTy → Type} [FloatOps F]
-- ==== Proof.Scalars.lean ====
module

public import Idealize.ShloMosaic.PureOps
public import Idealize.ShloMosaic.Lib.ValueIdx
public import Mathlib.Analysis.SpecialFunctions.Trigonometric.DerivHyp

@[expose] public section

noncomputable section

namespace Cert.Scalars

open Idealize.ShloMosaic

/-! The float words of the two programs, read as real numbers. -/

/-- The coefficient of the cubic term of gelu: the single-precision number nearest 0.044715. -/
def cubic : ℝ := 12003091 / 268435456

/-- The scale inside gelu's tanh: the single-precision number nearest the square root of 2/π. -/
def scale : ℝ := 6693141 / 8388608

theorem word_zero : Ideal.ofBits .f32 0x00000000#32 = 0 := by
  simp [Ideal.ofBits, Ideal.ieee]

theorem word_one : Ideal.ofBits .f32 0x3F800000#32 = 1 := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_scale : Ideal.ofBits .f32 0x3F4C422A#32 = (scale : EReal) := by
  simp [Ideal.ofBits, Ideal.ieee, scale, -EReal.coe_mul]; norm_num

theorem word_cubic : Ideal.ofBits .f32 0x3D372713#32 = (cubic : EReal) := by
  simp [Ideal.ofBits, Ideal.ieee, cubic, -EReal.coe_mul]; norm_num

theorem scale_pos : 0 < scale := by unfold scale; norm_num

theorem cubic_pos : 0 < cubic := by unfold cubic; norm_num

/-- The logistic function, as the reference writes it. -/
def sigm (z : EReal) : EReal := Ideal.div 1 (1 + Ideal.exp (-z))

/-- The tanh form of gelu, as the reference writes it. -/
def gelu (z : EReal) : EReal :=
  z * (((1 / 2 : ℝ) : EReal) * (1 + Ideal.tanh ((scale : EReal) * (z + (cubic : EReal) * (z * z * z)))))

/-- The one formula the kernel evaluates for every column segment, with four coefficients. -/
def gate (p0 p1 q0 q1 z : EReal) : EReal :=
  (((1 / 2 : ℝ) : EReal) * (q0 + q1 * z)) * (1 + Ideal.tanh (z * (p0 + p1 * (z * z))))

theorem logistic_tanh (x : ℝ) : (1 / 2) * (1 + Real.tanh (x * (1 / 2))) = 1 / (1 + Real.exp (-x)) := by
  rw [Real.tanh_eq_sinh_div_cosh, Real.sinh_eq, Real.cosh_eq]
  have h : Real.exp (-x) = Real.exp (-(x * (1 / 2))) * Real.exp (-(x * (1 / 2))) := by
    rw [← Real.exp_add]; congr 1; ring
  have h1 : Real.exp (x * (1 / 2)) * Real.exp (-(x * (1 / 2))) = 1 := by
    rw [← Real.exp_add]; simp
  rw [h]
  have ha := Real.exp_pos (x * (1 / 2))
  have hb := Real.exp_pos (-(x * (1 / 2)))
  generalize Real.exp (x * (1 / 2)) = a at *
  generalize Real.exp (-(x * (1 / 2))) = b at *
  field_simp
  nlinarith [h1]

theorem gate_sigm (z : EReal) : gate ((1 / 2 : ℝ) : EReal) 0 1 0 z = sigm z := by
  unfold gate sigm
  simp only [zero_mul, add_zero, mul_one]
  induction z with
  | bot =>
    have h : (⊥ : EReal) * ((1 / 2 : ℝ) : EReal) = ⊥ := EReal.bot_mul_coe_of_pos (by norm_num)
    simp only [h, Ideal.tanh_bot, EReal.neg_bot, Ideal.exp_top]
    have h2 : (1 : EReal) + -1 = 0 := by
      rw [show (1 : EReal) = ((1 : ℝ) : EReal) from rfl]; norm_cast
    have h3 : (1 : EReal) + ⊤ = ⊤ := rfl
    rw [h2, h3, mul_zero]
    simp [Ideal.div]
  | top =>
    have h : (⊤ : EReal) * ((1 / 2 : ℝ) : EReal) = ⊤ := EReal.top_mul_coe_of_pos (by norm_num)
    simp only [h, Ideal.tanh_top, EReal.neg_top, Ideal.exp_bot, add_zero]
    rw [show (1 : EReal) = ((1 : ℝ) : EReal) from rfl, Ideal.div_coe one_ne_zero]
    norm_cast
    norm_num
  | coe x =>
    have hp : (1 + Real.exp (-x)) ≠ 0 := by have := Real.exp_pos (-x); positivity
    rw [show (1 : EReal) = ((1 : ℝ) : EReal) from rfl, ← EReal.coe_neg, Ideal.exp_coe, ← EReal.coe_mul, Ideal.tanh_coe,
      ← EReal.coe_add, ← EReal.coe_add, Ideal.div_coe hp, ← EReal.coe_mul, ← EReal.coe_mul, logistic_tanh, one_mul]

theorem gate_gelu (z : EReal) : gate (scale : EReal) ((scale * cubic : ℝ) : EReal) 0 1 z = gelu z := by
  have hs := scale_pos
  have hc := cubic_pos
  unfold gate gelu
  simp only [one_mul, zero_add]
  induction z with
  | bot =>
    have h1 : (⊥ : EReal) * ⊥ = ⊤ := EReal.bot_mul_bot
    have h2 : (⊤ : EReal) * ⊥ = ⊥ := EReal.top_mul_bot
    rw [h1, h2, EReal.coe_mul_top_of_pos (mul_pos hs hc), EReal.coe_mul_bot_of_pos hc, EReal.coe_add_top,
      EReal.bot_add, EReal.coe_mul_bot_of_pos hs, EReal.bot_mul_top, Ideal.tanh_bot]
    have h3 : (1 : EReal) + -1 = 0 := by
      rw [show (1 : EReal) = ((1 : ℝ) : EReal) from rfl]; norm_cast
    simp [h3]
  | top =>
    rw [EReal.top_mul_top, EReal.top_mul_top, EReal.coe_mul_top_of_pos (mul_pos hs hc), EReal.coe_mul_top_of_pos hc,
      EReal.coe_add_top, EReal.top_add_top, EReal.coe_mul_top_of_pos hs, EReal.top_mul_top, Ideal.tanh_top]
    have h3 : (1 : EReal) + 1 = ((2 : ℝ) : EReal) := by
      rw [show (1 : EReal) = ((1 : ℝ) : EReal) from rfl]; norm_cast
    rw [h3, EReal.coe_mul_top_of_pos (by norm_num), EReal.top_mul_coe_of_pos (by norm_num), ← EReal.coe_mul,
      EReal.top_mul_coe_of_pos (by norm_num)]
  | coe x =>
    rw [show (1 : EReal) = ((1 : ℝ) : EReal) from rfl]
    simp only [← EReal.coe_mul, ← EReal.coe_add, Ideal.tanh_coe]
    have e : x * (scale + scale * cubic * (x * x)) = scale * (x + cubic * (x * x * x)) := by ring
    rw [e]
    congr 1
    ring

end Cert.Scalars

end
-- ==== Proof.Block.lean ====
module

public import proofs.«01_k».proof.Proof.Gen.KernelIdeal.Value
public import proofs.«01_k».proof.Proof.Scalars
public import Idealize.ShloMosaic.Lib.ValueIdx
public import Idealize.ShloMosaic.Lib.MatmulPlain
public import Idealize.ShloMosaic.Lib.ValueLayout

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx Cert.Scalars

theorem hz : (![0, 0] : Fin 2 → Nat) = fun _ => 0 := by
  funext a; fin_cases a <;> rfl

theorem hz3 : (![0, 0, 0] : Fin 3 → Nat) = fun _ => 0 := by
  funext a; fin_cases a <;> rfl

/-! What the kernel selects on: the column segment a grid point works in. -/

/-- The segment number of column tile `i 0`: the tile's index halved, rounding down. -/
def seg (i : grid0.Coords) : BitVec 32 :=
  Scalar.select (Scalar.andi (Scalar.cmpi .ne (Scalar.subi (Scalar.extui (Scalar.cmpi .sgt (BitVec.ofNat 32 (i 0).val) 0#32))
      (Scalar.extui (Scalar.cmpi .slt (BitVec.ofNat 32 (i 0).val) 0#32))) 1#32)
    (Scalar.cmpi .ne (Scalar.remsi (BitVec.ofNat 32 (i 0).val) 2#32) 0#32))
    (Scalar.subi (Scalar.divsi (BitVec.ofNat 32 (i 0).val) 2#32) 1#32) (Scalar.divsi (BitVec.ofNat 32 (i 0).val) 2#32)

/-- Whether the segment is left as the product computed it. -/
def isRaw (i : grid0.Coords) : BitVec 1 := Scalar.cmpi .slt (seg i) 2#32

/-- Whether the segment goes through gelu. -/
def isGelu (i : grid0.Coords) : BitVec 1 := Scalar.ori (Scalar.cmpi .eq (seg i) 3#32) (Scalar.cmpi .eq (seg i) 4#32)

theorem isRaw_eq : ∀ i : grid0.Coords, isRaw i = if (i 0).val < 4 then 1#1 else 0#1 := by
  intro i
  unfold isRaw seg
  generalize i 0 = j
  revert j
  decide +kernel

theorem isGelu_eq : ∀ i : grid0.Coords, isGelu i = if 6 ≤ (i 0).val ∧ (i 0).val < 10 then 1#1 else 0#1 := by
  intro i
  unfold isGelu seg
  generalize i 0 = j
  revert j
  decide +kernel

theorem p0_eq (i : grid0.Coords) : k0_pay4 (F := Ideal) i = Scalar.select (isGelu i) (scale : EReal) ((1 / 2 : ℝ) : EReal) := by
  rw [← word_scale, ← word_half]; rfl

theorem p1_eq (i : grid0.Coords) : k0_pay5 (F := Ideal) i = Scalar.select (isGelu i) ((scale * cubic : ℝ) : EReal) 0 := by
  have h : (Named.named κ "gelu_c_cubic" 0x3D122279#32 : Ideal .f32) = ((scale * cubic : ℝ) : EReal) :=
    (IdealRules.named_const.ideal_named_scalar _ _ _ _ rfl).trans rfl
  rw [← h, ← word_zero]; rfl

theorem q0_eq (i : grid0.Coords) : k0_pay6 (F := Ideal) i = Scalar.select (isGelu i) (0 : EReal) 1 := by
  rw [← word_zero, ← word_one]; rfl

theorem q1_eq (i : grid0.Coords) : k0_pay7 (F := Ideal) i = Scalar.select (isGelu i) (1 : EReal) 0 := by
  rw [← word_zero, ← word_one]; rfl

/-- What a grid point does to an entry of the product. -/
def act (j : Nat) (z : EReal) : EReal := if j < 4 then z else if 6 ≤ j ∧ j < 10 then gelu z else sigm z

theorem act_eq (i : grid0.Coords) (z : EReal) :
    Scalar.select (isRaw i) z (gate (k0_pay4 (F := Ideal) i) (k0_pay5 (F := Ideal) i) (k0_pay6 (F := Ideal) i) (k0_pay7 (F := Ideal) i) z)
      = act (i 0).val z := by
  rw [p0_eq, p1_eq, q0_eq, q1_eq, isRaw_eq, isGelu_eq]
  unfold act
  by_cases h1 : (i 0).val < 4
  · simp only [if_pos h1, select_one]
  · by_cases h2 : 6 ≤ (i 0).val ∧ (i 0).val < 10
    · simp only [if_neg h1, if_pos h2, select_one, select_zero, gate_gelu]
    · simp only [if_neg h1, if_neg h2, select_zero, gate_sigm]

/-! A store's payload at an index. -/

/-- The product of 256 rows of activations with the block of weights. -/
abbrev mm (W : Vec Ideal S2048x1024 .bf16) (X : Vec Ideal S256x2048 .bf16) : FVec Ideal S256x1024 .f32 :=
  matmul (F := Ideal) (φ₁ := .bf16) (φ₂ := .bf16) dot_S256x2048_S2048x1024_S256x1024_1_0_0_1_n_n none X W (constant S256x1024 .f32 0x00000000#32)

theorem mm_apply (W : Vec Ideal S2048x1024 .bf16) (X : Vec Ideal S256x2048 .bf16) (x : S256x1024.Idx) :
    mm W X x = ∑ k : Fin 2048, X (ix2 (x 0) k) * W (ix2 k (x 1)) := by
  conv_lhs => rw [eq_ix2 x]
  refine (Ideal.matmul_plain_apply (M := 256) (K := 2048) (N := 1024) none X W _ (x 0) (x 1)).trans ?_
  rw [show (constant (F := Ideal) S256x1024 .f32 0x00000000#32) (ix2 (x 0) (x 1)) = 0 from word_zero, zero_add]

/-- One entry of the output block, from the entry of the product. -/
abbrev cell (b : BitVec 1) (p0 p1 q0 q1 z : EReal) : EReal := Scalar.select b z (gate p0 p1 q0 q1 z)

theorem stored (b : BitVec 1) (p0 p1 q0 q1 : EReal) (Z : FVec Ideal S256x1024 .f32) (x : S256x1024.Idx) :
    (Scalar.select b Z (mulf (mulf (broadcast S256x1024 (Scalar.ofBits (F := Ideal) .f32 0x3F000000#32))
      (addf (broadcast S256x1024 (q0 : Ideal .f32)) (mulf (broadcast S256x1024 (q1 : Ideal .f32)) Z)))
      (addf (broadcast S256x1024 (Scalar.ofBits (F := Ideal) .f32 0x3F800000#32))
        (tanh (mulf Z (addf (broadcast S256x1024 (p0 : Ideal .f32)) (mulf (broadcast S256x1024 (p1 : Ideal .f32)) (mulf Z Z)))))))
      : FVec Ideal S256x1024 .f32) x
      = cell b p0 p1 q0 q1 (Z x) := by
  unfold cell gate
  rw [← word_half, ← word_one]
  unfold Scalar.select
  split <;> rfl

/-- The output block a grid point leaves, from its block of activations and its block of weights. -/
def block (j : Nat) (X : Vec Ideal S2048x2048 .bf16) (W : Vec Ideal S2048x1024 .bf16) : Vec Ideal S2048x1024 .bf16 :=
  fun y => act j (∑ k : Fin 2048, X (ix2 (y 0) k) * W (ix2 k (y 1)))

/-- A store of 256 rows from row `o` on holds those rows of `block`. -/
theorem rows (i : grid0.Coords) (X : Vec Ideal S2048x2048 .bf16) (W : Vec Ideal S2048x1024 .bf16) (o : Nat)
    (hX : ∀ a, (![o, 0] : Fin 2 → Nat) a + (![256, 2048] : Fin 2 → Nat) a ≤ S2048x2048.size a)
    (hO : ∀ a, (![o, 0] : Fin 2 → Nat) a + (![256, 1024] : Fin 2 → Nat) a ≤ S2048x1024.size a) (x : S256x1024.Idx) :
    cell (isRaw i) (k0_pay4 (F := Ideal) i) (k0_pay5 (F := Ideal) i) (k0_pay6 (F := Ideal) i) (k0_pay7 (F := Ideal) i)
        (mm W (View.ld X (Rect.unit (s := S2048x2048) ![o, 0] ![256, 2048] hX)) x)
      = block (i 0).val X W ((Rect.unit (s := S2048x1024) ![o, 0] ![256, 1024] hO).emb x) := by
  unfold cell
  rw [act_eq, mm_apply]
  unfold block
  refine congrArg _ (Finset.sum_congr rfl fun k _ => ?_)
  have e1 : View.ld X (Rect.unit (s := S2048x2048) ![o, 0] ![256, 2048] hX) (ix2 (x 0) k)
      = X (ix2 ((Rect.unit (s := S2048x1024) ![o, 0] ![256, 1024] hO).emb x 0) k) := by
    refine congrArg X (funext fun a => Fin.ext ?_)
    match a with
    | ⟨0, _⟩ => rfl
    | ⟨1, _⟩ => show 0 + 1 * k.val = k.val; omega
  have e2 : ((Rect.unit (s := S2048x1024) ![o, 0] ![256, 1024] hO).emb x 1) = x 1 := by
    refine Fin.ext ?_
    show 0 + 1 * (x 1).val = (x 1).val; omega
  rw [e1, e2]

theorem out_B (c : Dev nD) (i : grid0.Coords) (arg2 : Memref sig .tc .vmem S2048x2048 .bf16) (harg2 : arg2.IsWhole)
    (arg3 : Memref sig .tc .vmem S1x1024x2048 .f32) (harg3 : arg3.IsWhole)
    (arg4 : Memref sig .tc .vmem S2048x1024 .bf16) (harg4 : arg4.IsWhole)
    (arg5 : Memref sig .tc .vmem S2048x1024 .bf16) (harg5 : arg5.IsWhole) (hc0 : ¬cond0_0 i)
    (x0 : Vec Ideal S2048x2048 .bf16) (x1 : Vec Ideal S1x1024x2048 .f32) (xs0 : Vec Ideal S2048x1024 .bf16) :
    out0_B_2 c i arg2 harg2 arg3 harg3 arg4 harg4 arg5 harg5 hc0 x0 x1 xs0 = block (i 0).val x0 xs0 := by
  have hcov := cover0_B_2 c i arg2 harg2 arg3 harg3 arg4 harg4 arg5 harg5 hc0 x0 x1 xs0
  funext y
  unfold out0_B_2
  rw [View.read_writes_eq_canon _ _ _ hcov]
  refine View.canon_apply_of_pieces (block (i 0).val x0 xs0) _ ?_ y (hcov y)
  unfold kernelRun0_B
  dsimp only
  sl_unfold_words
  simp only [List.forall_mem_cons, View.readAt_eq_ld, harg2.read_unread, harg5.read_unread, View.ld_unit_zero (S := S2048x1024) hz]
  refine ⟨?_, ?_, ?_, ?_, ?_, ?_, ?_, ?_, fun _ h => absurd h List.not_mem_nil⟩
  · exact fun x => (stored _ _ _ _ _ _ x).trans (rows i x0 xs0 1792 _ _ x)
  · exact fun x => (stored _ _ _ _ _ _ x).trans (rows i x0 xs0 1536 _ _ x)
  · exact fun x => (stored _ _ _ _ _ _ x).trans (rows i x0 xs0 1280 _ _ x)
  · exact fun x => (stored _ _ _ _ _ _ x).trans (rows i x0 xs0 1024 _ _ x)
  · exact fun x => (stored _ _ _ _ _ _ x).trans (rows i x0 xs0 768 _ _ x)
  · exact fun x => (stored _ _ _ _ _ _ x).trans (rows i x0 xs0 512 _ _ x)
  · exact fun x => (stored _ _ _ _ _ _ x).trans (rows i x0 xs0 256 _ _ x)
  · exact fun x => (stored _ _ _ _ _ _ x).trans (rows i x0 xs0 0 _ _ x)

theorem scratch_A (c : Dev nD) (i : grid0.Coords) (arg2 : Memref sig .tc .vmem S2048x2048 .bf16) (harg2 : arg2.IsWhole)
    (arg3 : Memref sig .tc .vmem S1x1024x2048 .f32) (harg3 : arg3.IsWhole)
    (arg4 : Memref sig .tc .vmem S2048x1024 .bf16) (harg4 : arg4.IsWhole)
    (arg5 : Memref sig .tc .vmem S2048x1024 .bf16) (harg5 : arg5.IsWhole) (hc0 : cond0_0 i)
    (x0 : Vec Ideal S2048x2048 .bf16) (x1 : Vec Ideal S1x1024x2048 .f32) :
    sout0_A_0 c i arg2 harg2 arg3 harg3 arg4 harg4 arg5 harg5 hc0 x0 x1 = k0_pay3 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg3.read_unread, View.ld_unit_zero (S := S1x1024x2048) hz3]

theorem out_A (c : Dev nD) (i : grid0.Coords) (arg2 : Memref sig .tc .vmem S2048x2048 .bf16) (harg2 : arg2.IsWhole)
    (arg3 : Memref sig .tc .vmem S1x1024x2048 .f32) (harg3 : arg3.IsWhole)
    (arg4 : Memref sig .tc .vmem S2048x1024 .bf16) (harg4 : arg4.IsWhole)
    (arg5 : Memref sig .tc .vmem S2048x1024 .bf16) (harg5 : arg5.IsWhole) (hc0 : cond0_0 i)
    (x0 : Vec Ideal S2048x2048 .bf16) (x1 : Vec Ideal S1x1024x2048 .f32) :
    out0_A_2 c i arg2 harg2 arg3 harg3 arg4 harg4 arg5 harg5 hc0 x0 x1 = block (i 0).val x0 (k0_pay3 x1) := by
  have hcov := cover0_A_2 c i arg2 harg2 arg3 harg3 arg4 harg4 arg5 harg5 hc0 x0 x1
  funext y
  unfold out0_A_2
  rw [View.read_writes_eq_canon _ _ _ hcov]
  refine View.canon_apply_of_pieces (block (i 0).val x0 (k0_pay3 x1)) _ ?_ y (hcov y)
  unfold kernelRun0_A
  dsimp only
  sl_unfold_words
  simp only [List.forall_mem_cons, View.readAt_eq_ld, harg2.read_unread, harg3.read_unread, View.readCov_unit_zero (S := S2048x1024) (h := hz),
    View.ld_unit_zero (S := S1x1024x2048) hz3]
  generalize k0_pay3 x1 = W
  refine ⟨?_, ?_, ?_, ?_, ?_, ?_, ?_, ?_, fun _ h => absurd h List.not_mem_nil⟩
  · exact fun x => (stored _ _ _ _ _ _ x).trans (rows i x0 _ 1792 _ _ x)
  · exact fun x => (stored _ _ _ _ _ _ x).trans (rows i x0 _ 1536 _ _ x)
  · exact fun x => (stored _ _ _ _ _ _ x).trans (rows i x0 _ 1280 _ _ x)
  · exact fun x => (stored _ _ _ _ _ _ x).trans (rows i x0 _ 1024 _ _ x)
  · exact fun x => (stored _ _ _ _ _ _ x).trans (rows i x0 _ 768 _ _ x)
  · exact fun x => (stored _ _ _ _ _ _ x).trans (rows i x0 _ 512 _ _ x)
  · exact fun x => (stored _ _ _ _ _ _ x).trans (rows i x0 _ 256 _ _ x)
  · exact fun x => (stored _ _ _ _ _ _ x).trans (rows i x0 _ 0 _ _ x)

/-- The weights the kernel keeps: the block of weights transposed. -/
theorem kept (x1 : Vec Ideal S1x1024x2048 .f32) (k : Fin 2048) (n : Fin 1024) :
    k0_pay3 (F := Ideal) x1 (ix2 k n) = x1 (ix3 (0 : Fin 1) n k) := by
  unfold k0_pay3
  dsimp only
  rw [shapeCast_self]
  refine (transpose_ix2_apply (shapeCast S1024x2048 x1 shapeCasts_S1x1024x2048_S1024x2048) transposes_S1024x2048_p1_0_S2048x1024 k n).trans ?_
  exact shapeCast_1ab_ab_apply x1 shapeCasts_S1x1024x2048_S1024x2048 n k

end Cert.KernelIdeal.Block

end
-- ==== Proof.Whole.lean ====
module

public import proofs.«01_k».proof.Proof.Block

@[expose] public section

set_option maxRecDepth 16384

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem
open Idealize.ShloMosaic.Tactic Idealize.ShloMosaic.ValueIdx

variable (m : (ℓ : Loc nD τ sig) → Buf (Elt Ideal) ℓ)

/-- The activations on device `c`. -/
abbrev H (c : Dev nD) : Vec Ideal S8192x2048 .bf16 := m ((c : Thread nD τ).loc main_arg0)

/-- The weights on device `c`. -/
abbrev W (c : Dev nD) : Vec Ideal S1x2048x14368 .f32 := m ((c : Thread nD τ).loc main_arg1)

/-- How far the weight columns of column tile `j` are from its output columns: the gate columns are skipped. -/
def skip (j : Nat) : Nat := if j < 4 then 0 else 32

/-- Which blocks a grid point reads, by its number. -/
theorem point_facts : ∀ t : Fin grid0.N, win0_0.index t (0 : Fin 2) = t.val % 4 ∧ win0_0.index t (1 : Fin 2) = 0
    ∧ cc0_transform_1 (grid0.coords t) (0 : Fin 3) = 0
    ∧ cc0_transform_1 (grid0.coords t) (1 : Fin 3) = 1024 * (t.val / 4) + skip (t.val / 4)
    ∧ cc0_transform_1 (grid0.coords t) (2 : Fin 3) = 0
    ∧ ((grid0.coords t) 0).val = t.val / 4 := by decide +kernel

/-- The call's weights are the transposed weights. -/
theorem weights (c : Dev nD) : (V m c main_v0 : Vec Ideal S1x14368x2048 .f32)
    = transpose S1x14368x2048 [0, 2, 1] (W m c) transposes_S1x2048x14368_S1x14368x2048_0_2_1 := by
  show StableHlo.after hostOps0 _ _ = _
  after_results_simp

theorem point_lt (t : Fin cfg0.N) : t.val < 56 := lt_of_lt_of_eq t.isLt N_0

theorem row_lt (t : Fin cfg0.N) (y : Fin 2048) : 2048 * (t.val % 4) + y.val < 8192 := by
  have := point_lt t; omega

theorem col_lt (j : Nat) (hj : j < 14) (y : Fin 1024) : 1024 * j + skip j + y.val < 14368 := by
  unfold skip; split <;> omega

theorem tile_lt (t : Fin cfg0.N) : t.val / 4 < 14 := by have := point_lt t; omega

theorem activations (c : Dev nD) (t : Fin cfg0.N) (r k : Fin 2048) :
    (iblk m c 0 t : Vec Ideal S2048x2048 .bf16) (ix2 r k) = H m c (ix2 ⟨2048 * (t.val % 4) + r.val, row_lt t r⟩ k) := by
  obtain ⟨e0, e1, -⟩ := point_facts t
  unfold iblk
  show V m c main_arg0 (((cfg0.win 0).blk t).view.emb (ix2 r k)) = _
  rw [V_main_arg0]
  refine congrArg _ (funext fun a => Fin.ext ?_)
  match a with
  | ⟨0, _⟩ => show win0_0.index t (0 : Fin 2) * 2048 + 1 * r.val = _; rw [e0]; show _ = 2048 * (t.val % 4) + r.val; omega
  | ⟨1, _⟩ => show win0_0.index t (1 : Fin 2) * 2048 + 1 * k.val = _; rw [e1]; show _ = k.val; omega

theorem weightBlock (c : Dev nD) (t : Fin cfg0.N) (n : Fin 1024) (k : Fin 2048) :
    (iblk m c 1 t : Vec Ideal S1x1024x2048 .f32) (ix3 (0 : Fin 1) n k)
      = W m c (ix3 (0 : Fin 1) k ⟨1024 * (t.val / 4) + skip (t.val / 4) + n.val, col_lt _ (tile_lt t) n⟩) := by
  obtain ⟨-, -, e0, e1, e2, -⟩ := point_facts t
  unfold iblk
  show (V m c main_v0 : Vec Ideal S1x14368x2048 .f32) (((cfg0.win 1).blk t).view.emb (ix3 (0 : Fin 1) n k)) = _
  rw [weights]
  refine Eq.trans (congrArg _ ?_) (transpose_ix3_021_apply (W m c) transposes_S1x2048x14368_S1x14368x2048_0_2_1 (0 : Fin 1)
    ⟨1024 * (t.val / 4) + skip (t.val / 4) + n.val, col_lt _ (tile_lt t) n⟩ k)
  refine funext fun a => Fin.ext ?_
  match a with
  | ⟨0, _⟩ => show cc0_transform_1 (grid0.coords t) (0 : Fin 3) + 1 * 0 = 0; rw [e0]
  | ⟨1, _⟩ => show cc0_transform_1 (grid0.coords t) (1 : Fin 3) + 1 * n.val = 1024 * (t.val / 4) + skip (t.val / 4) + n.val; rw [e1]; omega
  | ⟨2, _⟩ => show cc0_transform_1 (grid0.coords t) (2 : Fin 3) + 1 * k.val = k.val; rw [e2]; omega

/-- After every point the kept weights are those of the point's column tile. -/
theorem kept_at (c : Dev nD) (k : Fin 2048) (y : Fin 1024) : ∀ (n : ℕ) (hn : n < cfg0.N),
    (outsAt0 m c n hn).2 (ix2 k y)
      = W m c (ix3 (0 : Fin 1) k ⟨1024 * (n / 4) + skip (n / 4) + y.val, col_lt _ (tile_lt ⟨n, hn⟩) y⟩) := by
  intro n
  induction n with
  | zero =>
    intro hn
    rw [outsAt0_A m c ⟨0, hn⟩ (Nat.zero_mod _)]
    dsimp only
    rw [scratch_A, kept, weightBlock]
  | succ n ih =>
    intro hn
    by_cases h0 : (n + 1) % 4 = 0
    · rw [outsAt0_A m c ⟨n + 1, hn⟩ h0]
      dsimp only
      rw [scratch_A, kept, weightBlock]
    · rw [outsAt0_B m c ⟨n + 1, hn⟩ h0]
      dsimp only
      unfold sout0_B_0
      refine (ih (Nat.lt_of_succ_lt hn)).trans ?_
      have hd : n / 4 = (n + 1) / 4 := by omega
      simp only [hd]

/-- The output block after point `t`, at row `r` and column `y` of the block. -/
theorem out_at (c : Dev nD) (t : Fin cfg0.N) (r : Fin 2048) (y : Fin 1024) :
    (outsAt0 m c t.val t.isLt).1 (ix2 r y)
      = act (t.val / 4) (∑ k : Fin 2048, H m c (ix2 ⟨2048 * (t.val % 4) + r.val, row_lt t r⟩ k)
          * W m c (ix3 (0 : Fin 1) k ⟨1024 * (t.val / 4) + skip (t.val / 4) + y.val, col_lt _ (tile_lt t) y⟩)) := by
  obtain ⟨-, -, -, -, -, e⟩ := point_facts t
  by_cases h0 : t.val % 4 = 0
  · rw [outsAt0_A m c t h0]
    dsimp only
    rw [out_A]
    unfold block
    rw [e]
    refine congrArg _ (Finset.sum_congr rfl fun k _ => ?_)
    exact congrArg₂ _ (activations m c t r k) ((kept _ k y).trans (weightBlock m c t y k))
  · rw [outsAt0_B m c t h0]
    dsimp only
    rw [out_B]
    unfold block
    rw [e]
    refine congrArg _ (Finset.sum_congr rfl fun k _ => ?_)
    refine congrArg₂ _ (activations m c t r k) ((kept_at m c k y (t.val - 1) _).trans ?_)
    have hd : (t.val - 1) / 4 = t.val / 4 := by omega
    simp only [hd]

/-- The column of the weights an output column comes from. -/
def src (j : Fin 14336) : Fin 14368 := ⟨j.val + skip (j.val / 1024), by unfold skip; split <;> omega⟩

/-- The kernel's result, entry by entry. -/
theorem result (c : Dev nD) (r : Fin 8192) (j : Fin 14336) :
    (G2 m c : Vec Ideal S8192x14336 .bf16) (ix2 r j)
      = act (j.val / 1024) (∑ k : Fin 2048, H m c (ix2 r k) * W m c (ix3 (0 : Fin 1) k (src j))) := by
  have hp : pt2Of (ix2 r j) < cfg0.N := by
    rw [show cfg0.N = 56 from N_0]; show 1 * (r.val / 2048 - 0) + 4 * (j.val / 1024 - 0) < 56; omega
  unfold G2
  rw [dif_pos hp, ← outsAt0_sweep]
  have hl : loc2Of (ix2 r j) = ix2 ⟨r.val % 2048, Nat.mod_lt _ (by decide)⟩ ⟨j.val % 1024, Nat.mod_lt _ (by decide)⟩ := by
    refine funext fun a => Fin.ext ?_
    match a with
    | ⟨0, _⟩ => rfl
    | ⟨1, _⟩ => rfl
  rw [hl]
  refine (out_at m c ⟨pt2Of (ix2 r j), hp⟩ _ _).trans ?_
  have hv : pt2Of (ix2 r j) = 1 * (r.val / 2048 - 0) + 4 * (j.val / 1024 - 0) := rfl
  have hd : pt2Of (ix2 r j) / 4 = j.val / 1024 := by rw [hv]; omega
  have hm : pt2Of (ix2 r j) % 4 = r.val / 2048 := by rw [hv]; omega
  have hr : 2048 * (r.val / 2048) + r.val % 2048 = r.val := by omega
  have hc : 1024 * (j.val / 1024) + skip (j.val / 1024) + j.val % 1024 = (src j).val := by
    show _ = j.val + skip (j.val / 1024); omega
  simp only [hd, hm, hr, hc]

end Cert.KernelIdeal.Whole

end
-- ==== Proof.Ref.lean ====
module

public import proofs.«01_k».proof.Proof.Gen.ReferenceIdeal.Run
public import proofs.«01_k».proof.Proof.Scalars
public import Idealize.ShloMosaic.Lib.ValueIdx
public import Idealize.ShloMosaic.Lib.ValueLayout
public import Idealize.ShloMosaic.Lib.StackMember
public import Idealize.ShloMosaic.Lib.Pipeline.Value

@[expose] public section

set_option maxRecDepth 16384

noncomputable section

namespace Cert.ReferenceIdeal.Entry

open Cert.ReferenceIdeal Cert.ReferenceIdeal.Gen Cert.ReferenceIdeal.Value Cert.Scalars
open Idealize.ShloMosaic Idealize.ShloMosaic.TcCoe Idealize.SL.Sem
open Idealize.ShloMosaic.ValueIdx

variable (m : (ℓ : Loc nD τ sig) → Buf (Elt Ideal) ℓ)

/-- The activations on device `c`. -/
abbrev H (c : Dev nD) : Vec Ideal S8192x2048 .bf16 := m ((c : Thread nD τ).loc main_arg0)

/-- The weights on device `c`. -/
abbrev W (c : Dev nD) : Vec Ideal S1x2048x14368 .f32 := m ((c : Thread nD τ).loc main_arg1)

/-- The whole product. -/
abbrev Z (c : Dev nD) : FVec Ideal S8192x14368 .f32 :=
  Host.dotGeneral (φ₁ := .f32) (φ₂ := .f32) dot_S8192x2048_S2048x14368_S8192x14368_1_0_0_1_n_n none (extf .f32 (φ := .bf16) (H m c) bitsLt_bf16_f32)
    (shapeCast S2048x14368 (W m c) shapeCasts_S1x2048x14368_S2048x14368)

theorem product (c : Dev nD) (r : Fin 8192) (j : Fin 14368) :
    Z m c (ix2 r j) = ∑ k : Fin 2048, H m c (ix2 r k) * W m c (ix3 (0 : Fin 1) k j) := by
  refine (StackMember.dotGeneral_plain_apply (m := 8192) (k := 2048) (n := 14368) none _ _ r j).trans ?_
  refine Finset.sum_congr rfl fun k _ => ?_
  exact congrArg₂ _ rfl (shapeCast_1ab_ab_apply (W m c) shapeCasts_S1x2048x14368_S2048x14368 k j)

theorem cut (c : Dev nD) (o : Nat) {n : Nat} (h : S8192x14368.Slices (![0, o] : Fin 2 → Nat) (⟨2, ![8192, n]⟩ : Shape)) (r : Fin 8192) (q : Fin n)
    (j : Fin 14368) (hj : j.val = o + q.val) :
    extractStridedSlice (⟨2, ![8192, n]⟩ : Shape) ![0, o] (Z m c) h (ix2 r q)
      = ∑ k : Fin 2048, H m c (ix2 r k) * W m c (ix3 (0 : Fin 1) k j) := by
  rw [← product]
  refine congrArg (Z m c) (funext fun a => Fin.ext ?_)
  match a with
  | ⟨0, _⟩ => show 0 + r.val = r.val; omega
  | ⟨1, _⟩ => show o + q.val = j.val; omega

/-- The first columns of the result are the product's. -/
theorem raw (c : Dev nD) (r : Fin 8192) (j : Fin 14336) (s : Fin 14368) (h : j.val < 4096) (hs : s.val = j.val) :
    (res_main_v47 m c : Vec Ideal S8192x14336 .bf16) (ix2 r j) = ∑ k : Fin 2048, H m c (ix2 r k) * W m c (ix3 (0 : Fin 1) k s) := by
  unfold res_main_v47
  rw [truncf_apply]
  refine (concatenate_apply_piece (t := S8192x14336) (1 : Fin 2) _ _ (ix2 r j) 0 (by simp) S8192x4096 _ rfl rfl 0 rfl
    (ix2 r (⟨j.val, h⟩ : Fin 4096)) ?_ ?_).trans ?_
  · intro b hb
    match b with
    | ⟨0, _⟩ => rfl
    | ⟨1, _⟩ => exact absurd rfl hb
  · show 0 + j.val = j.val; omega
  · exact cut m c 0 _ r _ s (by rw [hs]; show j.val = 0 + j.val; omega)

/-- The reference's logistic function, at an index. -/
theorem sigm_at {t : Shape} (X : FVec Ideal t .f32) (d : Fin S_.rank → Fin t.rank) (h : S_.BroadcastsInDim t d) (x : t.Idx) :
    Host.divf (broadcastInDim t d h (constant S_ .f32 0x3F800000#32))
      (addf (broadcastInDim t d h (constant S_ .f32 0x3F800000#32)) (Host.exp (Host.negf X))) x = sigm (X x) := by
  unfold sigm
  rw [← word_one]
  rfl

/-- The reference's gelu, at an index. -/
theorem gelu_at {t : Shape} (X : FVec Ideal t .f32) (d : Fin S_.rank → Fin t.rank) (h : S_.BroadcastsInDim t d) (x : t.Idx) :
    mulf X (mulf (broadcastInDim t d h (constant S_ .f32 0x3F000000#32))
      (addf (broadcastInDim t d h (constant S_ .f32 0x3F800000#32))
        (Host.tanh (mulf (broadcastInDim t d h (constant S_ .f32 0x3F4C422A#32))
          (addf X (mulf (broadcastInDim t d h (constant S_ .f32 0x3D372713#32)) (mulf (mulf X X) X))))))) x = gelu (X x) := by
  unfold gelu
  rw [← word_one, ← word_half, ← word_scale, ← word_cubic]
  rfl

/-- The columns of the output gate: the logistic function of the product. -/
theorem sigmO (c : Dev nD) (r : Fin 8192) (j : Fin 14336) (s : Fin 14368) (h0 : 4096 ≤ j.val) (h1 : j.val < 6144) (hs : s.val = j.val + 32) :
    (res_main_v47 m c : Vec Ideal S8192x14336 .bf16) (ix2 r j)
      = sigm (∑ k : Fin 2048, H m c (ix2 r k) * W m c (ix3 (0 : Fin 1) k s)) := by
  obtain ⟨q, hq⟩ : ∃ q : Fin 2048, 4096 + q.val = j.val := ⟨⟨j.val - 4096, by omega⟩, Nat.add_sub_of_le h0⟩
  unfold res_main_v47
  rw [truncf_apply]
  refine (concatenate_apply_piece (t := S8192x14336) (1 : Fin 2) _ _ (ix2 r j) 1 (by simp) S8192x2048 _ rfl rfl 4096 rfl
    (ix2 r q) ?_ ?_).trans ?_
  · intro b hb
    match b with
    | ⟨0, _⟩ => rfl
    | ⟨1, _⟩ => exact absurd rfl hb
  · exact hq
  · exact (sigm_at _ _ _ _).trans (congrArg sigm (cut m c 4128 slices_S8192x14368_S8192x2048_0_4128 r _ s (by omega)))

/-- The columns of u: gelu of the product. -/
theorem geluU (c : Dev nD) (r : Fin 8192) (j : Fin 14336) (s : Fin 14368) (h0 : 6144 ≤ j.val) (h1 : j.val < 8192) (hs : s.val = j.val + 32) :
    (res_main_v47 m c : Vec Ideal S8192x14336 .bf16) (ix2 r j)
      = gelu (∑ k : Fin 2048, H m c (ix2 r k) * W m c (ix3 (0 : Fin 1) k s)) := by
  obtain ⟨q, hq⟩ : ∃ q : Fin 2048, 6144 + q.val = j.val := ⟨⟨j.val - 6144, by omega⟩, Nat.add_sub_of_le h0⟩
  unfold res_main_v47
  rw [truncf_apply]
  refine (concatenate_apply_piece (t := S8192x14336) (1 : Fin 2) _ _ (ix2 r j) 2 (by simp) S8192x2048 _ rfl rfl 6144 rfl
    (ix2 r q) ?_ ?_).trans ?_
  · intro b hb
    match b with
    | ⟨0, _⟩ => rfl
    | ⟨1, _⟩ => exact absurd rfl hb
  · exact hq
  · exact (gelu_at _ _ _ _).trans (congrArg gelu (cut m c 6176 slices_S8192x14368_S8192x2048_0_6176 r _ s (by omega)))

/-- The columns of sv: gelu of the product. -/
theorem geluSV (c : Dev nD) (r : Fin 8192) (j : Fin 14336) (s : Fin 14368) (h0 : 8192 ≤ j.val) (h1 : j.val < 10240) (hs : s.val = j.val + 32) :
    (res_main_v47 m c : Vec Ideal S8192x14336 .bf16) (ix2 r j)
      = gelu (∑ k : Fin 2048, H m c (ix2 r k) * W m c (ix3 (0 : Fin 1) k s)) := by
  obtain ⟨q, hq⟩ : ∃ q : Fin 2048, 8192 + q.val = j.val := ⟨⟨j.val - 8192, by omega⟩, Nat.add_sub_of_le h0⟩
  unfold res_main_v47
  rw [truncf_apply]
  refine (concatenate_apply_piece (t := S8192x14336) (1 : Fin 2) _ _ (ix2 r j) 3 (by simp) S8192x2048 _ rfl rfl 8192 rfl
    (ix2 r q) ?_ ?_).trans ?_
  · intro b hb
    match b with
    | ⟨0, _⟩ => rfl
    | ⟨1, _⟩ => exact absurd rfl hb
  · exact hq
  · exact (gelu_at _ _ _ _).trans (congrArg gelu (cut m c 8224 slices_S8192x14368_S8192x2048_0_8224 r _ s (by omega)))

/-- The columns of the merge gate: the logistic function of the product. -/
theorem sigmMerge (c : Dev nD) (r : Fin 8192) (j : Fin 14336) (s : Fin 14368) (h0 : 10240 ≤ j.val) (h1 : j.val < 14336) (hs : s.val = j.val + 32) :
    (res_main_v47 m c : Vec Ideal S8192x14336 .bf16) (ix2 r j)
      = sigm (∑ k : Fin 2048, H m c (ix2 r k) * W m c (ix3 (0 : Fin 1) k s)) := by
  obtain ⟨q, hq⟩ : ∃ q : Fin 4096, 10240 + q.val = j.val := ⟨⟨j.val - 10240, by omega⟩, Nat.add_sub_of_le h0⟩
  unfold res_main_v47
  rw [truncf_apply]
  refine (concatenate_apply_piece (t := S8192x14336) (1 : Fin 2) _ _ (ix2 r j) 4 (by simp) S8192x4096 _ rfl rfl 10240 rfl
    (ix2 r q) ?_ ?_).trans ?_
  · intro b hb
    match b with
    | ⟨0, _⟩ => rfl
    | ⟨1, _⟩ => exact absurd rfl hb
  · exact hq
  · exact (sigm_at _ _ _ _).trans (congrArg sigm (cut m c 10272 slices_S8192x14368_S8192x4096_0_10272 r _ s (by omega)))

end Cert.ReferenceIdeal.Entry

end
-- ==== Proof.Tie.lean ====
module

public import proofs.«01_k».proof.Proof.Whole
public import proofs.«01_k».proof.Proof.Ref

@[expose] public section

set_option maxRecDepth 16384

noncomputable section

namespace Cert.Tie

open Cert.KernelIdeal.Block Cert.KernelIdeal.Whole Cert.Scalars
open Idealize.ShloMosaic Idealize.ShloMosaic.TcCoe Idealize.SL.Sem
open Idealize.ShloMosaic.ValueIdx

/-- The two results agree wherever the arguments do. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hH : Cert.ReferenceIdeal.Entry.H m' c = Cert.KernelIdeal.Whole.H m c)
    (hW : Cert.ReferenceIdeal.Entry.W m' c = Cert.KernelIdeal.Whole.W m c) :
    (Cert.ReferenceIdeal.Value.res_main_v47 m' c : Vec Ideal Cert.ReferenceIdeal.S8192x14336 .bf16)
      = (Cert.KernelIdeal.Value.G2 m c : Vec Ideal Cert.KernelIdeal.S8192x14336 .bf16) := by
  funext i
  obtain ⟨r, j, rfl⟩ : ∃ (r : Fin 8192) (j : Fin 14336), i = ix2 r j := ⟨i 0, i 1, eq_ix2 i⟩
  refine Eq.trans ?_ (result m c r j).symm
  rw [← hH, ← hW]
  have hj := j.isLt
  have hs : (src j).val = j.val + skip (j.val / 1024) := rfl
  by_cases a : j.val < 4096
  · rw [Cert.ReferenceIdeal.Entry.raw m' c r j (src j) a (by rw [hs]; unfold skip; rw [if_pos (by omega)]; omega)]
    unfold act
    rw [if_pos (by omega)]
  have hs : (src j).val = j.val + 32 := by rw [hs]; unfold skip; rw [if_neg (by omega)]
  unfold act
  rw [if_neg (by omega)]
  by_cases b : j.val < 6144
  · rw [Cert.ReferenceIdeal.Entry.sigmO m' c r j (src j) (by omega) b hs, if_neg (by omega)]
  by_cases d : j.val < 8192
  · rw [Cert.ReferenceIdeal.Entry.geluU m' c r j (src j) (by omega) d hs, if_pos (by omega)]
  by_cases e : j.val < 10240
  · rw [Cert.ReferenceIdeal.Entry.geluSV m' c r j (src j) (by omega) e hs, if_pos (by omega)]
  · rw [Cert.ReferenceIdeal.Entry.sigmMerge m' c r j (src j) (by omega) hj hs, if_neg (by omega)]

end Cert.Tie

end
-- ==== Proof.UCopies.lean ====
/- The expert weights' two-slot buffer: its four half slots, the copies that fill them, and what a slot holds between
   its fill and its use. A slot is filled by two copies counted on one semaphore and collected by two waits. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The two-slot weight buffer, the two rounded weight tiles, and the weights in HBM. -/
abbrev wbM : Memref sig .tc .vmem S2x2x2048x1024 .f32 := Memref.whole cc0_scratch0
abbrev wgM : Memref sig .tc .vmem S2048x1024 .bf16 := Memref.whole cc0_scratch2
abbrev wlM : Memref sig .tc .vmem S2048x1024 .bf16 := Memref.whole cc0_scratch3
abbrev wM : Memref sig .tc .hbm S32x2048x4096 .f32 := Memref.whole main_v88

/-- A half slot of the buffer and a window of the weights, at any offsets that fit. -/
abbrev halfAt (o : Fin 4 → ℕ) (h : ∀ a, o a + S1x1x2048x1024.size a ≤ S2x2x2048x1024.size a) : Memref sig .tc .vmem S2048x1024 .f32 :=
  (wbM.slice (Rect.unit (s := S2x2x2048x1024) o S1x1x2048x1024.size h) (fun _ => rfl)).squeeze S2048x1024 squeezes_S1x1x2048x1024_S2048x1024
abbrev srcAt (o : Fin 3 → ℕ) (h : ∀ a, o a + S1x2048x1024.size a ≤ S32x2048x4096.size a) : Memref sig .tc .hbm S2048x1024 .f32 :=
  (wM.slice (Rect.unit (s := S32x2048x4096) o S1x2048x1024.size h) (fun _ => rfl)).squeeze S2048x1024 squeezes_S1x2048x1024_S2048x1024
abbrev cellAt (o : Fin 1 → ℕ) (h : ∀ a, o a + S1.size a ≤ S2.size a) : DmaSem sig :=
  ((cc0_scratch1.slice (Rect.unit (s := S2) o S1.size h)).squeeze S_ squeezes_S1_S_).sem

/-- The offsets of half `h` of slot `s`. -/
abbrev offH (s h : Fin 2) : Fin 4 → ℕ := ![s.val, h.val, 0, 0]
theorem offH_inb (s h : Fin 2) : ∀ a, offH s h a + S1x1x2048x1024.size a ≤ S2x2x2048x1024.size a := by
  revert s h; decide
/-- The offsets of expert `e`'s tile `j` of half `h` of its columns. -/
abbrev offW (h : Fin 2) (e : Fin 32) (j : Fin 2) : Fin 3 → ℕ := ![e.val, 0, (2 * h.val + j.val) * 1024]
theorem offW_inb (h : Fin 2) (e : Fin 32) (j : Fin 2) : ∀ a, offW h e j a + S1x2048x1024.size a ≤ S32x2048x4096.size a := by
  intro a
  match a with
  | ⟨0, _⟩ => show e.val + 1 ≤ 32; omega
  | ⟨1, _⟩ => show 0 + 2048 ≤ 2048; omega
  | ⟨2, _⟩ => show (2 * h.val + j.val) * 1024 + 1024 ≤ 4096; omega

abbrev half (s h : Fin 2) := halfAt (offH s h) (offH_inb s h)
abbrev src (h : Fin 2) (e : Fin 32) (j : Fin 2) := srcAt (offW h e j) (offW_inb h e j)
/-- The semaphore of slot `s`. -/
abbrev cell (s : Fin 2) : DmaSem sig := cellAt ![s.val] (by revert s; decide)

/-- The share of the weights that half `h` of slot `s` copies under. -/
def wq : Fin 2 → Fin 2 → PosShare TreeShare
  | 0, 0 => fullShare.left.left
  | 0, 1 => fullShare.left.right
  | 1, 0 => fullShare.right.left
  | 1, 1 => fullShare.right.right

variable (c : Dev nD) (W : Buf (Elt F) (wM.view.loc (c : Thread nD τ)))

/-- Half `h` of slot `s` at some contents; the same holding expert `e`'s tile `j`. -/
def anyHalf (s h : Fin 2) : sProp 𝕄 :=
  iprop(∃ f : Buf (Elt F) ((half s h).view.loc (c : Thread nD τ)), (half s h).view.loc (c : Thread nD τ) ↦[(half s h).view.set]{fullShare} f)
def gotHalf (s h : Fin 2) (e : Fin 32) (j : Fin 2) : sProp 𝕄 :=
  iprop(∃ f : Buf (Elt F) ((half s h).view.loc (c : Thread nD τ)),
    ⌜(half s h).view.read (Elt F) f = (src h e j).view.read (Elt F) W⌝ ∗ ((half s h).view.loc (c : Thread nD τ) ↦[(half s h).view.set]{fullShare} f))
/-- The share of half `h` of slot `s`: whole, and outside the window copied. -/
def wAll (s h : Fin 2) : sProp 𝕄 := (wM.view.loc (c : Thread nD τ)) ↦{wq s h} W
def wOut (s h : Fin 2) (e : Fin 32) (j : Fin 2) : sProp 𝕄 :=
  (wM.view.loc (c : Thread nD τ)) ↦[Finset.univ \ (src h e j).view.set]{wq s h} W

/-- What one copy delivers: the half filled, and the window read back. -/
def dlv (s : Fin 2) (e : Fin 32) (j : Fin 2) (h : Fin 2) : sProp 𝕄 :=
  iprop(gotHalf c W s h e j ∗ ((src h e j).view.loc (c : Thread nD τ) ↦[(src h e j).view.set]{wq s h} W))

instance dlv_storable (s : Fin 2) (e : Fin 32) (j : Fin 2) (h : Fin 2) : Storable (upEmb : UEmb _ 𝕄) (dlv c W s e j h) := by
  unfold dlv gotHalf; infer_instance

/-- One copy's credit. -/
def N0 : ℕ := (half 0 0).view.dmaCredit
theorem N0_pos : 0 < N0 := by decide
theorem credit_eq (o : Fin 4 → ℕ) (h : ∀ a, o a + S1x1x2048x1024.size a ≤ S2x2x2048x1024.size a) : (halfAt o h).view.dmaCredit = N0 := rfl
theorem amount_eq (o : Fin 4 → ℕ) (h : ∀ a, o a + S1x1x2048x1024.size a ≤ S2x2x2048x1024.size a) (d : DmaSem sig) :
    (halfAt o h).view.amount (SemLoc.dma d) = N0 := rfl

/-- A slot with nothing in flight. -/
def idle (s : Fin 2) : sProp 𝕄 :=
  iprop(semVal ((c : Thread nD τ), SemLoc.dma (cell s)) 0 ∗ anyHalf (F := F) c s 0 ∗ anyHalf (F := F) c s 1 ∗ wAll c W s 0 ∗ wAll c W s 1)
/-- A slot with `k` of its two copies started and `u` units collected. -/
def bat (s : Fin 2) (e : Fin 32) (j : Fin 2) (k u : ℕ) : sProp 𝕄 :=
  Transfers.Batch (countersEmb (U := Pipeline.UD sig nD τ)) (c : Thread nD τ) (SemLoc.dma (cell s)) () N0 (dlv c W s e j) k u
/-- A slot after its first copy is started. -/
def mid (s : Fin 2) (e : Fin 32) (j : Fin 2) : sProp 𝕄 :=
  iprop(bat c W s e j 1 0 ∗ anyHalf (F := F) c s 1 ∗ wOut c W s 0 e j ∗ wAll c W s 1)
/-- A slot with both copies in flight, `u` units collected. -/
def fly (s : Fin 2) (e : Fin 32) (j : Fin 2) (u : ℕ) : sProp 𝕄 :=
  iprop(bat c W s e j 2 u ∗ wOut c W s 0 e j ∗ wOut c W s 1 e j)
/-- A slot filled with expert `e`'s tile `j`. -/
def ready (s : Fin 2) (e : Fin 32) (j : Fin 2) : sProp 𝕄 :=
  iprop(semVal ((c : Thread nD τ), SemLoc.dma (cell s)) 0 ∗ gotHalf c W s 0 e j ∗ gotHalf c W s 1 e j ∗ wAll c W s 0 ∗ wAll c W s 1)

theorem gotHalf_any (s h : Fin 2) (e : Fin 32) (j : Fin 2) : gotHalf c W s h e j ⊢ anyHalf (F := F) c s h := by
  unfold gotHalf anyHalf
  iintro ⟨%f, -, H⟩
  iexists f; iexact H

theorem ready_idle (s : Fin 2) (e : Fin 32) (j : Fin 2) : ready c W s e j ⊢ idle c W s := by
  unfold ready idle
  iintro ⟨Hv, H0, H1, Hw⟩
  isplitl [Hv]; · iexact Hv
  isplitl [H0]; · iapply (gotHalf_any c W s 0 e j); iexact H0
  isplitl [H1]; · iapply (gotHalf_any c W s 1 e j); iexact H1
  iexact Hw

theorem wAll_split (s h : Fin 2) (e : Fin 32) (j : Fin 2) :
    wAll c W s h ⊣⊢ iprop(((src h e j).view.loc (c : Thread nD τ) ↦[(src h e j).view.set]{wq s h} W) ∗ wOut c W s h e j) :=
  pointsTo_split_subset (Finset.subset_univ _)

theorem ret_bind' {E : Type → Type} {α β : Type} (a : α) (k : α → Prog E β) : (Prog.ret a).bind k = k a := rfl

/-- A landed copy is its delivery. -/
theorem dlv_of (s h : Fin 2) (e : Fin 32) (j : Fin 2) (f : Buf (Elt F) ((half s h).view.loc (c : Thread nD τ))) :
    iprop(((half s h).view.loc (c : Thread nD τ) ↦[(half s h).view.set]{fullShare}
          (half s h).view.write (Elt F) f (ReadAs.same.apply ((src h e j).view.read (Elt F) W)) Finset.univ)
        ∗ ((src h e j).view.loc (c : Thread nD τ) ↦[(src h e j).view.set]{wq s h} W)) ⊢ dlv c W s e j h := by
  unfold dlv gotHalf
  iintro ⟨Hd, Hs⟩
  isplitl [Hd]
  · iexists _; isplitr; swap; · iexact Hd
    ipureintro; exact View.read_write_univ _ _
  iexact Hs

theorem dlv_split (s : Fin 2) (e : Fin 32) (j : Fin 2) :
    bigSep Finset.univ (dlv c W s e j) ⊢ iprop(dlv c W s e j 0 ∗ dlv c W s e j 1) := by
  rw [BI.bigSep_univ_eq_bigSepL [0, 1] (by decide) (by decide) _]
  exact .rfl

/-- Starting the first copy of a slot. -/
theorem enq0 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a}
    (eo : o = offH s 0) (eo' : o' = offW 0 e j) (ep : p = ![s.val])
    {hsrc : (srcAt o' h').view.WordExact} {hdst : (halfAt o h).view.WordExact}
    {hsem : DmaTarget.Typed (nD := nD) (τ := τ) (sig := sig) (p := .tc) .hbm (SemLoc.dma (cellAt p hp)) (.here (halfAt o h))}
    {k : PUnit → Prog (TpuEff nD τ sig (Elt F) Λ₀ .tc) α} :
    idle c W s ⊢ iprop((mid c W s e j -∗ wp frame (wpE (defs₀ (F := F)) Variants.none (c : Thread nD τ) none) Set.univ (k ⟨⟩) Q)
      -∗ wp frame (wpE (defs₀ (F := F)) Variants.none (c : Thread nD τ) none) Set.univ
          (.op (.enqueueDmaAs (srcAt o' h') (.here (halfAt o h)) .same (SemLoc.dma (cellAt p hp)) hsrc hdst hsem) k) Q) := by
  subst eo eo' ep
  unfold idle mid bat anyHalf
  iintro ⟨Hv, ⟨%f0, H0⟩, H1, Hw0, Hw1⟩ Hk
  imod (Transfers.batch_alloc' (Lvl := ℕ) (countersEmb (U := Pipeline.UD sig nD τ)) (c : Thread nD τ) () N0 (dlv c W s e j)
    (sm := SemLoc.dma (cell s)) (E := Set.univ)) $$ Hv with HB
  ihave Hw := (wAll_split c W s 0 e j).1 $$ Hw0
  icases Hw with ⟨Hs, Ho⟩
  iapply (Transfers.wp_dmaBatch (countersEmb (U := Pipeline.UD sig nD τ)) Variants.none (c : Thread nD τ) none
    (src := src 0 e j) (dst := half s 0) () N0 (amount_eq _ _ _) subset_rfl
    (D := dlv c W s e j) (j := 0) (u := 0) (by decide) (Nat.zero_le _) (dlv_of c W s 0 e j f0)) $$ [Hs H0 HB]
  · isplitl [Hs]; · iexact Hs
    isplitl [H0]; · iexact H0
    iexact HB
  iintro HB
  iapply Hk
  isplitl [HB]; · iexact HB
  isplitl [H1]; · iexact H1
  isplitl [Ho]; · iexact Ho
  iexact Hw1

/-- Starting the second copy of a slot. -/
theorem enq1 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a}
    (eo : o = offH s 1) (eo' : o' = offW 1 e j) (ep : p = ![s.val])
    {hsrc : (srcAt o' h').view.WordExact} {hdst : (halfAt o h).view.WordExact}
    {hsem : DmaTarget.Typed (nD := nD) (τ := τ) (sig := sig) (p := .tc) .hbm (SemLoc.dma (cellAt p hp)) (.here (halfAt o h))}
    {k : PUnit → Prog (TpuEff nD τ sig (Elt F) Λ₀ .tc) α} :
    mid c W s e j ⊢ iprop((fly c W s e j 0 -∗ wp frame (wpE (defs₀ (F := F)) Variants.none (c : Thread nD τ) none) Set.univ (k ⟨⟩) Q)
      -∗ wp frame (wpE (defs₀ (F := F)) Variants.none (c : Thread nD τ) none) Set.univ
          (.op (.enqueueDmaAs (srcAt o' h') (.here (halfAt o h)) .same (SemLoc.dma (cellAt p hp)) hsrc hdst hsem) k) Q) := by
  subst eo eo' ep
  unfold mid fly bat anyHalf
  iintro ⟨HB, ⟨%f1, H1⟩, Ho, Hw1⟩ Hk
  ihave Hw := (wAll_split c W s 1 e j).1 $$ Hw1
  icases Hw with ⟨Hs, Ho1⟩
  iapply (Transfers.wp_dmaBatch (countersEmb (U := Pipeline.UD sig nD τ)) Variants.none (c : Thread nD τ) none
    (src := src 1 e j) (dst := half s 1) () N0 (amount_eq _ _ _) subset_rfl
    (D := dlv c W s e j) (j := 1) (u := 0) (by decide) (Nat.zero_le _) (dlv_of c W s 1 e j f1)) $$ [Hs H1 HB]
  · isplitl [Hs]; · iexact Hs
    isplitl [H1]; · iexact H1
    iexact HB
  iintro HB
  iapply Hk
  isplitl [HB]; · iexact HB
  isplitl [Ho]; · iexact Ho
  iexact Ho1

/-- The first wait on a slot. -/
theorem wait0 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a} (ep : p = ![s.val])
    {hsrc : (srcAt o' h').view.WordExact} {hdst : (halfAt o h).view.WordExact}
    {k : PUnit → Prog (TpuEff nD τ sig (Elt F) Λ₀ .tc) α} {Ws : Waits sig Unit} :
    iprop(fly c W s e j 0 ∗ owes (c : Thread nD τ) 0 Ws)
      ⊢ iprop((iprop(fly c W s e j N0 ∗ (∃ Ws', owes (c : Thread nD τ) 0 Ws'))
          -∗ wp frame (wpE (defs₀ (F := F)) Variants.none (c : Thread nD τ) none) Set.univ (k ⟨⟩) Q)
      -∗ wp frame (wpE (defs₀ (F := F)) Variants.none (c : Thread nD τ) none) Set.univ
          (.op (.waitDma2 (cellAt p hp) (srcAt o' h') (halfAt o h) hsrc hdst) k) Q) := by
  subst ep
  unfold fly bat
  iintro ⟨⟨HB, Ho⟩, HO⟩ Hk
  iapply (Transfers.wp_waitBatch (countersEmb (U := Pipeline.UD sig nD τ)) Variants.none (c : Thread nD τ) none () (N := N0) (hsrc := hsrc) (hdst := hdst) (credit_eq _ _)
    (D := dlv c W s e j) (u := 0) (by have := N0_pos; omega)) $$ [HB HO]
  · isplitl [HB]; · iexact HB
    iexact HO
  iintro ⟨HB, HO⟩
  iapply Hk
  isplitl [HB Ho]
  · isplitl [HB]
    · rw [Nat.zero_add]; iexact HB
    iexact Ho
  iexists _; iexact HO

/-- The second wait on a slot: it is filled. -/
theorem wait1 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a} (ep : p = ![s.val])
    {hsrc : (srcAt o' h').view.WordExact} {hdst : (halfAt o h).view.WordExact}
    {k : PUnit → Prog (TpuEff nD τ sig (Elt F) Λ₀ .tc) α} {Ws : Waits sig Unit} :
    iprop(fly c W s e j N0 ∗ owes (c : Thread nD τ) 0 Ws)
      ⊢ iprop((iprop(ready c W s e j ∗ (∃ Ws', owes (c : Thread nD τ) 0 Ws'))
          -∗ wp frame (wpE (defs₀ (F := F)) Variants.none (c : Thread nD τ) none) Set.univ (k ⟨⟩) Q)
      -∗ wp frame (wpE (defs₀ (F := F)) Variants.none (c : Thread nD τ) none) Set.univ
          (.op (.waitDma2 (cellAt p hp) (srcAt o' h') (halfAt o h) hsrc hdst) k) Q) := by
  subst ep
  unfold fly bat
  iintro ⟨⟨HB, Ho0, Ho1⟩, HO⟩ Hk
  iapply (Transfers.wp_waitBatchLast (countersEmb (U := Pipeline.UD sig nD τ)) Variants.none (c : Thread nD τ) none () (N := N0) (hsrc := hsrc) (hdst := hdst) (credit_eq _ _) N0_pos
    (D := dlv c W s e j) (u := N0) (by omega)) $$ [HB HO]
  · isplitl [HB]; · iexact HB
    iexact HO
  iintro ⟨HD, Hv, HO⟩
  iapply Hk
  ihave HD' := (dlv_split c W s e j) $$ HD
  icases HD' with ⟨H0, H1⟩
  isplitl [H0 H1 Hv Ho0 Ho1]
  · unfold ready
    isplitl [Hv]; · iexact Hv
    unfold dlv
    icases H0 with ⟨H0, Hs0⟩
    icases H1 with ⟨H1, Hs1⟩
    isplitl [H0]; · iexact H0
    isplitl [H1]; · iexact H1
    isplitl [Hs0 Ho0]
    · iapply (wAll_split c W s 0 e j).2
      isplitl [Hs0]; · iexact Hs0
      iexact Ho0
    iapply (wAll_split c W s 1 e j).2
    isplitl [Hs1]; · iexact Hs1
    iexact Ho1
  iexists _; iexact HO

end Cert.Up
-- ==== Proof.UWords.lean ====
/- The words of the expert-up kernel's body: which slot a step uses, its offsets, and when its conditions hold. -/
module

public import proofs.«01_k».proof.Proof.UCopies

@[expose] public section

noncomputable section

namespace Cert.Up

open Cert.Kernel2Ideal Cert.Kernel2Ideal.Gen
open Idealize.ShloMosaic Idealize.ShloMosaic.TcCoe

/-- The run's number as the body computes it: tile times the number of runs, plus the run. -/
def runNo (i : grid0.Coords) (v30 v33 : BitVec 32) : BitVec 32 :=
  BitVec.ofNat 32 (i 0).val * v30 + v33

/-- Its remainder by two, rounded down as the body computes it. -/
def slotW (x : BitVec 32) : BitVec 32 :=
  let v37 : BitVec 32 := Scalar.remsi x 2#32
  Scalar.select (Scalar.andi (Scalar.xori (Scalar.cmpi .slt v37 0#32) (Scalar.cmpi .slt (2#32 : BitVec 32) 0#32)) (Scalar.cmpi .ne v37 0#32))
    (Scalar.addi v37 2#32) v37

theorem slotW_of {x : BitVec 32} {n : ℕ} (hx : x = BitVec.ofNat 32 n) (hn : n < 2 ^ 31) : slotW x = BitVec.ofNat 32 (n % 2) := by
  have hr : Scalar.remsi x 2#32 = BitVec.ofNat 32 (n % 2) := by
    unfold Scalar.remsi IntOp.remsi
    rw [if_neg (by unfold IntOp.SDivCorner; simp)]
    subst hx
    rw [BitVec.srem_eq]
    have hm : (BitVec.ofNat 32 n).msb = false := by
      rw [BitVec.msb_eq_decide]; simp; omega
    rw [hm]
    simp only [show (2#32 : BitVec 32).msb = false from rfl]
    apply BitVec.eq_of_toNat_eq
    simp [BitVec.toNat_umod]
    omega
  unfold slotW
  rw [hr]
  have h2 : n % 2 < 2 := Nat.mod_lt _ (by decide)
  generalize n % 2 = r at h2
  match r, h2 with
  | 0, _ => rfl
  | 1, _ => rfl

/-- Slot `s` is the one run number `x` uses. -/
def IsSlot (i : grid0.Coords) (v30 v33 : BitVec 32) (s : Fin 2) : Prop := slotW (runNo i v30 v33) = BitVec.ofNat 32 s.val

section
variable {i : grid0.Coords} {v30 v33 : BitVec 32} {s : Fin 2} (hs : IsSlot i v30 v33 s)
include hs

theorem off4_eq : k0_off4 i v30 v33 = ![s.val] := by
  show ![(slotW (runNo i v30 v33)).toNat] = _
  rw [hs]; clear hs; revert s; decide
theorem off7_eq : k0_off7 i v30 v33 = ![s.val] := off4_eq hs
theorem off11_eq : k0_off11 i v30 v33 = ![s.val] := off4_eq hs
theorem off14_eq : k0_off14 i v30 v33 = ![s.val] := off4_eq hs
theorem off5_eq : k0_off5 i v30 v33 = offH s 0 := by
  show ![(slotW (runNo i v30 v33)).toNat, 0, 0, 0] = _
  rw [hs]; clear hs; revert s; decide
theorem off8_eq : k0_off8 i v30 v33 = offH s 1 := by
  show ![(slotW (runNo i v30 v33)).toNat, 1, 0, 0] = _
  rw [hs]; clear hs; revert s; decide
theorem off12_eq : k0_off12 i v30 v33 = offH s 0 := off5_eq hs
theorem off15_eq : k0_off15 i v30 v33 = offH s 1 := off8_eq hs
theorem off32_eq : k0_off32 i v30 v33 = offH s 0 := off5_eq hs
theorem off33_eq : k0_off33 i v30 v33 = offH s 1 := off8_eq hs
theorem off19_eq : k0_off19 i v30 v33 = ![(1 - s).val] := by
  show ![(1#32 - slotW (runNo i v30 v33)).toNat] = _
  rw [hs]; clear hs; revert s; decide
theorem off22_eq : k0_off22 i v30 v33 = ![(1 - s).val] := off19_eq hs
theorem off26_eq : k0_off26 i v30 v33 = ![(1 - s).val] := off19_eq hs
theorem off29_eq : k0_off29 i v30 v33 = ![(1 - s).val] := off19_eq hs
theorem off20_eq : k0_off20 i v30 v33 = offH (1 - s) 0 := by
  show ![(1#32 - slotW (runNo i v30 v33)).toNat, 0, 0, 0] = _
  rw [hs]; clear hs; revert s; decide
theorem off23_eq : k0_off23 i v30 v33 = offH (1 - s) 1 := by
  show ![(1#32 - slotW (runNo i v30 v33)).toNat, 1, 0, 0] = _
  rw [hs]; clear hs; revert s; decide
theorem off27_eq : k0_off27 i v30 v33 = offH (1 - s) 0 := off20_eq hs
theorem off30_eq : k0_off30 i v30 v33 = offH (1 - s) 1 := off23_eq hs

theorem inb1 : ∀ a, (![s.val] : Fin 1 → ℕ) a + S1.size a ≤ S2.size a := by clear hs; revert s; decide

theorem chk1_of (v1 : BitVec 32) : k0_chk1 i v1 v30 v33 := by
  unfold k0_chk1
  refine ⟨?_, ?_, ?_, ?_, ?_, ?_, ?_, ?_, ?_, ?_⟩
  · intro _ _; rw [off4_eq hs]; exact (by decide : ∀ s : Fin 2, ∀ a, (![s.val] : Fin 1 → ℕ) a + S1.size a ≤ S2.size a) s
  · intro _ _; rw [off5_eq hs]; exact offH_inb s 0
  · intro _ _; rw [off7_eq hs]; exact (by decide : ∀ s : Fin 2, ∀ a, (![s.val] : Fin 1 → ℕ) a + S1.size a ≤ S2.size a) s
  · intro _ _; rw [off8_eq hs]; exact offH_inb s 1
  · intro _; rw [off11_eq hs]; exact (by decide : ∀ s : Fin 2, ∀ a, (![s.val] : Fin 1 → ℕ) a + S1.size a ≤ S2.size a) s
  · intro _; rw [off12_eq hs]; exact offH_inb s 0
  · intro _; rw [off14_eq hs]; exact (by decide : ∀ s : Fin 2, ∀ a, (![s.val] : Fin 1 → ℕ) a + S1.size a ≤ S2.size a) s
  · intro _; rw [off15_eq hs]; exact offH_inb s 1
  · intro _; rw [off32_eq hs]; exact offH_inb s 0
  · intro _; rw [off33_eq hs]; exact offH_inb s 1

theorem chk4_of (v1 v70 : BitVec 32) : k0_chk4 i v1 v30 v33 v70 := by
  unfold k0_chk4
  refine ⟨?_, ?_, ?_, ?_, ?_, ?_, ?_, ?_⟩
  · intro _ _; rw [off19_eq hs]; exact (by decide : ∀ s : Fin 2, ∀ a, (![s.val] : Fin 1 → ℕ) a + S1.size a ≤ S2.size a) (1 - s)
  · intro _ _; rw [off20_eq hs]; exact offH_inb _ 0
  · intro _ _; rw [off22_eq hs]; exact (by decide : ∀ s : Fin 2, ∀ a, (![s.val] : Fin 1 → ℕ) a + S1.size a ≤ S2.size a) (1 - s)
  · intro _ _; rw [off23_eq hs]; exact offH_inb _ 1
  · intro _ _; rw [off26_eq hs]; exact (by decide : ∀ s : Fin 2, ∀ a, (![s.val] : Fin 1 → ℕ) a + S1.size a ≤ S2.size a) (1 - s)
  · intro _ _; rw [off27_eq hs]; exact offH_inb _ 0
  · intro _ _; rw [off29_eq hs]; exact (by decide : ∀ s : Fin 2, ∀ a, (![s.val] : Fin 1 → ℕ) a + S1.size a ≤ S2.size a) (1 - s)
  · intro _ _; rw [off30_eq hs]; exact offH_inb _ 1
end

section
variable {i : grid0.Coords} {j : Fin 2} (hj : (i 0).val = j.val) {w : BitVec 32} {e : Fin 32} (hw : w = BitVec.ofNat 32 e.val)
include hj hw

theorem toNat_e : w.toNat = e.val := by subst hw; simp; omega

theorem off6_eq : k0_off6 i w = offW 0 e j := by
  show ![w.toNat, 0, (BitVec.ofNat 32 (i 0).val * 1024#32).toNat] = _
  rw [toNat_e hj hw, hj]; revert j; intro j _; clear hw; match j with
  | 0 => rfl
  | 1 => rfl
theorem off9_eq : k0_off9 i w = offW 1 e j := by
  show ![w.toNat, 0, ((2#32 + BitVec.ofNat 32 (i 0).val) * 1024#32).toNat] = _
  rw [toNat_e hj hw, hj]; revert j; intro j _; clear hw; match j with
  | 0 => rfl
  | 1 => rfl
theorem off13_eq : k0_off13 i w = offW 0 e j := off6_eq hj hw
theorem off16_eq : k0_off16 i w = offW 1 e j := off9_eq hj hw
theorem off21_eq : k0_off21 i w = offW 0 e j := off6_eq hj hw
theorem off24_eq : k0_off24 i w = offW 1 e j := off9_eq hj hw

theorem chk2_of (v1 : BitVec 32) : k0_chk2 i v1 w := by
  unfold k0_chk2
  refine ⟨fun _ _ => ?_, fun _ _ => ?_⟩
  · rw [off6_eq hj hw]; exact offW_inb 0 e j
  · rw [off9_eq hj hw]; exact offW_inb 1 e j
theorem chk3_of (v1 : BitVec 32) : k0_chk3 i v1 w := by
  unfold k0_chk3
  refine ⟨fun _ => ?_, fun _ => ?_⟩
  · rw [off13_eq hj hw]; exact offW_inb 0 e j
  · rw [off16_eq hj hw]; exact offW_inb 1 e j
theorem chk5_of (v1 v70 : BitVec 32) : k0_chk5 i v1 v70 w := by
  unfold k0_chk5
  refine ⟨fun _ _ => ?_, fun _ _ => ?_⟩
  · rw [off21_eq hj hw]; exact offW_inb 0 e j
  · rw [off24_eq hj hw]; exact offW_inb 1 e j
end

section
variable {i : grid0.Coords} (hj : (i 0).val = 0) {w : BitVec 32} {e : Fin 32} (hw : w = BitVec.ofNat 32 e.val)
include hj hw
theorem off28_eq : k0_off28 i w = offW 0 e 1 := by
  show ![w.toNat, 0, ((BitVec.ofNat 32 (i 0).val + 1#32) * 1024#32).toNat] = _
  rw [toNat_e (j := 0) hj hw, hj]; rfl
theorem off31_eq : k0_off31 i w = offW 1 e 1 := by
  show ![w.toNat, 0, ((2#32 + (BitVec.ofNat 32 (i 0).val + 1#32)) * 1024#32).toNat] = _
  rw [toNat_e (j := 0) hj hw, hj]; rfl
end

theorem cond1_iff (v : BitVec 32) : k0_cond1 v = 1#1 ↔ v = 1#32 := by
  unfold k0_cond1; dsimp only [Scalar.cmpi, IntOp.cmpi, Scalar.extui]
  by_cases h : v = 1#32
  · subst h; decide
  · have : (v == 1#32) = false := by simpa using h
    simp [this, h]
theorem cond3_iff (v : BitVec 32) : k0_cond3 v = 1#1 ↔ v ≠ 1#32 := by
  unfold k0_cond3; dsimp only [Scalar.cmpi, IntOp.cmpi, Scalar.extui, Scalar.xori, IntOp.xori]
  by_cases h : v = 1#32
  · subst h; decide
  · have : (v == 1#32) = false := by simpa using h
    simp [this, h]
theorem cond2_iff (i : grid0.Coords) : k0_cond2 i = 1#1 ↔ (i 0).val = 0 ∧ (i 1).val = 0 := by
  have h0 : (i 0).val < 2 := (i 0).isLt
  have h1 : (i 1).val < 96 := (i 1).isLt
  unfold k0_cond2
  generalize (i 0).val = a at *
  generalize (i 1).val = b at *
  revert a b
  decide +kernel
theorem cond4_iff (i : grid0.Coords) (v : BitVec 32) : k0_cond4 i v = 1#1 ↔ v = 1#32 ∧ (i 0).val = 0 := by
  have h0 : (i 0).val < 2 := (i 0).isLt
  unfold k0_cond4; dsimp only [Scalar.cmpi, IntOp.cmpi, Scalar.extui, Scalar.andi, IntOp.andi]
  generalize (i 0).val = a at *
  by_cases h : v = 1#32
  · subst h; revert a; decide
  · have : (v == 1#32) = false := by simpa using h
    simp [this, h]

theorem chk6_of {i : grid0.Coords} {w : BitVec 32} {e : Fin 32} (hw : w = BitVec.ofNat 32 e.val) (v1 v70 : BitVec 32) :
    k0_chk6 i v1 v70 w := by
  unfold k0_chk6
  refine ⟨fun _ h => ?_, fun _ h => ?_⟩
  · rw [off28_eq ((cond4_iff i v70).1 h).2 hw]; exact offW_inb 0 e 1
  · rw [off31_eq ((cond4_iff i v70).1 h).2 hw]; exact offW_inb 1 e 1

end Cert.Up
-- ==== Proof.USteps.lean ====
/- The expert-up kernel's body up to its matmuls: the words it loads from the schedule, and the weight tile it makes
   ready. -/
module

public import proofs.«01_k».proof.Proof.UWords
public import Idealize.ShloMosaic.Lib.Pointwise.Index

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Loading a word of a table. -/
theorem tload (c : Dev nD) {α : Type} {Q : α → sProp 𝕄} {S : Shape} {m : Memref sig .tc .smem S .i32} {r : Rect S}
    {h1 : r.shape.numel = 1} {hp : EltTy.i32.packing = 1} {x : S.Idx} (hx : r.emb (Shape.Idx.first (h1.symm ▸ Nat.one_pos)) = x) {q : PosShare TreeShare}
    {f : Buf (Elt F) (m.view.loc (c : Thread nD τ))} {k : Elt F .i32 → Prog (TpuEff nD τ sig (Elt F) Λ₀ .tc) α} :
    (m.view.loc (c : Thread nD τ) ↦{q} f)
      ⊢ iprop(((m.view.loc (c : Thread nD τ) ↦{q} f) -∗ wp (M := 𝕄) frame (wpE (defs₀ (F := F)) Variants.none (c : Thread nD τ) none) Set.univ (k (m.view.read (Elt F) f x)) Q)
        -∗ wp frame (wpE (defs₀ (F := F)) Variants.none (c : Thread nD τ) none) Set.univ (smemLoad m r h1 hp >>= k) Q) := by
  subst hx
  have h := wp_smemLoadElt (Γ := ∅) (Ix := Unit) (Name := ℕ) (U := Pipeline.UD sig nD τ) (Lvl := ℕ) (defs := defs₀ (F := F)) Variants.none (c : Thread nD τ) none Set.univ (m := m) (r := r) (hw := View.loads_smem_one hp h1)
    (x := Shape.Idx.first (h1.symm ▸ Nat.one_pos)) (k := k) (Q := Q) (q := q) (f := f) (Finset.subset_univ _)
  exact h

theorem pt96 {o : Fin 1 → ℕ} {h : ∀ a, o a + S1.size a ≤ S96.size a} {it : Fin 96} (eo : o = ![it.val])
    (hp : 0 < (Rect.unit (s := S96) o S1.size h).shape.numel) :
    (Rect.unit (s := S96) o S1.size h).emb (Shape.Idx.first hp) = ix1 it := by
  subst eo
  funext a
  match a with
  | ⟨0, _⟩ => apply Fin.ext; show it.val + 1 * 0 = it.val; omega

theorem pt1 {h : ∀ a, (![0] : Fin 1 → ℕ) a + S1.size a ≤ S1.size a}
    (hp : 0 < (Rect.unit (s := S1) ![0] S1.size h).shape.numel) :
    (Rect.unit (s := S1) ![0] S1.size h).emb (Shape.Idx.first hp) = ix1 (0 : Fin 1) := by
  funext a
  match a with
  | ⟨0, _⟩ => rfl

local notation "𝕎" => wpE (defs₀ (F := F)) Variants.none

theorem pret (c : Dev nD) {α : Type} {Q : α → sProp 𝕄} (a : α) :
    Q a ⊢ wp frame (𝕎 (c : Thread nD τ) none) Set.univ (pure a : Prog (TpuEff nD τ sig (Elt F) Λ₀ .tc) α) Q := by
  show Q a ⊢ wp frame (𝕎 (c : Thread nD τ) none) Set.univ (.ret a) Q
  rw [wp_ret]
  exact BI.fupd_intro

theorem passume (c : Dev nD) {α : Type} {Q : α → sProp 𝕄} {P : Prop} {d : Decidable P} {k : PLift P → Prog (TpuEff nD τ sig (Elt F) Λ₀ .tc) α} (h : P) :
    wp frame (𝕎 (c : Thread nD τ) none) Set.univ (k ⟨h⟩) Q ⊢ wp frame (𝕎 (c : Thread nD τ) none) Set.univ (Prog.lift (.assume P d) >>= k) Q :=
  wp_assume (Γ := ∅) Variants.none (c : Thread nD τ) none Set.univ h

variable (c : Dev nD) (W : Buf (Elt F) (wM.view.loc (c : Thread nD τ)))

theorem penq0 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a}
    (eo : o = offH s 0) (eo' : o' = offW 0 e j) (ep : p = ![s.val])
    {hsrc : (srcAt o' h').view.WordExact} {hdst : (halfAt o h).view.WordExact}
    {hsem : DmaTarget.Typed (nD := nD) (τ := τ) (sig := sig) (p := .tc) .hbm (SemLoc.dma (cellAt p hp)) (.here (halfAt o h))}
    {k : PUnit → Prog (TpuEff nD τ sig (Elt F) Λ₀ .tc) α} :
    idle c W s ⊢ iprop((mid c W s e j -∗ wp frame (𝕎 (c : Thread nD τ) none) Set.univ (k ⟨⟩) Q)
      -∗ wp frame (𝕎 (c : Thread nD τ) none) Set.univ
          (Prog.lift (.enqueueDma (srcAt o' h') (.here (halfAt o h)) (.dma (cellAt p hp)) hsrc hdst hsem) >>= k) Q) :=
  enq0 c W s e j eo eo' ep

theorem penq1 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a}
    (eo : o = offH s 1) (eo' : o' = offW 1 e j) (ep : p = ![s.val])
    {hsrc : (srcAt o' h').view.WordExact} {hdst : (halfAt o h).view.WordExact}
    {hsem : DmaTarget.Typed (nD := nD) (τ := τ) (sig := sig) (p := .tc) .hbm (SemLoc.dma (cellAt p hp)) (.here (halfAt o h))}
    {k : PUnit → Prog (TpuEff nD τ sig (Elt F) Λ₀ .tc) α} :
    mid c W s e j ⊢ iprop((fly c W s e j 0 -∗ wp frame (𝕎 (c : Thread nD τ) none) Set.univ (k ⟨⟩) Q)
      -∗ wp frame (𝕎 (c : Thread nD τ) none) Set.univ
          (Prog.lift (.enqueueDma (srcAt o' h') (.here (halfAt o h)) (.dma (cellAt p hp)) hsrc hdst hsem) >>= k) Q) :=
  enq1 c W s e j eo eo' ep

theorem pwait0 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a} (ep : p = ![s.val])
    {hsrc : (srcAt o' h').view.WordExact} {hdst : (halfAt o h).view.WordExact}
    {k : PUnit → Prog (TpuEff nD τ sig (Elt F) Λ₀ .tc) α} {Ws : Waits sig Unit} :
    iprop(fly c W s e j 0 ∗ owes (c : Thread nD τ) 0 Ws)
      ⊢ iprop((iprop(fly c W s e j N0 ∗ (∃ Ws', owes (c : Thread nD τ) 0 Ws'))
          -∗ wp frame (𝕎 (c : Thread nD τ) none) Set.univ (k ⟨⟩) Q)
      -∗ wp frame (𝕎 (c : Thread nD τ) none) Set.univ
          (Prog.lift (.waitDma2 (cellAt p hp) (srcAt o' h') (halfAt o h) hsrc hdst) >>= k) Q) :=
  wait0 c W s e j ep

theorem pwait1 {α : Type} {Q : α → sProp 𝕄} (s : Fin 2) (e : Fin 32) (j : Fin 2)
    {o : Fin 4 → ℕ} {h : ∀ a, o a + S1x1x2048x1024.size a ≤ S2x2x2048x1024.size a}
    {o' : Fin 3 → ℕ} {h' : ∀ a, o' a + S1x2048x1024.size a ≤ S32x2048x4096.size a}
    {p : Fin 1 → ℕ} {hp : ∀ a, p a + S1.size a ≤ S2.size a} (ep : p = ![s.val])
    {hsrc : (srcAt o' h').view.WordExact} {hdst : (halfAt o h).view.WordExact}
    {k : PUnit → Prog (TpuEff nD τ sig (Elt F) Λ₀ .tc) α} {Ws : Waits sig Unit} :
    iprop(fly c W s e j N0 ∗ owes (c : Thread nD τ) 0 Ws)
      ⊢ iprop((iprop(ready c W s e j ∗ (∃ Ws', owes (c : Thread nD τ) 0 Ws'))
          -∗ wp frame (𝕎 (c : Thread nD τ) none) Set.univ (k ⟨⟩) Q)
      -∗ wp frame (𝕎 (c : Thread nD τ) none) Set.univ
          (Prog.lift (.waitDma2 (cellAt p hp) (srcAt o' h') (halfAt o h) hsrc hdst) >>= k) Q) :=
  wait1 c W s e j ep

section
variable (i : grid0.Coords) (it : Fin 96) (s : Fin 2) (e : Fin 32) (j : Fin 2)
  (a11 : Memref sig .tc .vmem S8192x128 .f32) (h11 : a11.IsWhole)
  (a13 : Memref sig .tc .vmem S1x1x1024 .f32) (h13 : a13.IsWhole) (a14 : Memref sig .tc .vmem S1x1x1024 .f32) (h14 : a14.IsWhole)
  (a15 : Memref sig .tc .vmem S512x1024 .bf16) (h15 : a15.IsWhole)
  (tE tRun : S96.Idx → BitVec 32) (tNr : S1.Idx → BitVec 32)
  (hi1 : (i 1).val = it.val) (hi0 : (i 0).val = j.val)
  (hs : IsSlot i (tNr (ix1 0)) (tRun (ix1 it)) s) (he : tE (ix1 it) = BitVec.ofNat 32 e.val)

/-- A table at its contents, at the share the body holds it under. -/
abbrev tab {S : Shape} (m : Memref sig .tc .smem S .i32) (f : Buf (Elt F) (m.view.loc (c : Thread nD τ))) : sProp 𝕄 :=
  m.view.loc (c : Thread nD τ) ↦{fullShare.right} f

theorem offI_eq {i : grid0.Coords} {it : Fin 96} (hi1 : (i 1).val = it.val) : (![(BitVec.ofNat 32 (i 1).val).toNat] : Fin 1 → ℕ) = ![it.val] := by
  rw [hi1]
  have : (BitVec.ofNat 32 it.val).toNat = it.val := by
    rw [BitVec.toNat_ofNat]; omega
  rw [this]

include hi1 hi0 hs he in
/-- The body's first part: the slot's first copies, at the launch's first step, and the first wait. -/
theorem part1 (v1 : BitVec 32) (h1 : k0_cond1 v1 = 1#1) (Ws : Waits sig Unit) :
    iprop(tab c (Memref.whole main_v87) tNr ∗ tab c (Memref.whole main_v58) tRun ∗ tab c (Memref.whole main_v27) tE
        ∗ owes (c : Thread nD τ) 0 Ws ∗ (if k0_cond2 i = 1#1 then idle c W s else fly c W s e j 0))
      ⊢ wp frame (𝕎 (c : Thread nD τ) none) Set.univ
          (k0_part1 (F := F) i (Memref.whole main_v16) (Memref.isWhole_whole _) (Memref.whole main_v12) (Memref.isWhole_whole _) (Memref.whole main_v27) (Memref.isWhole_whole _) (Memref.whole main_v47) (Memref.isWhole_whole _) (Memref.whole main_v55) (Memref.isWhole_whole _) (Memref.whole main_v58) (Memref.isWhole_whole _) (Memref.whole main_v65) (Memref.isWhole_whole _) (Memref.whole main_v86) (Memref.isWhole_whole _) (Memref.whole main_v87) (Memref.isWhole_whole _)
            a11 h11 wM (Memref.isWhole_whole _) a13 h13 a14 h14 a15 h15 wbM (Memref.isWhole_whole _) cc0_scratch1 wgM (Memref.isWhole_whole _) wlM (Memref.isWhole_whole _)
            (BitVec.ofNat 32 (i 0).val) (BitVec.ofNat 32 (i 1).val) v1 h1)
          (fun r => iprop(⌜r.1 = tNr (ix1 0) ∧ r.2.1 = tRun (ix1 it) ∧ r.2.2.2.2.1 = tE (ix1 it)⌝
            ∗ tab c (Memref.whole main_v87) tNr ∗ tab c (Memref.whole main_v58) tRun ∗ tab c (Memref.whole main_v27) tE
            ∗ (∃ Ws', owes (c : Thread nD τ) 0 Ws') ∗ fly c W s e j N0)) := by
  rw [k0_part1_eq_skeleton]
  unfold k0_part1_skel
  iintro ⟨Hnr, Hrun, He, HO, HS⟩
  iapply (tload c (m := Memref.whole main_v87) (pt1 _)) $$ Hnr; iintro Hnr
  iapply (tload c (m := Memref.whole main_v58) (pt96 (offI_eq hi1) _)) $$ Hrun; iintro Hrun
  iapply (passume c (chk1_of hs v1))
  extract_lets +onlyGivenNames hw v34 v35 v36 v37 v38 v39 v40 v41 v42 v43 v44 v57 v58 v59 v60 jp
  have hjp : iprop(tab c (Memref.whole main_v87) tNr ∗ tab c (Memref.whole main_v58) tRun ∗ tab c (Memref.whole main_v27) tE
        ∗ owes (c : Thread nD τ) 0 Ws ∗ fly c W s e j 0)
      ⊢ wp frame (𝕎 (c : Thread nD τ) none) Set.univ (jp ⟨⟩)
          (fun r => iprop(⌜r.1 = tNr (ix1 0) ∧ r.2.1 = tRun (ix1 it) ∧ r.2.2.2.2.1 = tE (ix1 it)⌝
            ∗ tab c (Memref.whole main_v87) tNr ∗ tab c (Memref.whole main_v58) tRun ∗ tab c (Memref.whole main_v27) tE
            ∗ (∃ Ws', owes (c : Thread nD τ) 0 Ws') ∗ fly c W s e j N0)) := by
    unfold jp
    iintro ⟨Hnr, Hrun, He, HO, HS⟩
    iapply (tload c (m := Memref.whole main_v27) (pt96 (offI_eq hi1) _)) $$ He; iintro He
    iapply (passume c (chk3_of hi0 he v1))
    iapply (pwait0 c W s e j (off11_eq hs)) $$ [HS HO]
    · isplitl [HS]; · iexact HS
      iexact HO
    iintro ⟨HS, HO⟩
    iapply (pret c)
    isplitr; · ipureintro; exact ⟨rfl, rfl, rfl⟩
    isplitl [Hnr]; · iexact Hnr
    isplitl [Hrun]; · iexact Hrun
    isplitl [He]; · iexact He
    isplitl [HO]; · iexact HO
    iexact HS
  clear_value jp
  by_cases h2 : k0_cond2 i = 1#1
  · simp only [dif_pos h2, if_pos h2]
    iapply (tload c (m := Memref.whole main_v27) (pt96 (offI_eq hi1) _)) $$ He; iintro He
    iapply (passume c (chk2_of hi0 he v1))
    iapply (penq0 c W s e j (off5_eq hs) (off6_eq hi0 he) (off4_eq hs)) $$ HS
    iintro HS
    iapply (penq1 c W s e j (off8_eq hs) (off9_eq hi0 he) (off7_eq hs)) $$ HS
    iintro HS
    iapply hjp
    isplitl [Hnr]; · iexact Hnr
    isplitl [Hrun]; · iexact Hrun
    isplitl [He]; · iexact He
    isplitl [HO]; · iexact HO
    iexact HS
  · simp only [dif_neg h2, if_neg h2]
    iapply hjp
    isplitl [Hnr]; · iexact Hnr
    isplitl [Hrun]; · iexact Hrun
    isplitl [He]; · iexact He
    isplitl [HO]; · iexact HO
    iexact HS
end

end Cert.Up
-- ==== Proof.UTile.lean ====
/- The expert-up kernel's body up to its matmuls, as a step: with a new expert the slot's tile is collected, the next
   copies are started, and the two rounded weight tiles are stored; with the expert of the step before nothing changes. -/
module

public import proofs.«01_k».proof.Proof.USteps
public import Idealize.ShloMosaic.Lib.Pipeline.Value

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

/-- The program after its first load, at a word that starts no new expert. -/
def after1 {α : Type} : Prog (TpuEff nD τ sig (Elt F) Λ₀ .tc) α → Prog (TpuEff nD τ sig (Elt F) Λ₀ .tc) α
  | .op (.load (e := .i32) _ _ _) k => k (fun _ => (0#32 : BitVec 32))
  | p => p

theorem after1_load {α : Type} {S : Shape} {m : Memref sig .tc .smem S .i32} {r : Rect S} {h1 : r.shape.numel = 1} {hp : EltTy.i32.packing = 1}
    (k : Elt F .i32 → Prog (TpuEff nD τ sig (Elt F) Λ₀ .tc) α) : after1 (smemLoad m r h1 hp >>= k) = k (0#32 : BitVec 32) := rfl

variable (c : Dev nD) (W : Buf (Elt F) (wM.view.loc (c : Thread nD τ)))

/-- Expert `e`'s tile `j` of half `h`, rounded. -/
def wtile (h : Fin 2) (e : Fin 32) (j : Fin 2) : FVec F S2048x1024 .bf16 :=
  truncf .bf16 ((src h e j).view.read (Elt F) W : FVec F S2048x1024 .f32) bitsLt_bf16_f32

/-- A rounded tile's buffer, at some contents and at the contents `X`. -/
def anyTile (m : Memref sig .tc .vmem S2048x1024 .bf16) : sProp 𝕄 :=
  iprop(∃ f : Buf (Elt F) (m.view.loc (c : Thread nD τ)), m.view.loc (c : Thread nD τ) ↦{fullShare} f)
def tile (m : Memref sig .tc .vmem S2048x1024 .bf16) (X : FVec F S2048x1024 .bf16) : sProp 𝕄 :=
  iprop(∃ f : Buf (Elt F) (m.view.loc (c : Thread nD τ)), ⌜m.view.read (Elt F) f = X⌝ ∗ (m.view.loc (c : Thread nD τ) ↦{fullShare} f))

theorem pload {α : Type} {Q : α → sProp 𝕄} {m : Memref sig .tc .vmem S2048x1024 .bf16} {r : Rect S2048x1024} {hl : m.view.LoadsAt r.toLoadRect}
    {k : (r.shape.Idx → Elt F .bf16) → Prog (TpuEff nD τ sig (Elt F) Λ₀ .tc) α} {f : Buf (Elt F) (m.view.loc (c : Thread nD τ))} :
    (m.view.loc (c : Thread nD τ) ↦{fullShare} f)
      ⊢ iprop((∀ v, (m.view.loc (c : Thread nD τ) ↦{fullShare} f) -∗ wp frame (𝕎 (c : Thread nD τ) none) Set.univ (k v) Q)
        -∗ wp frame (𝕎 (c : Thread nD τ) none) Set.univ (Prog.lift (.load m r.toLoadRect hl) >>= k) Q) := by
  have h := wp_load_rect (Γ := ∅) (Ix := Unit) (Name := ℕ) (U := Pipeline.UD sig nD τ) (Lvl := ℕ) (defs := defs₀ (F := F)) Variants.none (c : Thread nD τ) none Set.univ (m := m) (r := r) (hl := hl)
    (k := k) (Q := Q) (q := fullShare) (f := f) (Finset.subset_univ _)
  iintro H Hk
  iapply h $$ H
  iintro H
  iapply Hk; iexact H

theorem full_emb {h : ∀ a, (![0, 0] : Fin 2 → ℕ) a + S2048x1024.size a ≤ S2048x1024.size a} (x : S2048x1024.Idx) :
    (Rect.unit (s := S2048x1024) ![0, 0] S2048x1024.size h).emb x = x := by
  funext a
  apply Fin.ext
  match a with
  | ⟨0, _⟩ => show 0 + 1 * (x 0).val = (x 0).val; omega
  | ⟨1, _⟩ => show 0 + 1 * (x 1).val = (x 1).val; omega

theorem pstore {α : Type} {Q : α → sProp 𝕄} {m : Memref sig .tc .vmem S2048x1024 .bf16} {h : ∀ a, (![0, 0] : Fin 2 → ℕ) a + S2048x1024.size a ≤ S2048x1024.size a}
    {w : FVec F S2048x1024 .bf16} {hx : (m.access (Rect.unit (s := S2048x1024) ![0, 0] S2048x1024.size h)).Stores Finset.univ} {hm}
    {k : PUnit → Prog (TpuEff nD τ sig (Elt F) Λ₀ .tc) α} {f : Buf (Elt F) (m.view.loc (c : Thread nD τ))} :
    (m.view.loc (c : Thread nD τ) ↦{fullShare} f)
      ⊢ iprop((tile c m w -∗ wp frame (𝕎 (c : Thread nD τ) none) Set.univ (k ⟨⟩) Q)
        -∗ wp frame (𝕎 (c : Thread nD τ) none) Set.univ (Prog.lift (.store m (Rect.unit (s := S2048x1024) ![0, 0] S2048x1024.size h) w Finset.univ hx hm) >>= k) Q) := by
  have h0 := wp_store (Γ := ∅) (Ix := Unit) (Name := ℕ) (U := Pipeline.UD sig nD τ) (Lvl := ℕ) (defs := defs₀ (F := F)) Variants.none (c : Thread nD τ) none Set.univ (m := m)
    (r := Rect.unit (s := S2048x1024) ![0, 0] S2048x1024.size h) (w := w) (Mk := Finset.univ) (hx := hx) (hm := hm)
    (k := k) (Q := Q) (f := f) (Finset.subset_univ _)
  iintro H Hk
  iapply h0 $$ H
  iintro H
  iapply Hk
  unfold tile
  iexists _
  isplitr; swap; · iexact H
  ipureintro
  have e := View.read_write_univ (v := m.access (Rect.unit (s := S2048x1024) ![0, 0] S2048x1024.size h)) f w
  funext x
  have e' := congrFun e x
  rw [← e']
  show _ = (m.view.read (Elt F) _) ((Rect.unit (s := S2048x1024) ![0, 0] S2048x1024.size h).emb x)
  rw [full_emb]

theorem ploadHalf {α : Type} {Q : α → sProp 𝕄} (s h : Fin 2) (e : Fin 32) (j : Fin 2)
    {o : Fin 4 → ℕ} {hb : ∀ a, o a + S1x1x2048x1024.size a ≤ S2x2x2048x1024.size a} (eo : o = offH s h)
    {hl : wbM.view.LoadsAt (Rect.unit (s := S2x2x2048x1024) o S1x1x2048x1024.size hb).toLoadRect}
    {k : Vec F S1x1x2048x1024 .f32 → Prog (TpuEff nD τ sig (Elt F) Λ₀ .tc) α} :
    gotHalf c W s h e j
      ⊢ iprop((∀ v : Vec F S1x1x2048x1024 .f32, ⌜k0_pay1 v = wtile c W h e j⌝ -∗ gotHalf c W s h e j -∗ wp frame (𝕎 (c : Thread nD τ) none) Set.univ (k v) Q)
        -∗ wp frame (𝕎 (c : Thread nD τ) none) Set.univ (Prog.lift (.load wbM (Rect.unit (s := S2x2x2048x1024) o S1x1x2048x1024.size hb).toLoadRect hl) >>= k) Q) := by
  subst eo
  unfold gotHalf
  iintro ⟨%f, %hf, H⟩ Hk
  have h0 := wp_load_rect (Γ := ∅) (Ix := Unit) (Name := ℕ) (U := Pipeline.UD sig nD τ) (Lvl := ℕ) (defs := defs₀ (F := F)) Variants.none (c : Thread nD τ) none Set.univ (m := wbM)
    (r := Rect.unit (s := S2x2x2048x1024) (offH s h) S1x1x2048x1024.size hb) (hl := hl)
    (k := k) (Q := Q) (q := fullShare) (f := f) (S := (half s h).view.set) (le_of_eq (View.set_reshape _ _).symm)
  have hv : k0_pay1 ((wbM.access (Rect.unit (s := S2x2x2048x1024) (offH s h) S1x1x2048x1024.size hb)).read (Elt F) f) = wtile c W h e j := by
    unfold k0_pay1 wtile
    dsimp only
    rw [shapeCast_self, ← hf]
    rfl
  iapply h0 $$ H
  iintro H
  iapply Hk $$ %_ %hv
  iexists f; isplitr; · ipureintro; exact hf
  iexact H

/-- What the other slot holds after a step that began expert `e`'s tile `j`: the next run's copies, the next tile's at
    the last run of the first tile, nothing at the last run of the last tile. -/
def fut (s : Fin 2) (last : BitVec 32) (nx : Fin 32) (j : Fin 2) : sProp 𝕄 :=
  if last = 1#32 then (if j = 0 then fly c W s nx 1 0 else idle c W s) else fly c W s nx j 0

section
variable (i : grid0.Coords) (it : Fin 96) (s : Fin 2) (e nx : Fin 32) (j : Fin 2)
  (a11 : Memref sig .tc .vmem S8192x128 .f32) (h11 : a11.IsWhole)
  (a13 : Memref sig .tc .vmem S1x1x1024 .f32) (h13 : a13.IsWhole) (a14 : Memref sig .tc .vmem S1x1x1024 .f32) (h14 : a14.IsWhole)
  (a15 : Memref sig .tc .vmem S512x1024 .bf16) (h15 : a15.IsWhole)
  (tE tNew tRun tLast tNxt : S96.Idx → BitVec 32) (tNr : S1.Idx → BitVec 32)

/-- The body's program at point `i`, and its rest after the weights are ready. -/
abbrev bodyAt : Prog (TpuEff nD τ sig (Elt F) Λ₀ .tc) PUnit :=
  cc0_moe_up_skel (F := F) i (Memref.whole main_v16) (Memref.isWhole_whole _) (Memref.whole main_v12) (Memref.isWhole_whole _) (Memref.whole main_v27) (Memref.isWhole_whole _) (Memref.whole main_v47) (Memref.isWhole_whole _) (Memref.whole main_v55) (Memref.isWhole_whole _) (Memref.whole main_v58) (Memref.isWhole_whole _) (Memref.whole main_v65) (Memref.isWhole_whole _) (Memref.whole main_v86) (Memref.isWhole_whole _) (Memref.whole main_v87) (Memref.isWhole_whole _)
    a11 h11 wM (Memref.isWhole_whole _) a13 h13 a14 h14 a15 h15 wbM (Memref.isWhole_whole _) cc0_scratch1 wgM (Memref.isWhole_whole _) wlM (Memref.isWhole_whole _)
def restB : Prog (TpuEff nD τ sig (Elt F) Λ₀ .tc) PUnit := after1 (bodyAt (F := F) i a11 h11 a13 h13 a14 h14 a15 h15)

/-- The tables the first part loads from. -/
def tabsA : sProp 𝕄 :=
  iprop(tab c (Memref.whole main_v55) tNew ∗ tab c (Memref.whole main_v87) tNr ∗ tab c (Memref.whole main_v58) tRun ∗ tab c (Memref.whole main_v27) tE
    ∗ tab c (Memref.whole main_v65) tLast ∗ tab c (Memref.whole main_v86) tNxt)

variable (hi1 : (i 1).val = it.val) (hi0 : (i 0).val = j.val)
  (hs : IsSlot i (tNr (ix1 0)) (tRun (ix1 it)) s) (he : tE (ix1 it) = BitVec.ofNat 32 e.val) (hnx : tNxt (ix1 it) = BitVec.ofNat 32 nx.val)

end

end Cert.Up
-- ==== Proof.UStageA.lean ====
/- The expert-up kernel's body up to its matmuls, as a step: with a new expert the slot's tile is collected, the next
   copies are started, and the two rounded weight tiles are stored; with the expert of the step before nothing changes. -/
module

public import proofs.«01_k».proof.Proof.UTile
public import Idealize.ShloMosaic.Lib.Pipeline.Value

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

variable (c : Dev nD) (W : Buf (Elt F) (wM.view.loc (c : Thread nD τ)))

theorem pbind {α β : Type} {p : Prog (TpuEff nD τ sig (Elt F) Λ₀ .tc) α} {k : α → Prog (TpuEff nD τ sig (Elt F) Λ₀ .tc) β} {P : α → sProp 𝕄} {Q : β → sProp 𝕄}
    {R : sProp 𝕄} (h : R ⊢ wp frame (𝕎 (c : Thread nD τ) none) Set.univ p P) :
    R ⊢ iprop((∀ a, P a -∗ wp frame (𝕎 (c : Thread nD τ) none) Set.univ (k a) Q) -∗ wp frame (𝕎 (c : Thread nD τ) none) Set.univ (p >>= k) Q) := by
  rw [wp_bind_eq]
  exact h.trans (wp_wand _ _ _)

section
variable (i : grid0.Coords) (it : Fin 96) (s : Fin 2) (e nx : Fin 32) (j : Fin 2)
  (a11 : Memref sig .tc .vmem S8192x128 .f32) (h11 : a11.IsWhole)
  (a13 : Memref sig .tc .vmem S1x1x1024 .f32) (h13 : a13.IsWhole) (a14 : Memref sig .tc .vmem S1x1x1024 .f32) (h14 : a14.IsWhole)
  (a15 : Memref sig .tc .vmem S512x1024 .bf16) (h15 : a15.IsWhole)
  (tE tNew tRun tLast tNxt : S96.Idx → BitVec 32) (tNr : S1.Idx → BitVec 32)

variable (hi1 : (i 1).val = it.val) (hi0 : (i 0).val = j.val)
  (hs : IsSlot i (tNr (ix1 0)) (tRun (ix1 it)) s) (he : tE (ix1 it) = BitVec.ofNat 32 e.val) (hnx : tNxt (ix1 it) = BitVec.ofNat 32 nx.val)

set_option maxHeartbeats 1000000 in
include hi1 in
/-- A step that goes on with the expert of the step before. -/
theorem stageA_same (hnew : tNew (ix1 it) ≠ 1#32) (Q : PUnit → sProp 𝕄) :
    iprop(tabsA c tE tNew tRun tLast tNxt tNr
        ∗ (tabsA c tE tNew tRun tLast tNxt tNr -∗ wp frame (𝕎 (c : Thread nD τ) none) Set.univ (restB (F := F) i a11 h11 a13 h13 a14 h14 a15 h15) Q))
      ⊢ wp frame (𝕎 (c : Thread nD τ) none) Set.univ (bodyAt (F := F) i a11 h11 a13 h13 a14 h14 a15 h15) Q := by
  unfold tabsA bodyAt
  unfold cc0_moe_up_skel
  iintro ⟨⟨Hnew, Ht⟩, HK⟩
  iapply (tload c (m := Memref.whole main_v55) (pt96 (offI_eq hi1) _)) $$ Hnew; iintro Hnew
  extract_lets -underBinder +onlyGivenNames jp
  have hr : restB (F := F) i a11 h11 a13 h13 a14 h14 a15 h15 = jp ⟨⟩ := by
    unfold restB
    exact (after1_load _).trans (dif_neg (show ¬ k0_cond1 0#32 = 1#1 by decide))
  clear_value jp
  have h1 : ¬ k0_cond1 ((Memref.whole main_v55).view.read (Elt F) (tNew : Buf (Elt F) ((Memref.whole main_v55).view.loc (c : Thread nD τ))) (ix1 it)) = 1#1 :=
    fun h => hnew ((cond1_iff _).1 h)
  simp only [dif_neg h1, ← hr]
  iapply HK
  isplitl [Hnew]; · iexact Hnew
  iexact Ht

set_option maxHeartbeats 2000000 in
include hi1 hi0 hs he hnx in
/-- A step that begins a new expert. -/
theorem stageA_new (hnew : tNew (ix1 it) = 1#32) (Ws : Waits sig Unit) (Q : PUnit → sProp 𝕄) :
    iprop(tabsA c tE tNew tRun tLast tNxt tNr ∗ owes (c : Thread nD τ) 0 Ws ∗ (if k0_cond2 i = 1#1 then idle c W s else fly c W s e j 0) ∗ idle c W (1 - s)
        ∗ anyTile (F := F) c wgM ∗ anyTile (F := F) c wlM
        ∗ ((tabsA c tE tNew tRun tLast tNxt tNr ∗ (∃ Ws', owes (c : Thread nD τ) 0 Ws') ∗ idle c W s ∗ fut c W (1 - s) (tLast (ix1 it)) nx j
              ∗ tile c wgM (wtile c W 0 e j) ∗ tile c wlM (wtile c W 1 e j))
            -∗ wp frame (𝕎 (c : Thread nD τ) none) Set.univ (restB (F := F) i a11 h11 a13 h13 a14 h14 a15 h15) Q))
      ⊢ wp frame (𝕎 (c : Thread nD τ) none) Set.univ (bodyAt (F := F) i a11 h11 a13 h13 a14 h14 a15 h15) Q := by
  unfold tabsA bodyAt
  unfold cc0_moe_up_skel
  iintro ⟨⟨Hnew, Hnr, Hrun, He, Hlast, Hnxt⟩, HO, HS, HI, Hg, Hl, HK⟩
  iapply (tload c (m := Memref.whole main_v55) (pt96 (offI_eq hi1) _)) $$ Hnew; iintro Hnew
  extract_lets -underBinder +onlyGivenNames jp
  have hr : restB (F := F) i a11 h11 a13 h13 a14 h14 a15 h15 = jp ⟨⟩ := by
    unfold restB
    exact (after1_load _).trans (dif_neg (show ¬ k0_cond1 0#32 = 1#1 by decide))
  clear_value jp
  have h1 : k0_cond1 ((Memref.whole main_v55).view.read (Elt F) (tNew : Buf (Elt F) ((Memref.whole main_v55).view.loc (c : Thread nD τ))) (ix1 it)) = 1#1 :=
    (cond1_iff _).2 hnew
  simp -zeta -zetaHave only [dif_pos h1]
  iapply (pbind c (part1 c W i it s e j a11 h11 a13 h13 a14 h14 a15 h15 tE tRun tNr hi1 hi0 hs he _ h1 Ws)) $$ [Hnr Hrun He HO HS]
  · isplitl [Hnr]; · iexact Hnr
    isplitl [Hrun]; · iexact Hrun
    isplitl [He]; · iexact He
    isplitl [HO]; · iexact HO
    iexact HS
  iintro %r ⟨%hv, Hnr, Hrun, He, ⟨%Ws1, HO⟩, HS⟩
  obtain ⟨v30, v33, hw1, v44, v51, hw3⟩ := r
  obtain ⟨rfl, rfl, rfl⟩ := hv
  iapply (pwait1 c W s e j (off14_eq hs)) $$ [HS HO]
  · isplitl [HS]; · iexact HS
    iexact HO
  iintro ⟨HS, HO⟩
  iapply (tload c (m := Memref.whole main_v65) (pt96 (offI_eq hi1) _)) $$ Hlast; iintro Hlast
  iapply (passume c (chk4_of hs _ _))
  extract_lets -underBinder +onlyGivenNames hw4 jp3
  have hT : iprop((tab c (Memref.whole main_v55) tNew ∗ tab c (Memref.whole main_v87) tNr ∗ tab c (Memref.whole main_v58) tRun ∗ tab c (Memref.whole main_v27) tE
        ∗ tab c (Memref.whole main_v65) tLast ∗ tab c (Memref.whole main_v86) tNxt)
        ∗ (∃ Ws', owes (c : Thread nD τ) 0 Ws') ∗ ready c W s e j ∗ (if tLast (ix1 it) = 1#32 then idle c W (1 - s) else fly c W (1 - s) nx j 0)
        ∗ anyTile (F := F) c wgM ∗ anyTile (F := F) c wlM
        ∗ (((tab c (Memref.whole main_v55) tNew ∗ tab c (Memref.whole main_v87) tNr ∗ tab c (Memref.whole main_v58) tRun ∗ tab c (Memref.whole main_v27) tE
        ∗ tab c (Memref.whole main_v65) tLast ∗ tab c (Memref.whole main_v86) tNxt) ∗ (∃ Ws', owes (c : Thread nD τ) 0 Ws') ∗ idle c W s ∗ fut c W (1 - s) (tLast (ix1 it)) nx j
              ∗ tile c wgM (wtile c W 0 e j) ∗ tile c wlM (wtile c W 1 e j))
            -∗ wp frame (𝕎 (c : Thread nD τ) none) Set.univ (jp ⟨⟩) Q))
      ⊢ wp frame (𝕎 (c : Thread nD τ) none) Set.univ (jp3 ⟨⟩) Q := by
    unfold jp3
    iintro ⟨⟨Hnew, Hnr, Hrun, He, Hlast, Hnxt⟩, HO, HS, HI, Hg, Hl, HK⟩
    extract_lets -underBinder +onlyGivenNames jp4
    have hL : iprop(ready c W s e j ∗ anyTile (F := F) c wgM ∗ anyTile (F := F) c wlM
        ∗ ((idle c W s ∗ tile c wgM (wtile c W 0 e j) ∗ tile c wlM (wtile c W 1 e j))
            -∗ wp frame (𝕎 (c : Thread nD τ) none) Set.univ (jp ⟨⟩) Q))
      ⊢ wp frame (𝕎 (c : Thread nD τ) none) Set.univ (jp4 ⟨⟩) Q := by
      unfold jp4
      unfold ready anyTile
      iintro ⟨⟨Hv, H0, H1, Hw⟩, ⟨%g0, Hg⟩, ⟨%l0, Hl⟩, HK⟩
      iapply (ploadHalf c W s 0 e j (off32_eq hs)) $$ H0; iintro %v81 %e81 H0
      iapply (pload c) $$ Hg; iintro %v84 Hg
      iapply (pstore c) $$ Hg; iintro Hg
      iapply (ploadHalf c W s 1 e j (off33_eq hs)) $$ H1; iintro %v88 %e88 H1
      iapply (pload c) $$ Hl; iintro %v91 Hl
      iapply (pstore c) $$ Hl; iintro Hl
      iapply HK
      isplitl [Hv H0 H1 Hw]
      · iapply (ready_idle c W s e j)
        unfold ready
        isplitl [Hv]; · iexact Hv
        isplitl [H0]; · iexact H0
        isplitl [H1]; · iexact H1
        iexact Hw
      isplitl [Hg]
      · simp only [e81]; iexact Hg
      · have e88' : k0_pay2 v88 = wtile c W 1 e j := e88
        simp only [e88']; iexact Hl
    clear_value jp4
    by_cases h4 : k0_cond4 i ((Memref.whole main_v65).view.read (Elt F) (tLast : Buf (Elt F) ((Memref.whole main_v65).view.loc (c : Thread nD τ))) (ix1 it)) = 1#1
    · have hc := (cond4_iff i _).1 h4
      have hl1 : tLast (ix1 it) = 1#32 := hc.1
      have hj0 : j = 0 := Fin.ext (hi0.symm.trans hc.2)
      subst hj0
      simp -zeta -zetaHave only [dif_pos h4, if_pos hl1]
      iapply (tload c (m := Memref.whole main_v86) (pt96 (offI_eq hi1) _)) $$ Hnxt; iintro Hnxt
      iapply (passume c (chk6_of hnx _ _))
      iapply (penq0 c W (1 - s) nx 1 (off27_eq hs) (off28_eq hc.2 hnx) (off26_eq hs)) $$ HI
      iintro HI
      iapply (penq1 c W (1 - s) nx 1 (off30_eq hs) (off31_eq hc.2 hnx) (off29_eq hs)) $$ HI
      iintro HI
      iapply hL
      isplitl [HS]; · iexact HS
      isplitl [Hg]; · iexact Hg
      isplitl [Hl]; · iexact Hl
      iintro ⟨HS, Hg, Hl⟩
      iapply HK
      isplitl [Hnew Hnr Hrun He Hlast Hnxt]
      · isplitl [Hnew]; · iexact Hnew
        isplitl [Hnr]; · iexact Hnr
        isplitl [Hrun]; · iexact Hrun
        isplitl [He]; · iexact He
        isplitl [Hlast]; · iexact Hlast
        iexact Hnxt
      isplitl [HO]; · iexact HO
      isplitl [HS]; · iexact HS
      isplitl [HI]
      · unfold fut; simp only [if_pos hl1, if_true]; iexact HI
      isplitl [Hg]; · iexact Hg
      iexact Hl
    · have hf : (if tLast (ix1 it) = 1#32 then idle c W (1 - s) else fly c W (1 - s) nx j 0) = fut c W (1 - s) (tLast (ix1 it)) nx j := by
        unfold fut
        by_cases hl1 : tLast (ix1 it) = 1#32
        · have hj0 : j ≠ 0 := fun h => h4 ((cond4_iff i _).2 ⟨hl1, by rw [hi0, h]; rfl⟩)
          rw [if_pos hl1, if_pos hl1, if_neg hj0]
        · rw [if_neg hl1, if_neg hl1]
      simp -zeta -zetaHave only [dif_neg h4, hf]
      iapply hL
      isplitl [HS]; · iexact HS
      isplitl [Hg]; · iexact Hg
      isplitl [Hl]; · iexact Hl
      iintro ⟨HS, Hg, Hl⟩
      iapply HK
      isplitl [Hnew Hnr Hrun He Hlast Hnxt]
      · isplitl [Hnew]; · iexact Hnew
        isplitl [Hnr]; · iexact Hnr
        isplitl [Hrun]; · iexact Hrun
        isplitl [He]; · iexact He
        isplitl [Hlast]; · iexact Hlast
        iexact Hnxt
      isplitl [HO]; · iexact HO
      isplitl [HS]; · iexact HS
      isplitl [HI]; · iexact HI
      isplitl [Hg]; · iexact Hg
      iexact Hl
  clear_value jp3
  by_cases h3 : k0_cond3 ((Memref.whole main_v65).view.read (Elt F) (tLast : Buf (Elt F) ((Memref.whole main_v65).view.loc (c : Thread nD τ))) (ix1 it)) = 1#1
  · have hl1 : ¬ tLast (ix1 it) = 1#32 := (cond3_iff _).1 h3
    simp -zeta -zetaHave only [dif_pos h3]
    iapply (tload c (m := Memref.whole main_v86) (pt96 (offI_eq hi1) _)) $$ Hnxt; iintro Hnxt
    iapply (passume c (chk5_of hi0 hnx _ _))
    iapply (penq0 c W (1 - s) nx j (off20_eq hs) (off21_eq hi0 hnx) (off19_eq hs)) $$ HI
    iintro HI
    iapply (penq1 c W (1 - s) nx j (off23_eq hs) (off24_eq hi0 hnx) (off22_eq hs)) $$ HI
    iintro HI
    iapply hT
    simp only [if_neg hl1]
    isplitl [Hnew Hnr Hrun He Hlast Hnxt]
    · isplitl [Hnew]; · iexact Hnew
      isplitl [Hnr]; · iexact Hnr
      isplitl [Hrun]; · iexact Hrun
      isplitl [He]; · iexact He
      isplitl [Hlast]; · iexact Hlast
      iexact Hnxt
    isplitl [HO]; · iexact HO
    isplitl [HS]; · iexact HS
    isplitl [HI]; · iexact HI
    isplitl [Hg]; · iexact Hg
    isplitl [Hl]; · iexact Hl
    simp only [← hr]
    iexact HK
  · have hl1 : tLast (ix1 it) = 1#32 := by
      by_contra h
      exact h3 ((cond3_iff _).2 h)
    simp -zeta -zetaHave only [dif_neg h3]
    iapply hT
    simp only [if_pos hl1]
    isplitl [Hnew Hnr Hrun He Hlast Hnxt]
    · isplitl [Hnew]; · iexact Hnew
      isplitl [Hnr]; · iexact Hnr
      isplitl [Hrun]; · iexact Hrun
      isplitl [He]; · iexact He
      isplitl [Hlast]; · iexact Hlast
      iexact Hnxt
    isplitl [HO]; · iexact HO
    isplitl [HS]; · iexact HS
    isplitl [HI]; · iexact HI
    isplitl [Hg]; · iexact Hg
    isplitl [Hl]; · iexact Hl
    simp only [← hr]
    iexact HK

end

end Cert.Up
-- ==== Proof.UStageB.lean ====
/- The expert-up kernel's matmuls, as a step: the block's row count selects which rows are computed, and the others are
   stored as zeros. -/
module

public import proofs.«01_k».proof.Proof.UTile
public import Idealize.ShloMosaic.Lib.Pipeline.Value

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

/-- Which of the five ways a row count takes: no row, or up to 128, 256, 384 or 512 rows. -/
def cls (v : BitVec 32) (k : Fin 5) : Prop :=
  (k0_cond5 v = 1#1 ↔ k = 0) ∧ (k0_cond6 v = 1#1 ↔ k = 1) ∧ (k0_cond7 v = 1#1 ↔ k = 2) ∧ (k0_cond8 v = 1#1 ↔ k = 3) ∧ (k0_cond9 v = 1#1 ↔ k = 4)

variable (c : Dev nD) (i : grid0.Coords) (it : Fin 96)
  (a11 : Memref sig .tc .vmem S8192x128 .f32) (h11 : a11.IsWhole)
  (a13 : Memref sig .tc .vmem S1x1x1024 .f32) (h13 : a13.IsWhole) (a14 : Memref sig .tc .vmem S1x1x1024 .f32) (h14 : a14.IsWhole)
  (a15 : Memref sig .tc .vmem S512x1024 .bf16) (h15 : a15.IsWhole)
  (x0 : Vec F S8192x128 .f32) (g l : Vec F S2048x1024 .bf16) (b1 b2 : Vec F S1x1x1024 .f32)

/-- The rest of the body, at a row count of way `k`, leaves the output block written with the pieces `L`. -/
def RunsB (k : Fin 5) (L : List (View.Piece (Elt F) S512x1024 .bf16)) : Prop :=
  ∀ (tNv : Buf (Elt F) ((Memref.whole main_v47).view.loc (c : Thread nD τ))) (hi1 : (i 1).val = it.val)
    (hk : cls ((Memref.whole main_v47).view.read (Elt F) tNv (ix1 it)) k) (K : PUnit → sProp 𝕄),
    iprop(tab c (Memref.whole main_v47) tNv ∗ owns (c : Thread nD τ) a11 fullShare x0 ∗ owns (c : Thread nD τ) a13 fullShare b1
        ∗ owns (c : Thread nD τ) a14 fullShare b2 ∗ (∃ d, owns (c : Thread nD τ) a15 fullShare d)
        ∗ owns (c : Thread nD τ) wgM fullShare g ∗ owns (c : Thread nD τ) wlM fullShare l
        ∗ (iprop(tab c (Memref.whole main_v47) tNv ∗ owns (c : Thread nD τ) a11 fullShare x0 ∗ owns (c : Thread nD τ) a13 fullShare b1
            ∗ owns (c : Thread nD τ) a14 fullShare b2 ∗ (∃ f, a15.view.loc (c : Thread nD τ) ↦[a15.view.set]{fullShare} a15.view.writes (Elt F) f L)
            ∗ owns (c : Thread nD τ) wgM fullShare g ∗ owns (c : Thread nD τ) wlM fullShare l) -∗ K ⟨⟩))
      ⊢ wp frame (𝕎 (c : Thread nD τ) none) Set.univ (restB (F := F) i a11 h11 a13 h13 a14 h14 a15 h15) K

set_option maxHeartbeats 8000000 in
/-- The pieces of each way, found by its run. -/
def run (k : Fin 5) : { L : List (View.Piece (Elt F) S512x1024 .bf16) // RunsB c i it a11 h11 a13 h13 a14 h14 a15 h15 x0 g l b1 b2 k L } := by
  match k with
  | 0 | 1 | 2 | 3 | 4 =>
    refine ⟨?_, fun tNv hi1 hk K => ?run⟩
    case run =>
      obtain ⟨h5, h6, h7, h8, h9⟩ := hk
      first | replace h5 := h5.2 rfl | replace h5 := mt h5.1 (by decide)
      first | replace h6 := h6.2 rfl | replace h6 := mt h6.1 (by decide)
      first | replace h7 := h7.2 rfl | replace h7 := mt h7.1 (by decide)
      first | replace h8 := h8.2 rfl | replace h8 := mt h8.1 (by decide)
      first | replace h9 := h9.2 rfl | replace h9 := mt h9.1 (by decide)
      rw [show restB (F := F) i a11 h11 a13 h13 a14 h14 a15 h15 = _ from (after1_load _).trans (dif_neg (show ¬ k0_cond1 0#32 = 1#1 by decide))]
      unfold owns
      iintro ⟨Hnv, ⟨%f0, %hf0, H0⟩, ⟨%f1, %hf1, H1⟩, ⟨%f2, %hf2, H2⟩, ⟨%d3, %f3, -, H3⟩, ⟨%f4, %hf4, H4⟩, ⟨%f5, %hf5, H5⟩, Hk⟩
      obtain rfl := h11.eq_unread hf0; obtain rfl := h13.eq_unread hf1; obtain rfl := h14.eq_unread hf2
      obtain rfl := (Memref.isWhole_whole cc0_scratch2).eq_unread hf4; obtain rfl := (Memref.isWhole_whole cc0_scratch3).eq_unread hf5
      iapply (tload c (m := Memref.whole main_v47) (pt96 (offI_eq hi1) _)) $$ Hnv; iintro Hnv
      first | simp -zeta -zetaHave only [dif_pos h5] | simp -zeta -zetaHave only [dif_neg h5]
      first | simp -zeta -zetaHave only [dif_pos h6] | simp -zeta -zetaHave only [dif_neg h6]
      first | simp -zeta -zetaHave only [dif_pos h7] | simp -zeta -zetaHave only [dif_neg h7]
      first | simp -zeta -zetaHave only [dif_pos h8] | simp -zeta -zetaHave only [dif_neg h8]
      first | simp -zeta -zetaHave only [dif_pos h9] | simp -zeta -zetaHave only [dif_neg h9]
      try simp only [k0_part2_eq_skeleton, k0_part3_eq_skeleton, k0_part4_eq_skeleton, k0_part5_eq_skeleton, k0_part6_eq_skeleton, k0_part7_eq_skeleton, k0_part8_eq_skeleton, k0_part9_eq_skeleton]
      sl_exec
      repeat (sl_step; sl_exec)
      sl_step
      iapply Hk
      isplitl [Hnv]; · iexact Hnv
      isplitl [H0]
      · iexists _; isplitr; · ipureintro; exact h11.read_unread _
        iexact H0
      isplitl [H1]
      · iexists _; isplitr; · ipureintro; exact h13.read_unread _
        iexact H1
      isplitl [H2]
      · iexists _; isplitr; · ipureintro; exact h14.read_unread _
        iexact H2
      isplitl [H3]; · iexists _; iexact H3
      isplitl [H4]
      · iexists _; isplitr; · ipureintro; exact (Memref.isWhole_whole _).read_unread _
        iexact H4
      iexists _; isplitr; · ipureintro; exact (Memref.isWhole_whole _).read_unread _
      iexact H5

/-- The pieces of each way tile the output block. -/
theorem cover (k : Fin 5) (y : S512x1024.Idx) : ∃ pc ∈ (run c i it a11 h11 a13 h13 a14 h14 a15 h15 x0 g l b1 b2 k).1, y ∈ pc.1.set := by
  match k with
  | 0 | 1 | 2 | 3 | 4 => exact View.cover_of_tiledBy _ ![128, 1024] (by sl_kernel_rfl) y

/-- The output block's staging buffer, through which its contents are stated. -/
abbrev VO : View sig .tc .vmem S512x1024 .bf16 := (Memref.whole cc0_stg3_0 : Memref sig .tc .vmem S512x1024 .bf16).view

/-- What a step leaves in the output block. -/
def outB (k : Fin 5) : Vec F S512x1024 .bf16 := VO.read (Elt F) (VO.writes (Elt F) VO.junk (run c i it a11 h11 a13 h13 a14 h14 a15 h15 x0 g l b1 b2 k).1)

theorem stageB (k : Fin 5) (tNv : Buf (Elt F) ((Memref.whole main_v47).view.loc (c : Thread nD τ))) (hi1 : (i 1).val = it.val)
    (hk : cls ((Memref.whole main_v47).view.read (Elt F) tNv (ix1 it)) k) (K : PUnit → sProp 𝕄) :
    iprop(tab c (Memref.whole main_v47) tNv ∗ owns (c : Thread nD τ) a11 fullShare x0 ∗ owns (c : Thread nD τ) a13 fullShare b1
        ∗ owns (c : Thread nD τ) a14 fullShare b2 ∗ (∃ d, owns (c : Thread nD τ) a15 fullShare d)
        ∗ tile c wgM g ∗ tile c wlM l
        ∗ (iprop(tab c (Memref.whole main_v47) tNv ∗ owns (c : Thread nD τ) a11 fullShare x0 ∗ owns (c : Thread nD τ) a13 fullShare b1
            ∗ owns (c : Thread nD τ) a14 fullShare b2 ∗ owns (c : Thread nD τ) a15 fullShare (outB c i it a11 h11 a13 h13 a14 h14 a15 h15 x0 g l b1 b2 k)
            ∗ tile c wgM g ∗ tile c wlM l) -∗ K ⟨⟩))
      ⊢ wp frame (𝕎 (c : Thread nD τ) none) Set.univ (restB (F := F) i a11 h11 a13 h13 a14 h14 a15 h15) K := by
  have eg : tile (F := F) c wgM g = owns (c : Thread nD τ) wgM fullShare g := by
    unfold tile owns; simp only [View.set_whole]
  have el : tile (F := F) c wlM l = owns (c : Thread nD τ) wlM fullShare l := by
    unfold tile owns; simp only [View.set_whole]
  rw [eg, el]
  iintro ⟨Hnv, H0, H1, H2, H3, H4, H5, Hk⟩
  iapply ((run c i it a11 h11 a13 h13 a14 h14 a15 h15 x0 g l b1 b2 k).2 tNv hi1 hk K)
  isplitl [Hnv]; · iexact Hnv
  isplitl [H0]; · iexact H0
  isplitl [H1]; · iexact H1
  isplitl [H2]; · iexact H2
  isplitl [H3]; · iexact H3
  isplitl [H4]; · iexact H4
  isplitl [H5]; · iexact H5
  iintro ⟨Hnv, H0, H1, H2, ⟨%f, H3⟩, H4, H5⟩
  iapply Hk
  isplitl [Hnv]; · iexact Hnv
  isplitl [H0]; · iexact H0
  isplitl [H1]; · iexact H1
  isplitl [H2]; · iexact H2
  isplitl [H3]
  · unfold owns; iexists _; isplitr
    swap; · iexact H3
    ipureintro; exact View.read_writes_of_cover _ _ _ _ _ (cover c i it a11 h11 a13 h13 a14 h14 a15 h15 x0 g l b1 b2 k)
  isplitl [H4]; · iexact H4
  iexact H5

end Cert.Up
-- ==== Proof.USched.lean ====
/- The expert-up kernel's schedule: what its tables say of one another, what the scratch holds between two steps, and the
   body's step from one to the next. -/
module

public import proofs.«01_k».proof.Proof.UStageA
public import proofs.«01_k».proof.Proof.UStageB

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

/-- The facts the body needs of its tables: the blocks' experts in runs numbered from zero, each run's next expert, the
    last run followed by the first, and the way of each block's row count. -/
structure Sched (tE tNv tNew tRun tLast tNxt : S96.Idx → BitVec 32) (tNr : S1.Idx → BitVec 32) where
  e : Fin 96 → Fin 32
  nx : Fin 96 → Fin 32
  rn : Fin 96 → ℕ
  n : ℕ
  k : Fin 96 → Fin 5
  he : ∀ it, tE (ix1 it) = BitVec.ofNat 32 (e it).val
  hnx : ∀ it, tNxt (ix1 it) = BitVec.ofNat 32 (nx it).val
  hrn : ∀ it, tRun (ix1 it) = BitVec.ofNat 32 (rn it)
  hn : tNr (ix1 0) = BitVec.ofNat 32 n
  rn_lt : ∀ it, rn it < 96
  rn0 : rn 0 = 0
  rn95 : rn 95 + 1 = n
  new0 : tNew (ix1 0) = 1#32
  last95 : tLast (ix1 95) = 1#32
  nx95 : nx 95 = e 0
  same : ∀ it it' : Fin 96, it'.val = it.val + 1 → tNew (ix1 it') ≠ 1#32 →
    e it' = e it ∧ rn it' = rn it ∧ tLast (ix1 it') = tLast (ix1 it) ∧ nx it' = nx it
  next : ∀ it it' : Fin 96, it'.val = it.val + 1 → tNew (ix1 it') = 1#32 →
    rn it' = rn it + 1 ∧ tLast (ix1 it) ≠ 1#32 ∧ nx it = e it'
  hk : ∀ it, cls (tNv (ix1 it)) (k it)

section
variable {tE tNv tNew tRun tLast tNxt : S96.Idx → BitVec 32} {tNr : S1.Idx → BitVec 32} (S : Sched tE tNv tNew tRun tLast tNxt tNr)

/-- The slot that point `(j, it)` uses. -/
def Sched.slot (j : Fin 2) (it : Fin 96) : Fin 2 := ⟨(j.val * S.n + S.rn it) % 2, Nat.mod_lt _ (by decide)⟩

theorem Sched.isSlot (i : grid0.Coords) (j : Fin 2) (it : Fin 96) (hi0 : (i 0).val = j.val) :
    IsSlot i (tNr (ix1 0)) (tRun (ix1 it)) (S.slot j it) := by
  have h := S.rn_lt it
  have h' := S.rn_lt 95
  have h'' := S.rn95
  have hj := j.isLt
  have hb : j.val * S.n ≤ 1 * 96 := Nat.mul_le_mul (by omega) (by omega)
  unfold IsSlot
  rw [slotW_of (n := j.val * S.n + S.rn it) _ (by omega)]
  · rfl
  · unfold runNo
    rw [S.hn, S.hrn, hi0]
    simp [BitVec.ofNat_add, BitVec.ofNat_mul]

theorem slot_succ (a b : Fin 2) (x y : ℕ) (ha : a.val = x % 2) (hb : b.val = y % 2) (h : y = x + 1) : b = 1 - a := by
  apply Fin.ext
  have : (1 - a : Fin 2).val = 1 - a.val := by
    clear ha hb; revert a; decide
  omega

variable (c : Dev nD) (W : Buf (Elt F) (wM.view.loc (c : Thread nD τ)))

/-- What the scratch holds after point `(j, it)`. -/
def Sched.post (j : Fin 2) (it : Fin 96) : sProp 𝕄 :=
  iprop(idle c W (S.slot j it) ∗ fut c W (1 - S.slot j it) (tLast (ix1 it)) (S.nx it) j
    ∗ tile c wgM (wtile c W 0 (S.e it) j) ∗ tile c wlM (wtile c W 1 (S.e it) j))

/-- What the scratch holds before any point. -/
def start : sProp 𝕄 := iprop(idle c W 0 ∗ idle c W 1 ∗ anyTile (F := F) c wgM ∗ anyTile (F := F) c wlM)

/-- What point `(j, it)` needs of the scratch: at a new expert its slot's copies, else what that expert's first point left. -/
def Sched.prep (i : grid0.Coords) (j : Fin 2) (it : Fin 96) : sProp 𝕄 :=
  if tNew (ix1 it) = 1#32 then
    iprop((if k0_cond2 i = 1#1 then idle c W (S.slot j it) else fly c W (S.slot j it) (S.e it) j 0) ∗ idle c W (1 - S.slot j it)
      ∗ anyTile (F := F) c wgM ∗ anyTile (F := F) c wlM)
  else S.post c W j it

theorem tile_any (m : Memref sig .tc .vmem S2048x1024 .bf16) (X : FVec F S2048x1024 .bf16) : tile c m X ⊢ anyTile (F := F) c m := by
  unfold tile anyTile
  iintro ⟨%f, -, H⟩
  iexists f; iexact H

theorem Sched.prep_first (i : grid0.Coords) (h0 : (i 0).val = 0) (h1 : (i 1).val = 0) : start (F := F) c W ⊢ S.prep c W i 0 0 := by
  unfold Sched.prep start
  have hs : S.slot 0 0 = 0 := by
    apply Fin.ext; show ((0 : Fin 2).val * S.n + S.rn 0) % 2 = 0; rw [S.rn0]; simp
  rw [if_pos S.new0, if_pos ((cond2_iff i).2 ⟨h0, h1⟩), hs]
  exact .rfl

theorem Sched.prep_next (i : grid0.Coords) (j : Fin 2) (it it' : Fin 96) (hit : it'.val = it.val + 1) (h1 : (i 1).val = it'.val) :
    S.post c W j it ⊢ S.prep c W i j it' := by
  unfold Sched.prep
  by_cases hn : tNew (ix1 it') = 1#32
  · rw [if_pos hn]
    obtain ⟨hr, hl, hx⟩ := S.next it it' hit hn
    have hs : S.slot j it' = 1 - S.slot j it :=
      slot_succ _ _ (j.val * S.n + S.rn it) (j.val * S.n + S.rn it') rfl rfl (by omega)
    have hs' : 1 - S.slot j it' = S.slot j it := by
      rw [hs]; generalize S.slot j it = a; revert a; decide
    have hc : ¬ k0_cond2 i = 1#1 := fun h => by
      have := ((cond2_iff i).1 h).2; omega
    rw [if_neg hc, hs', hs, ← hx]
    unfold Sched.post fut
    rw [if_neg hl]
    iintro ⟨HI, HF, Hg, Hl⟩
    isplitl [HF]; · iexact HF
    isplitl [HI]; · iexact HI
    isplitl [Hg]; · iapply (tile_any c); iexact Hg
    iapply (tile_any c); iexact Hl
  · rw [if_neg hn]
    obtain ⟨he, hr, hl, hx⟩ := S.same it it' hit hn
    have hs : S.slot j it' = S.slot j it := by unfold Sched.slot; simp only [hr]
    unfold Sched.post
    rw [he, hl, hx, hs]

theorem Sched.prep_turn (i : grid0.Coords) (h0 : (i 0).val = 1) : S.post c W 0 95 ⊢ S.prep c W i 1 0 := by
  unfold Sched.prep
  rw [if_pos S.new0]
  have h95 := S.rn95
  have h00 := S.rn0
  have hs : S.slot 1 0 = 1 - S.slot 0 95 :=
    slot_succ _ _ (0 * S.n + S.rn 95) (1 * S.n + S.rn 0) rfl rfl (by omega)
  have hs' : 1 - S.slot 1 0 = S.slot 0 95 := by
    rw [hs]; generalize S.slot 0 95 = a; revert a; decide
  have hc : ¬ k0_cond2 i = 1#1 := fun h => by
    have := ((cond2_iff i).1 h).1; omega
  rw [if_neg hc, hs', hs, ← S.nx95]
  unfold Sched.post fut
  rw [if_pos S.last95, if_pos rfl]
  iintro ⟨HI, HF, Hg, Hl⟩
  isplitl [HF]; · iexact HF
  isplitl [HI]; · iexact HI
  isplitl [Hg]; · iapply (tile_any c); iexact Hg
  iapply (tile_any c); iexact Hl

theorem Sched.post_last : S.post c W 1 95 ⊢ start (F := F) c W := by
  unfold Sched.post fut start
  rw [if_pos S.last95, if_neg (by decide)]
  iintro ⟨HI, HF, Hg, Hl⟩
  have hs : S.slot 1 95 = 0 ∨ S.slot 1 95 = 1 := by generalize S.slot 1 95 = a; revert a; decide
  rcases hs with hs | hs <;> rw [hs]
  · isplitl [HI]; · iexact HI
    isplitl [HF]; · iexact HF
    isplitl [Hg]; · iapply (tile_any c); iexact Hg
    iapply (tile_any c); iexact Hl
  · isplitl [HF]; · iexact HF
    isplitl [HI]; · iexact HI
    isplitl [Hg]; · iapply (tile_any c); iexact Hg
    iapply (tile_any c); iexact Hl

/-- The body at point `(j, it)`: from what it needs of the scratch to what it leaves there, its block written. -/
theorem Sched.step (i : grid0.Coords) (j : Fin 2) (it : Fin 96) (hi0 : (i 0).val = j.val) (hi1 : (i 1).val = it.val)
    (a11 : Memref sig .tc .vmem S8192x128 .f32) (h11 : a11.IsWhole)
    (a13 : Memref sig .tc .vmem S1x1x1024 .f32) (h13 : a13.IsWhole) (a14 : Memref sig .tc .vmem S1x1x1024 .f32) (h14 : a14.IsWhole)
    (a15 : Memref sig .tc .vmem S512x1024 .bf16) (h15 : a15.IsWhole)
    (x0 : Vec F S8192x128 .f32) (b1 b2 : Vec F S1x1x1024 .f32) (Ws : Waits sig Unit) (K : PUnit → sProp 𝕄) :
    iprop(tab c (Memref.whole main_v47) (tNv : Buf (Elt F) ((Memref.whole main_v47).view.loc (c : Thread nD τ)))
        ∗ tabsA c tE tNew tRun tLast tNxt tNr ∗ owes (c : Thread nD τ) 0 Ws ∗ S.prep c W i j it
        ∗ owns (c : Thread nD τ) a11 fullShare x0 ∗ owns (c : Thread nD τ) a13 fullShare b1 ∗ owns (c : Thread nD τ) a14 fullShare b2
        ∗ (∃ d, owns (c : Thread nD τ) a15 fullShare d)
        ∗ (iprop(tab c (Memref.whole main_v47) (tNv : Buf (Elt F) ((Memref.whole main_v47).view.loc (c : Thread nD τ)))
            ∗ tabsA c tE tNew tRun tLast tNxt tNr ∗ (∃ Ws', owes (c : Thread nD τ) 0 Ws') ∗ S.post c W j it
            ∗ owns (c : Thread nD τ) a11 fullShare x0 ∗ owns (c : Thread nD τ) a13 fullShare b1 ∗ owns (c : Thread nD τ) a14 fullShare b2
            ∗ owns (c : Thread nD τ) a15 fullShare
              (outB c i it a11 h11 a13 h13 a14 h14 a15 h15 x0 (wtile c W 0 (S.e it) j) (wtile c W 1 (S.e it) j) b1 b2 (S.k it))) -∗ K ⟨⟩))
      ⊢ wp frame (𝕎 (c : Thread nD τ) none) Set.univ (bodyAt (F := F) i a11 h11 a13 h13 a14 h14 a15 h15) K := by
  have hB := stageB c i it a11 h11 a13 h13 a14 h14 a15 h15 x0 (wtile c W 0 (S.e it) j) (wtile c W 1 (S.e it) j) b1 b2 (S.k it)
    (tNv : Buf (Elt F) ((Memref.whole main_v47).view.loc (c : Thread nD τ))) hi1 (S.hk it) K
  unfold Sched.prep
  by_cases hn : tNew (ix1 it) = 1#32
  · rw [if_pos hn]
    iintro ⟨Hnv, HT, HO, ⟨HS, HI, Hg, Hl⟩, H0, H1, H2, H3, HK⟩
    iapply (stageA_new c W i it (S.slot j it) (S.e it) (S.nx it) j a11 h11 a13 h13 a14 h14 a15 h15 tE tNew tRun tLast tNxt tNr hi1 hi0
      (S.isSlot i j it hi0) (S.he it) (S.hnx it) hn Ws K)
    isplitl [HT]; · iexact HT
    isplitl [HO]; · iexact HO
    isplitl [HS]; · iexact HS
    isplitl [HI]; · iexact HI
    isplitl [Hg]; · iexact Hg
    isplitl [Hl]; · iexact Hl
    iintro ⟨HT, HO, HI, HF, Hg, Hl⟩
    iapply hB
    isplitl [Hnv]; · iexact Hnv
    isplitl [H0]; · iexact H0
    isplitl [H1]; · iexact H1
    isplitl [H2]; · iexact H2
    isplitl [H3]; · iexact H3
    isplitl [Hg]; · iexact Hg
    isplitl [Hl]; · iexact Hl
    iintro ⟨Hnv, H0, H1, H2, H3, Hg, Hl⟩
    iapply HK
    unfold Sched.post
    isplitl [Hnv]; · iexact Hnv
    isplitl [HT]; · iexact HT
    isplitl [HO]; · iexact HO
    isplitl [HI HF Hg Hl]
    · isplitl [HI]; · iexact HI
      isplitl [HF]; · iexact HF
      isplitl [Hg]; · iexact Hg
      iexact Hl
    isplitl [H0]; · iexact H0
    isplitl [H1]; · iexact H1
    isplitl [H2]; · iexact H2
    iexact H3
  · rw [if_neg hn]
    unfold Sched.post
    iintro ⟨Hnv, HT, HO, ⟨HI, HF, Hg, Hl⟩, H0, H1, H2, H3, HK⟩
    iapply (stageA_same c i it a11 h11 a13 h13 a14 h14 a15 h15 tE tNew tRun tLast tNxt tNr hi1 hn K)
    isplitl [HT]; · iexact HT
    iintro HT
    iapply hB
    isplitl [Hnv]; · iexact Hnv
    isplitl [H0]; · iexact H0
    isplitl [H1]; · iexact H1
    isplitl [H2]; · iexact H2
    isplitl [H3]; · iexact H3
    isplitl [Hg]; · iexact Hg
    isplitl [Hl]; · iexact Hl
    iintro ⟨Hnv, H0, H1, H2, H3, Hg, Hl⟩
    iapply HK
    isplitl [Hnv]; · iexact Hnv
    isplitl [HT]; · iexact HT
    isplitl [HO]; · iexists _; iexact HO
    isplitl [HI HF Hg Hl]
    · isplitl [HI]; · iexact HI
      isplitl [HF]; · iexact HF
      isplitl [Hg]; · iexact Hg
      iexact Hl
    isplitl [H0]; · iexact H0
    isplitl [H1]; · iexact H1
    isplitl [H2]; · iexact H2
    iexact H3

end

end Cert.Up
-- ==== Proof.UFrame.lean ====
/- The expert-up kernel's launch: its scratch carved into the halves its copies fill, the proof data of its pipeline, the
   body's obligation at every point, and the run. -/
module

public import proofs.«01_k».proof.Proof.USched
public import Idealize.ShloMosaic.Lib.Pipeline.FrameBody
public import Idealize.ShloMosaic.Lib.Pipeline.Value

@[expose] public section

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ
local notation "𝕎" => wpE (defs₀ (F := F)) Variants.none

/-! ## The scratch -/

theorem mem_half {s h : Fin 2} {y : wbM.view.ty.Idx} (hy : y ∈ (half s h).view.set) : (y 0).val = s.val ∧ (y 1).val = h.val := by
  have e : (half s h).view.set = (Rect.unit (s := S2x2x2048x1024) (offH s h) S1x1x2048x1024.size (offH_inb s h)).set :=
    (View.set_reshape _ _).trans (View.set_slice_whole _ _)
  rw [e] at hy
  have hm := Rect.mem_set_unit.1 hy
  have h0 := hm 0
  have h1 := hm 1
  constructor
  · have h2 : (offH s h 0) = s.val := rfl
    have h3 : S1x1x2048x1024.size 0 = 1 := rfl
    rw [h2, h3] at h0; omega
  · have h2 : (offH s h 1) = h.val := rfl
    have h3 : S1x1x2048x1024.size 1 = 1 := rfl
    rw [h2, h3] at h1; omega

abbrev Wb : Finset wbM.view.ty.Idx := Finset.univ
abbrev R1 : Finset wbM.view.ty.Idx := Wb \ (half 0 0).view.set
abbrev R2 : Finset wbM.view.ty.Idx := R1 \ (half 0 1).view.set
abbrev R3 : Finset wbM.view.ty.Idx := R2 \ (half 1 0).view.set
abbrev R4 : Finset wbM.view.ty.Idx := R3 \ (half 1 1).view.set

theorem half_ne {s h s' h' : Fin 2} (hne : (s, h) ≠ (s', h')) {y : wbM.view.ty.Idx} (hy : y ∈ (half s h).view.set) : y ∉ (half s' h').view.set := by
  intro hy'
  have h1 := mem_half hy
  have h2 := mem_half hy'
  exact hne (Prod.ext (Fin.ext (h1.1.symm.trans h2.1)) (Fin.ext (h1.2.symm.trans h2.2)))

theorem sub1 : (half 0 0).view.set ⊆ Wb := Finset.subset_univ _
theorem sub2 : (half 0 1).view.set ⊆ R1 := fun y hy => Finset.mem_sdiff.2 ⟨Finset.mem_univ _, half_ne (by decide) hy⟩
theorem sub3 : (half 1 0).view.set ⊆ R2 := fun y hy =>
  Finset.mem_sdiff.2 ⟨Finset.mem_sdiff.2 ⟨Finset.mem_univ _, half_ne (by decide) hy⟩, half_ne (by decide) hy⟩
theorem sub4 : (half 1 1).view.set ⊆ R3 := fun y hy =>
  Finset.mem_sdiff.2 ⟨Finset.mem_sdiff.2 ⟨Finset.mem_sdiff.2 ⟨Finset.mem_univ _, half_ne (by decide) hy⟩, half_ne (by decide) hy⟩, half_ne (by decide) hy⟩

variable (c : Dev nD)

/-- What of the two-slot buffer no half covers. -/
def restH : sProp 𝕄 :=
  iprop(∃ f : Buf (Elt F) (wbM.view.loc (c : Thread nD τ)), wbM.view.loc (c : Thread nD τ) ↦[R4]{fullShare} f)
/-- The two-slot buffer at any contents. -/
def anyWb : sProp 𝕄 :=
  iprop(∃ f : Buf (Elt F) (wbM.view.loc (c : Thread nD τ)), wbM.view.loc (c : Thread nD τ) ↦{fullShare} f)

theorem carve : anyWb (F := F) c ⊢ iprop(anyHalf (F := F) c 0 0 ∗ anyHalf (F := F) c 0 1 ∗ anyHalf (F := F) c 1 0 ∗ anyHalf (F := F) c 1 1 ∗ restH (F := F) c) := by
  unfold anyWb anyHalf restH
  iintro ⟨%f, H⟩
  ihave H := (pointsTo_split_subset (q := fullShare) (f := f) sub1).1 $$ H
  icases H with ⟨H00, H⟩
  ihave H := (pointsTo_split_subset (q := fullShare) (f := f) sub2).1 $$ H
  icases H with ⟨H01, H⟩
  ihave H := (pointsTo_split_subset (q := fullShare) (f := f) sub3).1 $$ H
  icases H with ⟨H10, H⟩
  ihave H := (pointsTo_split_subset (q := fullShare) (f := f) sub4).1 $$ H
  icases H with ⟨H11, H⟩
  isplitl [H00]; · iexists f; iexact H00
  isplitl [H01]; · iexists f; iexact H01
  isplitl [H10]; · iexists f; iexact H10
  isplitl [H11]; · iexists f; iexact H11
  iexists f; iexact H

theorem uncarve : iprop(anyHalf (F := F) c 0 0 ∗ anyHalf (F := F) c 0 1 ∗ anyHalf (F := F) c 1 0 ∗ anyHalf (F := F) c 1 1 ∗ restH (F := F) c) ⊢ anyWb (F := F) c := by
  unfold anyWb anyHalf restH
  iintro ⟨⟨%f0, H00⟩, ⟨%f1, H01⟩, ⟨%f2, H10⟩, ⟨%f3, H11⟩, ⟨%f, H⟩⟩
  ihave H := (pointsTo_join_subset (ℓ := wbM.view.loc (c : Thread nD τ)) (q := fullShare) sub4) $$ [H11 H]
  · isplitl [H11]; · iexact H11
    iexact H
  ihave H := (pointsTo_join_subset (ℓ := wbM.view.loc (c : Thread nD τ)) (q := fullShare) sub3) $$ [H10 H]
  · isplitl [H10]; · iexact H10
    iexact H
  ihave H := (pointsTo_join_subset (ℓ := wbM.view.loc (c : Thread nD τ)) (q := fullShare) sub2) $$ [H01 H]
  · isplitl [H01]; · iexact H01
    iexact H
  ihave H := (pointsTo_join_subset (ℓ := wbM.view.loc (c : Thread nD τ)) (q := fullShare) sub1) $$ [H00 H]
  · isplitl [H00]; · iexact H00
    iexact H
  iexists _; iexact H

variable (W : Buf (Elt F) (wM.view.loc (c : Thread nD τ)))

theorem deal : ((wM.view.loc (c : Thread nD τ)) ↦{fullShare} W : sProp 𝕄) ⊣⊢ iprop(wAll c W 0 0 ∗ wAll c W 0 1 ∗ wAll c W 1 0 ∗ wAll c W 1 1) := by
  unfold wAll
  constructor
  · iintro H
    ihave H := (pointsTo_share (PosShare.mem_left_op_right fullShare)).1 $$ H
    icases H with ⟨H0, H1⟩
    ihave H0 := (pointsTo_share (PosShare.mem_left_op_right fullShare.left)).1 $$ H0
    ihave H1 := (pointsTo_share (PosShare.mem_left_op_right fullShare.right)).1 $$ H1
    icases H0 with ⟨H00, H01⟩
    icases H1 with ⟨H10, H11⟩
    isplitl [H00]; · iexact H00
    isplitl [H01]; · iexact H01
    isplitl [H10]; · iexact H10
    iexact H11
  · iintro ⟨H00, H01, H10, H11⟩
    iapply (pointsTo_share (PosShare.mem_left_op_right fullShare)).2
    isplitl [H00 H01]
    · iapply (pointsTo_share (PosShare.mem_left_op_right fullShare.left)).2
      isplitl [H00]; · iexact H00
      iexact H01
    iapply (pointsTo_share (PosShare.mem_left_op_right fullShare.right)).2
    isplitl [H10]; · iexact H10
    iexact H11

/-- The kernel's two semaphores. -/
abbrev osem0 : Fin 2 → SemLoc sig := fun s => SemLoc.dma (cell s)
theorem ownSemFacts0 : Pipeline.OwnSemFacts spec0 osem0 := by decide
theorem ownSems0_eq : (Pipeline.ownSems0 (Ix := Unit) (Name := ℕ) (U := Pipeline.UD sig nD τ) (Lvl := ℕ) (Val := Elt F) (τ := τ) osem0 c : sProp 𝕄)
    = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl

/-- The array the body's own copies read. -/
abbrev H0 : Finset (Ref sig .tc) := {main_v88}
theorem H0_sub : H0 ⊆ Pipeline.restRefsP sig pre0 spec0 := by
  intro b hb
  rw [Finset.mem_singleton.1 hb]
  exact Finset.mem_sdiff.2 ⟨Pipeline.mem_restRefs_of main_v88 (by decide) (by decide), by
    intro h
    obtain ⟨k, -, hk⟩ := Finset.mem_image.1 h
    revert k; decide⟩

variable (V : (c : Dev nD) → (b : Ref sig .tc) → Buf (Elt F) ((c.tc : Thread nD τ).loc b))

/-- What the launch hands the body beside its tables, and what the body's invariant starts and ends with. -/
theorem phi_eq : (Pipeline.ΦD osem0 spec0 H0 V c : sProp 𝕄)
    ⊣⊢ iprop((∃ r, prngReg c r) ∗ restH (F := F) c ∗ start (F := F) c (V c main_v88)) := by
  rw [Pipeline.ΦD_eq, scopedRest0_eq, ownSems0_eq, show H0 = {main_v88} from rfl, BI.bigSep_singleton]
  unfold start idle
  constructor
  · iintro ⟨⟨H0, H2, H3⟩, Hg, ⟨Hs0, Hs1⟩, Hw⟩
    ihave H0 := (carve (F := F) c) $$ [H0]
    · unfold anyWb; iexact H0
    icases H0 with ⟨H00, H01, H10, H11, HR⟩
    ihave Hw := (deal c (V c main_v88)).1 $$ [Hw]
    · iexact Hw
    icases Hw with ⟨W00, W01, W10, W11⟩
    isplitl [Hg]; · iexact Hg
    isplitl [HR]; · iexact HR
    isplitl [Hs0 H00 H01 W00 W01]
    · isplitl [Hs0]; · iexact Hs0
      isplitl [H00]; · iexact H00
      isplitl [H01]; · iexact H01
      isplitl [W00]; · iexact W00
      iexact W01
    isplitl [Hs1 H10 H11 W10 W11]
    · isplitl [Hs1]; · iexact Hs1
      isplitl [H10]; · iexact H10
      isplitl [H11]; · iexact H11
      isplitl [W10]; · iexact W10
      iexact W11
    unfold anyTile
    isplitl [H2]; · iexact H2
    iexact H3
  · iintro ⟨Hg, HR, ⟨Hs0, H00, H01, W00, W01⟩, ⟨Hs1, H10, H11, W10, W11⟩, H2, H3⟩
    isplitl [HR H00 H01 H10 H11 H2 H3]
    · isplitl [HR H00 H01 H10 H11]
      · ihave H0 := (uncarve (F := F) c) $$ [HR H00 H01 H10 H11]
        · isplitl [H00]; · iexact H00
          isplitl [H01]; · iexact H01
          isplitl [H10]; · iexact H10
          isplitl [H11]; · iexact H11
          iexact HR
        unfold anyWb
        iexact H0
      unfold anyTile
      isplitl [H2]; · iexact H2
      iexact H3
    isplitl [Hg]; · iexact Hg
    isplitl [Hs0 Hs1]
    · isplitl [Hs0]; · iexact Hs0
      iexact Hs1
    iapply (deal c (V c main_v88)).2
    isplitl [W00]; · iexact W00
    isplitl [W01]; · iexact W01
    isplitl [W10]; · iexact W10
    iexact W11

/-! ## The tables -/

variable (a : (pcfg0 (F := F)).Adm)

theorem bigSep9 {M : Type} [URA M] (Φ : Fin 9 → sProp M) :
    bigSep Finset.univ Φ = iprop(Φ 0 ∗ Φ 1 ∗ Φ 2 ∗ Φ 3 ∗ Φ 4 ∗ Φ 5 ∗ Φ 6 ∗ Φ 7 ∗ Φ 8) :=
  BI.bigSep_univ_eq_bigSepL [(0 : Fin 9), 1, 2, 3, 4, 5, 6, 7, 8] (by decide) (by decide) Φ

theorem tabs_eq : (Pipeline.ΦT pre0 a.1 c : sProp 𝕄) ⊣⊢ iprop(tab c (Memref.whole main_v16) (a.1 0) ∗ tab c (Memref.whole main_v12) (a.1 1)
    ∗ tab c (Memref.whole main_v47) (a.1 3)
    ∗ tabsA c (a.1 2 : S96.Idx → BitVec 32) (a.1 4 : S96.Idx → BitVec 32) (a.1 5 : S96.Idx → BitVec 32) (a.1 6 : S96.Idx → BitVec 32) (a.1 7 : S96.Idx → BitVec 32)
        (a.1 8 : S1.Idx → BitVec 32)) := by
  unfold Pipeline.ΦT Pipeline.prefHeld tabsA
  rw [bigSep9]
  constructor
  · iintro ⟨T0, T1, T2, T3, T4, T5, T6, T7, T8⟩
    isplitl [T0]; · iexact T0
    isplitl [T1]; · iexact T1
    isplitl [T3]; · iexact T3
    isplitl [T4]; · iexact T4
    isplitl [T8]; · iexact T8
    isplitl [T5]; · iexact T5
    isplitl [T2]; · iexact T2
    isplitl [T6]; · iexact T6
    iexact T7
  · iintro ⟨T0, T1, T3, T4, T8, T5, T2, T6, T7⟩
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8

/-! ## The invariant between points -/

variable (S : Sched (a.1 2 : S96.Idx → BitVec 32) (a.1 3 : S96.Idx → BitVec 32) (a.1 4 : S96.Idx → BitVec 32) (a.1 5 : S96.Idx → BitVec 32)
  (a.1 6 : S96.Idx → BitVec 32) (a.1 7 : S96.Idx → BitVec 32) (a.1 8 : S1.Idx → BitVec 32))

/-- Point `n`'s tile of the columns and its row block. -/
def jt (n : ℕ) : Fin 2 := ⟨n / 96 % 2, Nat.mod_lt _ (by decide)⟩
def itn (n : ℕ) : Fin 96 := ⟨n % 96, Nat.mod_lt _ (by decide)⟩

theorem coords0 (t : Fin grid0.N) : (grid0.coords t 0).val = (jt t.val).val := by
  show t.val / 96 % 2 = _
  rfl
theorem coords1 (t : Fin grid0.N) : (grid0.coords t 1).val = (itn t.val).val := by
  show t.val / 1 % 96 = t.val % 96
  rw [Nat.div_one]

def inv (n : ℕ) : sProp 𝕄 := if n = 0 then start c W else S.post c W (jt (n - 1)) (itn (n - 1))

theorem inv_prep (t : Fin grid0.N) : inv c W a S t.val ⊢ S.prep c W (grid0.coords t) (jt t.val) (itn t.val) := by
  obtain ⟨n, hn⟩ := t
  have hN := hn
  rw [N_0] at hN
  dsimp only
  by_cases h0 : n = 0
  · subst h0
    exact S.prep_first c W _ ((coords0 ⟨0, hn⟩).trans (by simp [jt])) ((coords1 ⟨0, hn⟩).trans (by simp [itn]))
  · unfold inv
    rw [if_neg h0]
    by_cases h96 : n = 96
    · subst h96
      exact S.prep_turn c W _ ((coords0 ⟨96, hn⟩).trans (by simp [jt]))
    · have e : jt n = jt (n - 1) := Fin.ext (by show n / 96 % 2 = (n - 1) / 96 % 2; omega)
      rw [e]
      exact S.prep_next c W _ _ _ _ (by show n % 96 = (n - 1) % 96 + 1; omega) (coords1 ⟨n, hn⟩)

theorem inv_succ (n : ℕ) : inv c W a S (n + 1) = S.post c W (jt n) (itn n) := if_neg (Nat.succ_ne_zero n)

theorem inv_last : inv c W a S 192 ⊢ start (F := F) c W := S.post_last c W

/-! ## The proof data and the body's obligation -/

abbrev ms0 (t : Fin (cfg0 a).N) := spec0_0.stage ((cfg0 a).slots t 0)
abbrev ms1 (t : Fin (cfg0 a).N) := spec0_1.stage ((cfg0 a).slots t 1)
abbrev ms2 (t : Fin (cfg0 a).N) := spec0_2.stage ((cfg0 a).slots t 2)
abbrev ms3 (t : Fin (cfg0 a).N) := spec0_3.stage ((cfg0 a).slots t 3)
theorem hs0 (t : Fin (cfg0 a).N) : (ms0 a t).IsWhole := stage_whole0 0 _
theorem hs1 (t : Fin (cfg0 a).N) : (ms1 a t).IsWhole := stage_whole0 1 _
theorem hs2 (t : Fin (cfg0 a).N) : (ms2 a t).IsWhole := stage_whole0 2 _
theorem hs3 (t : Fin (cfg0 a).N) : (ms3 a t).IsWhole := stage_whole0 3 _

/-- The windows' arrays as the region finds them. -/
abbrev arrs (w : Fin (cfg0 a).W) : Buf (Elt F) (((cfg0 a).win w).arr.view.loc (c.tc : Thread nD τ)) := V c (Pipeline.arrRef spec0 w)

/-- What point `t` leaves in its output block. -/
def outAt (t : Fin (cfg0 a).N) : Vec F S512x1024 .bf16 :=
  outB c (grid0.coords t) (itn t.val) (ms0 a t) (hs0 a t) (ms1 a t) (hs1 a t) (ms2 a t) (hs2 a t) (ms3 a t) (hs3 a t)
    (Pipeline.heldIn (cfg0 a) (arrs c V a) 0 t.val t.isLt) (wtile c (V c main_v88) 0 (S.e (itn t.val)) (jt t.val)) (wtile c (V c main_v88) 1 (S.e (itn t.val)) (jt t.val))
    (Pipeline.heldIn (cfg0 a) (arrs c V a) 1 t.val t.isLt) (Pipeline.heldIn (cfg0 a) (arrs c V a) 2 t.val t.isLt) (S.k (itn t.val))

def phi (n : ℕ) : sProp 𝕄 := iprop(Pipeline.ΦT pre0 a.1 c ∗ (∃ r, prngReg c r) ∗ restH (F := F) c ∗ inv c (V c main_v88) a S n)

def dats (_ : Fin 1) (c : Dev nD) : Dat τ (Elt F) Unit ℕ (Pipeline.UD sig nD τ) ℕ (cfg0 a) c where
  A w := arrs c V a w
  after w t := match w with
    | ⟨0, _⟩ => Pipeline.heldIn (cfg0 a) (arrs c V a) 0 t.val t.isLt
    | ⟨1, _⟩ => Pipeline.heldIn (cfg0 a) (arrs c V a) 1 t.val t.isLt
    | ⟨2, _⟩ => Pipeline.heldIn (cfg0 a) (arrs c V a) 2 t.val t.isLt
    | ⟨3, _⟩ => outAt c V a S t
  Φ t := phi c V a S t.val
  q w := Pipeline.shareOf spec0 w
  owed _ := 0

theorem phi_pre (t : Fin (cfg0 a).N) : (dats V a S 0 c).Φ t.castSucc = phi c V a S t.val := by
  dsimp only [dats]
  rw [Fin.val_castSucc]
theorem phi_post (t : Fin (cfg0 a).N) : (dats V a S 0 c).Φ t.succ = phi c V a S (t.val + 1) := by
  dsimp only [dats]
  rw [Fin.val_succ]

theorem before0 (t : Fin (cfg0 a).N) (d) : (dats V a S 0 c).before 0 t d = Pipeline.heldIn (cfg0 a) (arrs c V a) 0 t.val t.isLt :=
  (dats V a S 0 c).before_eq_heldIn 0 rfl (fun _ => rfl) (fun _ _ => rfl) (fun _ => rfl) t d
theorem before1 (t : Fin (cfg0 a).N) (d) : (dats V a S 0 c).before 1 t d = Pipeline.heldIn (cfg0 a) (arrs c V a) 1 t.val t.isLt :=
  (dats V a S 0 c).before_eq_heldIn 1 rfl (fun _ => rfl) (fun _ _ => rfl) (fun _ => rfl) t d
theorem before2 (t : Fin (cfg0 a).N) (d) : (dats V a S 0 c).before 2 t d = Pipeline.heldIn (cfg0 a) (arrs c V a) 2 t.val t.isLt :=
  (dats V a S 0 c).before_eq_heldIn 2 rfl (fun _ => rfl) (fun _ _ => rfl) (fun _ => rfl) t d

abbrev bodyT (t : Fin (cfg0 a).N) :=
  bodyAt (F := F) (grid0.coords t) (ms0 a t) (hs0 a t) (ms1 a t) (hs1 a t) (ms2 a t) (hs2 a t) (ms3 a t) (hs3 a t)

def bodyPre (t : Fin (cfg0 a).N) : sProp 𝕄 :=
  iprop((dats V a S 0 c).Φ t.castSucc ∗ (dats V a S 0 c).owesAt () t.castSucc
    ∗ (∃ d, owns (c : Thread nD τ) (ms0 a t) fullShare ((dats V a S 0 c).before 0 t d))
    ∗ (∃ d, owns (c : Thread nD τ) (ms1 a t) fullShare ((dats V a S 0 c).before 1 t d))
    ∗ (∃ d, owns (c : Thread nD τ) (ms2 a t) fullShare ((dats V a S 0 c).before 2 t d))
    ∗ (∃ d, owns (c : Thread nD τ) (ms3 a t) fullShare ((dats V a S 0 c).before 3 t d)))
def bodyPost (t : Fin (cfg0 a).N) : sProp 𝕄 :=
  iprop((dats V a S 0 c).Φ t.succ ∗ (dats V a S 0 c).owesAt () t.succ
    ∗ owns (c : Thread nD τ) (ms0 a t) fullShare ((dats V a S 0 c).after 0 t)
    ∗ owns (c : Thread nD τ) (ms1 a t) fullShare ((dats V a S 0 c).after 1 t)
    ∗ owns (c : Thread nD τ) (ms2 a t) fullShare ((dats V a S 0 c).after 2 t)
    ∗ owns (c : Thread nD τ) (ms3 a t) fullShare ((dats V a S 0 c).after 3 t))

theorem sound_body (t : Fin (cfg0 a).N) :
    bodyPre c V a S t ⊢ wp frame (𝕎 (c : Thread nD τ) none) Set.univ (bodyT a t) (fun _ => bodyPost c V a S t) := by
  unfold bodyPre bodyPost
  rw [show (dats V a S 0 c).after 0 t = Pipeline.heldIn (cfg0 a) (arrs c V a) 0 t.val t.isLt from rfl,
    show (dats V a S 0 c).after 1 t = Pipeline.heldIn (cfg0 a) (arrs c V a) 1 t.val t.isLt from rfl,
    show (dats V a S 0 c).after 2 t = Pipeline.heldIn (cfg0 a) (arrs c V a) 2 t.val t.isLt from rfl,
    show (dats V a S 0 c).after 3 t = outAt c V a S t from rfl,
    phi_pre, phi_post]
  unfold phi
  rw [inv_succ]
  simp only [before0, before1, before2]
  unfold Dat.owesAt Pipeline.owesWithin
  rw [show (dats V a S 0 c).owed t.castSucc = 0 from rfl, show (dats V a S 0 c).owed t.succ = 0 from rfl]
  unfold outAt
  iintro ⟨⟨HT, Hg, HR, HI⟩, ⟨%Ws, -, HO⟩, ⟨%d0, H0⟩, ⟨%d1, H1⟩, ⟨%d2, H2⟩, ⟨%d3, H3⟩⟩
  ihave HT := (tabs_eq c a).1 $$ HT
  icases HT with ⟨T0, T1, T3, TA⟩
  ihave HI := (inv_prep c (V c main_v88) a S t) $$ HI
  iapply (S.step c (V c main_v88) (grid0.coords t) (jt t.val) (itn t.val) (coords0 t) (coords1 t) (ms0 a t) (hs0 a t) (ms1 a t) (hs1 a t)
    (ms2 a t) (hs2 a t) (ms3 a t) (hs3 a t) _ _ _ Ws)
  isplitl [T3]; · iexact T3
  isplitl [TA]; · iexact TA
  isplitl [HO]; · iexact HO
  isplitl [HI]; · iexact HI
  isplitl [H0]; · iexact H0
  isplitl [H1]; · iexact H1
  isplitl [H2]; · iexact H2
  isplitl [H3]; · iexists _; iexact H3
  iintro ⟨T3, TA, ⟨%Ws', HO⟩, HI, H0, H1, H2, H3⟩
  isplitl [T0 T1 T3 TA Hg HR HI]
  · isplitl [T0 T1 T3 TA]
    · iapply (tabs_eq c a).2
      isplitl [T0]; · iexact T0
      isplitl [T1]; · iexact T1
      isplitl [T3]; · iexact T3
      iexact TA
    isplitl [Hg]; · iexact Hg
    isplitl [HR]; · iexact HR
    iexact HI
  isplitl [HO]
  · iexists Ws'; isplitr; · ipureintro; exact fun _ _ => Or.inl trivial
    iexact HO
  isplitl [H0]; · iexact H0
  isplitl [H1]; · iexact H1
  isplitl [H2]; · iexact H2
  iexact H3

theorem defs₀_row (t : Fin (cfg0 a).N) :
    defs₀ (F := F) .tc (cfg0 a).body ((cfg0 a).bodyArgs t ((cfg0 a).slots t)) = bodyT a t := by
  unfold defs₀
  rw [Defs.onTc_tc]
  rw [cc0_moe_up_eq_skeleton]

theorem nv_at (i : grid0.Coords) (it : Fin 96) (hi : (i 1).val = it.val) :
    a.1.atD 3 (k0_off34 i) = (a.1 3 : S96.Idx → BitVec 32) (ix1 it) := by
  have e : k0_off34 i = ![it.val] := offI_eq hi
  rw [e]
  unfold Pipeline.Prefetch.Contents.atD
  rw [dif_pos (fun b => by
    match b with
    | ⟨0, _⟩ => exact it.isLt)]
  refine congrArg (a.1 3 : S96.Idx → BitVec 32) (funext fun b => ?_)
  match b with
  | ⟨0, _⟩ => rfl

include S in
theorem idle3 (t : Fin (cfg0 a).N) : (cfg0 a).idle 3 ((cfg0 a).grid.coords t) = false := by
  show idle0 a.1 3 (grid0.coords t) = false
  dsimp only [idle0]
  rw [nv_at a (grid0.coords t) (itn t.val) (coords1 t)]
  obtain ⟨h5, h6, h7, h8, h9⟩ := S.hk (itn t.val)
  generalize (a.1 3 : S96.Idx → BitVec 32) (ix1 (itn t.val)) = v at h5 h6 h7 h8 h9 ⊢
  generalize S.k (itn t.val) = k at h5 h6 h7 h8 h9
  match k with
  | 0 => rw [h5.2 rfl]; rfl
  | 1 => rw [h6.2 rfl]; simp
  | 2 => rw [h7.2 rfl]; simp
  | 3 => rw [h8.2 rfl]; simp
  | 4 => rw [h9.2 rfl]; simp

theorem body_obligation : BodyObligation (dats V a S 0 c) (defs₀ (F := F)) Variants.none () Set.univ := fun t => by
  rw [bigSep_W0, bigSep_W0, defs₀_row]
  simp only [idle3 a S t]
  refine triple_restated (sound_body c V a S t) rfl .rfl fun _ => ?_
  unfold bodyPost
  rw [show idle0 a.1 3 (((pcfg0 (F := F)).gridAt a.1).coords t) = false from idle3 a S t]

/-! ## The run -/

/-- The host's operations before the launch, and what they leave in each buffer. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11,
   hostOps0_12, hostOps0_13, hostOps0_14, hostOps0_15, hostOps0_16, hostOps0_17]
abbrev hostV (m : (ℓ : Loc nD τ sig) → Buf (Elt F) ℓ) (c : Dev nD) (b : Ref sig .tc) : Buf (Elt F) ((c.tc : Thread nD τ).loc b) :=
  StableHlo.after (opss (F := F)).flatten (fun b => m (c, b)) b

variable (m : (ℓ : Loc nD τ sig) → Buf (Elt F) ℓ) (ρ : Dev nD → PrngReg)

theorem hmain : Pipeline.HMainP (Ix := Unit) (Name := ℕ) (U := Pipeline.UD sig nD τ) (Lvl := ℕ) (pcfgs (F := F)) 0 (defs₀ (F := F)) Variants.none m main
    (hostV m) :=
  Pipeline.hmainP_prefixes _ 0 _ Variants.none m main opss
    ⟨hostOps0_sub, hostOps0_1_sub, hostOps0_2_sub, hostOps0_3_sub, hostOps0_4_sub, hostOps0_5_sub, hostOps0_6_sub, hostOps0_7_sub, hostOps0_8_sub,
      hostOps0_9_sub, hostOps0_10_sub, hostOps0_11_sub, hostOps0_12_sub, hostOps0_13_sub, hostOps0_14_sub, hostOps0_15_sub, hostOps0_16_sub, hostOps0_17_sub⟩
    (by repeat' constructor)
    (fun c => main_chain c)

set_option backward.isDefEq.respectTransparency.types false in
theorem run_main (hpf : ∀ k, hostV m c (pre0.ref k) = a.1 k) :
    θ_run defs (onTc (τ := τ) (main (F := F))) (s₀ m ρ)
      (fun r => Pipeline.FramePost (Pipeline.pin (pcfgs (F := F)) (fun _ => a)) (dats (hostV m) a S) 0 (hostV m) r ∧ r.2.sem = fun _ => 0) :=
  Pipeline.θ_run_frameP_dma_shared (Q' := _) (pcfgs (F := F)) (fun _ => a) (dats (hostV m) a S) (0 : Fin 1) launch₀0 osem0 defs₀ Variants.none ownSemFacts0 H0 H0_sub
    m ρ main
    (hbody := fun c => (body_obligation c (hostV m) a S).loose) (hq := fun _ _ _ => rfl) (howed := fun _ _ => rfl) (V := hostV m) (hmain := hmain m)
    (hA := fun _ _ => rfl) (hpf := fun c' k => by rw [Subsingleton.elim c' c]; exact hpf k)
    (hin := fun c => by
      show _ ⊢ phi c (hostV m) a S 0
      unfold phi
      iintro ⟨HD, HT⟩
      ihave HD := (phi_eq c (hostV m)).1 $$ HD
      icases HD with ⟨Hg, HR, HS⟩
      isplitl [HT]; · iexact HT
      isplitl [Hg]; · iexact Hg
      isplitl [HR]; · iexact HR
      unfold inv
      rw [if_pos rfl]
      iexact HS)
    (hout := fun c => by
      show phi c (hostV m) a S 192 ⊢ _
      unfold phi
      iintro ⟨HT, Hg, HR, HS⟩
      iapply (phi_eq c (hostV m)).2
      isplitl [Hg]; · iexact Hg
      isplitl [HR]; · iexact HR
      iapply (inv_last c (hostV m c main_v88) a S); iexact HS)

end Cert.Up
-- ==== Proof.UReads.lean ====
/- The expert-up kernel's host code, one step at a time: what each table the launch reads is, in terms of the tables
   before it. -/
module

public import proofs.«01_k».proof.Proof.UFrame
public import Idealize.ShloMosaic.Lib.StableHlo.RunRead

@[expose] public section

noncomputable section

namespace Cert.Up

open Cert.Kernel2Ideal Cert.Kernel2Ideal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The vector of one word, over the blocks. -/
abbrev all96 (v : S_.Idx → BitVec 32) : S96.Idx → BitVec 32 := broadcastInDim S96 ![] bcast_S_S96 v
abbrev one (n : BitVec 32) : S_.Idx → BitVec 32 := constantI S_ 32 n
abbrev col (v : S96.Idx → BitVec 32) : S96x1.Idx → BitVec 32 := broadcastInDim S96x1 ![0] bcast_S96_S96x1_0 v
/-- jnp's reading of a negative position from the end. -/
abbrev wrap (v : S96.Idx → BitVec 32) (n : BitVec 32) : S96.Idx → BitVec 32 := select (cmpi .slt v (all96 (one 0#32))) (addi v (all96 (one n))) v

theorem r_arg0 : hostV m c main_arg0 = m (c, main_arg0) := by unfold hostV; after_reads_simp
theorem r_arg1 : hostV m c main_arg1 = m (c, main_arg1) := by unfold hostV; after_reads_simp
theorem r_arg2 : hostV m c main_arg2 = m (c, main_arg2) := by unfold hostV; after_reads_simp
theorem r_arg3 : hostV m c main_arg3 = m (c, main_arg3) := by unfold hostV; after_reads_simp

/-- The host code's first 10 stretches. -/
def pre10 : List (List (HloOp τ sig (Elt F))) := [hostOps0, hostOps0_1, hostOps0_2, hostOps0_3, hostOps0_4, hostOps0_5, hostOps0_6, hostOps0_7, hostOps0_8, hostOps0_9]

/-- The stretches after those. -/
abbrev post10 : List (List (HloOp τ sig (Elt F))) := [hostOps0_10, hostOps0_11, hostOps0_12, hostOps0_13, hostOps0_14, hostOps0_15, hostOps0_16, hostOps0_17]

theorem cut10 (b : Ref sig .tc) : hostV m c b
    = StableHlo.after (post10 (F := F)).flatten
        (StableHlo.after (pre10 (F := F)).flatten (fun b => m (c, b))) b := by
  unfold pre10; rw [← StableHlo.after_append, ← List.flatten_append]; rfl

/-- The host code's first 15 stretches. -/
def pre15 : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]

/-- The stretches after those. -/
abbrev post15 : List (List (HloOp τ sig (Elt F))) := [hostOps0_15, hostOps0_16, hostOps0_17]

theorem cut15 (b : Ref sig .tc) : hostV m c b
    = StableHlo.after (post15 (F := F)).flatten
        (StableHlo.after (pre15 (F := F)).flatten (fun b => m (c, b))) b := by
  unfold pre15; rw [← StableHlo.after_append, ← List.flatten_append]; rfl

theorem r12 : hostV m c main_v12 = iotaInDim S96 32 0 := by unfold hostV; after_reads_simp

theorem r16 : hostV m c main_v16 = minsi (iotaInDim S96 32 0) (all96 (maxsi (hostV m c main_v13 : S_.Idx → BitVec 32) (one 0#32))) := by
  unfold hostV; after_reads_simp

theorem r27 : hostV m c main_v27
    = minsi (Host.reduce IntOp.addi (extui 32 (hostV m c main_v23 : S96x32.Idx → BitVec 1) natLt_1_32) (one 0#32) reducesTo_S96x32_S96_d1 h_S_)
        (all96 (one 31#32)) := by
  unfold hostV; after_reads_simp

theorem r47 : hostV m c main_v47
    = select (cmpi .slt (iotaInDim S96 32 0) (all96 (hostV m c main_v11)))
        (minsi (all96 (one 512#32)) (maxsi (all96 (one 0#32)) (hostV m c main_v43 : S96.Idx → BitVec 32))) (all96 (one 0#32)) := by
  unfold hostV; after_reads_simp; rfl

/-- One word before a vector of 95. -/
def lead (a : S1.Idx → BitVec 32) (b : S95.Idx → BitVec 32) : S96.Idx → BitVec 32 :=
  concatenate S96 0 [⟨S1, a⟩, ⟨S95, b⟩] concatenates_S1_S95_S96_d0

theorem lead_def (a : S1.Idx → BitVec 32) (b : S95.Idx → BitVec 32) :
    concatenate S96 0 [⟨S1, a⟩, ⟨S95, b⟩] concatenates_S1_S95_S96_d0 = lead a b := rfl

theorem s55 (W : Valuation τ sig (Elt F)) : StableHlo.after (post10 (F := F)).flatten W main_v55
    = extui 32 (ori (cmpi .ne (StableHlo.after (post10 (F := F)).flatten W main_v27 : S96.Idx → BitVec 32)
          (lead (broadcastInDim S1 ![] bcast_S_S1 (one 4294967295#32)) (extractStridedSlice S95 ![0] (StableHlo.after (post10 (F := F)).flatten W main_v27 : S96.Idx → BitVec 32) slices_S96_S95_0)))
        (cmpi .eq (StableHlo.after (post10 (F := F)).flatten W main_v12 : S96.Idx → BitVec 32) (all96 (one 0#32)))) natLt_1_32 := by
  after_reads_simp; simp only [lead_def]; after_reads_simp

theorem r55 : hostV m c main_v55
    = extui 32 (ori (cmpi .ne (hostV m c main_v27 : S96.Idx → BitVec 32)
          (lead (broadcastInDim S1 ![] bcast_S_S1 (one 4294967295#32)) (extractStridedSlice S95 ![0] (hostV m c main_v27 : S96.Idx → BitVec 32) slices_S96_S95_0)))
        (cmpi .eq (hostV m c main_v12 : S96.Idx → BitVec 32) (all96 (one 0#32)))) natLt_1_32 := by
  rw [cut10 m c main_v55, cut10 m c main_v27, cut10 m c main_v12]; exact s55 _

theorem s58 (W : Valuation τ sig (Elt F)) : StableHlo.after (post10 (F := F)).flatten W main_v58
    = subi (Host.reduceWindow IntOp.addi ![96] ![1] ![95] ![0] (StableHlo.after (post10 (F := F)).flatten W main_v55 : S96.Idx → BitVec 32)
        (broadcastInDim S_ ![] bcast_S_S_ (one 0#32)) reduceWindows_S96_S96_w96s1p95_0 h_S_) (all96 (one 1#32)) := by
  after_reads_simp; simp -implicitDefEqProofs only [StableHlo.TRef.toBuf, StableHlo.TRef.ofBuf, cast_cast, cast_eq]

theorem r58 : hostV m c main_v58
    = subi (Host.reduceWindow IntOp.addi ![96] ![1] ![95] ![0] (hostV m c main_v55 : S96.Idx → BitVec 32)
        (broadcastInDim S_ ![] bcast_S_S_ (one 0#32)) reduceWindows_S96_S96_w96s1p95_0 h_S_) (all96 (one 1#32)) := by
  rw [cut10 m c main_v58, cut10 m c main_v55]; exact s58 _

/-- The last block's run, counted from one. -/
abbrev total (v : S96.Idx → BitVec 32) : S_.Idx → BitVec 32 :=
  addi (shapeCast S_ (extractStridedSlice S1 ![95] v slices_S96_S1_95) shapeCasts_S1_S_) (one 1#32)

theorem r87 : hostV m c main_v87 = shapeCast S1 (total (hostV m c main_v58)) shapeCasts_S_S1 := by
  unfold hostV; after_reads_simp; rfl

theorem r65 : hostV m c main_v65
    = extui 32 (cmpi .eq (hostV m c main_v58 : S96.Idx → BitVec 32) (all96 (subi (total (hostV m c main_v58)) (one 1#32)))) natLt_1_32 := by
  unfold hostV; after_reads_simp; rfl

theorem s69 (W : Valuation τ sig (Elt F)) : StableHlo.after (post10 (F := F)).flatten W main_v69
    = Host.reduceWindow IntOp.minsi ![96] ![1] ![0] ![95]
        (select (cmpi .eq (StableHlo.after (post10 (F := F)).flatten W main_v55 : S96.Idx → BitVec 32) (all96 (one 1#32))) (StableHlo.after (post10 (F := F)).flatten W main_v12 : S96.Idx → BitVec 32) (all96 (one 96#32)))
        (broadcastInDim S_ ![] bcast_S_S_ (one 2147483647#32)) reduceWindows_S96_S96_w96s1p0_95 h_S_ := by
  after_reads_simp; simp -implicitDefEqProofs only [StableHlo.TRef.toBuf, StableHlo.TRef.ofBuf, cast_cast, cast_eq, id_eq]

theorem r69 : hostV m c main_v69
    = Host.reduceWindow IntOp.minsi ![96] ![1] ![0] ![95]
        (select (cmpi .eq (hostV m c main_v55 : S96.Idx → BitVec 32) (all96 (one 1#32))) (hostV m c main_v12 : S96.Idx → BitVec 32) (all96 (one 96#32)))
        (broadcastInDim S_ ![] bcast_S_S_ (one 2147483647#32)) reduceWindows_S96_S96_w96s1p0_95 h_S_ := by
  rw [cut10 m c main_v69, cut10 m c main_v55, cut10 m c main_v12]; exact s69 _

theorem r72 : hostV m c main_v72
    = concatenate S96 0 [⟨S95, extractStridedSlice S95 ![1] (hostV m c main_v69 : S96.Idx → BitVec 32) slices_S96_S95_1⟩,
        ⟨S1, (broadcastInDim S1 ![] bcast_S_S1 (one 96#32) : S1.Idx → BitVec 32)⟩] concatenates_S95_S1_S96_d0 := by
  unfold hostV; after_reads_simp; rfl

theorem s86 (W : Valuation τ sig (Elt F)) : StableHlo.after (post15 (F := F)).flatten W main_v86
    = select (cmpi .slt (StableHlo.after (post15 (F := F)).flatten W main_v72 : S96.Idx → BitVec 32) (all96 (one 96#32)))
        (Host.gather gather_S96_S96x1_S96_n_0_n_n_0_1_1 (StableHlo.after (post15 (F := F)).flatten W main_v27 : S96.Idx → BitVec 32)
          (col (wrap (minsi (StableHlo.after (post15 (F := F)).flatten W main_v72 : S96.Idx → BitVec 32) (all96 (one 95#32))) 96#32)))
        (all96 (shapeCast S_ (extractStridedSlice S1 ![0] (StableHlo.after (post15 (F := F)).flatten W main_v27 : S96.Idx → BitVec 32) slices_S96_S1_0) shapeCasts_S1_S_)) := by
  after_reads_simp; rfl

theorem r86 : hostV m c main_v86
    = select (cmpi .slt (hostV m c main_v72 : S96.Idx → BitVec 32) (all96 (one 96#32)))
        (Host.gather gather_S96_S96x1_S96_n_0_n_n_0_1_1 (hostV m c main_v27 : S96.Idx → BitVec 32)
          (col (wrap (minsi (hostV m c main_v72 : S96.Idx → BitVec 32) (all96 (one 95#32))) 96#32)))
        (all96 (shapeCast S_ (extractStridedSlice S1 ![0] (hostV m c main_v27 : S96.Idx → BitVec 32) slices_S96_S1_0) shapeCasts_S1_S_)) := by
  rw [cut15 m c main_v86, cut15 m c main_v72, cut15 m c main_v27]; exact s86 _

end Cert.Up
-- ==== Proof.URuns.lean ====
/- Runs of equal entries in a list of experts, in plain arithmetic: where a run starts, which run a block is in, and where
   the next run starts. -/
module

public import Idealize.ShloMosaic.Lib.Routing.OpsOne

@[expose] public section

namespace Cert.Up

/-- One where block `n` starts a run, else zero. -/
def nw (E : ℕ → ℕ) (n : ℕ) : ℕ := if n = 0 ∨ E (n - 1) ≠ E n then 1 else 0
/-- How many runs start at or before block `n`. -/
def rk (E : ℕ → ℕ) (n : ℕ) : ℕ := ((List.range (n + 1)).map (nw E)).sum
/-- The block itself where it starts a run, else the block count. -/
def fp (E : ℕ → ℕ) (n : ℕ) : ℕ := if nw E n = 1 then n else 96
/-- The largest word. -/
abbrev big : ℕ := 2147483647
/-- The least of the window's entries, from the largest word. -/
def least (f : ℕ → ℕ) (N j : ℕ) : ℕ := ((List.range N).map fun w => if j + w < N then f (j + w) else big).foldl min big

theorem nw_zero (E : ℕ → ℕ) : nw E 0 = 1 := if_pos (Or.inl rfl)
theorem nw_le (E : ℕ → ℕ) (n : ℕ) : nw E n ≤ 1 := by unfold nw; split <;> omega
theorem nw_cases (E : ℕ → ℕ) (n : ℕ) : nw E n = 0 ∨ nw E n = 1 := by unfold nw; split <;> omega
theorem nw_same (E : ℕ → ℕ) (n : ℕ) (h : nw E (n + 1) ≠ 1) : E n = E (n + 1) := by
  unfold nw at h
  by_contra hE
  exact h (if_pos (Or.inr hE))

theorem rk_zero (E : ℕ → ℕ) : rk E 0 = 1 := by simp [rk, nw_zero]
theorem rk_succ (E : ℕ → ℕ) (n : ℕ) : rk E (n + 1) = rk E n + nw E (n + 1) := by
  unfold rk
  rw [List.range_succ (n := n + 1), List.map_append, List.sum_append]
  simp
theorem rk_mono (E : ℕ → ℕ) {a b : ℕ} (h : a ≤ b) : rk E a ≤ rk E b := by
  induction b, h using Nat.le_induction with
  | base => exact le_refl _
  | succ b _ ih => rw [rk_succ]; omega
theorem rk_pos (E : ℕ → ℕ) (n : ℕ) : 1 ≤ rk E n := (rk_zero E).symm.le.trans (rk_mono E (Nat.zero_le n))
theorem rk_le (E : ℕ → ℕ) (n : ℕ) : rk E n ≤ n + 1 := by
  induction n with
  | zero => rw [rk_zero]
  | succ n ih => rw [rk_succ]; have := nw_le E (n + 1); omega

theorem foldl_min_le (l : List ℕ) (z x : ℕ) : l.foldl min z ≤ x ↔ z ≤ x ∨ ∃ a ∈ l, a ≤ x := by
  induction l generalizing z with
  | nil => simp
  | cons a l ih =>
    rw [List.foldl_cons, ih, min_le_iff]
    simp only [List.mem_cons, exists_eq_or_imp]
    tauto

theorem least_le (f : ℕ → ℕ) (N j x : ℕ) : least f N j ≤ x ↔ big ≤ x ∨ ∃ n, j ≤ n ∧ n < N ∧ f n ≤ x := by
  unfold least
  rw [foldl_min_le]
  simp only [List.mem_map, List.mem_range, exists_exists_and_eq_and]
  constructor
  · rintro (h | ⟨w, hw, h⟩)
    · exact Or.inl h
    · split at h
      · next hj => exact Or.inr ⟨j + w, by omega, hj, h⟩
      · exact Or.inl h
  · rintro (h | ⟨n, h1, h2, h3⟩)
    · exact Or.inl h
    · refine Or.inr ⟨n - j, by omega, ?_⟩
      rw [show j + (n - j) = n by omega, if_pos h2]
      exact h3

theorem fp_le (E : ℕ → ℕ) (n : ℕ) (h : n < 96) : fp E n ≤ 96 := by unfold fp; split <;> omega
theorem fp_ge (E : ℕ → ℕ) (n : ℕ) (h : n < 96) : n ≤ fp E n := by unfold fp; split <;> omega

/-- The block where the next run starts, or the block count. -/
def np (E : ℕ → ℕ) (n : ℕ) : ℕ := if n < 95 then least (fp E) 96 (n + 1) else 96

theorem least_le_96 (E : ℕ → ℕ) (n : ℕ) (h : n < 96) : least (fp E) 96 n ≤ 96 := (least_le _ _ _ _).2 (Or.inr ⟨n, le_refl _, h, fp_le E n h⟩)
theorem np_le (E : ℕ → ℕ) (n : ℕ) : np E n ≤ 96 := by
  unfold np
  split
  · exact least_le_96 E _ (by omega)
  · exact le_refl _

/-- Where the next block starts a run, the next run starts there. -/
theorem np_new (E : ℕ → ℕ) (n : ℕ) (h : n + 1 < 96) (hn : nw E (n + 1) = 1) : np E n = n + 1 := by
  unfold np
  rw [if_pos (by omega)]
  apply le_antisymm
  · exact (least_le _ _ _ _).2 (Or.inr ⟨n + 1, le_refl _, h, by unfold fp; rw [if_pos hn]⟩)
  · rcases (least_le (fp E) 96 (n + 1) _).1 (le_refl _) with hb | ⟨k, h1, h2, h3⟩
    · have := least_le_96 E (n + 1) h
      unfold big at hb
      omega
    · exact le_trans (le_trans h1 (fp_ge E k h2)) h3

/-- Where it does not, the next block's next run is this block's. -/
theorem np_same (E : ℕ → ℕ) (n : ℕ) (h : n + 1 < 96) (hn : nw E (n + 1) ≠ 1) : np E (n + 1) = np E n := by
  have hf : fp E (n + 1) = 96 := by unfold fp; rw [if_neg hn]
  have e : np E n = least (fp E) 96 (n + 1) := by unfold np; rw [if_pos (by omega)]
  rw [e]
  apply le_antisymm
  · rcases (least_le (fp E) 96 (n + 1) _).1 (le_refl _) with hb | ⟨k, h1, h2, h3⟩
    · have := np_le E (n + 1)
      unfold big at hb
      omega
    · by_cases hk : k = n + 1
      · subst hk
        rw [hf] at h3
        exact (np_le E _).trans h3
      · unfold np
        rw [if_pos (by omega)]
        exact (least_le _ _ _ _).2 (Or.inr ⟨k, by omega, h2, h3⟩)
  · unfold np
    split
    · refine (least_le _ _ _ _).2 ?_
      rcases (least_le (fp E) 96 (n + 1 + 1) _).1 (le_refl _) with hb | ⟨k, h1, h2, h3⟩
      · exact Or.inl hb
      · exact Or.inr ⟨k, by omega, h2, h3⟩
    · exact least_le_96 E _ h

/-- The next run's expert: the first block's where no run is left. -/
def nxt (E : ℕ → ℕ) (n : ℕ) : ℕ := if np E n < 96 then E (np E n) else E 0

theorem np_last (E : ℕ → ℕ) : np E 95 = 96 := if_neg (lt_irrefl 95)
theorem nxt_last (E : ℕ → ℕ) : nxt E 95 = E 0 := by
  unfold nxt
  rw [np_last, if_neg (lt_irrefl 96)]

end Cert.Up
-- ==== Proof.UTabs.lean ====
/- The expert-up kernel's tables in numbers: the host's words read as small naturals, the runs they spell out, and the
   block indices they give. -/
module

public import proofs.«01_k».proof.Proof.UReads
public import proofs.«01_k».proof.Proof.URuns
public import Idealize.ShloMosaic.Lib.Routing.OpsSet

@[expose] public section

noncomputable section

namespace Cert.Up

open Cert.Kernel2Ideal Cert.Kernel2Ideal.Gen
open Idealize.ShloMosaic Idealize.ShloMosaic.TcCoe Idealize.ShloMosaic.Tactic
open Idealize.ShloMosaic.Routing (shape0 shape1)
open Idealize.ShloMosaic.StableHlo (Predicate.toInt_ofNat_small Predicate.slt_ofNat_iff Predicate.sle_ofNat_iff)

/-! ## Words -/

theorem toNat_small (n : ℕ) (h : n < 2 ^ 32) : (BitVec.ofNat 32 n).toNat = n := by rw [BitVec.toNat_ofNat]; exact Nat.mod_eq_of_lt h

theorem minsi_small (a b : ℕ) (ha : a < 2 ^ 31) (hb : b < 2 ^ 31) :
    IntOp.minsi (BitVec.ofNat 32 a) (BitVec.ofNat 32 b) = BitVec.ofNat 32 (min a b) := by
  have e1 := Predicate.toInt_ofNat_small a ha
  have e2 := Predicate.toInt_ofNat_small b hb
  unfold IntOp.minsi
  split <;> rename_i hc <;> simp only [BitVec.slt, e1, e2, decide_eq_true_eq] at hc
  · rw [min_eq_left (by omega)]
  · rw [min_eq_right (by omega)]

theorem word_of_nonneg (w : BitVec 32) (h : 0 ≤ w.toInt) : w = BitVec.ofNat 32 w.toInt.toNat := by
  have hw := BitVec.isLt w
  have hi := BitVec.toInt_eq_toNat_cond w
  split at hi
  · rw [hi, Int.toNat_natCast]
    apply BitVec.eq_of_toNat_eq
    rw [BitVec.toNat_ofNat, Nat.mod_eq_of_lt hw]
  · omega

theorem maxsi_zero (w : BitVec 32) : IntOp.maxsi w 0#32 = BitVec.ofNat 32 w.toInt.toNat := by
  have h0 : (0#32 : BitVec 32).toInt = 0 := by decide
  unfold IntOp.maxsi
  split <;> rename_i hc <;> simp only [BitVec.slt, h0, decide_eq_true_eq] at hc
  · exact word_of_nonneg w (by omega)
  · rw [show w.toInt.toNat = 0 by omega]

theorem maxsi_zero' (w : BitVec 32) : IntOp.maxsi 0#32 w = BitVec.ofNat 32 w.toInt.toNat := by
  have h0 : (0#32 : BitVec 32).toInt = 0 := by decide
  unfold IntOp.maxsi
  split <;> rename_i hc <;> simp only [BitVec.slt, h0, decide_eq_true_eq] at hc
  · rw [show w.toInt.toNat = 0 by omega]
  · exact word_of_nonneg w (by omega)

theorem toInt_toNat_lt (w : BitVec 32) : w.toInt.toNat < 2 ^ 31 := by
  have := BitVec.toInt_lt (x := w)
  simp at this
  omega

theorem small_inj (a b : ℕ) (ha : a < 2 ^ 31) (hb : b < 2 ^ 31) : BitVec.ofNat 32 a = BitVec.ofNat 32 b ↔ a = b := by
  constructor
  · intro h
    have := congrArg BitVec.toNat h
    rwa [toNat_small a (by omega), toNat_small b (by omega)] at this
  · rintro rfl; rfl

theorem cond_bit (b : BitVec 1) : Scalar.cmpi .ne (Scalar.extui b : BitVec 32) 0#32 = 1#1 ↔ b = 1#1 := by revert b; decide
theorem and_bit (a b : BitVec 1) : Scalar.andi a b = 1#1 ↔ a = 1#1 ∧ b = 1#1 := by revert a b; decide
theorem extui_bit (b : BitVec 1) : (b.setWidth 32 : BitVec 32) = BitVec.ofNat 32 (if b = 1#1 then 1 else 0) := by revert b; decide

theorem sgt_small (a b : ℕ) (ha : a < 2 ^ 31) (hb : b < 2 ^ 31) : Scalar.cmpi .sgt (BitVec.ofNat 32 a) (BitVec.ofNat 32 b) = 1#1 ↔ b < a := by
  have h := StableHlo.Predicate.sgt_iff_toNat (a := BitVec.ofNat 32 a) (b := BitVec.ofNat 32 b)
    (by rw [toNat_small a (by omega)]; exact ha) (by rw [toNat_small b (by omega)]; exact hb)
  rw [toNat_small a (by omega), toNat_small b (by omega)] at h
  exact h

theorem sle_small (a b : ℕ) (ha : a < 2 ^ 31) (hb : b < 2 ^ 31) : IntOp.cmpi .sle (BitVec.ofNat 32 a) (BitVec.ofNat 32 b) = 1#1 ↔ a ≤ b := by
  have h := StableHlo.Predicate.sle_iff_toNat (a := BitVec.ofNat 32 a) (b := BitVec.ofNat 32 b)
    (by rw [toNat_small a (by omega)]; exact ha) (by rw [toNat_small b (by omega)]; exact hb)
  rw [toNat_small a (by omega), toNat_small b (by omega)] at h
  exact h

theorem slt_small (a b : ℕ) (ha : a < 2 ^ 31) (hb : b < 2 ^ 31) : IntOp.cmpi .slt (BitVec.ofNat 32 a) (BitVec.ofNat 32 b) = 1#1 ↔ a < b := by
  have h := StableHlo.Predicate.slt_iff_toNat (a := BitVec.ofNat 32 a) (b := BitVec.ofNat 32 b)
    (by rw [toNat_small a (by omega)]; exact ha) (by rw [toNat_small b (by omega)]; exact hb)
  rw [toNat_small a (by omega), toNat_small b (by omega)] at h
  exact h

/-- Which of the five ways a number of rows takes. -/
def kOf (n : ℕ) : Fin 5 := if n = 0 then 0 else if n ≤ 128 then 1 else if n ≤ 256 then 2 else if n ≤ 384 then 3 else 4

theorem cls_kOf (n : ℕ) (h : n ≤ 512) : cls (BitVec.ofNat 32 n) (kOf n) := by
  have c5 : k0_cond5 (BitVec.ofNat 32 n) = 1#1 ↔ n ≤ 0 := (cond_bit _).trans (sle_small n 0 (by omega) (by omega))
  have rng : ∀ lo hi : ℕ, lo < 2 ^ 31 → hi < 2 ^ 31 →
      (Scalar.cmpi .ne (Scalar.extui (Scalar.andi (Scalar.cmpi .sgt (BitVec.ofNat 32 n) (BitVec.ofNat 32 lo))
        (Scalar.cmpi .sle (BitVec.ofNat 32 n) (BitVec.ofNat 32 hi))) : BitVec 32) 0#32 = 1#1 ↔ lo < n ∧ n ≤ hi) := fun lo hi h1 h2 =>
    (cond_bit _).trans ((and_bit _ _).trans (and_congr (sgt_small n lo (by omega) h1) (sle_small n hi (by omega) h2)))
  have c6 : k0_cond6 (BitVec.ofNat 32 n) = 1#1 ↔ 0 < n ∧ n ≤ 128 := rng 0 128 (by omega) (by omega)
  have c7 : k0_cond7 (BitVec.ofNat 32 n) = 1#1 ↔ 128 < n ∧ n ≤ 256 := rng 128 256 (by omega) (by omega)
  have c8 : k0_cond8 (BitVec.ofNat 32 n) = 1#1 ↔ 256 < n ∧ n ≤ 384 := rng 256 384 (by omega) (by omega)
  have c9 : k0_cond9 (BitVec.ofNat 32 n) = 1#1 ↔ 384 < n ∧ n ≤ 512 := rng 384 512 (by omega) (by omega)
  unfold cls kOf
  rw [c5, c6, c7, c8, c9]
  split
  · refine ⟨?_, ?_, ?_, ?_, ?_⟩ <;> simp <;> omega
  · split
    · refine ⟨?_, ?_, ?_, ?_, ?_⟩ <;> simp <;> omega
    · split
      · refine ⟨?_, ?_, ?_, ?_, ?_⟩ <;> simp <;> omega
      · split
        · refine ⟨?_, ?_, ?_, ?_, ?_⟩ <;> simp <;> omega
        · refine ⟨?_, ?_, ?_, ?_, ?_⟩ <;> simp <;> omega

/-! ## The window of minima -/

theorem foldl_minsi {ι : Type} (l : List ι) (g : ι → BitVec 32) (f : ι → ℕ) (hg : ∀ a ∈ l, g a = BitVec.ofNat 32 (f a)) (hf : ∀ a ∈ l, f a < 2 ^ 31)
    (v : BitVec 32) (z : ℕ) (hv : v = BitVec.ofNat 32 z) (hz : z < 2 ^ 31) :
    l.foldl (fun r a => IntOp.minsi r (g a)) v = BitVec.ofNat 32 ((l.map f).foldl min z) := by
  induction l generalizing v z with
  | nil => exact hv
  | cons a l ih =>
    rw [List.foldl_cons, List.map_cons, List.foldl_cons]
    exact ih (fun b hb => hg b (List.mem_cons_of_mem _ hb)) (fun b hb => hf b (List.mem_cons_of_mem _ hb)) _ _
      (by rw [hv, hg a List.mem_cons_self, minsi_small z _ hz (hf a List.mem_cons_self)]) (lt_of_le_of_lt (min_le_left _ _) hz)

/-- The running minimum from the right of a vector that holds small naturals. -/
theorem cummin_small {N Nm1 : Nat} (hN : Nm1 + 1 = N) (x : IVec (shape1 N) 32) (f : ℕ → ℕ) (hf : ∀ n < N, f n < 2 ^ 31)
    (hx : ∀ i : Fin N, x (ix1 i) = BitVec.ofNat 32 (f i.val)) (init : IVec shape0 32) (hinit : init ix0 = BitVec.ofNat 32 big)
    (h : (shape1 N).ReduceWindows (![N] : Fin 1 → Nat) ![1] ![0] ![Nm1] (shape1 N)) (hu : 0 < shape0.numel) (j : Fin N) :
    Host.reduceWindow IntOp.minsi ![N] ![1] ![0] ![Nm1] x init h hu (ix1 j) = BitVec.ofNat 32 (least f N j.val) := by
  have hv : init (Shape.Idx.first hu) = BitVec.ofNat 32 big := (congrArg init (funext fun a => a.elim0)).trans hinit
  have hj := j.isLt
  unfold Host.reduceWindow
  refine (foldl_minsi _ _ (fun n => if j.val + n.val < N then f (j.val + n.val) else big) (fun n _ => ?_) (fun n _ => ?_) _ big hv (by unfold big; omega)).trans ?_
  · have hw : ((shape1 N).rowMajor.symm n 0).val = n.val := by rw [Routing.symm1]; rfl
    dsimp only
    split
    · next hin =>
      have h0 := (hin 0).2
      change j.val * 1 + ((shape1 N).rowMajor.symm n 0).val - 0 < N at h0
      rw [hw] at h0
      rw [if_pos (by omega)]
      refine (congrArg x (funext fun a => Fin.ext ?_)).trans (hx ⟨j.val + n.val, by omega⟩)
      match a with
      | ⟨0, _⟩ =>
        show j.val * 1 + ((shape1 N).rowMajor.symm n 0).val - 0 = j.val + n.val
        rw [hw, Nat.mul_one, Nat.sub_zero]
    · next hin =>
      rw [if_neg fun hle => hin fun a => by
        match a with
        | ⟨0, _⟩ =>
          show 0 ≤ j.val * 1 + ((shape1 N).rowMajor.symm n 0).val ∧ j.val * 1 + ((shape1 N).rowMajor.symm n 0).val - 0 < N
          rw [hw]
          omega]
      exact hv
  · dsimp only
    split
    · next hlt => exact hf _ hlt
    · unfold big; omega
  · unfold least
    rw [Routing.map_finRange_val _ (fun n => if j.val + n < N then f (j.val + n) else big)]
    exact congrArg (fun M => BitVec.ofNat 32 (((List.range M).map fun n => if j.val + n < N then f (j.val + n) else big).foldl min big)) (Routing.numel1 N)

end Cert.Up
-- ==== Proof.UTables.lean ====
/- The expert-up kernel's tables: each block's expert, row count, run and next run, as numbers, and the schedule they make. -/
module

public import proofs.«01_k».proof.Proof.UTabs
public import Idealize.ShloMosaic.Lib.Pipeline.Value

@[expose] public section

noncomputable section

namespace Cert.Up

open Cert.Kernel2Ideal Cert.Kernel2Ideal.Gen
open Idealize.ShloMosaic Idealize.ShloMosaic.TcCoe Idealize.ShloMosaic.Tactic
open Idealize.ShloMosaic.Routing (shape0 shape1 shape2)

variable {F : FTy → Type} [FloatOps F]
variable (m : (ℓ : Loc nD τ sig) → Buf (Elt F) ℓ) (c : Dev nD)

local notation "𝕋" => S96.Idx → BitVec 32

theorem all96_at (v : S_.Idx → BitVec 32) (j : S96.Idx) : all96 v j = v ix0 := Routing.bc0 _ _ _

theorem select_if {α : Type} (p : BitVec 1) (x y : α) : Scalar.select p x y = if p = 1#1 then x else y := rfl

theorem lead_zero (a : S1.Idx → BitVec 32) (b : S95.Idx → BitVec 32) : lead a b (ix1 0) = a (ix1 0) :=
  concatenate_pair_apply_left (t := S96) 0 a b concatenates_S1_S95_S96_d0 (ix1 0) rfl (ix1 0) fun x => by
    match x with
    | ⟨0, _⟩ => rfl

theorem lead_succ (a : S1.Idx → BitVec 32) (b : S95.Idx → BitVec 32) (j : Fin 96) (k : Fin 95) (h : j.val = k.val + 1) : lead a b (ix1 j) = b (ix1 k) :=
  concatenate_pair_apply_right (t := S96) 0 a b concatenates_S1_S95_S96_d0 (ix1 j) rfl rfl (ix1 k)
    (fun x hx => by
      match x with
      | ⟨0, _⟩ => exact absurd rfl hx)
    h.symm

theorem trail_low (a : S95.Idx → BitVec 32) (b : S1.Idx → BitVec 32) (j : Fin 96) (k : Fin 95) (h : j.val = k.val) :
    concatenate S96 0 [⟨S95, a⟩, ⟨S1, b⟩] concatenates_S95_S1_S96_d0 (ix1 j) = a (ix1 k) :=
  concatenate_pair_apply_left (t := S96) 0 a b concatenates_S95_S1_S96_d0 (ix1 j) rfl (ix1 k) fun x => by
    match x with
    | ⟨0, _⟩ => exact h.symm

theorem trail_last (a : S95.Idx → BitVec 32) (b : S1.Idx → BitVec 32) :
    concatenate S96 0 [⟨S95, a⟩, ⟨S1, b⟩] concatenates_S95_S1_S96_d0 (ix1 95) = b (ix1 0) :=
  concatenate_pair_apply_right (t := S96) 0 a b concatenates_S95_S1_S96_d0 (ix1 95) rfl rfl (ix1 0)
    (fun x hx => by
      match x with
      | ⟨0, _⟩ => exact absurd rfl hx)
    rfl

theorem cast1 (v : S1.Idx → BitVec 32) : shapeCast S_ v shapeCasts_S1_S_ ix0 = v (ix1 0) :=
  congrArg v (funext fun a => by
    match a with
    | ⟨0, _⟩ => exact Subsingleton.elim (α := Fin 1) _ _)

theorem cast0 (v : S_.Idx → BitVec 32) : shapeCast S1 v shapeCasts_S_S1 (ix1 0) = v ix0 := congrArg v (funext fun a => a.elim0)

theorem slice_95 (v : 𝕋) : extractStridedSlice S1 ![95] v slices_S96_S1_95 (ix1 0) = v (ix1 95) := Routing.slice1 95 v _ (0 : Fin 1) (by decide)
theorem slice_0 (v : 𝕋) : extractStridedSlice S1 ![0] v slices_S96_S1_0 (ix1 0) = v (ix1 0) := Routing.slice1 0 v _ (0 : Fin 1) (by decide)
theorem slice_low (v : 𝕋) (k : Fin 95) (j : Fin 96) (h : j.val = k.val) : extractStridedSlice S95 ![0] v slices_S96_S95_0 (ix1 k) = v (ix1 j) :=
  (Routing.slice1 0 v _ k (by omega)).trans (congrArg (fun x : Fin 96 => v (ix1 x)) (Fin.ext (by show 0 + k.val = j.val; omega)))
theorem slice_high (v : 𝕋) (k : Fin 95) (j : Fin 96) (h : j.val = k.val + 1) : extractStridedSlice S95 ![1] v slices_S96_S95_1 (ix1 k) = v (ix1 j) :=
  (Routing.slice1 1 v _ k (by omega)).trans (congrArg (fun x : Fin 96 => v (ix1 x)) (Fin.ext (by show 1 + k.val = j.val; omega)))

theorem or_bit (p q : BitVec 1) : IntOp.ori p q = 1#1 ↔ q = 1#1 ∨ p = 1#1 := by revert p q; decide
theorem ne_bit (p q : BitVec 32) : IntOp.cmpi .ne p q = 1#1 ↔ p ≠ q := by
  simp only [IntOp.cmpi, StableHlo.Predicate.ofBool_eq_one_iff, bne_iff_ne]

/-! ## The steps, on any vectors -/

section
variable (v w : 𝕋) (E : ℕ → ℕ) (b : Fin 96)

/-- Where each block's entry differs from the one before. -/
theorem new_at (hE : ∀ n, E n < 2 ^ 31) (hv : ∀ b : Fin 96, v (ix1 b) = BitVec.ofNat 32 (E b.val)) (a : S1.Idx → BitVec 32) :
    extui 32 (ori (cmpi .ne v (lead a (extractStridedSlice S95 ![0] v slices_S96_S95_0))) (cmpi .eq (iotaInDim S96 32 0) (all96 (one 0#32)))) natLt_1_32 (ix1 b)
      = BitVec.ofNat 32 (nw E b.val) := by
  show (IntOp.ori (IntOp.cmpi .ne (v (ix1 b)) (lead a _ (ix1 b))) (IntOp.cmpi .eq (BitVec.ofNat 32 b.val) (all96 (one 0#32) (ix1 b)))).setWidth 32 = _
  rw [all96_at, extui_bit]
  have hq : IntOp.cmpi .eq (BitVec.ofNat 32 b.val) (one 0#32 ix0) = 1#1 ↔ b.val = 0 :=
    StableHlo.Predicate.cmpi_eq_iff.trans (small_inj b.val 0 (by omega) (by decide))
  congr 1
  unfold nw
  refine if_congr ((or_bit _ _).trans ?_) rfl rfl
  rw [hq, ne_bit]
  by_cases h0 : b.val = 0
  · simp only [h0, true_or]
  · refine or_congr Iff.rfl (not_congr ?_)
    have hb := b.isLt
    rw [lead_succ _ _ b ⟨b.val - 1, by omega⟩ (by show b.val = b.val - 1 + 1; omega), slice_low v _ ⟨b.val - 1, by omega⟩ rfl, hv, hv,
      small_inj _ _ (hE _) (hE _)]
    exact eq_comm

/-- The runs counted up to each block, from zero. -/
theorem run_at (hv : ∀ b : Fin 96, v (ix1 b) = BitVec.ofNat 32 (nw E b.val)) :
    subi (Host.reduceWindow IntOp.addi ![96] ![1] ![95] ![0] v (broadcastInDim S_ ![] bcast_S_S_ (one 0#32)) reduceWindows_S96_S96_w96s1p95_0 h_S_)
      (all96 (one 1#32)) (ix1 b) = BitVec.ofNat 32 (rk E b.val - 1) := by
  have h1 := rk_pos E b.val
  have h2 := rk_le E b.val
  have e : Host.reduceWindow IntOp.addi ![96] ![1] ![95] ![0] v (broadcastInDim S_ ![] bcast_S_S_ (one 0#32)) reduceWindows_S96_S96_w96s1p95_0 h_S_ (ix1 b)
      = BitVec.ofNat 32 (rk E b.val) := Routing.cumsum1 (by rfl) v (nw E) hv _ (Routing.bc0 _ _ _) _ _ b
  show IntOp.subi (Host.reduceWindow IntOp.addi ![96] ![1] ![95] ![0] v _ _ _ (ix1 b)) (all96 (one 1#32) (ix1 b)) = _
  rw [all96_at, e]
  exact StableHlo.Predicate.sub_one_ofNat _ h1 (by have := b.isLt; omega)

theorem total_at (hv : ∀ b : Fin 96, v (ix1 b) = BitVec.ofNat 32 (rk E b.val - 1)) : total v ix0 = BitVec.ofNat 32 (rk E 95) := by
  have h1 := rk_pos E 95
  show IntOp.addi (shapeCast S_ _ shapeCasts_S1_S_ ix0) 1#32 = _
  rw [cast1, slice_95, hv]
  show BitVec.ofNat 32 (rk E 95 - 1) + BitVec.ofNat 32 1 = _
  rw [← BitVec.ofNat_add, Nat.sub_add_cancel h1]

theorem last_at (hv : ∀ b : Fin 96, v (ix1 b) = BitVec.ofNat 32 (rk E b.val - 1)) :
    extui 32 (cmpi .eq v (all96 (subi (total v) (one 1#32)))) natLt_1_32 (ix1 b) = BitVec.ofNat 32 (if rk E b.val = rk E 95 then 1 else 0) := by
  show (IntOp.cmpi .eq (v (ix1 b)) (all96 (subi (total v) (one 1#32)) (ix1 b))).setWidth 32 = _
  rw [all96_at, extui_bit]
  congr 1
  refine if_congr ?_ rfl rfl
  rw [StableHlo.Predicate.cmpi_eq_iff, hv]
  show _ = IntOp.subi (total v ix0) 1#32 ↔ _
  rw [total_at v E hv]
  have hb := b.isLt
  have h1 := rk_pos E b.val
  have h2 := rk_le E b.val
  have h3 := rk_pos E 95
  have h4 := rk_le E 95
  rw [show IntOp.subi (BitVec.ofNat 32 (rk E 95)) 1#32 = BitVec.ofNat 32 (rk E 95 - 1) from
    StableHlo.Predicate.sub_one_ofNat _ h3 (by omega), small_inj _ _ (by omega) (by omega)]
  omega

theorem first_at (hv : ∀ b : Fin 96, v (ix1 b) = BitVec.ofNat 32 (nw E b.val)) :
    Host.reduceWindow IntOp.minsi ![96] ![1] ![0] ![95] (select (cmpi .eq v (all96 (one 1#32))) (iotaInDim S96 32 0) (all96 (one 96#32)))
      (broadcastInDim S_ ![] bcast_S_S_ (one 2147483647#32)) reduceWindows_S96_S96_w96s1p0_95 h_S_ (ix1 b) = BitVec.ofNat 32 (least (fp E) 96 b.val) := by
  refine cummin_small (by rfl) _ (fp E) (fun n hn => lt_of_le_of_lt (fp_le _ n hn) (by decide)) (fun i => ?_) _ (Routing.bc0 _ _ _) _ _ b
  show Scalar.select (IntOp.cmpi .eq (v (ix1 i)) (all96 (one 1#32) (ix1 i))) (BitVec.ofNat 32 i.val) (all96 (one 96#32) (ix1 i)) = _
  rw [all96_at, all96_at, hv, select_if]
  unfold fp
  have hl := nw_le E i.val
  have e : IntOp.cmpi .eq (BitVec.ofNat 32 (nw E i.val)) (one 1#32 ix0) = 1#1 ↔ nw E i.val = 1 :=
    StableHlo.Predicate.cmpi_eq_iff.trans (small_inj _ 1 (by omega) (by decide))
  by_cases hn : nw E i.val = 1
  · rw [if_pos (e.2 hn), if_pos hn]
  · rw [if_neg (fun h => hn (e.1 h)), if_neg hn]; rfl

theorem nextPos_at (hv : ∀ b : Fin 96, v (ix1 b) = BitVec.ofNat 32 (least (fp E) 96 b.val)) :
    concatenate S96 0 [⟨S95, extractStridedSlice S95 ![1] v slices_S96_S95_1⟩, ⟨S1, (broadcastInDim S1 ![] bcast_S_S1 (one 96#32) : S1.Idx → BitVec 32)⟩]
      concatenates_S95_S1_S96_d0 (ix1 b) = BitVec.ofNat 32 (np E b.val) := by
  unfold np
  by_cases hb : b.val < 95
  · rw [if_pos hb, trail_low _ _ b ⟨b.val, hb⟩ rfl, slice_high v _ ⟨b.val + 1, by omega⟩ rfl, hv]
  · have hb' := b.isLt
    rw [if_neg hb, show b = 95 from Fin.ext (by show b.val = 95; omega), trail_last]
    exact Routing.bc0 _ _ _

theorem wrap_at (n : BitVec 32) (x : ℕ) (hx : x < 2 ^ 31) (j : S96.Idx) (hv : v j = BitVec.ofNat 32 x) : wrap v n j = BitVec.ofNat 32 x := by
  show Scalar.select (IntOp.cmpi .slt (v j) (all96 (one 0#32) j)) (addi v _ j) (v j) = _
  have e : ¬ IntOp.cmpi .slt (BitVec.ofNat 32 x) (one 0#32 ix0) = 1#1 := fun h => absurd ((slt_small x 0 hx (by decide)).1 h) (Nat.not_lt_zero _)
  rw [hv, all96_at, select_if, if_neg e]

theorem next_at (hv : ∀ b : Fin 96, v (ix1 b) = BitVec.ofNat 32 (E b.val)) (hw : ∀ b : Fin 96, w (ix1 b) = BitVec.ofNat 32 (np E b.val)) :
    select (cmpi .slt w (all96 (one 96#32)))
      (Host.gather gather_S96_S96x1_S96_n_0_n_n_0_1_1 v (col (wrap (minsi w (all96 (one 95#32))) 96#32)))
      (all96 (shapeCast S_ (extractStridedSlice S1 ![0] v slices_S96_S1_0) shapeCasts_S1_S_)) (ix1 b) = BitVec.ofNat 32 (nxt E b.val) := by
  have hn := np_le E b.val
  have hm : minsi w (all96 (one 95#32)) (ix1 b) = BitVec.ofNat 32 (min (np E b.val) 95) := by
    show IntOp.minsi (w (ix1 b)) (all96 (one 95#32) (ix1 b)) = _
    rw [all96_at, hw]
    exact minsi_small _ 95 (by omega) (by decide)
  have hg : Host.gather gather_S96_S96x1_S96_n_0_n_n_0_1_1 v (col (wrap (minsi w (all96 (one 95#32))) 96#32)) (ix1 b)
      = v (ix1 ⟨min (np E b.val) 95, by omega⟩) :=
    Routing.gather_take1 _ rfl rfl rfl rfl v _ b ⟨min (np E b.val) 95, by omega⟩
      ((Routing.bcCol _ _ b).trans (wrap_at _ 96#32 _ (by omega) _ hm)) (by decide)
  show Scalar.select (IntOp.cmpi .slt (w (ix1 b)) (all96 (one 96#32) (ix1 b))) (Host.gather _ v _ (ix1 b)) (all96 _ (ix1 b)) = _
  rw [hg, all96_at, all96_at, hw, hv, cast1, slice_0, hv, select_if]
  have e : IntOp.cmpi .slt (BitVec.ofNat 32 (np E b.val)) (one 96#32 ix0) = 1#1 ↔ np E b.val < 96 := slt_small _ 96 (by omega) (by decide)
  unfold nxt
  by_cases h : np E b.val < 96
  · rw [if_pos (e.2 h), if_pos h]
    show BitVec.ofNat 32 (E (min (np E b.val) 95)) = _
    rw [min_eq_left (by omega)]
  · rw [if_neg (fun h' => h (e.1 h')), if_neg h]; rfl

end

/-! ## The kernel's tables -/

/-- Whether expert `q`'s rows end at or before block `b`'s first row. -/
def stops : S96x32.Idx → BitVec 1 := hostV m c main_v23
/-- How many experts end at or before block `b`'s first row. -/
def cnt (b : Fin 96) : ℕ := (Finset.univ.filter fun q : Fin 32 => stops m c (ix2 b q) = 1#1).card
theorem cnt_le (b : Fin 96) : cnt m c b ≤ 32 := (Finset.card_le_univ _).trans (by simp)
/-- The expert of block `b`. -/
def ex (b : Fin 96) : Fin 32 := ⟨min (cnt m c b) 31, by omega⟩
/-- The same, over the naturals. -/
def exN (n : ℕ) : ℕ := if h : n < 96 then (ex m c ⟨n, h⟩).val else 0
theorem exN_val (b : Fin 96) : exN m c b.val = (ex m c b).val := dif_pos b.isLt
theorem exN_lt (n : ℕ) : exN m c n < 32 := by unfold exN; split <;> omega

theorem w27 (b : Fin 96) : (hostV m c main_v27 : 𝕋) (ix1 b) = BitVec.ofNat 32 (exN m c b.val) := by
  rw [exN_val, r27]
  have h1 : (Host.reduce IntOp.addi (extui 32 (hostV m c main_v23 : S96x32.Idx → BitVec 1) natLt_1_32) (one 0#32) reducesTo_S96x32_S96_d1 h_S_ (ix1 b) : BitVec 32)
      = BitVec.ofNat 32 (cnt m c b) := by
    apply BitVec.eq_of_toNat_eq
    rw [toNat_small _ (by have := cnt_le m c b; omega)]
    refine (StableHlo.Predicate.toNat_reduce_count_cols (by decide) (stops m c) natLt_1_32 reducesTo_S96x32_S96_d1 h_S_ (ix1 b)).trans ?_
    refine congrArg Finset.card (Finset.filter_congr fun q _ => ?_)
    show stops m c (StableHlo.Predicate.ij b q) = 1#1 ↔ _
    rw [Routing.ij_eq_ix2]
    exact Iff.rfl
  show IntOp.minsi _ (all96 (one 31#32) (ix1 b)) = _
  rw [h1, all96_at]
  exact minsi_small _ 31 (by have := cnt_le m c b; omega) (by decide)

theorem w16 (b : Fin 96) : (hostV m c main_v16 : 𝕋) (ix1 b) = BitVec.ofNat 32 (min b.val ((hostV m c main_v13 : S_.Idx → BitVec 32) ix0).toInt.toNat) := by
  rw [r16]
  show IntOp.minsi (BitVec.ofNat 32 b.val) (all96 _ (ix1 b)) = _
  rw [all96_at]
  show IntOp.minsi _ (IntOp.maxsi _ 0#32) = _
  rw [maxsi_zero]
  exact minsi_small _ _ (by omega) (toInt_toNat_lt _)

/-- The rows of block `b` that hold tokens. -/
def nv (b : Fin 96) : ℕ :=
  if IntOp.cmpi .slt (BitVec.ofNat 32 b.val) ((hostV m c main_v11 : S_.Idx → BitVec 32) ix0) = 1#1
  then min 512 ((hostV m c main_v43 : 𝕋) (ix1 b)).toInt.toNat else 0
theorem nv_le (b : Fin 96) : nv m c b ≤ 512 := by unfold nv; split <;> omega

theorem w47 (b : Fin 96) : (hostV m c main_v47 : 𝕋) (ix1 b) = BitVec.ofNat 32 (nv m c b) := by
  rw [r47]
  show Scalar.select (IntOp.cmpi .slt (BitVec.ofNat 32 b.val) (all96 _ (ix1 b))) (IntOp.minsi (all96 _ (ix1 b)) (IntOp.maxsi (all96 _ (ix1 b)) _)) (all96 _ (ix1 b)) = _
  rw [all96_at, all96_at, all96_at]
  show Scalar.select _ (IntOp.minsi 512#32 (IntOp.maxsi 0#32 _)) 0#32 = _
  rw [maxsi_zero', select_if, minsi_small 512 _ (by decide) (toInt_toNat_lt _)]
  unfold nv
  split <;> rfl

theorem exN_small (n : ℕ) : exN m c n < 2 ^ 31 := (exN_lt m c n).trans (by decide)

theorem w55 (b : Fin 96) : (hostV m c main_v55 : 𝕋) (ix1 b) = BitVec.ofNat 32 (nw (exN m c) b.val) := by
  rw [r55, r12]
  exact new_at _ _ b (exN_small m c) (w27 m c) _

theorem w58 (b : Fin 96) : (hostV m c main_v58 : 𝕋) (ix1 b) = BitVec.ofNat 32 (rk (exN m c) b.val - 1) := by
  rw [r58]
  exact run_at _ _ b (w55 m c)

theorem w87 : (hostV m c main_v87 : S1.Idx → BitVec 32) (ix1 0) = BitVec.ofNat 32 (rk (exN m c) 95) := by
  rw [r87, cast0]
  exact total_at _ _ (w58 m c)

theorem w65 (b : Fin 96) : (hostV m c main_v65 : 𝕋) (ix1 b) = BitVec.ofNat 32 (if rk (exN m c) b.val = rk (exN m c) 95 then 1 else 0) := by
  rw [r65]
  exact last_at _ _ b (w58 m c)

theorem w69 (b : Fin 96) : (hostV m c main_v69 : 𝕋) (ix1 b) = BitVec.ofNat 32 (least (fp (exN m c)) 96 b.val) := by
  rw [r69, r12]
  exact first_at _ _ b (w55 m c)

theorem w72 (b : Fin 96) : (hostV m c main_v72 : 𝕋) (ix1 b) = BitVec.ofNat 32 (np (exN m c) b.val) := by
  rw [r72]
  exact nextPos_at _ _ b (w69 m c)

theorem w86 (b : Fin 96) : (hostV m c main_v86 : 𝕋) (ix1 b) = BitVec.ofNat 32 (nxt (exN m c) b.val) := by
  rw [r86]
  exact next_at _ _ _ b (w27 m c) (w72 m c)

theorem nxt_lt (n : ℕ) : nxt (exN m c) n < 32 := by unfold nxt; split <;> exact exN_lt m c _

theorem k47 (it : Fin 96) : cls ((hostV m c main_v47 : 𝕋) (ix1 it)) (kOf (nv m c it)) := by
  have h := cls_kOf _ (nv_le m c it)
  rw [← w47 m c it] at h
  exact h

attribute [local irreducible] ex exN nxt rk nw np

theorem last_nx : nxt (exN m c) ((95 : Fin 96)).val = (ex m c 0).val := (nxt_last (exN m c)).trans (exN_val m c 0)

theorem w65_last : (hostV m c main_v65 : 𝕋) (ix1 95) = 1#32 :=
  (w65 m c 95).trans (congrArg (BitVec.ofNat 32) (if_pos rfl))

set_option maxHeartbeats 800000 in
/-- The schedule the tables make. -/
def sched : Sched (hostV m c main_v27) (hostV m c main_v47) (hostV m c main_v55) (hostV m c main_v58) (hostV m c main_v65) (hostV m c main_v86)
    (hostV m c main_v87) where
  e it := ex m c it
  nx it := ⟨nxt (exN m c) it.val, nxt_lt m c _⟩
  rn it := rk (exN m c) it.val - 1
  n := rk (exN m c) 95
  k it := kOf (nv m c it)
  he it := (w27 m c it).trans (by rw [exN_val])
  hnx it := w86 m c it
  hrn it := w58 m c it
  hn := w87 m c
  rn_lt it := by have := rk_le (exN m c) it.val; omega
  rn0 := by show rk (exN m c) 0 - 1 = 0; rw [rk_zero]
  rn95 := Nat.sub_add_cancel (rk_pos (exN m c) 95)
  new0 := (w55 m c 0).trans (by show BitVec.ofNat 32 (nw _ 0) = _; rw [nw_zero])
  last95 := w65_last m c
  nx95 := Fin.ext (last_nx m c)
  same it it' h hn := by
    rw [w55] at hn
    have hn' : nw (exN m c) (it.val + 1) ≠ 1 := fun e => hn (by rw [h, e])
    have hz : nw (exN m c) (it.val + 1) = 0 := (nw_cases _ _).resolve_right hn'
    have hr : rk (exN m c) (it.val + 1) = rk (exN m c) it.val := by rw [rk_succ, hz]; rfl
    have hE := nw_same (exN m c) it.val hn'
    have hp := np_same (exN m c) it.val (by have := it'.isLt; omega) hn'
    refine ⟨Fin.ext ?_, ?_, ?_, Fin.ext ?_⟩
    · rw [← exN_val, ← exN_val, h, hE]
    · show rk (exN m c) it'.val - 1 = _
      rw [h, hr]
    · rw [w65, w65, h, hr]
    · show nxt (exN m c) it'.val = nxt (exN m c) it.val
      unfold nxt
      rw [h, hp]
  next it it' h hn := by
    have hl := nw_le (exN m c) (it.val + 1)
    rw [w55, h] at hn
    have hn' : nw (exN m c) (it.val + 1) = 1 := (small_inj _ 1 (by omega) (by decide)).1 hn
    have hr : rk (exN m c) (it.val + 1) = rk (exN m c) it.val + 1 := by rw [rk_succ, hn']
    have hm : rk (exN m c) (it.val + 1) ≤ rk (exN m c) 95 := rk_mono _ (by have := it'.isLt; omega)
    have hp := np_new (exN m c) it.val (by have := it'.isLt; omega) hn'
    refine ⟨?_, ?_, Fin.ext ?_⟩
    · show rk (exN m c) it'.val - 1 = _
      have := rk_pos (exN m c) it.val
      rw [h, hr]
      omega
    · rw [w65, if_neg (by omega)]
      decide
    · show nxt (exN m c) it.val = (ex m c it').val
      unfold nxt
      rw [hp, if_pos (by have := it'.isLt; omega), ← h, exN_val]
  hk it := k47 m c it

end Cert.Up
-- ==== Proof.UQuiet.lean ====
/- The expert-up kernel's tables are admissible, and what its run leaves. -/
module

public import proofs.«01_k».proof.Proof.UTables
public import proofs.«01_k».proof.Proof.UFrame

@[expose] public section

noncomputable section

namespace Cert.Up

open Cert.Kernel2Ideal Cert.Kernel2Ideal.Gen
open Idealize.ShloMosaic Idealize.ShloMosaic.TcCoe Idealize.ShloMosaic.Tactic
open Idealize.SL.Sem

variable {F : FTy → Type} [FloatOps F]

local notation "𝕋" => S96.Idx → BitVec 32

theorem emb_block (i : grid0.Coords) (b : Fin 96) (hb : (i 1).val = b.val)
    (h : ∀ a, (![(Scalar.indexCast (BitVec.ofNat 32 (i 1).val) : Index).toNat] : Fin 1 → ℕ) a + S1.size a ≤ S96.size a) (j : S1.Idx) :
    (Rect.unit (s := S96) ![(Scalar.indexCast (BitVec.ofNat 32 (i 1).val) : Index).toNat] S1.size h).emb j = (ix1 b : S96.Idx) := by
  have hv : (Scalar.indexCast (BitVec.ofNat 32 (i 1).val) : Index).toNat = b.val := by
    have := congrFun (offI_eq hb) 0
    exact this
  have hj := (j 0).isLt
  refine funext fun a => ?_
  match a with
  | ⟨0, _⟩ =>
    refine Fin.ext ?_
    show (Scalar.indexCast (BitVec.ofNat 32 (i 1).val) : Index).toNat + 1 * (j 0).val = b.val
    rw [hv]
    have : (j 0).val < 1 := hj
    omega

section
variable (pf : pre0.Contents (Elt F)) (i : grid0.Coords) (b : Fin 96) (hb : (i 1).val = b.val)

include hb
theorem trans0 : cc0_transform_0 k0_off1_inb numel1_S1 pf i = ![((pf 0 : 𝕋) (ix1 b)).toNat, 0] := by
  unfold cc0_transform_0
  exact congrArg (fun y : S96.Idx => ![((pf 0 : 𝕋) y).toNat, 0]) (emb_block i b hb _ _)
theorem trans2 : cc0_transform_2 k0_off1_inb numel1_S1 pf i = ![((pf 2 : 𝕋) (ix1 b)).toNat, 0, (BitVec.ofNat 32 (i 0).val).toNat] := by
  unfold cc0_transform_2
  exact congrArg (fun y : S96.Idx => ![((pf 2 : 𝕋) y).toNat, 0, (BitVec.ofNat 32 (i 0).val).toNat]) (emb_block i b hb _ _)
theorem trans3 : cc0_transform_3 k0_off1_inb numel1_S1 pf i = ![((pf 2 : 𝕋) (ix1 b)).toNat, 0, (2#32 + BitVec.ofNat 32 (i 0).val).toNat] := by
  unfold cc0_transform_3
  exact congrArg (fun y : S96.Idx => ![((pf 2 : 𝕋) y).toNat, 0, (2#32 + BitVec.ofNat 32 (i 0).val).toNat]) (emb_block i b hb _ _)
theorem trans4 : cc0_transform_4 k0_off1_inb numel1_S1 pf i = ![((pf 1 : 𝕋) (ix1 b)).toNat, (BitVec.ofNat 32 (i 0).val).toNat] := by
  unfold cc0_transform_4
  exact congrArg (fun y : S96.Idx => ![((pf 1 : 𝕋) y).toNat, (BitVec.ofNat 32 (i 0).val).toNat]) (emb_block i b hb _ _)
end

theorem col_toNat (i : grid0.Coords) : (BitVec.ofNat 32 (i 0).val).toNat = (i 0).val := by
  have : (i 0).val < 2 := (i 0).isLt
  rw [BitVec.toNat_ofNat]; omega
theorem col_toNat' (i : grid0.Coords) : (2#32 + BitVec.ofNat 32 (i 0).val).toNat = 2 + (i 0).val := by
  have : (i 0).val < 2 := (i 0).isLt
  rw [BitVec.toNat_add, BitVec.toNat_ofNat]; simp; omega

variable (m : (ℓ : Loc nD τ sig) → Buf (Elt F) ℓ) (ρ : Dev nD → PrngReg) (c : Dev nD)

/-- What the tables hold at the launch. -/
def pfs : pre0.Contents (Elt F) := fun k => hostV m c (pre0.ref k)

theorem pfs1 (b : Fin 96) : (pfs m c 1 : 𝕋) (ix1 b) = BitVec.ofNat 32 b.val := by
  show (hostV m c main_v12 : 𝕋) (ix1 b) = _
  rw [r12]; rfl
theorem pfs0 (b : Fin 96) : ((pfs m c 0 : 𝕋) (ix1 b)).toNat ≤ b.val := by
  show ((hostV m c main_v16 : 𝕋) (ix1 b)).toNat ≤ _
  have hb := b.isLt
  rw [w16, toNat_small _ (by omega)]
  omega
theorem pfs2 (b : Fin 96) : ((pfs m c 2 : 𝕋) (ix1 b)).toNat = (ex m c b).val := by
  show ((hostV m c main_v27 : 𝕋) (ix1 b)).toNat = _
  rw [w27, exN_val, toNat_small _ (by omega)]

theorem ok_pfs : ok0 (pfs m c) := by
  refine ⟨fun i => ⟨?_, .inl rfl⟩, fun i => ⟨?_, .inl rfl⟩, fun i => ⟨?_, .inl rfl⟩, fun i => ⟨?_, .inr (Affine.block_words_dvd (of_decide_eq_true rfl) (by decide))⟩⟩
  · let b : Fin 96 := i 1
    have hb := pfs0 m c b
    have h0 : (i 1).val < 96 := (i 1).isLt
    have hb' : b.val = (i 1).val := rfl
    rw [trans0 _ i b rfl]
    intro a
    match a with
    | ⟨0, _⟩ => show (((pfs m c 0 : 𝕋) (ix1 b)).toNat + 1) * 8192 ≤ 786432; omega
    | ⟨1, _⟩ => show (0 + 1) * 128 ≤ 128; omega
  · let b : Fin 96 := i 1
    have h0 : (i 0).val < 2 := (i 0).isLt
    have he := (ex m c b).isLt
    rw [trans2 _ i b rfl, pfs2, col_toNat]
    intro a
    match a with
    | ⟨0, _⟩ => show ((ex m c b).val + 1) * 1 ≤ 32; omega
    | ⟨1, _⟩ => show (0 + 1) * 1 ≤ 1; omega
    | ⟨2, _⟩ => show ((i 0).val + 1) * 1024 ≤ 4096; omega
  · let b : Fin 96 := i 1
    have h0 : (i 0).val < 2 := (i 0).isLt
    have he := (ex m c b).isLt
    rw [trans3 _ i b rfl, pfs2, col_toNat']
    intro a
    match a with
    | ⟨0, _⟩ => show ((ex m c b).val + 1) * 1 ≤ 32; omega
    | ⟨1, _⟩ => show (0 + 1) * 1 ≤ 1; omega
    | ⟨2, _⟩ => show (2 + (i 0).val + 1) * 1024 ≤ 4096; omega
  · let b : Fin 96 := i 1
    have h0 : (i 0).val < 2 := (i 0).isLt
    have h1 : (i 1).val < 96 := (i 1).isLt
    rw [trans4 _ i b rfl, pfs1, col_toNat, toNat_small _ (by omega)]
    intro a
    match a with
    | ⟨0, _⟩ => show ((i 1).val + 1) * 512 ≤ 49152; omega
    | ⟨1, _⟩ => show ((i 0).val + 1) * 1024 ≤ 2048; omega

/-- The tables, as the launch admits them. -/
def adm : (pcfg0 (F := F)).Adm := ⟨pfs m c, ok_pfs m c⟩

section
variable (V : (b : Ref sig .tc) → Buf (Elt F) ((c : Thread nD τ).loc b))
theorem ref2 : (V (pre0.ref 2) : 𝕋) = V main_v27 := rfl
theorem ref3 : (V (pre0.ref 3) : 𝕋) = V main_v47 := rfl
theorem ref4 : (V (pre0.ref 4) : 𝕋) = V main_v55 := rfl
theorem ref5 : (V (pre0.ref 5) : 𝕋) = V main_v58 := rfl
theorem ref6 : (V (pre0.ref 6) : 𝕋) = V main_v65 := rfl
theorem ref7 : (V (pre0.ref 7) : 𝕋) = V main_v86 := rfl
theorem ref8 : (V (pre0.ref 8) : S1.Idx → BitVec 32) = V main_v87 := rfl
end

/-- The schedule over the tables as admitted. -/
def schedA : Sched ((adm m c).1 2 : 𝕋) ((adm m c).1 3 : 𝕋) ((adm m c).1 4 : 𝕋) ((adm m c).1 5 : 𝕋) ((adm m c).1 6 : 𝕋) ((adm m c).1 7 : 𝕋)
    ((adm m c).1 8 : S1.Idx → BitVec 32) := by
  have h2 := ref2 c (hostV m c)
  have h3 := ref3 c (hostV m c)
  have h4 := ref4 c (hostV m c)
  have h5 := ref5 c (hostV m c)
  have h6 := ref6 c (hostV m c)
  have h7 := ref7 c (hostV m c)
  have h8 := ref8 c (hostV m c)
  unfold adm pfs
  dsimp only
  rw [h2, h3, h4, h5, h6, h7, h8]
  exact sched m c

/-- The run, at the tables the host operations make. -/
theorem run_at_tables : θ_run defs (onTc (τ := τ) (main (F := F))) (s₀ m ρ)
    (fun r => Pipeline.FramePost (Pipeline.pin (pcfgs (F := F)) (fun _ => adm m c)) (dats (hostV m) (adm m c) (schedA m c)) 0 (hostV m) r ∧ r.2.sem = fun _ => 0) :=
  run_main c (adm m c) (schedA m c) m ρ fun _ => rfl

/-- The run leaves the arguments as they were and every semaphore at zero. -/
theorem run_quiet : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨((h.1 c).2 main_arg0 (Pipeline.mem_restRefs_of main_arg0 (by decide) (show ∀ w : Fin 4, (spec0 w).arr.view.ref ≠ main_arg0 by decide))).trans (r_arg0 m c),
      ((h.1 c).1 0).trans (((dats (hostV m) (adm m 0) (schedA m 0) 0 c).arrAt_in 0 rfl _).trans (r_arg1 m c)),
      ((h.1 c).2 main_arg2 (Pipeline.mem_restRefs_of main_arg2 (by decide) (show ∀ w : Fin 4, (spec0 w).arr.view.ref ≠ main_arg2 by decide))).trans (r_arg2 m c),
      ((h.1 c).2 main_arg3 (Pipeline.mem_restRefs_of main_arg3 (by decide) (show ∀ w : Fin 4, (spec0 w).arr.view.ref ≠ main_arg3 by decide))).trans (r_arg3 m c)⟩, h.2⟩)
    (run_at_tables m ρ 0)

end Cert.Up
-- ==== Proof.UCells.lean ====
/- What a step of the expert-up kernel leaves in its output block, entry by entry. -/
module

public import proofs.«01_k».proof.Proof.UStageB
public import proofs.«01_k».proof.Proof.Scalars
public import Idealize.ShloMosaic.Lib.ValueIdx
public import Idealize.ShloMosaic.Lib.MatmulPlain
public import Idealize.ShloMosaic.Lib.ValueLayout

@[expose] public section

set_option maxRecDepth 16384

noncomputable section

namespace Cert.Up

open Cert.Kernel2Ideal Cert.Kernel2Ideal.Gen Cert.Scalars
open Idealize.ShloMosaic hiding ix1 ix2 ix3
open Idealize.ShloMosaic.TcCoe Idealize.ShloMosaic.Tactic
open Idealize.ShloMosaic.ValueIdx
open Idealize.SL.Sem

/-- The float words of the activation. -/
abbrev word (b : BitVec 32) : EReal := Ideal.ofBits .f32 b

/-- The activation as the kernel writes it: of the first half's sum `a` and the second half's sum `b`. -/
def swiK (a b : EReal) : EReal :=
  (word 0x3F000000#32 * min a (word 0x40E00000#32)) * (word 0x3F800000#32 + Ideal.tanh (word 0x3F59DB23#32 * min a (word 0x40E00000#32)))
    * (min (word 0x40E00000#32) (max (word 0xC0E00000#32) b) + word 0x3F800000#32)

/-- Entry `k` of row `q` of the block, whose rows are each 16 rows of 128 entries. -/
def xent (x0 : Vec Ideal S8192x128 .f32) (q : Fin 512) (k : Fin 2048) : EReal :=
  x0 (ix2 ⟨q.val * 16 + k.val / 128, by omega⟩ ⟨k.val % 128, by omega⟩)

section
variable (g l : Vec Ideal S2048x1024 .bf16) (b1 b2 : Vec Ideal S1x1x1024 .f32)

theorem bias_128 (b : Vec Ideal S1x1x1024 .f32) (r : Fin 128) (n : Fin 1024) :
    (broadcastTo S128x1024 (shapeCast S1x1024 b shapeCasts_S1x1x1024_S1x1024) broadcasts_S1x1024_S128x1024 : FVec Ideal S128x1024 .f32) (ix2 r n)
      = b (ix3 (0 : Fin 1) (0 : Fin 1) n) :=
  (broadcastTo_1b_ab_apply (a := 128) (b := 1024) _ broadcasts_S1x1024_S128x1024 r n).trans (shapeCast_1ab_ab_apply b shapeCasts_S1x1x1024_S1x1024 (0 : Fin 1) n)

theorem pay_128 (X : FVec Ideal S128x2048 .bf16) (r : Fin 128) (n : Fin 1024) :
    k0_pay4 (F := Ideal) X (k0_pay12 X g) (k0_pay13 b1) l b2 (ix2 r n)
      = swiK ((∑ k : Fin 2048, X (ix2 r k) * g (ix2 k n)) + b1 (ix3 (0 : Fin 1) (0 : Fin 1) n))
          ((∑ k : Fin 2048, X (ix2 r k) * l (ix2 k n)) + b2 (ix3 (0 : Fin 1) (0 : Fin 1) n)) := by
  have hm : ∀ W : Vec Ideal S2048x1024 .bf16,
      matmul (F := Ideal) (φ₁ := .bf16) (φ₂ := .bf16) dot_S128x2048_S2048x1024_S128x1024_1_0_0_1_n_n none X W (constant S128x1024 .f32 0x00000000#32) (ix2 r n)
        = ∑ k : Fin 2048, X (ix2 r k) * W (ix2 k n) := fun W => by
    refine (Ideal.matmul_plain_apply (M := 128) (K := 2048) (N := 1024) none X W _ r n).trans ?_
    rw [show (constant (F := Ideal) S128x1024 .f32 0x00000000#32) (ix2 r n) = 0 from word_zero, zero_add]
  rw [← hm g, ← hm l, ← bias_128 b1 r n, ← bias_128 b2 r n]
  rfl

theorem bias_256 (b : Vec Ideal S1x1x1024 .f32) (r : Fin 256) (n : Fin 1024) :
    (broadcastTo S256x1024 (shapeCast S1x1024 b shapeCasts_S1x1x1024_S1x1024) broadcasts_S1x1024_S256x1024 : FVec Ideal S256x1024 .f32) (ix2 r n)
      = b (ix3 (0 : Fin 1) (0 : Fin 1) n) :=
  (broadcastTo_1b_ab_apply (a := 256) (b := 1024) _ broadcasts_S1x1024_S256x1024 r n).trans (shapeCast_1ab_ab_apply b shapeCasts_S1x1x1024_S1x1024 (0 : Fin 1) n)

theorem pay_256 (X : FVec Ideal S256x2048 .bf16) (r : Fin 256) (n : Fin 1024) :
    k0_pay6 (F := Ideal) X (k0_pay15 X g) (k0_pay16 b1) l b2 (ix2 r n)
      = swiK ((∑ k : Fin 2048, X (ix2 r k) * g (ix2 k n)) + b1 (ix3 (0 : Fin 1) (0 : Fin 1) n))
          ((∑ k : Fin 2048, X (ix2 r k) * l (ix2 k n)) + b2 (ix3 (0 : Fin 1) (0 : Fin 1) n)) := by
  have hm : ∀ W : Vec Ideal S2048x1024 .bf16,
      matmul (F := Ideal) (φ₁ := .bf16) (φ₂ := .bf16) dot_S256x2048_S2048x1024_S256x1024_1_0_0_1_n_n none X W (constant S256x1024 .f32 0x00000000#32) (ix2 r n)
        = ∑ k : Fin 2048, X (ix2 r k) * W (ix2 k n) := fun W => by
    refine (Ideal.matmul_plain_apply (M := 256) (K := 2048) (N := 1024) none X W _ r n).trans ?_
    rw [show (constant (F := Ideal) S256x1024 .f32 0x00000000#32) (ix2 r n) = 0 from word_zero, zero_add]
  rw [← hm g, ← hm l, ← bias_256 b1 r n, ← bias_256 b2 r n]
  rfl

/-- Sixteen strips of the block side by side are its rows. -/
theorem cat_128 (x0 : Vec Ideal S8192x128 .f32) (o : ℕ) (ho : o + 128 ≤ 512) (v : Fin 16 → Vec Ideal S128x128 .f32)
    (hv : ∀ (s : Fin 16) (r : Fin 128) (n : Fin 128), v s (ix2 r n) = x0 (ix2 ⟨(o + r.val) * 16 + s.val, by omega⟩ n)) (r : Fin 128) (k : Fin 2048) :
    k0_pay11 (F := Ideal) (v 0) (v 1) (v 2) (v 3) (v 4) (v 5) (v 6) (v 7) (v 8) (v 9) (v 10) (v 11) (v 12) (v 13) (v 14) (v 15) (ix2 r k)
      = xent x0 ⟨o + r.val, by omega⟩ k := by
  have h := concatenate_ofFn_apply (t := S128x2048) (s₁ := S128x128) 1 v
    concatenates_S128x128_S128x128_S128x128_S128x128_S128x128_S128x128_S128x128_S128x128_S128x128_S128x128_S128x128_S128x128_S128x128_S128x128_S128x128_S128x128_S128x2048_d1
    rfl 128 rfl (ix2 r k) ⟨k.val / 128, by omega⟩ rfl (ix2 r ⟨k.val % 128, by omega⟩) rfl (fun b hb => by
      match b with
      | ⟨0, _⟩ => rfl
      | ⟨1, _⟩ => exact absurd rfl hb)
  exact h.trans (hv _ _ _)

/-- Sixteen strips of the block side by side are its rows. -/
theorem cat_256 (x0 : Vec Ideal S8192x128 .f32) (o : ℕ) (ho : o + 256 ≤ 512) (v : Fin 16 → Vec Ideal S256x128 .f32)
    (hv : ∀ (s : Fin 16) (r : Fin 256) (n : Fin 128), v s (ix2 r n) = x0 (ix2 ⟨(o + r.val) * 16 + s.val, by omega⟩ n)) (r : Fin 256) (k : Fin 2048) :
    k0_pay14 (F := Ideal) (v 0) (v 1) (v 2) (v 3) (v 4) (v 5) (v 6) (v 7) (v 8) (v 9) (v 10) (v 11) (v 12) (v 13) (v 14) (v 15) (ix2 r k)
      = xent x0 ⟨o + r.val, by omega⟩ k := by
  have h := concatenate_ofFn_apply (t := S256x2048) (s₁ := S256x128) 1 v
    concatenates_S256x128_S256x128_S256x128_S256x128_S256x128_S256x128_S256x128_S256x128_S256x128_S256x128_S256x128_S256x128_S256x128_S256x128_S256x128_S256x128_S256x2048_d1
    rfl 128 rfl (ix2 r k) ⟨k.val / 128, by omega⟩ rfl (ix2 r ⟨k.val % 128, by omega⟩) rfl (fun b hb => by
      match b with
      | ⟨0, _⟩ => rfl
      | ⟨1, _⟩ => exact absurd rfl hb)
  exact h.trans (hv _ _ _)

end

end Cert.Up
-- ==== Proof.UBlock.lean ====
/- What a step of the expert-up kernel leaves in its output block. -/
module

public import proofs.«01_k».proof.Proof.UCells
public import Idealize.ShloMosaic.Lib.Pipeline.Value

@[expose] public section

set_option maxRecDepth 16384

noncomputable section

namespace Cert.Up

open Cert.Kernel2Ideal Cert.Kernel2Ideal.Gen Cert.Scalars
open Idealize.ShloMosaic hiding ix1 ix2 ix3 eq_ix2
open Idealize.ShloMosaic.TcCoe Idealize.ShloMosaic.Tactic
open Idealize.ShloMosaic.ValueIdx
open Idealize.SL.Sem

/-- The block a step leaves when the first `128 k` of its rows are computed. -/
def upBlock (k : Fin 5) (x0 : Vec Ideal S8192x128 .f32) (g l : Vec Ideal S2048x1024 .bf16) (b1 b2 : Vec Ideal S1x1x1024 .f32) : Vec Ideal S512x1024 .bf16 :=
  fun y => if (y 0).val < 128 * k.val then
    swiK ((∑ q : Fin 2048, xent x0 (y 0) q * g (ix2 q (y 1))) + b1 (ix3 (0 : Fin 1) (0 : Fin 1) (y 1)))
      ((∑ q : Fin 2048, xent x0 (y 0) q * l (ix2 q (y 1))) + b2 (ix3 (0 : Fin 1) (0 : Fin 1) (y 1)))
  else 0

theorem bf_zero : Ideal.ofBits .bf16 0x0000#16 = 0 := by simp [Ideal.ofBits, Ideal.ieee]

theorem hz2 : (![0, 0] : Fin 2 → Nat) = fun _ => 0 := by decide
theorem hz3 : (![0, 0, 0] : Fin 3 → Nat) = fun _ => 0 := by decide

variable (c : Dev nD) (i : grid0.Coords) (it : Fin 96)
  (a11 : Memref sig .tc .vmem S8192x128 .f32) (h11 : a11.IsWhole)
  (a13 : Memref sig .tc .vmem S1x1x1024 .f32) (h13 : a13.IsWhole) (a14 : Memref sig .tc .vmem S1x1x1024 .f32) (h14 : a14.IsWhole)
  (a15 : Memref sig .tc .vmem S512x1024 .bf16) (h15 : a15.IsWhole)
  (x0 : Vec Ideal S8192x128 .f32) (g l : Vec Ideal S2048x1024 .bf16) (b1 b2 : Vec Ideal S1x1x1024 .f32)

/-- The sixteen strided reads of 128 rows from row `o` on. -/
abbrev strips_128 (o : ℕ) (hI : ∀ (s : Fin 16) (a : Fin 2), (![128, 128] : Fin 2 → ℕ) a = 0 ∨ (![16 * o + s.val, 0] : Fin 2 → ℕ) a + (![16, 1] : Fin 2 → ℕ) a * ((![128, 128] : Fin 2 → ℕ) a - 1) < S8192x128.size a)
    (s : Fin 16) : Vec Ideal S128x128 .f32 :=
  View.readAt (Elt Ideal) a11.view (⟨![16 * o + s.val, 0], ![128, 128], ![16, 1], hI s⟩ : LoadRect S8192x128) (h11.unread x0)

theorem cell_128 (k : Fin 5) (o : ℕ) (ho : o + 128 ≤ 128 * k.val)
    (hI : ∀ (s : Fin 16) (a : Fin 2), (![128, 128] : Fin 2 → ℕ) a = 0 ∨ (![16 * o + s.val, 0] : Fin 2 → ℕ) a + (![16, 1] : Fin 2 → ℕ) a * ((![128, 128] : Fin 2 → ℕ) a - 1) < S8192x128.size a)
    (hO : ∀ a, (![o, 0] : Fin 2 → Nat) a + (![128, 1024] : Fin 2 → Nat) a ≤ S512x1024.size a) (x : S128x1024.Idx) (X : FVec Ideal S128x2048 .bf16)
    (hX : X = k0_pay11 (F := Ideal) (strips_128 a11 h11 x0 o hI 0) (strips_128 a11 h11 x0 o hI 1) (strips_128 a11 h11 x0 o hI 2) (strips_128 a11 h11 x0 o hI 3) (strips_128 a11 h11 x0 o hI 4) (strips_128 a11 h11 x0 o hI 5) (strips_128 a11 h11 x0 o hI 6) (strips_128 a11 h11 x0 o hI 7) (strips_128 a11 h11 x0 o hI 8) (strips_128 a11 h11 x0 o hI 9) (strips_128 a11 h11 x0 o hI 10) (strips_128 a11 h11 x0 o hI 11) (strips_128 a11 h11 x0 o hI 12) (strips_128 a11 h11 x0 o hI 13) (strips_128 a11 h11 x0 o hI 14) (strips_128 a11 h11 x0 o hI 15)) :
    k0_pay4 (F := Ideal) X (k0_pay12 X g) (k0_pay13 b1) l b2 x = upBlock k x0 g l b1 b2 ((Rect.unit (s := S512x1024) ![o, 0] ![128, 1024] hO).emb x) := by
  have hk := k.isLt
  have hx : ∀ (r : Fin 128) (q : Fin 2048), X (ix2 r q) = xent x0 ⟨o + r.val, by omega⟩ q := fun r q => by
    rw [hX]
    refine cat_128 x0 o (by omega) (strips_128 a11 h11 x0 o hI) (fun s r n => ?_) r q
    refine (congrFun (h11.read_unread x0) _).trans (congrArg x0 (funext fun a => Fin.ext ?_))
    match a with
    | ⟨0, _⟩ => show 16 * o + s.val + 16 * r.val = (o + r.val) * 16 + s.val; omega
    | ⟨1, _⟩ => show 0 + 1 * n.val = n.val; omega
  have e0 : ((Rect.unit (s := S512x1024) ![o, 0] ![128, 1024] hO).emb x 0) = ⟨o + (x 0).val, by have : (x 0).val < 128 := (x 0).isLt; show o + (x 0).val < 512; omega⟩ :=
    Fin.ext (by show o + 1 * (x 0).val = o + (x 0).val; omega)
  have e1 : ((Rect.unit (s := S512x1024) ![o, 0] ![128, 1024] hO).emb x 1) = x 1 := Fin.ext (by show 0 + 1 * (x 1).val = (x 1).val; omega)
  have hx0 : (x 0).val < 128 := (x 0).isLt
  unfold upBlock
  rw [e0, e1, if_pos (by show o + (x 0).val < 128 * k.val; omega)]
  conv_lhs => rw [eq_ix2 x]
  refine (pay_128 g l b1 b2 X (x 0) (x 1)).trans ?_
  exact congrArg₂ swiK (congrArg (· + b1 (ix3 (0 : Fin 1) (0 : Fin 1) (x 1))) (Finset.sum_congr rfl fun q _ => congrArg (· * g (ix2 q (x 1))) (hx (x 0) q)))
    (congrArg (· + b2 (ix3 (0 : Fin 1) (0 : Fin 1) (x 1))) (Finset.sum_congr rfl fun q _ => congrArg (· * l (ix2 q (x 1))) (hx (x 0) q)))

/-- The sixteen strided reads of 256 rows from row `o` on. -/
abbrev strips_256 (o : ℕ) (hI : ∀ (s : Fin 16) (a : Fin 2), (![256, 128] : Fin 2 → ℕ) a = 0 ∨ (![16 * o + s.val, 0] : Fin 2 → ℕ) a + (![16, 1] : Fin 2 → ℕ) a * ((![256, 128] : Fin 2 → ℕ) a - 1) < S8192x128.size a)
    (s : Fin 16) : Vec Ideal S256x128 .f32 :=
  View.readAt (Elt Ideal) a11.view (⟨![16 * o + s.val, 0], ![256, 128], ![16, 1], hI s⟩ : LoadRect S8192x128) (h11.unread x0)

theorem cell_256 (k : Fin 5) (o : ℕ) (ho : o + 256 ≤ 128 * k.val)
    (hI : ∀ (s : Fin 16) (a : Fin 2), (![256, 128] : Fin 2 → ℕ) a = 0 ∨ (![16 * o + s.val, 0] : Fin 2 → ℕ) a + (![16, 1] : Fin 2 → ℕ) a * ((![256, 128] : Fin 2 → ℕ) a - 1) < S8192x128.size a)
    (hO : ∀ a, (![o, 0] : Fin 2 → Nat) a + (![256, 1024] : Fin 2 → Nat) a ≤ S512x1024.size a) (x : S256x1024.Idx) (X : FVec Ideal S256x2048 .bf16)
    (hX : X = k0_pay14 (F := Ideal) (strips_256 a11 h11 x0 o hI 0) (strips_256 a11 h11 x0 o hI 1) (strips_256 a11 h11 x0 o hI 2) (strips_256 a11 h11 x0 o hI 3) (strips_256 a11 h11 x0 o hI 4) (strips_256 a11 h11 x0 o hI 5) (strips_256 a11 h11 x0 o hI 6) (strips_256 a11 h11 x0 o hI 7) (strips_256 a11 h11 x0 o hI 8) (strips_256 a11 h11 x0 o hI 9) (strips_256 a11 h11 x0 o hI 10) (strips_256 a11 h11 x0 o hI 11) (strips_256 a11 h11 x0 o hI 12) (strips_256 a11 h11 x0 o hI 13) (strips_256 a11 h11 x0 o hI 14) (strips_256 a11 h11 x0 o hI 15)) :
    k0_pay6 (F := Ideal) X (k0_pay15 X g) (k0_pay16 b1) l b2 x = upBlock k x0 g l b1 b2 ((Rect.unit (s := S512x1024) ![o, 0] ![256, 1024] hO).emb x) := by
  have hk := k.isLt
  have hx : ∀ (r : Fin 256) (q : Fin 2048), X (ix2 r q) = xent x0 ⟨o + r.val, by omega⟩ q := fun r q => by
    rw [hX]
    refine cat_256 x0 o (by omega) (strips_256 a11 h11 x0 o hI) (fun s r n => ?_) r q
    refine (congrFun (h11.read_unread x0) _).trans (congrArg x0 (funext fun a => Fin.ext ?_))
    match a with
    | ⟨0, _⟩ => show 16 * o + s.val + 16 * r.val = (o + r.val) * 16 + s.val; omega
    | ⟨1, _⟩ => show 0 + 1 * n.val = n.val; omega
  have e0 : ((Rect.unit (s := S512x1024) ![o, 0] ![256, 1024] hO).emb x 0) = ⟨o + (x 0).val, by have : (x 0).val < 256 := (x 0).isLt; show o + (x 0).val < 512; omega⟩ :=
    Fin.ext (by show o + 1 * (x 0).val = o + (x 0).val; omega)
  have e1 : ((Rect.unit (s := S512x1024) ![o, 0] ![256, 1024] hO).emb x 1) = x 1 := Fin.ext (by show 0 + 1 * (x 1).val = (x 1).val; omega)
  have hx0 : (x 0).val < 256 := (x 0).isLt
  unfold upBlock
  rw [e0, e1, if_pos (by show o + (x 0).val < 128 * k.val; omega)]
  conv_lhs => rw [eq_ix2 x]
  refine (pay_256 g l b1 b2 X (x 0) (x 1)).trans ?_
  exact congrArg₂ swiK (congrArg (· + b1 (ix3 (0 : Fin 1) (0 : Fin 1) (x 1))) (Finset.sum_congr rfl fun q _ => congrArg (· * g (ix2 q (x 1))) (hx (x 0) q)))
    (congrArg (· + b2 (ix3 (0 : Fin 1) (0 : Fin 1) (x 1))) (Finset.sum_congr rfl fun q _ => congrArg (· * l (ix2 q (x 1))) (hx (x 0) q)))

theorem zeros (n : ℕ) (k : Fin 5) (o : ℕ) (ho : 128 * k.val ≤ o) (z : Ideal .bf16) (hz : z = 0)
    (hO : ∀ a, (![o, 0] : Fin 2 → Nat) a + (![n, 1024] : Fin 2 → Nat) a ≤ S512x1024.size a) (x : (⟨2, ![n, 1024]⟩ : Shape).Idx) :
    z = upBlock k x0 g l b1 b2 ((Rect.unit (s := S512x1024) ![o, 0] ![n, 1024] hO).emb x) := by
  unfold upBlock
  rw [if_neg, hz]
  show ¬ o + 1 * (x 0).val < _
  omega

theorem outB_eq0 : outB c i it a11 h11 a13 h13 a14 h14 a15 h15 x0 g l b1 b2 0 = upBlock 0 x0 g l b1 b2 := by
  have hcov := cover c i it a11 h11 a13 h13 a14 h14 a15 h15 x0 g l b1 b2 0
  funext y
  unfold outB
  rw [View.read_writes_eq_canon _ _ _ hcov]
  refine View.canon_apply_of_pieces (upBlock 0 x0 g l b1 b2) _ ?_ y (hcov y)
  unfold run
  dsimp only
  sl_unfold_words
  simp only [List.forall_mem_cons, View.readAt_eq_ld, h11.read_unread, h13.read_unread, h14.read_unread, (Memref.isWhole_whole cc0_scratch2).read_unread,
    (Memref.isWhole_whole cc0_scratch3).read_unread, View.ld_unit_zero (S := S2048x1024) hz2, View.ld_unit_zero (S := S1x1x1024) hz3]
  refine ⟨?_, fun _ h => absurd h List.not_mem_nil⟩
  · exact fun x => zeros x0 g l b1 b2 512 0 0 (by decide) _ bf_zero _ x

theorem outB_eq1 : outB c i it a11 h11 a13 h13 a14 h14 a15 h15 x0 g l b1 b2 1 = upBlock 1 x0 g l b1 b2 := by
  have hcov := cover c i it a11 h11 a13 h13 a14 h14 a15 h15 x0 g l b1 b2 1
  funext y
  unfold outB
  rw [View.read_writes_eq_canon _ _ _ hcov]
  refine View.canon_apply_of_pieces (upBlock 1 x0 g l b1 b2) _ ?_ y (hcov y)
  unfold run
  dsimp only
  sl_unfold_words
  simp only [List.forall_mem_cons, View.readAt_eq_ld, h11.read_unread, h13.read_unread, h14.read_unread, (Memref.isWhole_whole cc0_scratch2).read_unread,
    (Memref.isWhole_whole cc0_scratch3).read_unread, View.ld_unit_zero (S := S2048x1024) hz2, View.ld_unit_zero (S := S1x1x1024) hz3]
  refine ⟨?_, ?_, fun _ h => absurd h List.not_mem_nil⟩
  · exact fun x => zeros x0 g l b1 b2 384 1 128 (by decide) _ bf_zero _ x
  · exact fun x => cell_128 a11 h11 x0 g l b1 b2 1 0 (by decide) (by decide) _ x _ rfl

theorem outB_eq2 : outB c i it a11 h11 a13 h13 a14 h14 a15 h15 x0 g l b1 b2 2 = upBlock 2 x0 g l b1 b2 := by
  have hcov := cover c i it a11 h11 a13 h13 a14 h14 a15 h15 x0 g l b1 b2 2
  funext y
  unfold outB
  rw [View.read_writes_eq_canon _ _ _ hcov]
  refine View.canon_apply_of_pieces (upBlock 2 x0 g l b1 b2) _ ?_ y (hcov y)
  unfold run
  dsimp only
  sl_unfold_words
  simp only [List.forall_mem_cons, View.readAt_eq_ld, h11.read_unread, h13.read_unread, h14.read_unread, (Memref.isWhole_whole cc0_scratch2).read_unread,
    (Memref.isWhole_whole cc0_scratch3).read_unread, View.ld_unit_zero (S := S2048x1024) hz2, View.ld_unit_zero (S := S1x1x1024) hz3]
  refine ⟨?_, ?_, fun _ h => absurd h List.not_mem_nil⟩
  · exact fun x => zeros x0 g l b1 b2 256 2 256 (by decide) _ bf_zero _ x
  · exact fun x => cell_256 a11 h11 x0 g l b1 b2 2 0 (by decide) (by decide) _ x _ rfl

theorem outB_eq3 : outB c i it a11 h11 a13 h13 a14 h14 a15 h15 x0 g l b1 b2 3 = upBlock 3 x0 g l b1 b2 := by
  have hcov := cover c i it a11 h11 a13 h13 a14 h14 a15 h15 x0 g l b1 b2 3
  funext y
  unfold outB
  rw [View.read_writes_eq_canon _ _ _ hcov]
  refine View.canon_apply_of_pieces (upBlock 3 x0 g l b1 b2) _ ?_ y (hcov y)
  unfold run
  dsimp only
  sl_unfold_words
  simp only [List.forall_mem_cons, View.readAt_eq_ld, h11.read_unread, h13.read_unread, h14.read_unread, (Memref.isWhole_whole cc0_scratch2).read_unread,
    (Memref.isWhole_whole cc0_scratch3).read_unread, View.ld_unit_zero (S := S2048x1024) hz2, View.ld_unit_zero (S := S1x1x1024) hz3]
  refine ⟨?_, ?_, ?_, fun _ h => absurd h List.not_mem_nil⟩
  · exact fun x => zeros x0 g l b1 b2 128 3 384 (by decide) _ bf_zero _ x
  · exact fun x => cell_128 a11 h11 x0 g l b1 b2 3 256 (by decide) (by decide) _ x _ rfl
  · exact fun x => cell_256 a11 h11 x0 g l b1 b2 3 0 (by decide) (by decide) _ x _ rfl

theorem outB_eq4 : outB c i it a11 h11 a13 h13 a14 h14 a15 h15 x0 g l b1 b2 4 = upBlock 4 x0 g l b1 b2 := by
  have hcov := cover c i it a11 h11 a13 h13 a14 h14 a15 h15 x0 g l b1 b2 4
  funext y
  unfold outB
  rw [View.read_writes_eq_canon _ _ _ hcov]
  refine View.canon_apply_of_pieces (upBlock 4 x0 g l b1 b2) _ ?_ y (hcov y)
  unfold run
  dsimp only
  sl_unfold_words
  simp only [List.forall_mem_cons, View.readAt_eq_ld, h11.read_unread, h13.read_unread, h14.read_unread, (Memref.isWhole_whole cc0_scratch2).read_unread,
    (Memref.isWhole_whole cc0_scratch3).read_unread, View.ld_unit_zero (S := S2048x1024) hz2, View.ld_unit_zero (S := S1x1x1024) hz3]
  refine ⟨?_, ?_, fun _ h => absurd h List.not_mem_nil⟩
  · exact fun x => cell_256 a11 h11 x0 g l b1 b2 4 256 (by decide) (by decide) _ x _ rfl
  · exact fun x => cell_256 a11 h11 x0 g l b1 b2 4 0 (by decide) (by decide) _ x _ rfl

theorem outB_eq (k : Fin 5) : outB c i it a11 h11 a13 h13 a14 h14 a15 h15 x0 g l b1 b2 k = upBlock k x0 g l b1 b2 := by
  match k with
  | 0 => exact outB_eq0 c i it a11 h11 a13 h13 a14 h14 a15 h15 x0 g l b1 b2
  | 1 => exact outB_eq1 c i it a11 h11 a13 h13 a14 h14 a15 h15 x0 g l b1 b2
  | 2 => exact outB_eq2 c i it a11 h11 a13 h13 a14 h14 a15 h15 x0 g l b1 b2
  | 3 => exact outB_eq3 c i it a11 h11 a13 h13 a14 h14 a15 h15 x0 g l b1 b2
  | 4 => exact outB_eq4 c i it a11 h11 a13 h13 a14 h14 a15 h15 x0 g l b1 b2

end Cert.Up
-- ==== Proof.UHeld.lean ====
/- What an input window that the body only reads holds, point by point: the block its index map names. -/
module

public import proofs.«01_k».proof.Proof.UQuiet
public import proofs.«01_k».proof.Proof.UBlock

@[expose] public section

set_option maxRecDepth 16384

noncomputable section

namespace Cert.Up

open Cert.Kernel2Ideal Cert.Kernel2Ideal.Gen
open Idealize.ShloMosaic hiding ix1 ix2 ix3 eq_ix2
open Idealize.ShloMosaic.TcCoe Idealize.ShloMosaic.Tactic
open Idealize.ShloMosaic.ValueIdx
open Idealize.ShloMosaic.Pipeline (Dat Cfg Window heldIn)
open Idealize.SL.Sem

section
variable {L : Labels} {c : Dev nD} (cfg : Cfg sig L) (A : (w : Fin cfg.W) → Buf (Elt Ideal) (((cfg.win w).arr.view.loc (c.tc : Thread nD τ))))
  (w : Fin cfg.W) (P : ((cfg.win w).block.Idx → Elt Ideal (cfg.win w).elt) → (Fin (cfg.win w).shape.rank → ℕ) → Prop)

/-- What holds of every block as it is fetched, together with its index, holds of what the window's buffer holds. -/
theorem held_ind (hw : (cfg.win w).isOut = false)
    (h : ∀ t : Fin cfg.N, P ((cfg.win w).fill (cfg.grid.coords t) (fun _ => Classical.arbitrary _) (((cfg.win w).blk t).view.read (Elt Ideal) (A w))) ((cfg.win w).index t)) :
    ∀ (n : ℕ) (hn : n < cfg.N), P (heldIn cfg A w n hn) ((cfg.win w).index ⟨n, hn⟩) := by
  intro n
  induction n with
  | zero => exact fun hn => h ⟨0, hn⟩
  | succ n ih =>
    intro hn
    by_cases hf : (cfg.win w).fetch ⟨n + 1, hn⟩ = true
    · rw [Pipeline.heldIn_of_fetch A w ⟨n + 1, hn⟩ hf]; exact h ⟨n + 1, hn⟩
    · rw [Pipeline.heldIn_of_not_fetch A w n hn (Bool.eq_false_iff.2 hf)]
      have e : (cfg.win w).index ⟨n + 1, hn⟩ = (cfg.win w).index ⟨n, Nat.lt_of_succ_lt hn⟩ := by
        by_contra hne
        refine hf ?_
        unfold Window.fetch
        rw [hw]
        simp only [Bool.not_false, Bool.true_and, Bool.or_eq_true, decide_eq_true_eq]
        exact .inr ⟨Nat.succ_pos n, hne⟩
      rw [e]
      exact ih _
end

section
variable (a : (pcfg0 (F := Ideal)).Adm) (c : Dev nD) (V : (c : Dev nD) → (b : Ref sig .tc) → Buf (Elt Ideal) ((c : Thread nD τ).loc b))

theorem held0 (t : Fin (cfg0 a).N) (r : Fin 8192) (k : Fin 128) (p : Fin 786432)
    (hp : p.val = ((a.1 0 : S96.Idx → BitVec 32) (ix1 (itn t.val))).toNat * 8192 + r.val) :
    (heldIn (cfg0 a) (arrs c V a) 0 t.val t.isLt : Vec Ideal S8192x128 .f32) (ix2 r k) = (V c main_arg1 : Vec Ideal S786432x128 .f32) (ix2 p k) := by
  refine held_ind (cfg0 a) (arrs c V a) 0 (fun X ix => ix = ![((a.1 0 : S96.Idx → BitVec 32) (ix1 (itn t.val))).toNat, 0] →
    (X : Vec Ideal S8192x128 .f32) (ix2 r k) = (V c main_arg1 : Vec Ideal S786432x128 .f32) (ix2 p k)) rfl ?_ t.val t.isLt
    (trans0 _ _ (itn t.val) (coords1 t))
  intro u hu
  unfold Window.fill
  rw [dif_pos (((cfg0 a).win 0).moved_iff _ _ |>.2 fun x => (ix2 r k x).isLt)]
  show (V c main_arg1 : Vec Ideal S786432x128 .f32) ((((cfg0 a).win 0).blk u).view.emb (ix2 r k)) = _
  refine congrArg _ (funext fun x => Fin.ext ?_)
  match x with
  | ⟨0, _⟩ => show ((cfg0 a).win 0).index u (0 : Fin 2) * 8192 + 1 * r.val = p.val; rw [congrFun hu (0 : Fin 2), hp]; show ((a.1 0 : S96.Idx → BitVec 32) (ix1 (itn t.val))).toNat * 8192 + 1 * r.val = _; omega
  | ⟨1, _⟩ => show ((cfg0 a).win 0).index u (1 : Fin 2) * 128 + 1 * k.val = k.val; rw [congrFun hu (1 : Fin 2)]; show 0 * 128 + 1 * k.val = _; omega

theorem held1 (t : Fin (cfg0 a).N) (n : Fin 1024) (e : Fin 32) (p : Fin 4096)
    (he : e.val = ((a.1 2 : S96.Idx → BitVec 32) (ix1 (itn t.val))).toNat) (hp : p.val = (jt t.val).val * 1024 + n.val) :
    (heldIn (cfg0 a) (arrs c V a) 1 t.val t.isLt : Vec Ideal S1x1x1024 .f32) (ix3 (0 : Fin 1) (0 : Fin 1) n)
      = (V c main_v90 : Vec Ideal S32x1x4096 .f32) (ix3 e (0 : Fin 1) p) := by
  refine held_ind (cfg0 a) (arrs c V a) 1 (fun X ix => ix = ![((a.1 2 : S96.Idx → BitVec 32) (ix1 (itn t.val))).toNat, 0, (jt t.val).val] →
    (X : Vec Ideal S1x1x1024 .f32) (ix3 (0 : Fin 1) (0 : Fin 1) n) = (V c main_v90 : Vec Ideal S32x1x4096 .f32) (ix3 e (0 : Fin 1) p)) rfl ?_ t.val t.isLt
    ((trans2 _ _ (itn t.val) (coords1 t)).trans (by rw [col_toNat, coords0]; rfl))
  intro u hu
  unfold Window.fill
  rw [dif_pos (((cfg0 a).win 1).moved_iff _ _ |>.2 fun x => (ix3 (0 : Fin 1) (0 : Fin 1) n x).isLt)]
  show (V c main_v90 : Vec Ideal S32x1x4096 .f32) ((((cfg0 a).win 1).blk u).view.emb (ix3 (0 : Fin 1) (0 : Fin 1) n)) = _
  refine congrArg _ (funext fun x => Fin.ext ?_)
  match x with
  | ⟨0, _⟩ => show ((cfg0 a).win 1).index u (0 : Fin 3) * 1 + 1 * 0 = e.val; rw [congrFun hu (0 : Fin 3), he]; show ((a.1 2 : S96.Idx → BitVec 32) (ix1 (itn t.val))).toNat * 1 + 1 * 0 = _; omega
  | ⟨1, _⟩ => show ((cfg0 a).win 1).index u (1 : Fin 3) * 1 + 1 * 0 = 0; rw [congrFun hu (1 : Fin 3)]; rfl
  | ⟨2, _⟩ => show ((cfg0 a).win 1).index u (2 : Fin 3) * 1024 + 1 * n.val = p.val; rw [congrFun hu (2 : Fin 3), hp]; show (jt t.val).val * 1024 + 1 * n.val = _; omega

theorem held2 (t : Fin (cfg0 a).N) (n : Fin 1024) (e : Fin 32) (p : Fin 4096)
    (he : e.val = ((a.1 2 : S96.Idx → BitVec 32) (ix1 (itn t.val))).toNat) (hp : p.val = (2 + (jt t.val).val) * 1024 + n.val) :
    (heldIn (cfg0 a) (arrs c V a) 2 t.val t.isLt : Vec Ideal S1x1x1024 .f32) (ix3 (0 : Fin 1) (0 : Fin 1) n)
      = (V c main_v90 : Vec Ideal S32x1x4096 .f32) (ix3 e (0 : Fin 1) p) := by
  refine held_ind (cfg0 a) (arrs c V a) 2 (fun X ix => ix = ![((a.1 2 : S96.Idx → BitVec 32) (ix1 (itn t.val))).toNat, 0, 2 + (jt t.val).val] →
    (X : Vec Ideal S1x1x1024 .f32) (ix3 (0 : Fin 1) (0 : Fin 1) n) = (V c main_v90 : Vec Ideal S32x1x4096 .f32) (ix3 e (0 : Fin 1) p)) rfl ?_ t.val t.isLt
    ((trans3 _ _ (itn t.val) (coords1 t)).trans (by rw [col_toNat', coords0]; rfl))
  intro u hu
  unfold Window.fill
  rw [dif_pos (((cfg0 a).win 2).moved_iff _ _ |>.2 fun x => (ix3 (0 : Fin 1) (0 : Fin 1) n x).isLt)]
  show (V c main_v90 : Vec Ideal S32x1x4096 .f32) ((((cfg0 a).win 2).blk u).view.emb (ix3 (0 : Fin 1) (0 : Fin 1) n)) = _
  refine congrArg _ (funext fun x => Fin.ext ?_)
  match x with
  | ⟨0, _⟩ => show ((cfg0 a).win 2).index u (0 : Fin 3) * 1 + 1 * 0 = e.val; rw [congrFun hu (0 : Fin 3), he]; show ((a.1 2 : S96.Idx → BitVec 32) (ix1 (itn t.val))).toNat * 1 + 1 * 0 = _; omega
  | ⟨1, _⟩ => show ((cfg0 a).win 2).index u (1 : Fin 3) * 1 + 1 * 0 = 0; rw [congrFun hu (1 : Fin 3)]; rfl
  | ⟨2, _⟩ => show ((cfg0 a).win 2).index u (2 : Fin 3) * 1024 + 1 * n.val = p.val; rw [congrFun hu (2 : Fin 3), hp]; show (2 + (jt t.val).val) * 1024 + 1 * n.val = _; omega

theorem wtile_at (h : Fin 2) (e : Fin 32) (j : Fin 2) (k : Fin 2048) (n : Fin 1024) (p : Fin 4096) (hp : p.val = (2 * h.val + j.val) * 1024 + n.val) :
    wtile (F := Ideal) c (V c main_v88) h e j (ix2 k n) = (V c main_v88 : Vec Ideal S32x2048x4096 .f32) (ix3 e k p) := by
  unfold wtile
  show (src h e j).view.read (Elt Ideal) (V c main_v88) (ix2 k n) = _
  refine (shapeCast_1ab_ab_apply (fun y : S1x2048x1024.Idx => (V c main_v88 : Vec Ideal S32x2048x4096 .f32)
    ((Rect.unit (s := S32x2048x4096) (offW h e j) S1x2048x1024.size (offW_inb h e j)).emb y)) (by decide) k n).trans ?_
  refine congrArg _ (funext fun x => Fin.ext ?_)
  match x with
  | ⟨0, _⟩ => show e.val + 1 * 0 = e.val; omega
  | ⟨1, _⟩ => show 0 + 1 * k.val = k.val; omega
  | ⟨2, _⟩ => show (2 * h.val + j.val) * 1024 + 1 * n.val = p.val; omega
end

section
variable (m : (ℓ : Loc nD τ sig) → Buf (Elt Ideal) ℓ) (c : Dev nD)

theorem schedA_e (b : Fin 96) : (schedA m c).e b = ex m c b := by sl_kernel_rfl
theorem schedA_k (b : Fin 96) : (schedA m c).k b = kOf (nv m c b) := by sl_kernel_rfl
end

end Cert.Up
-- ==== Proof.UArray.lean ====
/- The expert-up kernel's result, entry by entry, in the tables its host operations make. -/
module

public import proofs.«01_k».proof.Proof.UHeld
public import Idealize.ShloMosaic.Lib.Pipeline.ValueKit.Geometry

@[expose] public section

set_option maxRecDepth 16384

noncomputable section

namespace Cert.Up

open Cert.Kernel2Ideal Cert.Kernel2Ideal.Gen
open Idealize.ShloMosaic hiding ix1 ix2 ix3 ix4 eq_ix2
open Idealize.ShloMosaic.TcCoe Idealize.ShloMosaic.Tactic
open Idealize.ShloMosaic.ValueIdx
open Idealize.ShloMosaic.Pipeline (Dat Cfg Window heldIn)
open Idealize.SL.Sem

variable (m : (ℓ : Loc nD τ sig) → Buf (Elt Ideal) ℓ) (c : Dev nD)

/-- The gathered rows, as they lie; the expert weights; the expert biases. -/
abbrev Xs : Vec Ideal S786432x128 .f32 := m ((c : Thread nD τ).loc main_arg1)
abbrev W1 : Vec Ideal S1x32x2048x4096 .f32 := m ((c : Thread nD τ).loc main_arg2)
abbrev B1 : Vec Ideal S1x32x4096 .f32 := m ((c : Thread nD τ).loc main_arg3)

theorem r88 : (hostV m c main_v88 : Vec Ideal S32x2048x4096 .f32) = shapeCast S32x2048x4096 (W1 m c) shapeCasts_S1x32x2048x4096_S32x2048x4096 := by
  unfold hostV; after_reads_simp; rfl
theorem r90 : (hostV m c main_v90 : Vec Ideal S32x1x4096 .f32)
    = shapeCast S32x1x4096 (shapeCast S32x4096 (B1 m c) shapeCasts_S1x32x4096_S32x4096) shapeCasts_S32x4096_S32x1x4096 := by
  unfold hostV; after_reads_simp; rfl

theorem w88 (e : Fin 32) (k : Fin 2048) (p : Fin 4096) : (hostV m c main_v88 : Vec Ideal S32x2048x4096 .f32) (ix3 e k p) = W1 m c (ix4 (0 : Fin 1) e k p) := by
  rw [r88]; exact shapeCast_1abc_abc_apply (W1 m c) _ e k p
theorem w90 (e : Fin 32) (p : Fin 4096) : (hostV m c main_v90 : Vec Ideal S32x1x4096 .f32) (ix3 e (0 : Fin 1) p) = B1 m c (ix3 (0 : Fin 1) e p) := by
  rw [r90]
  refine (shapeCast_apply _ _ (ix3 e (0 : Fin 1) p) (ix2 e p) ?_).trans (shapeCast_1ab_ab_apply (B1 m c) _ e p)
  rw [Shape.rowMajor_val_three, Shape.rowMajor_val_two]
  show e.val * 4096 + p.val = (e.val * 1 + 0) * 4096 + p.val
  omega

/-- The block of rows step `b` reads. -/
def blkN (b : Fin 96) : ℕ := ((pfs m c 0 : S96.Idx → BitVec 32) (ix1 b)).toNat
theorem blkN_le (b : Fin 96) : blkN m c b ≤ b.val := pfs0 m c b

/-- Entry `k` of row `q` of the block step `b` reads. -/
def xrow (b : Fin 96) (q : Fin 512) (k : Fin 2048) : EReal :=
  Xs m c (ix2 ⟨(blkN m c b * 512 + q.val) * 16 + k.val / 128, by have := blkN_le m c b; omega⟩ ⟨k.val % 128, by omega⟩)

/-- Row `q` of step `b`'s block against column `p` of the step's expert, with the bias. -/
def upSum (b : Fin 96) (q : Fin 512) (p : Fin 4096) : EReal :=
  (∑ k : Fin 2048, xrow m c b q k * W1 m c (ix4 (0 : Fin 1) (ex m c b) k p)) + B1 m c (ix3 (0 : Fin 1) (ex m c b) p)

/-- What the kernel leaves at row `q`, column `n` of the block of step `b`. -/
def upEnt (b : Fin 96) (q : Fin 512) (n : Fin 2048) : EReal :=
  if q.val < 128 * (kOf (nv m c b)).val then swiK (upSum m c b q ⟨n.val, by omega⟩) (upSum m c b q ⟨2048 + n.val, by omega⟩) else 0

theorem out_at (t : Fin (cfg0 (adm m c)).N) (q : Fin 512) (y : Fin 1024) (n : Fin 2048) (hn : n.val = (jt t.val).val * 1024 + y.val) :
    outAt c (hostV m) (adm m c) (schedA m c) t (ix2 q y) = upEnt m c (itn t.val) q n := by
  unfold outAt
  rw [schedA_e, schedA_k]
  refine (congrFun (outB_eq c (grid0.coords t) (itn t.val) (ms0 (adm m c) t) (hs0 (adm m c) t) (ms1 (adm m c) t) (hs1 (adm m c) t) (ms2 (adm m c) t) (hs2 (adm m c) t)
    (ms3 (adm m c) t) (hs3 (adm m c) t) (heldIn (cfg0 (adm m c)) (arrs c (hostV m) (adm m c)) 0 t.val t.isLt)
    (wtile c (hostV m c main_v88) 0 (ex m c (itn t.val)) (jt t.val)) (wtile c (hostV m c main_v88) 1 (ex m c (itn t.val)) (jt t.val))
    (heldIn (cfg0 (adm m c)) (arrs c (hostV m) (adm m c)) 1 t.val t.isLt) (heldIn (cfg0 (adm m c)) (arrs c (hostV m) (adm m c)) 2 t.val t.isLt)
    (kOf (nv m c (itn t.val)))) (ix2 q y)).trans ?_
  unfold upBlock upEnt
  have hex : ((ex m c (itn t.val)).val) = (((adm m c).1 2 : S96.Idx → BitVec 32) (ix1 (itn t.val))).toNat := (pfs2 m c (itn t.val)).symm
  have hx : ∀ k : Fin 2048, xent (heldIn (cfg0 (adm m c)) (arrs c (hostV m) (adm m c)) 0 t.val t.isLt) q k = xrow m c (itn t.val) q k := by
    intro k
    unfold xent xrow
    have hb := blkN_le m c (itn t.val)
    refine (held0 (adm m c) c (hostV m) t ⟨q.val * 16 + k.val / 128, _⟩ ⟨k.val % 128, _⟩ ⟨(blkN m c (itn t.val) * 512 + q.val) * 16 + k.val / 128, by omega⟩ ?_).trans ?_
    · show (blkN m c (itn t.val) * 512 + q.val) * 16 + k.val / 128 = blkN m c (itn t.val) * 8192 + (q.val * 16 + k.val / 128)
      omega
    · rw [r_arg1]
  have hj := (jt t.val).isLt
  have hp1 : (⟨n.val, by omega⟩ : Fin 4096).val = (jt t.val).val * 1024 + y.val := hn
  have hp2 : (⟨2048 + n.val, by omega⟩ : Fin 4096).val = (2 + (jt t.val).val) * 1024 + y.val := by show 2048 + n.val = _; omega
  refine if_congr Iff.rfl (congrArg₂ swiK ?_ ?_) rfl
  · unfold upSum
    refine congrArg₂ (· + ·) (Finset.sum_congr rfl fun k _ => congrArg₂ (· * ·) (hx k) ?_) ((held1 (adm m c) c (hostV m) t y _ _ hex hp1).trans (w90 m c _ _))
    exact (wtile_at c (hostV m) 0 _ _ k y _ (hp1.trans (by show _ = (2 * 0 + (jt t.val).val) * 1024 + y.val; omega))).trans (w88 m c _ _ _)
  · unfold upSum
    refine congrArg₂ (· + ·) (Finset.sum_congr rfl fun k _ => congrArg₂ (· * ·) (hx k) ?_) ((held2 (adm m c) c (hostV m) t y _ _ hex hp2).trans (w90 m c _ _))
    exact (wtile_at c (hostV m) 1 _ _ k y _ (hp2.trans (by show _ = (2 * 1 + (jt t.val).val) * 1024 + y.val; omega))).trans (w88 m c _ _ _)

theorem index3 (t : Fin (cfg0 (adm m c)).N) : ((cfg0 (adm m c)).win 3).index t = ![(itn t.val).val, (jt t.val).val] := by
  refine (trans4 _ _ (itn t.val) (coords1 t)).trans ?_
  have e : ((adm m c).1 1 : S96.Idx → BitVec 32) (ix1 (itn t.val)) = BitVec.ofNat 32 (itn t.val).val := pfs1 m c (itn t.val)
  have hb := (itn t.val).isLt
  rw [col_toNat, coords0]
  refine congrArg (fun z : ℕ => (![z, (jt t.val).val] : Fin 2 → ℕ)) ?_
  exact (congrArg BitVec.toNat e).trans (toNat_small _ (by omega))

theorem flush3 (t : Fin (cfg0 (adm m c)).N) : ((cfg0 (adm m c)).win 3).flush t = true := by
  unfold Window.flush
  have ho : ((cfg0 (adm m c)).win 3).isOut = true := rfl
  rw [ho]
  simp only [Bool.true_and, Bool.or_eq_true, decide_eq_true_eq]
  by_cases h : t.val + 1 = grid0.N
  · exact .inl h
  · refine .inr ⟨?_, fun e => ?_⟩
    · have := t.isLt; exact lt_of_le_of_ne (Nat.succ_le_of_lt this) h
    · rw [index3, index3] at e
      have e0 := congrFun e (0 : Fin 2)
      have e1 : (t.val + 1) % 96 = t.val % 96 := e0
      omega

/-- The result's entry at an index of the array. -/
def upArr (i : S49152x2048.Idx) : EReal :=
  upEnt m c ⟨(i 0).val / 512, by have : (i 0).val < 49152 := (i 0).isLt; omega⟩ ⟨(i 0).val % 512, by omega⟩ (i 1)

theorem out_emb (t : Fin (cfg0 (adm m c)).N) (y : S512x1024.Idx) (z : S49152x2048.Idx) (h0 : (z 0).val = (itn t.val).val * 512 + (y 0).val)
    (h1 : (z 1).val = (jt t.val).val * 1024 + (y 1).val) : outAt c (hostV m) (adm m c) (schedA m c) t y = upArr m c z := by
  have hq : (y 0).val < 512 := (y 0).isLt
  rw [eq_ix2 y]
  refine (out_at m c t (y 0) (y 1) (z 1) h1).trans ?_
  unfold upArr
  refine congrArg₂ (fun b q => upEnt m c b q (z 1)) (Fin.ext ?_) (Fin.ext ?_)
  · show (itn t.val).val = (z 0).val / 512
    omega
  · show (y 0).val = (z 0).val % 512
    omega

theorem result : (dats (hostV m) (adm m c) (schedA m c) 0 c).arrAt 3 (cfg0 (adm m c)).N = upArr m c := by
  refine Dat.arrAt_eq_of_emb (dats (hostV m) (adm m c) (schedA m c) 0 c) 3 (upArr m c) ?_ ?_
  · intro t _ y
    have e := index3 m c t
    refine Eq.trans (b := outAt c (hostV m) (adm m c) (schedA m c) t y) (by sl_kernel_rfl) ?_
    refine out_emb m c t y _ ?_ ?_
    · show ((cfg0 (adm m c)).win 3).index t (0 : Fin 2) * 512 + 1 * (y (0 : Fin 2)).val = _
      rw [congrFun e (0 : Fin 2), Nat.one_mul]; rfl
    · show ((cfg0 (adm m c)).win 3).index t (1 : Fin 2) * 1024 + 1 * (y (1 : Fin 2)).val = _
      rw [congrFun e (1 : Fin 2), Nat.one_mul]; rfl
  · intro i
    have i0 : (i (0 : Fin 2)).val < 49152 := (i (0 : Fin 2)).isLt
    have i1 : (i (1 : Fin 2)).val < 2048 := (i (1 : Fin 2)).isLt
    let t : Fin (cfg0 (adm m c)).N := ⟨(i (1 : Fin 2)).val / 1024 * 96 + (i (0 : Fin 2)).val / 512, by
      show _ < grid0.N
      rw [N_0]; omega⟩
    refine ⟨t, flush3 m c t, (((cfg0 (adm m c)).win 3).emb_mem_blk_iff t i).mpr fun x => ?_⟩
    have e := index3 m c t
    have t0 : (itn t.val).val = (i (0 : Fin 2)).val / 512 := by show ((i (1 : Fin 2)).val / 1024 * 96 + (i (0 : Fin 2)).val / 512) % 96 = _; omega
    have t1 : (jt t.val).val = (i (1 : Fin 2)).val / 1024 := by show ((i (1 : Fin 2)).val / 1024 * 96 + (i (0 : Fin 2)).val / 512) / 96 % 2 = _; omega
    match x with
    | ⟨0, _⟩ =>
      show ((cfg0 (adm m c)).win 3).index t (0 : Fin 2) * 512 ≤ (i (0 : Fin 2)).val ∧ (i (0 : Fin 2)).val < ((cfg0 (adm m c)).win 3).index t (0 : Fin 2) * 512 + 512
      rw [congrFun e (0 : Fin 2)]
      show (itn t.val).val * 512 ≤ _ ∧ _ < (itn t.val).val * 512 + 512
      rw [t0]; omega
    | ⟨1, _⟩ =>
      show ((cfg0 (adm m c)).win 3).index t (1 : Fin 2) * 1024 ≤ (i (1 : Fin 2)).val ∧ (i (1 : Fin 2)).val < ((cfg0 (adm m c)).win 3).index t (1 : Fin 2) * 1024 + 1024
      rw [congrFun e (1 : Fin 2)]
      show (jt t.val).val * 1024 ≤ _ ∧ _ < (jt t.val).val * 1024 + 1024
      rw [t1]; omega

end Cert.Up
-- ==== Proof.UReads2.lean ====
/- The expert-up kernel's host code, the operations on the experts' counts. -/
module

public import proofs.«01_k».proof.Proof.UReads

@[expose] public section

noncomputable section

namespace Cert.Up

open Cert.Kernel2Ideal Cert.Kernel2Ideal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The experts' counts. -/
abbrev Cs : S32.Idx → BitVec 32 := m (c, main_arg0)
/-- The vector of one word, over the experts. -/
abbrev all32 (v : S_.Idx → BitVec 32) : S32.Idx → BitVec 32 := broadcastInDim S32 ![] bcast_S_S32 v
/-- Division rounding down, over the experts. -/
abbrev fdiv32 (x : S32.Idx → BitVec 32) (d : S_.Idx → BitVec 32) : S32.Idx → BitVec 32 :=
  select (andi (cmpi .ne (signi x) (all32 (signi d))) (cmpi .ne (Host.remsi x (all32 d)) (all32 (one 0#32))))
    (subi (Host.divsi x (all32 d)) (all32 (one 1#32))) (Host.divsi x (all32 d))
/-- Division rounding down, of one word. -/
abbrev fdiv0 (x d : S_.Idx → BitVec 32) : S_.Idx → BitVec 32 :=
  select (andi (cmpi .ne (signi x) (signi d)) (cmpi .ne (Host.remsi x d) (one 0#32)))
    (subi (Host.divsi x d) (one 1#32)) (Host.divsi x d)

/-- The host code's first 1 stretches. -/
def pre1 : List (List (HloOp τ sig (Elt F))) := [hostOps0]
/-- The stretches after those. -/
abbrev post1 : List (List (HloOp τ sig (Elt F))) := [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]
theorem cut1 (b : Ref sig .tc) : hostV m c b
    = StableHlo.after (post1 (F := F)).flatten (StableHlo.after (pre1 (F := F)).flatten (fun b => m (c, b))) b := by
  unfold pre1; rw [← StableHlo.after_append, ← List.flatten_append]; rfl
/-- The host code's first 3 stretches. -/
def pre3 : List (List (HloOp τ sig (Elt F))) := [hostOps0, hostOps0_1, hostOps0_2]
/-- The stretches after those. -/
abbrev post3 : List (List (HloOp τ sig (Elt F))) := [hostOps0_3, hostOps0_4, hostOps0_5, hostOps0_6, hostOps0_7, hostOps0_8, hostOps0_9, hostOps0_10, hostOps0_11, hostOps0_12, hostOps0_13, hostOps0_14, hostOps0_15, hostOps0_16, hostOps0_17]
theorem cut3 (b : Ref sig .tc) : hostV m c b
    = StableHlo.after (post3 (F := F)).flatten (StableHlo.after (pre3 (F := F)).flatten (fun b => m (c, b))) b := by
  unfold pre3; rw [← StableHlo.after_append, ← List.flatten_append]; rfl
/-- The host code's first 4 stretches. -/
def pre4 : List (List (HloOp τ sig (Elt F))) := [hostOps0, hostOps0_1, hostOps0_2, hostOps0_3]
/-- The stretches after those. -/
abbrev post4 : List (List (HloOp τ sig (Elt F))) := [hostOps0_4, hostOps0_5, hostOps0_6, hostOps0_7, hostOps0_8, hostOps0_9, hostOps0_10, hostOps0_11, hostOps0_12, hostOps0_13, hostOps0_14, hostOps0_15, hostOps0_16, hostOps0_17]
theorem cut4 (b : Ref sig .tc) : hostV m c b
    = StableHlo.after (post4 (F := F)).flatten (StableHlo.after (pre4 (F := F)).flatten (fun b => m (c, b))) b := by
  unfold pre4; rw [← StableHlo.after_append, ← List.flatten_append]; rfl
/-- The host code's first 5 stretches. -/
def pre5 : List (List (HloOp τ sig (Elt F))) := [hostOps0, hostOps0_1, hostOps0_2, hostOps0_3, hostOps0_4]
/-- The stretches after those. -/
abbrev post5 : List (List (HloOp τ sig (Elt F))) := [hostOps0_5, hostOps0_6, hostOps0_7, hostOps0_8, hostOps0_9, hostOps0_10, hostOps0_11, hostOps0_12, hostOps0_13, hostOps0_14, hostOps0_15, hostOps0_16, hostOps0_17]
theorem cut5 (b : Ref sig .tc) : hostV m c b
    = StableHlo.after (post5 (F := F)).flatten (StableHlo.after (pre5 (F := F)).flatten (fun b => m (c, b))) b := by
  unfold pre5; rw [← StableHlo.after_append, ← List.flatten_append]; rfl
theorem rc1 : hostV m c main_c_1 = one 512#32 := by unfold hostV; after_reads_simp
theorem rc3 : hostV m c main_c_3 = one 512#32 := by unfold hostV; after_reads_simp
theorem r3 : hostV m c main_v3 = subi (addi (Cs m c) (all32 (one 512#32))) (all32 (one 1#32)) := by
  unfold hostV; after_reads_simp
theorem s6 (W : Valuation τ sig (Elt F)) : StableHlo.after (post1 (F := F)).flatten W main_v6
    = muli (fdiv32 (StableHlo.after (post1 (F := F)).flatten W main_v3 : S32.Idx → BitVec 32) (StableHlo.after (post1 (F := F)).flatten W main_c_1 : S_.Idx → BitVec 32)) (all32 (one 512#32)) := by
  after_reads_simp; simp -implicitDefEqProofs only [StableHlo.TRef.toBuf, StableHlo.TRef.ofBuf, cast_cast, cast_eq, id_eq]
theorem r6 : hostV m c main_v6 = muli (fdiv32 (hostV m c main_v3 : S32.Idx → BitVec 32) (hostV m c main_c_1 : S_.Idx → BitVec 32)) (all32 (one 512#32)) := by
  rw [cut1 m c main_v6, cut1 m c main_v3, cut1 m c main_c_1]; exact s6 _
theorem s7 (W : Valuation τ sig (Elt F)) : StableHlo.after (post3 (F := F)).flatten W main_v7
    = Host.reduceWindow IntOp.addi ![32] ![1] ![31] ![0] (StableHlo.after (post3 (F := F)).flatten W main_v6 : S32.Idx → BitVec 32)
        (broadcastInDim S_ ![] bcast_S_S_ (one 0#32)) reduceWindows_S32_S32_w32s1p31_0 h_S_ := by
  after_reads_simp; simp -implicitDefEqProofs only [StableHlo.TRef.toBuf, StableHlo.TRef.ofBuf, cast_cast, cast_eq, id_eq]
theorem r7 : hostV m c main_v7 = Host.reduceWindow IntOp.addi ![32] ![1] ![31] ![0] (hostV m c main_v6 : S32.Idx → BitVec 32)
    (broadcastInDim S_ ![] bcast_S_S_ (one 0#32)) reduceWindows_S32_S32_w32s1p31_0 h_S_ := by
  rw [cut3 m c main_v7, cut3 m c main_v6]; exact s7 _
theorem s10 (W : Valuation τ sig (Elt F)) : StableHlo.after (post4 (F := F)).flatten W main_v10
    = shapeCast S_ (extractStridedSlice S1 ![31] (StableHlo.after (post4 (F := F)).flatten W main_v7 : S32.Idx → BitVec 32) slices_S32_S1_31) shapeCasts_S1_S_ := by
  after_reads_simp; rfl
theorem r10 : hostV m c main_v10 = shapeCast S_ (extractStridedSlice S1 ![31] (hostV m c main_v7 : S32.Idx → BitVec 32) slices_S32_S1_31) shapeCasts_S1_S_ := by
  rw [cut4 m c main_v10, cut4 m c main_v7]; exact s10 _
theorem s11 (W : Valuation τ sig (Elt F)) : StableHlo.after (post5 (F := F)).flatten W main_v11
    = fdiv0 (StableHlo.after (post5 (F := F)).flatten W main_v10 : S_.Idx → BitVec 32) (StableHlo.after (post5 (F := F)).flatten W main_c_3 : S_.Idx → BitVec 32) := by
  after_reads_simp; simp -implicitDefEqProofs only [StableHlo.TRef.toBuf, StableHlo.TRef.ofBuf, cast_cast, cast_eq, id_eq]
theorem r11 : hostV m c main_v11 = fdiv0 (hostV m c main_v10 : S_.Idx → BitVec 32) (hostV m c main_c_3 : S_.Idx → BitVec 32) := by
  rw [cut5 m c main_v11, cut5 m c main_v10, cut5 m c main_c_3]; exact s11 _
theorem r8 : hostV m c main_v8 = subi (hostV m c main_v7 : S32.Idx → BitVec 32) (hostV m c main_v6 : S32.Idx → BitVec 32) := by
  unfold hostV; after_reads_simp
theorem r13 : hostV m c main_v13 = subi (hostV m c main_v11 : S_.Idx → BitVec 32) (one 1#32) := by
  unfold hostV; after_reads_simp
theorem r18 : hostV m c main_v18 = muli (hostV m c main_v16 : S96.Idx → BitVec 32) (all96 (one 512#32)) := by
  unfold hostV; after_reads_simp
theorem r23 : hostV m c main_v23
    = cmpi .sle (broadcastInDim S96x32 ![0, 1] bcast_S1x32_S96x32_0_1 (broadcastInDim S1x32 ![1] bcast_S32_S1x32_1 (hostV m c main_v7 : S32.Idx → BitVec 32)))
        (broadcastInDim S96x32 ![0, 1] bcast_S96x1_S96x32_0_1 (broadcastInDim S96x1 ![0] bcast_S96_S96x1_0 (hostV m c main_v18 : S96.Idx → BitVec 32))) := by
  unfold hostV; after_reads_simp
theorem r43 : hostV m c main_v43
    = subi (Host.gather gather_S32_S96x1_S96_n_0_n_n_0_1_1 (Cs m c) (col (wrap (hostV m c main_v27 : S96.Idx → BitVec 32) 32#32)))
        (subi (hostV m c main_v18 : S96.Idx → BitVec 32)
          (Host.gather gather_S32_S96x1_S96_n_0_n_n_0_1_1 (hostV m c main_v8 : S32.Idx → BitVec 32) (col (wrap (hostV m c main_v27 : S96.Idx → BitVec 32) 32#32)))) := by
  unfold hostV; after_reads_simp

end Cert.Up
-- ==== Proof.UDiv.lean ====
/- Division rounding down, as jnp writes it, of words that hold small naturals. -/
module

public import proofs.«01_k».proof.Proof.UTabs
public import Idealize.ShloMosaic.Lib.Routing.BitFacts

@[expose] public section

noncomputable section

namespace Cert.Up

open Idealize.ShloMosaic Idealize.ShloMosaic.Routing

theorem both_bits (p q : BitVec 1) : IntOp.andi p q = 1#1 ↔ p = 1#1 ∧ q = 1#1 := by revert p q; decide
theorem differ_bit (p q : BitVec 32) : IntOp.cmpi .ne p q = 1#1 ↔ p ≠ q := by
  simp only [IntOp.cmpi, StableHlo.Predicate.ofBool_eq_one_iff, bne_iff_ne]

theorem no_corner (n k : ℕ) (hn : n < 2 ^ 31) (h0 : 0 < k) (hk : k < 2 ^ 31) : ¬ IntOp.SDivCorner (BitVec.ofNat 32 n) (BitVec.ofNat 32 k) := by
  rintro (h | ⟨-, h⟩)
  · exact ofNat32_ne_zero h0 (by omega) h
  · exact ofNat32_ne_neg_one hk h

theorem floorDiv_at {s : Shape} (x d sd z o : IVec s 32) (j : s.Idx) (n k : ℕ) (hx : x j = BitVec.ofNat 32 n) (hd : d j = BitVec.ofNat 32 k)
    (hsd : sd j = 1#32) (hz : z j = 0#32) (hn : n < 2 ^ 31) (h0 : 0 < k) (hk : k < 2 ^ 31) :
    select (andi (cmpi .ne (signi x) sd) (cmpi .ne (Host.remsi x d) z)) (subi (Host.divsi x d) o) (Host.divsi x d) j = BitVec.ofNat 32 (n / k) := by
  have hdiv : Host.divsi x d j = BitVec.ofNat 32 (n / k) := by
    unfold Host.divsi
    rw [hx, hd]
    unfold IntOp.divsi
    rw [if_neg (no_corner n k hn h0 hk)]
    exact sdiv_ofNat32 hn hk
  have hrem : n = 0 → Host.remsi x d j = 0#32 := by
    intro e
    unfold Host.remsi
    rw [hx, hd]
    unfold IntOp.remsi
    rw [if_neg (no_corner n k hn h0 hk), srem_ofNat32 hn hk, e]
    simp
  have hsg : n ≠ 0 → signi x j = 1#32 := by
    intro e
    unfold signi
    rw [hx, if_neg (ofNat32_ne_zero (by omega) (by omega)), msb_ofNat32 hn]
    rfl
  show Scalar.select (IntOp.andi (IntOp.cmpi .ne (signi x j) (sd j)) (IntOp.cmpi .ne (Host.remsi x d j) (z j))) _ (Host.divsi x d j) = _
  have hp : ¬ IntOp.andi (IntOp.cmpi .ne (signi x j) (sd j)) (IntOp.cmpi .ne (Host.remsi x d j) (z j)) = 1#1 := by
    intro h
    obtain ⟨h1, h2⟩ := (both_bits _ _).1 h
    rw [differ_bit, hsd] at h1
    rw [differ_bit, hz] at h2
    by_cases e : n = 0
    · exact h2 (hrem e)
    · exact h1 (hsg e)
  show (if _ = 1#1 then _ else _) = _
  rw [if_neg hp, hdiv]

end Cert.Up
-- ==== Proof.URoute.lean ====
/- Where the experts' rows lie, over the naturals: each expert's rows padded to whole blocks of 512, one expert after another. -/
module

public import proofs.«01_k».proof.Proof.UTabs

@[expose] public section

namespace Cert.Up

/-- An expert's rows padded to whole blocks. -/
def padN (c : ℕ → ℕ) (e : ℕ) : ℕ := (c e + 511) / 512 * 512
/-- Where expert `e`'s rows start. -/
def startN (c : ℕ → ℕ) (e : ℕ) : ℕ := ((List.range e).map (padN c)).sum

variable (c : ℕ → ℕ)

theorem startN_succ (e : ℕ) : startN c (e + 1) = startN c e + padN c e := by
  unfold startN; rw [List.range_succ]; simp
theorem startN_zero : startN c 0 = 0 := rfl

theorem startN_mono {a b : ℕ} (h : a ≤ b) : startN c a ≤ startN c b := by
  induction b with
  | zero => exact le_of_eq (by rw [Nat.le_zero.1 h])
  | succ b ih =>
    rcases Nat.lt_or_ge a (b + 1) with h' | h'
    · exact (ih (by omega)).trans (by rw [startN_succ]; omega)
    · exact le_of_eq (by rw [show a = b + 1 by omega])

theorem startN_block (e : ℕ) : startN c e % 512 = 0 := by
  induction e with
  | zero => rfl
  | succ e ih => rw [startN_succ]; unfold padN; omega

theorem padN_le (hc : ∀ e, c e ≤ 8192) (e : ℕ) : padN c e ≤ 8192 := by have := hc e; unfold padN; omega
theorem startN_le (hc : ∀ e, c e ≤ 8192) (e : ℕ) : startN c e ≤ e * 8192 := by
  induction e with
  | zero => simp [startN_zero]
  | succ e ih => have := padN_le c hc e; rw [startN_succ]; omega

/-- Row `p` is one expert `e` computes: of its padded rows, those in its chunks of 128 that hold a token. -/
def mineN (e p : ℕ) : Prop := startN c e ≤ p ∧ p < startN c e + (c e + 127) / 128 * 128

theorem mine_lt {e p : ℕ} (h : mineN c e p) : p < startN c (e + 1) := by
  have h2 := h.2
  rw [startN_succ]; unfold padN
  omega

theorem not_mine_past {b q e : ℕ} (he : e < 32) (hb : startN c 32 ≤ 512 * b) : ¬ mineN c e (512 * b + q) := fun h => by
  have h1 := mine_lt c h
  have h2 := startN_mono c (show e + 1 ≤ 32 by omega)
  omega

theorem mine_iff {b q e E n : ℕ} (hq : q < 512) (h1 : startN c E ≤ 512 * b) (h2 : 512 * b < startN c (E + 1))
    (hn : n = min 512 (c E - (512 * b - startN c E))) : mineN c e (512 * b + q) ↔ e = E ∧ q < 128 * (kOf n).val := by
  have hE := startN_block c E
  constructor
  · intro h
    have h3 := mine_lt c h
    have hle : e = E := by
      rcases lt_trichotomy e E with hlt | heq | hgt
      · have := startN_mono c (show e + 1 ≤ E by omega); omega
      · exact heq
      · have h4 := startN_mono c (show E + 1 ≤ e by omega)
        have h5 := startN_block c (E + 1)
        have h6 := h.1
        omega
    subst hle
    refine ⟨rfl, ?_⟩
    have h6 := h.2
    rw [hn]
    unfold kOf
    split_ifs <;> (first | (show q < 128 * 0; omega) | (show q < 128 * 1; omega) | (show q < 128 * 2; omega) | (show q < 128 * 3; omega) | (show q < 128 * 4; omega))
  · rintro ⟨rfl, h⟩
    refine ⟨by omega, ?_⟩
    rw [startN_succ] at h2
    unfold padN at h2
    rw [hn] at h
    unfold kOf at h
    split_ifs at h
    · have : q < 128 * 0 := h; omega
    · have : q < 128 * 1 := h; omega
    · have : q < 128 * 2 := h; omega
    · have : q < 128 * 3 := h; omega
    · have : q < 128 * 4 := h; omega

/-- How many of the 32 experts end at or before row `r`. -/
theorem ends_before (r : ℕ) (hr : r < startN c 32) : ∃ E : Fin 32, startN c E.val ≤ r ∧ r < startN c (E.val + 1)
    ∧ (Finset.univ.filter fun q : Fin 32 => startN c (q.val + 1) ≤ r).card = E.val := by
  have hex : ∃ e, r < startN c (e + 1) := ⟨31, hr⟩
  let E := Nat.find hex
  have hE : r < startN c (E + 1) := Nat.find_spec hex
  have hmin : ∀ e, e < E → startN c (e + 1) ≤ r := fun e h => Nat.le_of_not_lt (Nat.find_min hex h)
  have hE32 : E < 32 := by
    by_contra h
    have h1 : startN c 32 ≤ r := hmin 31 (by omega)
    omega
  have hlow : startN c E ≤ r := by
    rcases Nat.eq_zero_or_pos E with h0 | h0
    · rw [h0, startN_zero]; omega
    · have := hmin (E - 1) (by omega)
      rwa [Nat.sub_add_cancel h0] at this
  refine ⟨⟨E, hE32⟩, hlow, hE, ?_⟩
  have e1 : (Finset.univ.filter fun q : Fin 32 => startN c (q.val + 1) ≤ r) = Finset.univ.filter fun q : Fin 32 => q.val < E := by
    refine Finset.filter_congr fun q _ => ⟨fun h => ?_, fun h => hmin q.val h⟩
    by_contra hq
    have := startN_mono c (show E + 1 ≤ q.val + 1 by omega)
    omega
  rw [e1]
  exact (Fin.card_filter_val_lt (n := 32) (m := E)).trans (min_eq_right (by omega))

end Cert.Up
-- ==== Proof.UTok.lean ====
/- The expert-up kernel's tables in the experts' counts: which block of rows a step reads, for which expert, and how many of its
   rows hold tokens. -/
module

public import proofs.«01_k».proof.Proof.UReads2
public import proofs.«01_k».proof.Proof.UDiv
public import proofs.«01_k».proof.Proof.URoute
public import proofs.«01_k».proof.Proof.UTables

@[expose] public section

noncomputable section

namespace Cert.Up

open Cert.Kernel2Ideal Cert.Kernel2Ideal.Gen
open Idealize.ShloMosaic Idealize.ShloMosaic.TcCoe Idealize.ShloMosaic.Tactic

local notation "𝕋" => S96.Idx → BitVec 32
local notation "𝔼" => S32.Idx → BitVec 32

theorem all32_at (v : S_.Idx → BitVec 32) (j : S32.Idx) : all32 v j = v ix0 := Routing.bc0 _ _ _

theorem add_word (a b : ℕ) : IntOp.addi (BitVec.ofNat 32 a) (BitVec.ofNat 32 b) = BitVec.ofNat 32 (a + b) := (BitVec.ofNat_add a b).symm
theorem mul_word (a b : ℕ) : IntOp.muli (BitVec.ofNat 32 a) (BitVec.ofNat 32 b) = BitVec.ofNat 32 (a * b) := (BitVec.ofNat_mul a b).symm
theorem sub_word (a b : ℕ) (h : b ≤ a) : IntOp.subi (BitVec.ofNat 32 a) (BitVec.ofNat 32 b) = BitVec.ofNat 32 (a - b) := Routing.ofNat32_sub h

variable {F : FTy → Type} [FloatOps F]
variable (m : (ℓ : Loc nD τ sig) → Buf (Elt F) ℓ) (c : Dev nD)
variable (C : ℕ → ℕ) (hC : ∀ e, C e ≤ 8192) (hCs : ∀ e : Fin 32, Cs m c (ix1 e) = BitVec.ofNat 32 (C e.val))

include hCs
theorem w3 (e : Fin 32) : (hostV m c main_v3 : 𝔼) (ix1 e) = BitVec.ofNat 32 (C e.val + 511) := by
  rw [r3]
  show IntOp.subi (IntOp.addi (Cs m c (ix1 e)) (all32 (one 512#32) (ix1 e))) (all32 (one 1#32) (ix1 e)) = _
  rw [all32_at, all32_at, hCs]
  exact (congrArg (fun x => IntOp.subi x _) (add_word (C e.val) 512)).trans (sub_word (C e.val + 512) 1 (by omega))

include hC
theorem w6 (e : Fin 32) : (hostV m c main_v6 : 𝔼) (ix1 e) = BitVec.ofNat 32 (padN C e.val) := by
  have h := hC e.val
  rw [r6, rc1]
  show IntOp.muli (fdiv32 _ (one 512#32) (ix1 e)) (all32 (one 512#32) (ix1 e)) = _
  have hd : fdiv32 (hostV m c main_v3 : 𝔼) (one 512#32) (ix1 e) = BitVec.ofNat 32 ((C e.val + 511) / 512) :=
    floorDiv_at _ _ _ _ _ (ix1 e) (C e.val + 511) 512 (w3 m c C hCs e) (all32_at _ _) ((all32_at _ _).trans (by decide)) (all32_at _ _)
      (by omega) (by decide) (by decide)
  rw [all32_at, hd]
  exact mul_word _ 512

theorem w7 (e : Fin 32) : (hostV m c main_v7 : 𝔼) (ix1 e) = BitVec.ofNat 32 (startN C (e.val + 1)) := by
  rw [r7]
  exact Routing.cumsum1 (N := 32) (by rfl) _ (padN C) (w6 m c C hC hCs) _ (Routing.bc0 _ _ _) _ _ e

theorem w8 (e : Fin 32) : (hostV m c main_v8 : 𝔼) (ix1 e) = BitVec.ofNat 32 (startN C e.val) := by
  rw [r8]
  show IntOp.subi ((hostV m c main_v7 : 𝔼) (ix1 e)) ((hostV m c main_v6 : 𝔼) (ix1 e)) = _
  rw [w7 m c C hC hCs, w6 m c C hC hCs, sub_word _ _ (by rw [startN_succ]; omega), startN_succ, Nat.add_sub_cancel]

/-- The blocks that the experts' rows take, in all. -/
abbrev blocksN : ℕ := startN C 32 / 512

omit hCs hC in
theorem cast_one (v : S1.Idx → BitVec 32) : shapeCast S_ v shapeCasts_S1_S_ ix0 = v (ix1 0) := cast1 v

theorem w10 : (hostV m c main_v10 : S_.Idx → BitVec 32) ix0 = BitVec.ofNat 32 (startN C 32) := by
  rw [r10, cast1]
  exact (Routing.slice1 31 _ _ (0 : Fin 1) (by decide)).trans (w7 m c C hC hCs 31)

theorem w11 : (hostV m c main_v11 : S_.Idx → BitVec 32) ix0 = BitVec.ofNat 32 (blocksN C) := by
  have h := startN_le C hC 32
  rw [r11, rc3]
  exact floorDiv_at _ _ _ _ _ ix0 (startN C 32) 512 (w10 m c C hC hCs) rfl (by decide) rfl (by omega) (by decide) (by decide)

theorem w13 : ((hostV m c main_v13 : S_.Idx → BitVec 32) ix0).toInt.toNat = blocksN C - 1 := by
  have h := startN_le C hC 32
  rw [r13]
  show (IntOp.subi ((hostV m c main_v11 : S_.Idx → BitVec 32) ix0) 1#32).toInt.toNat = _
  rw [w11 m c C hC hCs]
  rcases Nat.eq_zero_or_pos (blocksN C) with h0 | h0
  · rw [h0]; decide
  · have e := sub_word (blocksN C) 1 h0
    refine (congrArg (fun w : BitVec 32 => w.toInt.toNat) e).trans ?_
    show (BitVec.ofNat 32 (blocksN C - 1)).toInt.toNat = _
    rw [StableHlo.Predicate.toInt_ofNat_small _ (by show startN C 32 / 512 - 1 < 2 ^ 31; omega)]
    omega

theorem w16' (b : Fin 96) : (hostV m c main_v16 : 𝕋) (ix1 b) = BitVec.ofNat 32 (min b.val (blocksN C - 1)) := by
  rw [w16, w13 m c C hC hCs]

theorem w18 (b : Fin 96) : (hostV m c main_v18 : 𝕋) (ix1 b) = BitVec.ofNat 32 (min b.val (blocksN C - 1) * 512) := by
  rw [r18]
  show IntOp.muli ((hostV m c main_v16 : 𝕋) (ix1 b)) (all96 (one 512#32) (ix1 b)) = _
  rw [w16' m c C hC hCs, all96_at]
  exact mul_word _ 512

theorem stops_iff (b : Fin 96) (q : Fin 32) : stops m c (ix2 b q) = 1#1 ↔ startN C (q.val + 1) ≤ min b.val (blocksN C - 1) * 512 := by
  have h := startN_le C hC (q.val + 1)
  unfold stops
  rw [r23]
  show IntOp.cmpi .sle (broadcastInDim S96x32 ![0, 1] bcast_S1x32_S96x32_0_1 (broadcastInDim S1x32 ![1] bcast_S32_S1x32_1 (hostV m c main_v7 : 𝔼)) (ix2 b q))
    (broadcastInDim S96x32 ![0, 1] bcast_S96x1_S96x32_0_1 (broadcastInDim S96x1 ![0] bcast_S96_S96x1_0 (hostV m c main_v18 : 𝕋)) (ix2 b q)) = 1#1 ↔ _
  have e1 : broadcastInDim S96x32 ![0, 1] bcast_S1x32_S96x32_0_1 (broadcastInDim S1x32 ![1] bcast_S32_S1x32_1 (hostV m c main_v7 : 𝔼)) (ix2 b q)
      = BitVec.ofNat 32 (startN C (q.val + 1)) := (Routing.bcCols _ _ _ b q).trans (w7 m c C hC hCs q)
  have e2 : broadcastInDim S96x32 ![0, 1] bcast_S96x1_S96x32_0_1 (broadcastInDim S96x1 ![0] bcast_S96_S96x1_0 (hostV m c main_v18 : 𝕋)) (ix2 b q)
      = BitVec.ofNat 32 (min b.val (blocksN C - 1) * 512) := (Routing.bcRows _ _ _ b q).trans (w18 m c C hC hCs b)
  rw [e1, e2]
  exact sle_small _ _ (by omega) (by omega)

theorem w43 (b : Fin 96) : (hostV m c main_v43 : 𝕋) (ix1 b)
    = IntOp.subi (BitVec.ofNat 32 (C (ex m c b).val)) (IntOp.subi (BitVec.ofNat 32 (min b.val (blocksN C - 1) * 512)) (BitVec.ofNat 32 (startN C (ex m c b).val))) := by
  rw [r43]
  have hi : col (wrap (hostV m c main_v27 : 𝕋) 32#32) (ix2 b (0 : Fin 1)) = BitVec.ofNat 32 (ex m c b).val :=
    (Routing.bcCol _ _ b).trans ((wrap_at _ _ _ (exN_small m c b.val) (ix1 b) (w27 m c b)).trans (by rw [exN_val]))
  show IntOp.subi (Host.gather gather_S32_S96x1_S96_n_0_n_n_0_1_1 (Cs m c) _ (ix1 b)) (IntOp.subi ((hostV m c main_v18 : 𝕋) (ix1 b))
    (Host.gather gather_S32_S96x1_S96_n_0_n_n_0_1_1 (hostV m c main_v8 : 𝔼) _ (ix1 b))) = _
  rw [w18 m c C hC hCs]
  refine congrArg₂ IntOp.subi ?_ (congrArg (IntOp.subi _) ?_)
  · exact (Routing.gather_take1 (N := 32) (n := 96) _ rfl rfl rfl rfl _ _ b (ex m c b) hi (by decide)).trans (hCs _)
  · exact (Routing.gather_take1 (N := 32) (n := 96) _ rfl rfl rfl rfl _ _ b (ex m c b) hi (by decide)).trans (w8 m c C hC hCs _)

/-- A step is past the experts' rows and works on nothing, or it works on its own block of rows, for the expert those rows are of. -/
theorem step_cases (b : Fin 96) : (startN C 32 ≤ 512 * b.val ∧ nv m c b = 0) ∨
    (startN C (ex m c b).val ≤ 512 * b.val ∧ 512 * b.val < startN C ((ex m c b).val + 1)
      ∧ (hostV m c main_v16 : 𝕋) (ix1 b) = BitVec.ofNat 32 b.val
      ∧ nv m c b = min 512 (C (ex m c b).val - (512 * b.val - startN C (ex m c b).val))) := by
  have hN := startN_le C hC 32
  have hN512 := startN_block C 32
  have hslt := slt_small b.val (blocksN C) (by omega) (by show startN C 32 / 512 < 2 ^ 31; omega)
  rcases Nat.lt_or_ge (512 * b.val) (startN C 32) with hlt | hge
  · right
    have hmin : min b.val (blocksN C - 1) = b.val := min_eq_left (by show b.val ≤ startN C 32 / 512 - 1; omega)
    obtain ⟨E, h1, h2, hcard⟩ := ends_before C (512 * b.val) hlt
    have hex : ex m c b = E := by
      refine Fin.ext ?_
      show min (cnt m c b) 31 = E.val
      have : cnt m c b = E.val := by
        rw [← hcard]
        refine congrArg Finset.card (Finset.filter_congr fun q _ => ?_)
        rw [stops_iff m c C hC hCs, hmin, Nat.mul_comm]
      rw [this]; omega
    have h43 := w43 m c C hC hCs b
    rw [hex, hmin] at h43
    rw [hex]
    refine ⟨h1, h2, by rw [w16' m c C hC hCs, hmin], ?_⟩
    have hb := startN_block C E.val
    have hs := startN_succ C E.val
    have hCE := hC E.val
    unfold padN at hs
    rw [sub_word _ _ (by omega), sub_word _ _ (by omega)] at h43
    unfold nv
    rw [w11 m c C hC hCs, if_pos (hslt.2 (by show b.val < startN C 32 / 512; omega)), h43, StableHlo.Predicate.toInt_ofNat_small _ (by omega)]
    omega
  · left
    refine ⟨hge, ?_⟩
    unfold nv
    rw [w11 m c C hC hCs, if_neg fun h => by
      have := hslt.1 h
      have h' : b.val < startN C 32 / 512 := this
      omega]

end Cert.Up
-- ==== Proof.UMask.lean ====
/- The reference's ranges of rows: row `p` is expert `e`'s exactly when it lies in the expert's chunks. -/
module

public import proofs.«01_k».proof.Proof.Gen.Reference2Ideal.Run
public import proofs.«01_k».proof.Proof.UDiv
public import proofs.«01_k».proof.Proof.URoute
public import proofs.«01_k».proof.Proof.UTok

@[expose] public section

noncomputable section

namespace Cert.Reference2Ideal.Entry

open Cert.Reference2Ideal Cert.Reference2Ideal.Gen Cert.Reference2Ideal.Value
open Cert.Up (padN startN mineN startN_succ startN_le floorDiv_at add_word mul_word sub_word sle_small slt_small both_bits)
open Idealize.ShloMosaic Idealize.ShloMosaic.TcCoe

variable (x : S32.Idx → BitVec 32)

/-- The vector of one word, over the experts. -/
abbrev each (n : BitVec 32) : S32.Idx → BitVec 32 := broadcastInDim S32 ![] bcast_S_S32 (constantI S_ 32 n)
abbrev eachId (n : BitVec 32) : S32.Idx → BitVec 32 := broadcastInDim S32 ![] bcast_S_S32 (id (constantI S_ 32 n))
abbrev eachSign (n : BitVec 32) : S32.Idx → BitVec 32 := broadcastInDim S32 ![] bcast_S_S32 (signi (id (constantI S_ 32 n)))

/-- The counts rounded up to multiples of a number `k`, where `r` is `k - 1`. -/
abbrev roundUp (r k : BitVec 32) : S32.Idx → BitVec 32 :=
  muli (select (andi (cmpi .ne (signi (addi x (each r))) (eachSign k)) (cmpi .ne (Host.remsi (addi x (each r)) (eachId k)) (each 0#32)))
    (subi (Host.divsi (addi x (each r)) (eachId k)) (each 1#32)) (Host.divsi (addi x (each r)) (eachId k))) (each k)

/-- Where the experts' rows start. -/
abbrev starts : S32.Idx → BitVec 32 :=
  subi (Host.reduceWindow IntOp.addi ![32] ![1] ![31] ![0] (roundUp x 511#32 512#32) (broadcastInDim S_ ![] bcast_S_S_ (constantI S_ 32 0#32))
    reduceWindows_S32_S32_w32s1p31_0 h_S_) (roundUp x 511#32 512#32)

/-- The rows' numbers, for every expert. -/
abbrev rowNo : S32x49152.Idx → BitVec 32 :=
  broadcastInDim S32x49152 ![0, 1] bcast_S1x49152_S32x49152_0_1 (broadcastInDim S1x49152 ![1] bcast_S49152_S1x49152_1 (iotaInDim S49152 32 0))

/-- Which rows are which expert's. -/
abbrev mask : S32x49152.Idx → BitVec 1 :=
  andi (cmpi .sle (broadcastInDim S32x49152 ![0, 1] bcast_S32x1_S32x49152_0_1 (broadcastInDim S32x1 ![0] bcast_S32_S32x1_0 (starts x))) rowNo)
    (cmpi .slt rowNo (broadcastInDim S32x49152 ![0, 1] bcast_S32x1_S32x49152_0_1
      (addi (broadcastInDim S32x1 ![0] bcast_S32_S32x1_0 (starts x)) (broadcastInDim S32x1 ![0] bcast_S32_S32x1_0 (roundUp x 127#32 128#32)))))

theorem each_at (n : BitVec 32) (j : S32.Idx) : each n j = n := Routing.bc0 _ _ _

variable (C : ℕ → ℕ) (hC : ∀ e, C e ≤ 8192) (hx : ∀ e : Fin 32, x (ix1 e) = BitVec.ofNat 32 (C e.val))

include hC hx
theorem roundUp_at (r k : ℕ) (hr : r < 2 ^ 30) (h0 : 0 < k) (hk : k < 2 ^ 31) (hs : signi (id (constantI S_ 32 (BitVec.ofNat 32 k))) ix0 = 1#32) (e : Fin 32) :
    roundUp x (BitVec.ofNat 32 r) (BitVec.ofNat 32 k) (ix1 e) = BitVec.ofNat 32 ((C e.val + r) / k * k) := by
  have h := hC e.val
  have hn : addi x (each (BitVec.ofNat 32 r)) (ix1 e) = BitVec.ofNat 32 (C e.val + r) := by
    show IntOp.addi (x (ix1 e)) (each _ (ix1 e)) = _
    rw [each_at, hx]
    exact add_word _ _
  have hd := floorDiv_at (addi x (each (BitVec.ofNat 32 r))) (eachId (BitVec.ofNat 32 k)) (eachSign (BitVec.ofNat 32 k)) (each 0#32) (each 1#32) (ix1 e)
    (C e.val + r) k hn (Routing.bc0 _ _ _) ((Routing.bc0 _ _ _).trans hs) (each_at _ _) (by omega) h0 hk
  refine (congrArg₂ IntOp.muli hd (each_at _ _)).trans ?_
  exact mul_word _ _

theorem starts_at (e : Fin 32) : starts x (ix1 e) = BitVec.ofNat 32 (startN C e.val) := by
  have hp : ∀ e : Fin 32, roundUp x 511#32 512#32 (ix1 e) = BitVec.ofNat 32 (padN C e.val) := fun e =>
    roundUp_at x C hC hx 511 512 (by decide) (by decide) (by decide) (by decide) e
  have hw : Host.reduceWindow IntOp.addi ![32] ![1] ![31] ![0] (roundUp x 511#32 512#32) (broadcastInDim S_ ![] bcast_S_S_ (constantI S_ 32 0#32))
      reduceWindows_S32_S32_w32s1p31_0 h_S_ (ix1 e) = BitVec.ofNat 32 (startN C (e.val + 1)) :=
    Routing.cumsum1 (N := 32) (by rfl) _ (padN C) hp _ (Routing.bc0 _ _ _) _ _ e
  refine (congrArg₂ IntOp.subi hw (hp e)).trans ?_
  rw [sub_word _ _ (by rw [startN_succ]; omega), startN_succ, Nat.add_sub_cancel]

theorem mask_at (e : Fin 32) (p : Fin 49152) : mask x (ix2 e p) = 1#1 ↔ mineN C e.val p.val := by
  have h := hC e.val
  have hS := startN_le C hC e.val
  have hrow : rowNo (ix2 e p) = BitVec.ofNat 32 p.val := Routing.bcCols _ _ _ e p
  have hlow : broadcastInDim S32x49152 ![0, 1] bcast_S32x1_S32x49152_0_1 (broadcastInDim S32x1 ![0] bcast_S32_S32x1_0 (starts x)) (ix2 e p)
      = BitVec.ofNat 32 (startN C e.val) := (Routing.bcRows _ _ _ e p).trans (starts_at x C hC hx e)
  have hhigh : broadcastInDim S32x49152 ![0, 1] bcast_S32x1_S32x49152_0_1
      (addi (broadcastInDim S32x1 ![0] bcast_S32_S32x1_0 (starts x)) (broadcastInDim S32x1 ![0] bcast_S32_S32x1_0 (roundUp x 127#32 128#32))) (ix2 e p)
      = BitVec.ofNat 32 (startN C e.val + (C e.val + 127) / 128 * 128) := by
    refine (broadcastInDim_apply _ _ _ _ (ix2 e (0 : Fin 1)) fun a => ?_).trans ?_
    · match a with
      | ⟨0, _⟩ => rfl
      | ⟨1, _⟩ => rfl
    · refine (congrArg₂ IntOp.addi ((Routing.bcCol _ _ e).trans (starts_at x C hC hx e))
        ((Routing.bcCol _ _ e).trans (roundUp_at x C hC hx 127 128 (by decide) (by decide) (by decide) (by decide) e))).trans ?_
      exact add_word _ _
  refine (both_bits _ _).trans (and_congr ?_ ?_)
  · refine (iff_of_eq (congrArg (· = 1#1) (congrArg₂ (IntOp.cmpi .sle) hlow hrow))).trans ?_
    exact sle_small _ _ (by omega) (by omega)
  · refine (iff_of_eq (congrArg (· = 1#1) (congrArg₂ (IntOp.cmpi .slt) hrow hhigh))).trans ?_
    exact slt_small _ _ (by omega) (by omega)

end Cert.Reference2Ideal.Entry
-- ==== Proof.UDot.lean ====
/- The product of a stack of matrices with the rows of one matrix, at an index. -/
module

public import Idealize.ShloMosaic.Lib.StackMember

@[expose] public section

namespace Cert.Up

open Idealize.ShloMosaic Idealize.ShloMosaic.ValueIdx

/-- Member `e`'s column `n` against row `p`, summed over the coordinate they share. -/
theorem stackRows_apply {G k n P : Nat} {φ₁ φ₂ : FTy} (w : DotDims.WF ⟨3, ![G, k, n]⟩ ⟨2, ![P, k]⟩ ⟨3, ![G, n, P]⟩ [1] [1] [0, 2] [0] [] [])
    (prec : Option ContractPrecision) (A : FVec Ideal ⟨3, ![G, k, n]⟩ φ₁) (B : FVec Ideal ⟨2, ![P, k]⟩ φ₂) (e : Fin G) (q : Fin n) (p : Fin P) :
    Host.dotGeneral (⟨[1], [1], [0, 2], [0], [], [], w⟩ : DotDims _ _ _) prec A B (ix3 e q p) = ∑ x : Fin k, A (ix3 e x q) * B (ix2 p x) := by
  let D : DotDims ⟨3, ![G, k, n]⟩ ⟨2, ![P, k]⟩ ⟨3, ![G, n, P]⟩ := ⟨[1], [1], [0, 2], [0], [], [], w⟩
  show FloatOps.dotGeneral D prec _ A B (ix3 e q p) = _
  rw [Ideal.dotGeneral_apply, ← Equiv.sum_comp (contrEquiv1 D k rfl rfl).symm]
  refine Finset.sum_congr rfl fun x _ => ?_
  have hx := contrEquiv1_symm_val D k rfl rfl x
  have hl : D.lhsIdx (ix3 e q p) ((contrEquiv1 D k rfl rfl).symm x) = ix3 e x q := by
    funext ax; apply Fin.ext
    match ax with
    | ⟨0, _⟩ => simp [DotDims.lhsIdx, D]; rfl
    | ⟨1, _⟩ => simp [DotDims.lhsIdx, D]; exact hx
    | ⟨2, _⟩ => simp [DotDims.lhsIdx, D]; rfl
  have hr : D.rhsIdx (ix3 e q p) ((contrEquiv1 D k rfl rfl).symm x) = ix2 p x := by
    funext ax; apply Fin.ext
    match ax with
    | ⟨0, _⟩ => simp [DotDims.rhsIdx, D]; rfl
    | ⟨1, _⟩ => simp [DotDims.rhsIdx, D]; exact hx
  rw [hl, hr]

end Cert.Up
-- ==== Proof.USwi.lean ====
/- The activation between the expert layers: the kernel's tanh form and the reference's logistic form. -/
module

public import proofs.«01_k».proof.Proof.UCells
public import proofs.«01_k».proof.Proof.Scalars

@[expose] public section

noncomputable section

namespace Cert.Up

open Idealize.ShloMosaic Cert.Scalars

/-- The scale inside the logistic function: the single-precision number nearest 1.702. -/
def slope : ℝ := 14277411 / 8388608

theorem word_slope : word 0x3FD9DB23#32 = (slope : EReal) := by
  simp [word, Ideal.ofBits, Ideal.ieee, slope, -EReal.coe_mul]; norm_num
theorem word_slope_half : word 0x3F59DB23#32 = ((slope * (1 / 2) : ℝ) : EReal) := by
  simp [word, Ideal.ofBits, Ideal.ieee, slope, -EReal.coe_mul]; norm_num

/-- The activation as the reference writes it. -/
def swiR (a b : EReal) : EReal :=
  (min a (word 0x40E00000#32) * sigm (word 0x3FD9DB23#32 * min a (word 0x40E00000#32)))
    * (min (word 0x40E00000#32) (max (word 0xC0E00000#32) b) + word 0x3F800000#32)

theorem sigm_tanh (z : EReal) : sigm z = ((1 / 2 : ℝ) : EReal) * (1 + Ideal.tanh (z * ((1 / 2 : ℝ) : EReal))) := by
  rw [← gate_sigm]
  unfold gate
  simp only [zero_mul, add_zero, mul_one]

theorem swi_eq (a b : EReal) : swiK a b = swiR a b := by
  unfold swiK swiR
  refine congrArg (· * _) ?_
  generalize min a (word 0x40E00000#32) = g
  rw [sigm_tanh, word_slope, word_slope_half, show word 0x3F000000#32 = ((1 / 2 : ℝ) : EReal) from word_half, show word 0x3F800000#32 = 1 from word_one,
    EReal.coe_mul, mul_right_comm (slope : EReal) g, mul_comm ((1 / 2 : ℝ) : EReal) g, mul_assoc g]

end Cert.Up
-- ==== Proof.URef.lean ====
/- The reference's result for the expert-up layer, entry by entry. -/
module

public import proofs.«01_k».proof.Proof.UMask
public import proofs.«01_k».proof.Proof.UDot
public import proofs.«01_k».proof.Proof.USwi
public import Idealize.ShloMosaic.Lib.ValueIdx
public import Idealize.ShloMosaic.Lib.ValueLayout
public import Idealize.ShloMosaic.Lib.Pointwise.Reduce

@[expose] public section

set_option maxRecDepth 16384

noncomputable section

namespace Cert.Reference2Ideal.Entry

open Cert.Reference2Ideal Cert.Reference2Ideal.Gen Cert.Reference2Ideal.Value Cert.Scalars
open Cert.Up (mineN stackRows_apply swiR word)
open Idealize.ShloMosaic hiding ix1 ix2 ix3 ix4 eq_ix2
open Idealize.ShloMosaic.TcCoe Idealize.ShloMosaic.Tactic
open Idealize.ShloMosaic.ValueIdx

variable (m : (ℓ : Loc nD τ sig) → Buf (Elt Ideal) ℓ) (c : Dev nD)

abbrev Cnt : S32.Idx → BitVec 32 := m ((c : Thread nD τ).loc main_arg0)
abbrev Xr : Vec Ideal S786432x128 .f32 := m ((c : Thread nD τ).loc main_arg1)
abbrev Wr : Vec Ideal S1x32x2048x4096 .f32 := m ((c : Thread nD τ).loc main_arg2)
abbrev Br : Vec Ideal S1x32x4096 .f32 := m ((c : Thread nD τ).loc main_arg3)

/-- Every row against every expert's weights, with the expert's bias. -/
abbrev Zr : FVec Ideal S32x49152x4096 .f32 :=
  addf (transpose S32x49152x4096 [0, 2, 1] (Host.dotGeneral (φ₁ := .f32) (φ₂ := .f32) dot_S32x2048x4096_S49152x2048_S32x4096x49152_1_1_02_0_n_n none
      (shapeCast S32x2048x4096 (Wr m c) shapeCasts_S1x32x2048x4096_S32x2048x4096) (shapeCast S49152x2048 (Xr m c) shapeCasts_S786432x128_S49152x2048))
      transposes_S32x4096x49152_S32x49152x4096_0_2_1)
    (broadcastInDim S32x49152x4096 ![0, 1, 2] bcast_S32x1x4096_S32x49152x4096_0_1_2
      (broadcastInDim S32x1x4096 ![0, 2] bcast_S32x4096_S32x1x4096_0_2 (shapeCast S32x4096 (Br m c) shapeCasts_S1x32x4096_S32x4096)))

/-- A number, at every expert, row and column. -/
abbrev full (n : BitVec 32) : FVec Ideal S32x49152x2048 .f32 := broadcastInDim S32x49152x2048 ![] bcast_S_S32x49152x2048 (constant S_ .f32 n)
abbrev fullId (n : BitVec 32) : FVec Ideal S32x49152x2048 .f32 := broadcastInDim S32x49152x2048 ![] bcast_S_S32x49152x2048 (id (constant S_ .f32 n))

/-- The first half's columns, cut off above. -/
abbrev Gr : FVec Ideal S32x49152x2048 .f32 :=
  minimumf (extractStridedSlice S32x49152x2048 ![0, 0, 0] (Zr m c) slices_S32x49152x4096_S32x49152x2048_0_0_0) (full 0x40E00000#32)
/-- The second half's columns, cut off on both sides. -/
abbrev Lr : FVec Ideal S32x49152x2048 .f32 :=
  minimumf (fullId 0x40E00000#32) (maximumf (fullId 0xC0E00000#32)
    (extractStridedSlice S32x49152x2048 ![0, 0, 2048] (Zr m c) slices_S32x49152x4096_S32x49152x2048_0_0_2048))

/-- The activation, at every expert, row and column. -/
abbrev Ar : FVec Ideal S32x49152x2048 .f32 :=
  mulf (mulf (Gr m c) (Host.divf (full 0x3F800000#32) (addf (full 0x3F800000#32) (Host.exp (Host.negf (mulf (full 0x3FD9DB23#32) (Gr m c)))))))
    (addf (Lr m c) (full 0x3F800000#32))

/-- The activation where the row is the expert's, zero elsewhere. -/
abbrev Sr : FVec Ideal S32x49152x2048 .f32 :=
  select (broadcastInDim S32x49152x2048 ![0, 1, 2] bcast_S32x49152x1_S32x49152x2048_0_1_2 (broadcastInDim S32x49152x1 ![0, 1] bcast_S32x49152_S32x49152x1_0_1 (mask (Cnt m c))))
    (Ar m c) (fullId 0x00000000#32)

theorem res_eq : (res_main_v53 m c : Vec Ideal S49152x2048 .bf16)
    = truncf .bf16 (Host.reduceAdd (Sr m c) (constant S_ .f32 0x00000000#32) reducesTo_S32x49152x2048_S49152x2048_d0 h_S_) bitsLt_bf16_f32 := by
  unfold res_main_v53
  sl_kernel_rfl

/-- Row `p` against expert `e`'s column `j`, with the bias. -/
def refSum (e : Fin 32) (p : Fin 49152) (j : Fin 4096) : EReal :=
  (∑ k : Fin 2048, Wr m c (ix4 (0 : Fin 1) e k j) * Xr m c (ix2 ⟨p.val * 16 + k.val / 128, by omega⟩ ⟨k.val % 128, by omega⟩)) + Br m c (ix3 (0 : Fin 1) e j)

theorem rows_at (p : Fin 49152) (k : Fin 2048) : shapeCast S49152x2048 (Xr m c) shapeCasts_S786432x128_S49152x2048 (ix2 p k)
    = Xr m c (ix2 ⟨p.val * 16 + k.val / 128, by omega⟩ ⟨k.val % 128, by omega⟩) := by
  refine shapeCast_apply (Xr m c) _ _ _ ?_
  rw [Shape.rowMajor_val_two, Shape.rowMajor_val_two]
  show (p.val * 16 + k.val / 128) * 128 + k.val % 128 = p.val * 2048 + k.val
  omega

theorem Zr_at (e : Fin 32) (p : Fin 49152) (j : Fin 4096) : Zr m c (ix3 e p j) = refSum m c e p j := by
  unfold refSum
  refine congrArg₂ (· + ·) ?_ ?_
  · refine (transpose_ix3_021_apply _ _ e p j).trans ?_
    refine (stackRows_apply _ none _ _ e j p).trans (Finset.sum_congr rfl fun k _ => ?_)
    exact congrArg₂ (· * ·) (shapeCast_1abc_abc_apply (Wr m c) _ e k j) (rows_at m c p k)
  · refine (broadcastInDim_apply _ _ _ (ix3 e p j) (ix3 e (0 : Fin 1) j) fun a => ?_).trans ?_
    · match a with
      | ⟨0, _⟩ => rfl
      | ⟨1, _⟩ => rfl
      | ⟨2, _⟩ => rfl
    · refine (broadcastInDim_apply _ _ _ (ix3 e (0 : Fin 1) j) (ix2 e j) fun a => ?_).trans ?_
      · match a with
        | ⟨0, _⟩ => rfl
        | ⟨1, _⟩ => rfl
      · exact shapeCast_1ab_ab_apply (Br m c) _ e j

theorem half_at (o : ℕ) (h : S32x49152x4096.Slices (![0, 0, o] : Fin 3 → ℕ) S32x49152x2048) (e : Fin 32) (p : Fin 49152) (n : Fin 2048) (j : Fin 4096) (hj : j.val = o + n.val) :
    extractStridedSlice S32x49152x2048 ![0, 0, o] (Zr m c) h (ix3 e p n) = refSum m c e p j := by
  rw [← Zr_at]
  refine extractStridedSlice_apply _ _ _ _ _ fun a => ?_
  match a with
  | ⟨0, _⟩ => show e.val = 0 + e.val; omega
  | ⟨1, _⟩ => show p.val = 0 + p.val; omega
  | ⟨2, _⟩ => exact hj

theorem full_at (n : BitVec 32) (j : S32x49152x2048.Idx) : full n j = word n := Routing.bc0 _ _ _
theorem sigm_full (X : FVec Ideal S32x49152x2048 .f32) (j : S32x49152x2048.Idx) :
    Host.divf (full 0x3F800000#32) (addf (full 0x3F800000#32) (Host.exp (Host.negf X))) j = sigm (X j) := by
  unfold sigm
  rw [← word_one]
  rfl

theorem Ar_at (e : Fin 32) (p : Fin 49152) (n : Fin 2048) :
    Ar m c (ix3 e p n) = swiR (refSum m c e p ⟨n.val, by omega⟩) (refSum m c e p ⟨2048 + n.val, by omega⟩) := by
  have hG : Gr m c (ix3 e p n) = min (refSum m c e p ⟨n.val, by omega⟩) (word 0x40E00000#32) :=
    congrArg₂ min (half_at m c 0 _ e p n _ (Nat.zero_add _).symm) (full_at _ _)
  have hL : Lr m c (ix3 e p n) = min (word 0x40E00000#32) (max (word 0xC0E00000#32) (refSum m c e p ⟨2048 + n.val, by omega⟩)) :=
    congrArg₂ min (full_at _ _) (congrArg₂ max (full_at _ _) (half_at m c 2048 _ e p n _ rfl))
  unfold swiR
  refine congrArg₂ (· * ·) (congrArg₂ (· * ·) hG ((sigm_full _ _).trans (congrArg sigm (congrArg₂ (· * ·) (full_at _ _) hG)))) (congrArg₂ (· + ·) hL (full_at _ _))

variable (C : ℕ → ℕ) (hC : ∀ e, C e ≤ 8192) (hx : ∀ e : Fin 32, Cnt m c (ix1 e) = BitVec.ofNat 32 (C e.val))

open Classical in
include hC hx in
/-- Every row's result: the activation of its expert, summed over the experts whose row it is. -/
theorem entry (p : Fin 49152) (n : Fin 2048) : (res_main_v53 m c : Vec Ideal S49152x2048 .bf16) (ix2 p n)
    = ∑ e : Fin 32, if mineN C e.val p.val then swiR (refSum m c e p ⟨n.val, by omega⟩) (refSum m c e p ⟨2048 + n.val, by omega⟩) else 0 := by
  rw [res_eq, truncf_apply]
  refine (Ideal.hostReduceAdd_r3_a0 (n0 := 32) (n1 := 49152) (n2 := 2048) reducesTo_S32x49152x2048_S49152x2048_d0 (Sr m c) _ (ix2 p n)).trans ?_
  have h0 : (constant S_ .f32 0x00000000#32 : FVec Ideal S_ .f32) (Shape.Idx.first h_S_) = 0 := word_zero
  refine (congrArg₂ (· + ·) h0 (Finset.sum_congr rfl fun e _ => ?_)).trans (zero_add _)
  show Sr m c (ix3 e p n) = _
  have hm : broadcastInDim S32x49152x2048 ![0, 1, 2] bcast_S32x49152x1_S32x49152x2048_0_1_2 (broadcastInDim S32x49152x1 ![0, 1] bcast_S32x49152_S32x49152x1_0_1 (mask (Cnt m c)))
      (ix3 e p n) = mask (Cnt m c) (ix2 e p) := by
    refine (broadcastInDim_apply _ _ _ (ix3 e p n) (ix3 e p (0 : Fin 1)) fun a => ?_).trans (broadcastInDim_apply _ _ _ (ix3 e p (0 : Fin 1)) (ix2 e p) fun a => ?_)
    · match a with
      | ⟨0, _⟩ => rfl
      | ⟨1, _⟩ => rfl
      | ⟨2, _⟩ => rfl
    · match a with
      | ⟨0, _⟩ => rfl
      | ⟨1, _⟩ => rfl
  have hz : fullId 0x00000000#32 (ix3 e p n) = 0 := (full_at _ _).trans word_zero
  have hmask : mask (Cnt m c) (ix2 e p) = 1#1 ↔ mineN C e.val p.val := mask_at (Cnt m c) C hC hx e p
  show Scalar.select _ (Ar m c (ix3 e p n)) (fullId 0x00000000#32 (ix3 e p n)) = _
  rw [hm, hz, Ar_at]
  unfold Scalar.select
  by_cases h : mineN C e.val p.val
  · exact (if_pos (hmask.2 h)).trans (if_pos h).symm
  · exact (if_neg fun h' => h (hmask.1 h')).trans (if_neg h).symm

end Cert.Reference2Ideal.Entry
-- ==== Proof.UTie.lean ====
/- The expert-up layer: the kernel's result and the reference's agree, entry by entry. -/
module

public import proofs.«01_k».proof.Proof.UArray
public import proofs.«01_k».proof.Proof.UTok
public import proofs.«01_k».proof.Proof.URef

@[expose] public section

set_option maxRecDepth 16384

noncomputable section

namespace Cert.Up

open Idealize.ShloMosaic hiding ix1 ix2 ix3 ix4 eq_ix2
open Idealize.ShloMosaic.TcCoe
open Idealize.ShloMosaic.ValueIdx
open Cert.Reference2Ideal.Entry (Cnt Xr Wr Br refSum)

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ) (c : Dev Cert.Kernel2Ideal.nD)
variable (C : ℕ → ℕ) (hC : ∀ e, C e ≤ 8192) (hx : ∀ e : Fin 32, Cs m c (ix1 e) = BitVec.ofNat 32 (C e.val))
variable (h0 : Cnt m' c = Cs m c) (h1 : Xr m' c = Xs m c) (h2 : Wr m' c = W1 m c) (h3 : Br m' c = B1 m c)

include h1 h2 h3 in
/-- A row's sum is the same on both sides, once the step reads the row's own block. -/
theorem sum_same (b : Fin 96) (q : Fin 512) (p : Fin 49152) (j : Fin 4096) (hp : p.val = b.val * 512 + q.val) (hb : blkN m c b = b.val) :
    upSum m c b q j = refSum m' c (ex m c b) p j := by
  unfold upSum refSum
  rw [h1, h2, h3]
  refine congrArg (· + _) (Finset.sum_congr rfl fun k _ => ?_)
  rw [mul_comm]
  refine congrArg (_ * ·) ?_
  unfold xrow
  refine congrArg (Xs m c) (congrArg (fun r => ix2 r _) (Fin.ext ?_))
  show (blkN m c b * 512 + q.val) * 16 + k.val / 128 = p.val * 16 + k.val / 128
  rw [hb, hp]

include hC hx h0 h1 h2 h3 in
theorem agree : (Cert.Reference2Ideal.Value.res_main_v53 m' c : Vec Ideal Cert.Reference2Ideal.S49152x2048 .bf16) = upArr m c := by
  classical
  funext i
  obtain ⟨p, n, rfl⟩ : ∃ (p : Fin 49152) (n : Fin 2048), i = ix2 p n := ⟨i 0, i 1, eq_ix2 i⟩
  refine (Cert.Reference2Ideal.Entry.entry m' c C hC (fun e => (congrFun h0 (ix1 e)).trans (hx e)) p n).trans ?_
  let b : Fin 96 := ⟨p.val / 512, by omega⟩
  let q : Fin 512 := ⟨p.val % 512, by omega⟩
  have hpq : p.val = b.val * 512 + q.val := by show p.val = p.val / 512 * 512 + p.val % 512; omega
  have hpq' : p.val = 512 * b.val + q.val := by omega
  show _ = upEnt m c b q n
  unfold upEnt
  rcases step_cases m c C hC hx b with ⟨hpast, hn⟩ | ⟨hlo, hhi, h16, hn⟩
  · have hq : ¬ q.val < 128 * (kOf (nv m c b)).val := by
      rw [hn, show (kOf 0).val = 0 from rfl]; omega
    rw [if_neg hq]
    refine Finset.sum_eq_zero fun e _ => if_neg ?_
    rw [hpq']
    exact not_mine_past C e.isLt hpast
  · have hb : blkN m c b = b.val := by
      unfold blkN
      have e : (pfs m c 0 : Cert.Kernel2Ideal.S96.Idx → BitVec 32) (ix1 b) = BitVec.ofNat 32 b.val := h16
      rw [e]
      exact toNat_small _ (by omega)
    have hmine : ∀ e, mineN C e p.val ↔ e = (ex m c b).val ∧ q.val < 128 * (kOf (nv m c b)).val := fun e => by
      rw [hpq']
      exact mine_iff C q.isLt hlo hhi hn
    rw [Finset.sum_eq_single (ex m c b) (fun e _ he => if_neg fun h => he (Fin.ext ((hmine e.val).1 h).1)) (fun h => absurd (Finset.mem_univ _) h)]
    by_cases hq : q.val < 128 * (kOf (nv m c b)).val
    · rw [if_pos hq, if_pos ((hmine _).2 ⟨rfl, hq⟩), swi_eq]
      exact (congrArg₂ swiR (sum_same m m' c h1 h2 h3 b q p _ hpq hb) (sum_same m m' c h1 h2 h3 b q p _ hpq hb)).symm
    · rw [if_neg hq, if_neg fun h => hq ((hmine _).1 h).2]

end Cert.Up
-- ==== Proof.UFrames.lean ====
/- The expert-up kernel's frames. -/
module

public import proofs.«01_k».proof.Defs
public import proofs.«01_k».proof.Proof.UQuiet
public import proofs.«01_k».proof.Proof.Gen.Kernel2

@[expose] public section

noncomputable section

namespace Cert.Up

open Idealize.ShloMosaic Idealize.ShloMosaic.TcCoe Idealize.ShloMosaic.Tactic
open Idealize.SL.Sem

theorem frame_ideal : Cert.quiescent_Kernel2Ideal := fun m ρ _ => run_quiet (F := Ideal) m ρ

/-- The two modules' programs are the same text. -/
theorem same_text : Cert.quiescent_Kernel2 = (∀ (m : (ℓ : Loc Kernel2Ideal.nD Kernel2Ideal.τ Kernel2Ideal.sig) → Buf (Elt Bits) ℓ) (ρ : Dev Kernel2Ideal.nD → PrngReg), True →
    θ_run (Kernel2Ideal.defs (F := Bits)) (onTc (τ := Kernel2Ideal.τ) (Kernel2Ideal.main (F := Bits))) ⟨m, fun _ => 0, ρ⟩
    (fun r => (∀ c : Dev Kernel2Ideal.nD, r.2.mem ((c.tc : Thread Kernel2Ideal.nD Kernel2Ideal.τ).loc Kernel2Ideal.main_arg0) = m ((c.tc : Thread _ _).loc Kernel2Ideal.main_arg0)
      ∧ r.2.mem ((c.tc : Thread Kernel2Ideal.nD Kernel2Ideal.τ).loc Kernel2Ideal.main_arg1) = m ((c.tc : Thread _ _).loc Kernel2Ideal.main_arg1)
      ∧ r.2.mem ((c.tc : Thread Kernel2Ideal.nD Kernel2Ideal.τ).loc Kernel2Ideal.main_arg2) = m ((c.tc : Thread _ _).loc Kernel2Ideal.main_arg2)
      ∧ r.2.mem ((c.tc : Thread Kernel2Ideal.nD Kernel2Ideal.τ).loc Kernel2Ideal.main_arg3) = m ((c.tc : Thread _ _).loc Kernel2Ideal.main_arg3)) ∧ r.2.sem = fun _ => 0)) := by
  sl_kernel_rfl

theorem frame_bits : Cert.quiescent_Kernel2 := same_text.mpr fun m ρ _ => run_quiet (F := Bits) m ρ

end Cert.Up
-- ==== Proof.UValue.lean ====
/- The expert-up layer's value claim. -/
module

public import proofs.«01_k».proof.Proof.UTie
public import proofs.«01_k».proof.Proof.UFrames
public import proofs.«01_k».proof.Proof.Gen.Pre_counts_of_a_routing

@[expose] public section

set_option maxRecDepth 16384

noncomputable section

namespace Cert.Up

open Idealize.ShloMosaic Idealize.ShloMosaic.TcCoe Idealize.ShloMosaic.Tactic
open Idealize.SL.Sem

section
open Cert.Kernel2Ideal Cert.Kernel2Ideal.Gen
variable (m : (ℓ : Loc nD τ sig) → Buf (Elt Ideal) ℓ) (ρ : Dev nD → PrngReg)

/-- The kernel's run, its result read. -/
theorem run_value : θ_run (defs (F := Ideal)) (onTc (τ := τ) (main (F := Ideal))) ⟨m, fun _ => 0, ρ⟩
    (fun r => ∀ c : Dev nD, r.2.mem ((c : Thread nD τ).loc main_v91) = upArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain rfl : c = 0 := Subsingleton.elim (α := Fin 1) _ _
    exact ⟨((h.1 0).1 3).trans (result m 0),
      ((h.1 0).2 main_arg0 (Pipeline.mem_restRefs_of main_arg0 (by decide) (show ∀ w : Fin 4, (spec0 w).arr.view.ref ≠ main_arg0 by decide))).trans (r_arg0 m 0),
      ((h.1 0).1 0).trans (((dats (hostV m) (adm m 0) (schedA m 0) 0 0).arrAt_in 0 rfl _).trans (r_arg1 m 0)),
      ((h.1 0).2 main_arg2 (Pipeline.mem_restRefs_of main_arg2 (by decide) (show ∀ w : Fin 4, (spec0 w).arr.view.ref ≠ main_arg2 by decide))).trans (r_arg2 m 0),
      ((h.1 0).2 main_arg3 (Pipeline.mem_restRefs_of main_arg3 (by decide) (show ∀ w : Fin 4, (spec0 w).arr.view.ref ≠ main_arg3 by decide))).trans (r_arg3 m 0)⟩)
    (run_at_tables m ρ 0)
end

/-- The precondition, of one count: a natural number up to 8192. -/
theorem count_small (w : BitVec 32) (h : IntOp.andi (IntOp.cmpi .sge w 0#32) (IntOp.cmpi .sle w 8192#32) = 1#1) :
    w.toNat ≤ 8192 := by
  obtain ⟨h1, h2⟩ := (both_bits _ _).1 h
  simp only [IntOp.cmpi, StableHlo.Predicate.ofBool_eq_one_iff, BitVec.sle, decide_eq_true_eq] at h1 h2
  have e0 : (0#32 : BitVec 32).toInt = 0 := by decide
  have e1 : (8192#32 : BitVec 32).toInt = 8192 := by decide
  rw [e0] at h1
  rw [e1] at h2
  have hw := BitVec.isLt w
  have hi := BitVec.toInt_eq_toNat_cond w
  split at hi <;> omega

/-- The counts as naturals. -/
def counts (v : Cert.Kernel2Ideal.S32.Idx → BitVec 32) (e : ℕ) : ℕ := if h : e < 32 then (v (ix1 ⟨e, h⟩)).toNat else 0

theorem algebraic_up : Cert.algebraic_Kernel2Ideal_Reference2Ideal_pre_counts_of_a_routing := by
  intro m ρ m' ρ' hpre hagree
  refine ⟨_, run_value m ρ, ?_⟩
  refine (θ_run Cert.Reference2Ideal.defs _ _).mono (fun _ h c => ⟨?_, (h c).2⟩) (Cert.Reference2Ideal.Value.run (F := Ideal) m' ρ')
  rw [(h c).1]
  have hsmall : ∀ e : Fin 32, (Cs m c (ix1 e)).toNat ≤ 8192 := fun e => count_small _ (congrFun (hpre c) (ix1 e))
  refine agree m m' c (counts (Cs m c)) (fun e => ?_) (fun e => ?_) (hagree c).1 (hagree c).2.1 (hagree c).2.2.1 (hagree c).2.2.2
  · unfold counts
    split
    · exact hsmall _
    · omega
  · unfold counts
    rw [dif_pos e.isLt]
    apply BitVec.eq_of_toNat_eq
    rw [BitVec.toNat_ofNat]
    exact (Nat.mod_eq_of_lt (BitVec.isLt _)).symm

end Cert.Up
-- ==== Proof.DCopies.lean ====
/- The experts' second weights' two-slot buffer: its slots, the copy that fills each, and what a slot holds between its
   fill and its use. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The two-slot weight buffer, the rounded weights, and the weights in HBM. -/
abbrev wbM : Memref sig .tc .vmem S2x1x2048x2048 .f32 := Memref.whole cc0_scratch0
abbrev wgM : Memref sig .tc .vmem S2048x2048 .bf16 := Memref.whole cc0_scratch2
abbrev wM : Memref sig .tc .hbm S32x2048x2048 .f32 := Memref.whole main_v88

/-- A slot of the buffer and an expert's weights, at any offsets that fit. -/
abbrev slotAt (o : Fin 4 → ℕ) (h : ∀ a, o a + S1x1x2048x2048.size a ≤ S2x1x2048x2048.size a) : Memref sig .tc .vmem S2048x2048 .f32 :=
  (wbM.slice (Rect.unit (s := S2x1x2048x2048) o S1x1x2048x2048.size h) (fun _ => rfl)).squeeze S2048x2048 squeezes_S1x1x2048x2048_S2048x2048
abbrev srcAt (o : Fin 3 → ℕ) (h : ∀ a, o a + S1x2048x2048.size a ≤ S32x2048x2048.size a) : Memref sig .tc .hbm S2048x2048 .f32 :=
  (wM.slice (Rect.unit (s := S32x2048x2048) o S1x2048x2048.size h) (fun _ => rfl)).squeeze S2048x2048 squeezes_S1x2048x2048_S2048x2048
abbrev cellAt (o : Fin 1 → ℕ) (h : ∀ a, o a + S1.size a ≤ S2.size a) : DmaSem sig :=
  ((cc0_scratch1.slice (Rect.unit (s := S2) o S1.size h)).squeeze S_ squeezes_S1_S_).sem

/-- The offsets of slot `s`. -/
abbrev offS (s : Fin 2) : Fin 4 → ℕ := ![s.val, 0, 0, 0]
theorem offS_inb (s : Fin 2) : ∀ a, offS s a + S1x1x2048x2048.size a ≤ S2x1x2048x2048.size a := by
  revert s; decide
/-- The offsets of expert `e`'s weights. -/
abbrev offW (e : Fin 32) : Fin 3 → ℕ := ![e.val, 0, 0]
theorem offW_inb (e : Fin 32) : ∀ a, offW e a + S1x2048x2048.size a ≤ S32x2048x2048.size a := by
  intro a
  match a with
  | ⟨0, _⟩ => show e.val + 1 ≤ 32; omega
  | ⟨1, _⟩ => show 0 + 2048 ≤ 2048; omega
  | ⟨2, _⟩ => show 0 + 2048 ≤ 2048; omega

abbrev slot (s : Fin 2) := slotAt (offS s) (offS_inb s)
abbrev src (e : Fin 32) := srcAt (offW e) (offW_inb e)
/-- The semaphore of slot `s`. -/
abbrev cell (s : Fin 2) : DmaSem sig := cellAt ![s.val] (by revert s; decide)

/-- The share of the weights that slot `s` copies under. -/
def wq : Fin 2 → PosShare TreeShare
  | 0 => fullShare.left
  | 1 => fullShare.right

variable (c : Dev nD) (W : Buf (Elt F) (wM.view.loc (c : Thread nD τ)))

/-- Slot `s` at some contents; the same holding expert `e`'s weights. -/
def anySlot (s : Fin 2) : sProp 𝕄 :=
  iprop(∃ f : Buf (Elt F) ((slot s).view.loc (c : Thread nD τ)), (slot s).view.loc (c : Thread nD τ) ↦[(slot s).view.set]{fullShare} f)
def gotSlot (s : Fin 2) (e : Fin 32) : sProp 𝕄 :=
  iprop(∃ f : Buf (Elt F) ((slot s).view.loc (c : Thread nD τ)),
    ⌜(slot s).view.read (Elt F) f = (src e).view.read (Elt F) W⌝ ∗ ((slot s).view.loc (c : Thread nD τ) ↦[(slot s).view.set]{fullShare} f))
/-- The share of slot `s`: whole, and outside the weights copied. -/
def wAll (s : Fin 2) : sProp 𝕄 := (wM.view.loc (c : Thread nD τ)) ↦{wq s} W
def wOut (s : Fin 2) (e : Fin 32) : sProp 𝕄 :=
  (wM.view.loc (c : Thread nD τ)) ↦[Finset.univ \ (src e).view.set]{wq s} W

/-- What the copy delivers: the slot filled, and the weights read back. -/
def dlv (s : Fin 2) (e : Fin 32) (_ : Fin 1) : sProp 𝕄 :=
  iprop(gotSlot c W s e ∗ ((src e).view.loc (c : Thread nD τ) ↦[(src e).view.set]{wq s} W))

instance dlv_storable (s : Fin 2) (e : Fin 32) (h : Fin 1) : Storable (upEmb : UEmb _ 𝕄) (dlv c W s e h) := by
  unfold dlv gotSlot; infer_instance

/-- One copy's credit. -/
def N0 : ℕ := (slot 0).view.dmaCredit
theorem N0_pos : 0 < N0 := by decide
theorem credit_eq (o : Fin 4 → ℕ) (h : ∀ a, o a + S1x1x2048x2048.size a ≤ S2x1x2048x2048.size a) : (slotAt o h).view.dmaCredit = N0 := rfl
theorem amount_eq (o : Fin 4 → ℕ) (h : ∀ a, o a + S1x1x2048x2048.size a ≤ S2x1x2048x2048.size a) (d : DmaSem sig) :
    (slotAt o h).view.amount (SemLoc.dma d) = N0 := rfl

/-- A slot with nothing in flight. -/
def idle (s : Fin 2) : sProp 𝕄 :=
  iprop(semVal ((c : Thread nD τ), SemLoc.dma (cell s)) 0 ∗ anySlot (F := F) c s ∗ wAll c W s)
/-- A slot with its copy in flight. -/
def fly (s : Fin 2) (e : Fin 32) : sProp 𝕄 :=
  iprop(Transfers.Batch (countersEmb (U := Pipeline.UD sig nD τ)) (c : Thread nD τ) (SemLoc.dma (cell s)) () N0 (dlv c W s e) 1 0 ∗ wOut c W s e)
/-- A slot filled with expert `e`'s weights. -/
def ready (s : Fin 2) (e : Fin 32) : sProp 𝕄 :=
  iprop(semVal ((c : Thread nD τ), SemLoc.dma (cell s)) 0 ∗ gotSlot c W s e ∗ wAll c W s)

theorem gotSlot_any (s : Fin 2) (e : Fin 32) : gotSlot c W s e ⊢ anySlot (F := F) c s := by
  unfold gotSlot anySlot
  iintro ⟨%f, -, H⟩
  iexists f; iexact H

theorem ready_idle (s : Fin 2) (e : Fin 32) : ready c W s e ⊢ idle c W s := by
  unfold ready idle
  iintro ⟨Hv, H0, Hw⟩
  isplitl [Hv]; · iexact Hv
  isplitl [H0]; · iapply (gotSlot_any c W s e); iexact H0
  iexact Hw

theorem wAll_split (s : Fin 2) (e : Fin 32) :
    wAll c W s ⊣⊢ iprop(((src e).view.loc (c : Thread nD τ) ↦[(src e).view.set]{wq s} W) ∗ wOut c W s e) :=
  pointsTo_split_subset (Finset.subset_univ _)

/-- The landed copy is its delivery. -/
theorem dlv_of (s : Fin 2) (e : Fin 32) (f : Buf (Elt F) ((slot s).view.loc (c : Thread nD τ))) :
    iprop(((slot s).view.loc (c : Thread nD τ) ↦[(slot s).view.set]{fullShare}
          (slot s).view.write (Elt F) f (ReadAs.same.apply ((src e).view.read (Elt F) W)) Finset.univ)
        ∗ ((src e).view.loc (c : Thread nD τ) ↦[(src e).view.set]{wq s} W)) ⊢ dlv c W s e 0 := by
  unfold dlv gotSlot
  iintro ⟨Hd, Hs⟩
  isplitl [Hd]
  · iexists _; isplitr; swap; · iexact Hd
    ipureintro; exact View.read_write_univ _ _
  iexact Hs

theorem dlv_one (s : Fin 2) (e : Fin 32) : bigSep Finset.univ (dlv c W s e) ⊢ dlv c W s e 0 := by
  rw [BI.bigSep_univ_eq_bigSepL [0] (by decide) (by decide) _]
  exact .rfl

/-- Starting a slot's copy. -/
theorem enq {α : Type} {Q : α → sProp 𝕄} (s : Fin 2) (e : Fin 32)
    {o : Fin 4 → ℕ} {h : ∀ a, o a + S1x1x2048x2048.size a ≤ S2x1x2048x2048.size a}
    {o' : Fin 3 → ℕ} {h' : ∀ a, o' a + S1x2048x2048.size a ≤ S32x2048x2048.size a}
    {p : Fin 1 → ℕ} {hp : ∀ a, p a + S1.size a ≤ S2.size a}
    (eo : o = offS s) (eo' : o' = offW e) (ep : p = ![s.val])
    {hsrc : (srcAt o' h').view.WordExact} {hdst : (slotAt o h).view.WordExact}
    {hsem : DmaTarget.Typed (nD := nD) (τ := τ) (sig := sig) (p := .tc) .hbm (SemLoc.dma (cellAt p hp)) (.here (slotAt o h))}
    {k : PUnit → Prog (TpuEff nD τ sig (Elt F) Λ₀ .tc) α} :
    idle c W s ⊢ iprop((fly c W s e -∗ wp frame (wpE (defs₀ (F := F)) Variants.none (c : Thread nD τ) none) Set.univ (k ⟨⟩) Q)
      -∗ wp frame (wpE (defs₀ (F := F)) Variants.none (c : Thread nD τ) none) Set.univ
          (.op (.enqueueDmaAs (srcAt o' h') (.here (slotAt o h)) .same (SemLoc.dma (cellAt p hp)) hsrc hdst hsem) k) Q) := by
  subst eo eo' ep
  unfold idle fly anySlot
  iintro ⟨Hv, ⟨%f0, H0⟩, Hw0⟩ Hk
  imod (Transfers.batch_alloc' (Lvl := ℕ) (countersEmb (U := Pipeline.UD sig nD τ)) (c : Thread nD τ) () N0 (dlv c W s e)
    (sm := SemLoc.dma (cell s)) (E := Set.univ)) $$ Hv with HB
  ihave Hw := (wAll_split c W s e).1 $$ Hw0
  icases Hw with ⟨Hs, Ho⟩
  iapply (Transfers.wp_dmaBatch (countersEmb (U := Pipeline.UD sig nD τ)) Variants.none (c : Thread nD τ) none
    (src := src e) (dst := slot s) () N0 (amount_eq _ _ _) subset_rfl
    (D := dlv c W s e) (j := 0) (u := 0) (by decide) (Nat.zero_le _) (dlv_of c W s e f0)) $$ [Hs H0 HB]
  · isplitl [Hs]; · iexact Hs
    isplitl [H0]; · iexact H0
    iexact HB
  iintro HB
  iapply Hk
  isplitl [HB]; · iexact HB
  iexact Ho

/-- Collecting a slot's copy. -/
theorem wait {α : Type} {Q : α → sProp 𝕄} (s : Fin 2) (e : Fin 32)
    {o : Fin 4 → ℕ} {h : ∀ a, o a + S1x1x2048x2048.size a ≤ S2x1x2048x2048.size a}
    {o' : Fin 3 → ℕ} {h' : ∀ a, o' a + S1x2048x2048.size a ≤ S32x2048x2048.size a}
    {p : Fin 1 → ℕ} {hp : ∀ a, p a + S1.size a ≤ S2.size a} (ep : p = ![s.val])
    {hsrc : (srcAt o' h').view.WordExact} {hdst : (slotAt o h).view.WordExact}
    {k : PUnit → Prog (TpuEff nD τ sig (Elt F) Λ₀ .tc) α} {Ws : Waits sig Unit} :
    iprop(fly c W s e ∗ owes (c : Thread nD τ) 0 Ws)
      ⊢ iprop((iprop(ready c W s e ∗ (∃ Ws', owes (c : Thread nD τ) 0 Ws'))
          -∗ wp frame (wpE (defs₀ (F := F)) Variants.none (c : Thread nD τ) none) Set.univ (k ⟨⟩) Q)
      -∗ wp frame (wpE (defs₀ (F := F)) Variants.none (c : Thread nD τ) none) Set.univ
          (.op (.waitDma2 (cellAt p hp) (srcAt o' h') (slotAt o h) hsrc hdst) k) Q) := by
  subst ep
  unfold fly
  iintro ⟨⟨HB, Ho⟩, HO⟩ Hk
  iapply (Transfers.wp_waitBatchLast (countersEmb (U := Pipeline.UD sig nD τ)) Variants.none (c : Thread nD τ) none () (N := N0) (hsrc := hsrc) (hdst := hdst) (credit_eq _ _) N0_pos
    (D := dlv c W s e) (u := 0) (by omega)) $$ [HB HO]
  · isplitl [HB]; · iexact HB
    iexact HO
  iintro ⟨HD, Hv, HO⟩
  iapply Hk
  ihave HD' := (dlv_one c W s e) $$ HD
  isplitl [HD' Hv Ho]
  · unfold ready dlv
    icases HD' with ⟨H0, Hs0⟩
    isplitl [Hv]; · iexact Hv
    isplitl [H0]; · iexact H0
    iapply (wAll_split c W s e).2
    isplitl [Hs0]; · iexact Hs0
    iexact Ho
  iexists _; iexact HO

end Cert.Down
-- ==== Proof.DWords.lean ====
/- The words of the expert-down kernel's body: which slot a step uses, its offsets, and when its conditions hold. -/
module

public import proofs.«01_k».proof.Proof.DCopies

@[expose] public section

noncomputable section

namespace Cert.Down

open Cert.Kernel3Ideal Cert.Kernel3Ideal.Gen
open Idealize.ShloMosaic Idealize.ShloMosaic.TcCoe

/-- The run's number as the body computes it. -/
def runNo (v30 v33 : BitVec 32) : BitVec 32 := 0#32 * v30 + v33

/-- Its remainder by two, rounded down as the body computes it. -/
def slotW (x : BitVec 32) : BitVec 32 :=
  let v37 : BitVec 32 := Scalar.remsi x 2#32
  Scalar.select (Scalar.andi (Scalar.xori (Scalar.cmpi .slt v37 0#32) (Scalar.cmpi .slt (2#32 : BitVec 32) 0#32)) (Scalar.cmpi .ne v37 0#32))
    (Scalar.addi v37 2#32) v37

theorem slotW_of {x : BitVec 32} {n : ℕ} (hx : x = BitVec.ofNat 32 n) (hn : n < 2 ^ 31) : slotW x = BitVec.ofNat 32 (n % 2) := by
  have hr : Scalar.remsi x 2#32 = BitVec.ofNat 32 (n % 2) := by
    unfold Scalar.remsi IntOp.remsi
    rw [if_neg (by unfold IntOp.SDivCorner; simp)]
    subst hx
    rw [BitVec.srem_eq]
    have hm : (BitVec.ofNat 32 n).msb = false := by
      rw [BitVec.msb_eq_decide]; simp; omega
    rw [hm]
    simp only [show (2#32 : BitVec 32).msb = false from rfl]
    apply BitVec.eq_of_toNat_eq
    simp [BitVec.toNat_umod]
    omega
  unfold slotW
  rw [hr]
  have h2 : n % 2 < 2 := Nat.mod_lt _ (by decide)
  generalize n % 2 = r at h2
  match r, h2 with
  | 0, _ => rfl
  | 1, _ => rfl

/-- Slot `s` is the one the run uses. -/
def IsSlot (v30 v33 : BitVec 32) (s : Fin 2) : Prop := slotW (runNo v30 v33) = BitVec.ofNat 32 s.val

theorem inb1 (s : Fin 2) : ∀ a, (![s.val] : Fin 1 → ℕ) a + S1.size a ≤ S2.size a := by revert s; decide

section
variable {v30 v33 : BitVec 32} {s : Fin 2} (hs : IsSlot v30 v33 s)
include hs

theorem off4_eq : k0_off4 v30 v33 = ![s.val] := by
  show ![(slotW (runNo v30 v33)).toNat] = _
  rw [hs]; clear hs; revert s; decide
theorem off8_eq : k0_off8 v30 v33 = ![s.val] := off4_eq hs
theorem off5_eq : k0_off5 v30 v33 = offS s := by
  show ![(slotW (runNo v30 v33)).toNat, 0, 0, 0] = _
  rw [hs]; clear hs; revert s; decide
theorem off9_eq : k0_off9 v30 v33 = offS s := off5_eq hs
theorem off20_eq : k0_off20 v30 v33 = offS s := off5_eq hs
theorem off13_eq : k0_off13 v30 v33 = ![(1 - s).val] := by
  show ![(1#32 - slotW (runNo v30 v33)).toNat] = _
  rw [hs]; clear hs; revert s; decide
theorem off17_eq : k0_off17 v30 v33 = ![(1 - s).val] := off13_eq hs
theorem off14_eq : k0_off14 v30 v33 = offS (1 - s) := by
  show ![(1#32 - slotW (runNo v30 v33)).toNat, 0, 0, 0] = _
  rw [hs]; clear hs; revert s; decide
theorem off18_eq : k0_off18 v30 v33 = offS (1 - s) := off14_eq hs

theorem chk1_of (i : grid0.Coords) (v1 : BitVec 32) : k0_chk1 i v1 v30 v33 := by
  unfold k0_chk1
  refine ⟨?_, ?_, ?_, ?_, ?_⟩
  · intro _ _; rw [off4_eq hs]; exact inb1 s
  · intro _ _; rw [off5_eq hs]; exact offS_inb s
  · intro _; rw [off8_eq hs]; exact inb1 s
  · intro _; rw [off9_eq hs]; exact offS_inb s
  · intro _; rw [off20_eq hs]; exact offS_inb s

theorem chk4_of (v1 v58 : BitVec 32) : k0_chk4 v1 v30 v33 v58 := by
  unfold k0_chk4
  refine ⟨?_, ?_, ?_, ?_⟩
  · intro _ _; rw [off13_eq hs]; exact inb1 _
  · intro _ _; rw [off14_eq hs]; exact offS_inb _
  · intro _ _; rw [off17_eq hs]; exact inb1 _
  · intro _ _; rw [off18_eq hs]; exact offS_inb _
end

section
variable {w : BitVec 32} {e : Fin 32} (hw : w = BitVec.ofNat 32 e.val)
include hw

theorem toNat_e : w.toNat = e.val := by subst hw; simp; omega

theorem off6_eq : k0_off6 w = offW e := by
  show ![w.toNat, 0, 0] = _
  rw [toNat_e hw]
theorem off10_eq : k0_off10 w = offW e := off6_eq hw
theorem off15_eq : k0_off15 w = offW e := off6_eq hw

theorem chk2_of (i : grid0.Coords) (v1 : BitVec 32) : k0_chk2 i v1 w := by
  unfold k0_chk2
  intro _ _; rw [off6_eq hw]; exact offW_inb e
theorem chk3_of (v1 : BitVec 32) : k0_chk3 v1 w := by
  unfold k0_chk3
  intro _; rw [off10_eq hw]; exact offW_inb e
theorem chk5_of (v1 v58 : BitVec 32) : k0_chk5 v1 v58 w := by
  unfold k0_chk5
  intro _ _; rw [off15_eq hw]; exact offW_inb e
end

theorem cond1_iff (v : BitVec 32) : k0_cond1 v = 1#1 ↔ v = 1#32 := by
  unfold k0_cond1; dsimp only [Scalar.cmpi, IntOp.cmpi, Scalar.extui]
  by_cases h : v = 1#32
  · subst h; decide
  · have : (v == 1#32) = false := by simpa using h
    simp [this, h]
theorem cond3_iff (v : BitVec 32) : k0_cond3 v = 1#1 ↔ v ≠ 1#32 := by
  unfold k0_cond3; dsimp only [Scalar.cmpi, IntOp.cmpi, Scalar.extui, Scalar.xori, IntOp.xori]
  by_cases h : v = 1#32
  · subst h; decide
  · have : (v == 1#32) = false := by simpa using h
    simp [this, h]
theorem cond2_iff (i : grid0.Coords) : k0_cond2 i = 1#1 ↔ (i 0).val = 0 := by
  have h0 : (i 0).val < 96 := (i 0).isLt
  unfold k0_cond2
  generalize (i 0).val = a at *
  revert a
  decide +kernel
/-- The copy for a further tile of the columns is never started: there is one tile. -/
theorem cond4_not (v : BitVec 32) : ¬ k0_cond4 v = 1#1 := by
  unfold k0_cond4; dsimp only [Scalar.cmpi, IntOp.cmpi, Scalar.extui, Scalar.andi, IntOp.andi]
  by_cases h : v = 1#32
  · subst h; decide
  · have : (v == 1#32) = false := by simpa using h
    simp [this]

/-- Which of the five ways a row count takes: no row, or up to 128, 256, 384 or 512 rows. -/
def cls (v : BitVec 32) (k : Fin 5) : Prop :=
  (k0_cond5 v = 1#1 ↔ k = 0) ∧ (k0_cond6 v = 1#1 ↔ k = 1) ∧ (k0_cond7 v = 1#1 ↔ k = 2) ∧ (k0_cond8 v = 1#1 ↔ k = 3) ∧ (k0_cond9 v = 1#1 ↔ k = 4)

end Cert.Down
-- ==== Proof.DHost.lean ====
/- The expert-down kernel's host code before its launch, as one list. -/
module

public import proofs.«01_k».proof.Proof.DWords
public import Idealize.ShloMosaic.Lib.Pipeline.Value

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The host's operations before the launch, and what they leave in each buffer. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11,
   hostOps0_12, hostOps0_13, hostOps0_14, hostOps0_15, hostOps0_16, hostOps0_17]
abbrev hostV (m : (ℓ : Loc nD τ sig) → Buf (Elt F) ℓ) (c : Dev nD) (b : Ref sig .tc) : Buf (Elt F) ((c.tc : Thread nD τ).loc b) :=
  StableHlo.after (opss (F := F)).flatten (fun b => m (c, b)) b

end Cert.Down
-- ==== Proof.DReads.lean ====
/- The expert-down kernel's host code, one step at a time: what each table the launch reads is, in terms of the tables
   before it. -/
module

public import proofs.«01_k».proof.Proof.DHost
public import Idealize.ShloMosaic.Lib.StableHlo.RunRead

@[expose] public section

noncomputable section

namespace Cert.Down

open Cert.Kernel3Ideal Cert.Kernel3Ideal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The vector of one word, over the blocks. -/
abbrev all96 (v : S_.Idx → BitVec 32) : S96.Idx → BitVec 32 := broadcastInDim S96 ![] bcast_S_S96 v
abbrev one (n : BitVec 32) : S_.Idx → BitVec 32 := constantI S_ 32 n
abbrev col (v : S96.Idx → BitVec 32) : S96x1.Idx → BitVec 32 := broadcastInDim S96x1 ![0] bcast_S96_S96x1_0 v
/-- jnp's reading of a negative position from the end. -/
abbrev wrap (v : S96.Idx → BitVec 32) (n : BitVec 32) : S96.Idx → BitVec 32 := select (cmpi .slt v (all96 (one 0#32))) (addi v (all96 (one n))) v

theorem r_arg0 : hostV m c main_arg0 = m (c, main_arg0) := by unfold hostV; after_reads_simp
theorem r_arg1 : hostV m c main_arg1 = m (c, main_arg1) := by unfold hostV; after_reads_simp
theorem r_arg2 : hostV m c main_arg2 = m (c, main_arg2) := by unfold hostV; after_reads_simp
theorem r_arg3 : hostV m c main_arg3 = m (c, main_arg3) := by unfold hostV; after_reads_simp

/-- The host code's first 10 stretches. -/
def pre10 : List (List (HloOp τ sig (Elt F))) := [hostOps0, hostOps0_1, hostOps0_2, hostOps0_3, hostOps0_4, hostOps0_5, hostOps0_6, hostOps0_7, hostOps0_8, hostOps0_9]

/-- The stretches after those. -/
abbrev post10 : List (List (HloOp τ sig (Elt F))) := [hostOps0_10, hostOps0_11, hostOps0_12, hostOps0_13, hostOps0_14, hostOps0_15, hostOps0_16, hostOps0_17]

theorem cut10 (b : Ref sig .tc) : hostV m c b
    = StableHlo.after (post10 (F := F)).flatten
        (StableHlo.after (pre10 (F := F)).flatten (fun b => m (c, b))) b := by
  unfold pre10; rw [← StableHlo.after_append, ← List.flatten_append]; rfl

/-- The host code's first 15 stretches. -/
def pre15 : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]

/-- The stretches after those. -/
abbrev post15 : List (List (HloOp τ sig (Elt F))) := [hostOps0_15, hostOps0_16, hostOps0_17]

theorem cut15 (b : Ref sig .tc) : hostV m c b
    = StableHlo.after (post15 (F := F)).flatten
        (StableHlo.after (pre15 (F := F)).flatten (fun b => m (c, b))) b := by
  unfold pre15; rw [← StableHlo.after_append, ← List.flatten_append]; rfl

theorem r12 : hostV m c main_v12 = iotaInDim S96 32 0 := by unfold hostV; after_reads_simp

theorem r16 : hostV m c main_v16 = minsi (iotaInDim S96 32 0) (all96 (maxsi (hostV m c main_v13 : S_.Idx → BitVec 32) (one 0#32))) := by
  unfold hostV; after_reads_simp

theorem r27 : hostV m c main_v27
    = minsi (Host.reduce IntOp.addi (extui 32 (hostV m c main_v23 : S96x32.Idx → BitVec 1) natLt_1_32) (one 0#32) reducesTo_S96x32_S96_d1 h_S_)
        (all96 (one 31#32)) := by
  unfold hostV; after_reads_simp

theorem r47 : hostV m c main_v47
    = select (cmpi .slt (iotaInDim S96 32 0) (all96 (hostV m c main_v11)))
        (minsi (all96 (one 512#32)) (maxsi (all96 (one 0#32)) (hostV m c main_v43 : S96.Idx → BitVec 32))) (all96 (one 0#32)) := by
  unfold hostV; after_reads_simp; rfl

/-- One word before a vector of 95. -/
def lead (a : S1.Idx → BitVec 32) (b : S95.Idx → BitVec 32) : S96.Idx → BitVec 32 :=
  concatenate S96 0 [⟨S1, a⟩, ⟨S95, b⟩] concatenates_S1_S95_S96_d0

theorem lead_def (a : S1.Idx → BitVec 32) (b : S95.Idx → BitVec 32) :
    concatenate S96 0 [⟨S1, a⟩, ⟨S95, b⟩] concatenates_S1_S95_S96_d0 = lead a b := rfl

theorem s55 (W : Valuation τ sig (Elt F)) : StableHlo.after (post10 (F := F)).flatten W main_v55
    = extui 32 (ori (cmpi .ne (StableHlo.after (post10 (F := F)).flatten W main_v27 : S96.Idx → BitVec 32)
          (lead (broadcastInDim S1 ![] bcast_S_S1 (one 4294967295#32)) (extractStridedSlice S95 ![0] (StableHlo.after (post10 (F := F)).flatten W main_v27 : S96.Idx → BitVec 32) slices_S96_S95_0)))
        (cmpi .eq (StableHlo.after (post10 (F := F)).flatten W main_v12 : S96.Idx → BitVec 32) (all96 (one 0#32)))) natLt_1_32 := by
  after_reads_simp; simp only [lead_def]; after_reads_simp

theorem r55 : hostV m c main_v55
    = extui 32 (ori (cmpi .ne (hostV m c main_v27 : S96.Idx → BitVec 32)
          (lead (broadcastInDim S1 ![] bcast_S_S1 (one 4294967295#32)) (extractStridedSlice S95 ![0] (hostV m c main_v27 : S96.Idx → BitVec 32) slices_S96_S95_0)))
        (cmpi .eq (hostV m c main_v12 : S96.Idx → BitVec 32) (all96 (one 0#32)))) natLt_1_32 := by
  rw [cut10 m c main_v55, cut10 m c main_v27, cut10 m c main_v12]; exact s55 _

theorem s58 (W : Valuation τ sig (Elt F)) : StableHlo.after (post10 (F := F)).flatten W main_v58
    = subi (Host.reduceWindow IntOp.addi ![96] ![1] ![95] ![0] (StableHlo.after (post10 (F := F)).flatten W main_v55 : S96.Idx → BitVec 32)
        (broadcastInDim S_ ![] bcast_S_S_ (one 0#32)) reduceWindows_S96_S96_w96s1p95_0 h_S_) (all96 (one 1#32)) := by
  after_reads_simp; simp -implicitDefEqProofs only [StableHlo.TRef.toBuf, StableHlo.TRef.ofBuf, cast_cast, cast_eq]

theorem r58 : hostV m c main_v58
    = subi (Host.reduceWindow IntOp.addi ![96] ![1] ![95] ![0] (hostV m c main_v55 : S96.Idx → BitVec 32)
        (broadcastInDim S_ ![] bcast_S_S_ (one 0#32)) reduceWindows_S96_S96_w96s1p95_0 h_S_) (all96 (one 1#32)) := by
  rw [cut10 m c main_v58, cut10 m c main_v55]; exact s58 _

/-- The last block's run, counted from one. -/
abbrev total (v : S96.Idx → BitVec 32) : S_.Idx → BitVec 32 :=
  addi (shapeCast S_ (extractStridedSlice S1 ![95] v slices_S96_S1_95) shapeCasts_S1_S_) (one 1#32)

theorem r87 : hostV m c main_v87 = shapeCast S1 (total (hostV m c main_v58)) shapeCasts_S_S1 := by
  unfold hostV; after_reads_simp; rfl

theorem r65 : hostV m c main_v65
    = extui 32 (cmpi .eq (hostV m c main_v58 : S96.Idx → BitVec 32) (all96 (subi (total (hostV m c main_v58)) (one 1#32)))) natLt_1_32 := by
  unfold hostV; after_reads_simp; rfl

theorem s69 (W : Valuation τ sig (Elt F)) : StableHlo.after (post10 (F := F)).flatten W main_v69
    = Host.reduceWindow IntOp.minsi ![96] ![1] ![0] ![95]
        (select (cmpi .eq (StableHlo.after (post10 (F := F)).flatten W main_v55 : S96.Idx → BitVec 32) (all96 (one 1#32))) (StableHlo.after (post10 (F := F)).flatten W main_v12 : S96.Idx → BitVec 32) (all96 (one 96#32)))
        (broadcastInDim S_ ![] bcast_S_S_ (one 2147483647#32)) reduceWindows_S96_S96_w96s1p0_95 h_S_ := by
  after_reads_simp; simp -implicitDefEqProofs only [StableHlo.TRef.toBuf, StableHlo.TRef.ofBuf, cast_cast, cast_eq, id_eq]

theorem r69 : hostV m c main_v69
    = Host.reduceWindow IntOp.minsi ![96] ![1] ![0] ![95]
        (select (cmpi .eq (hostV m c main_v55 : S96.Idx → BitVec 32) (all96 (one 1#32))) (hostV m c main_v12 : S96.Idx → BitVec 32) (all96 (one 96#32)))
        (broadcastInDim S_ ![] bcast_S_S_ (one 2147483647#32)) reduceWindows_S96_S96_w96s1p0_95 h_S_ := by
  rw [cut10 m c main_v69, cut10 m c main_v55, cut10 m c main_v12]; exact s69 _

theorem r72 : hostV m c main_v72
    = concatenate S96 0 [⟨S95, extractStridedSlice S95 ![1] (hostV m c main_v69 : S96.Idx → BitVec 32) slices_S96_S95_1⟩,
        ⟨S1, (broadcastInDim S1 ![] bcast_S_S1 (one 96#32) : S1.Idx → BitVec 32)⟩] concatenates_S95_S1_S96_d0 := by
  unfold hostV; after_reads_simp; rfl

theorem s86 (W : Valuation τ sig (Elt F)) : StableHlo.after (post15 (F := F)).flatten W main_v86
    = select (cmpi .slt (StableHlo.after (post15 (F := F)).flatten W main_v72 : S96.Idx → BitVec 32) (all96 (one 96#32)))
        (Host.gather gather_S96_S96x1_S96_n_0_n_n_0_1_1 (StableHlo.after (post15 (F := F)).flatten W main_v27 : S96.Idx → BitVec 32)
          (col (wrap (minsi (StableHlo.after (post15 (F := F)).flatten W main_v72 : S96.Idx → BitVec 32) (all96 (one 95#32))) 96#32)))
        (all96 (shapeCast S_ (extractStridedSlice S1 ![0] (StableHlo.after (post15 (F := F)).flatten W main_v27 : S96.Idx → BitVec 32) slices_S96_S1_0) shapeCasts_S1_S_)) := by
  after_reads_simp; rfl

theorem r86 : hostV m c main_v86
    = select (cmpi .slt (hostV m c main_v72 : S96.Idx → BitVec 32) (all96 (one 96#32)))
        (Host.gather gather_S96_S96x1_S96_n_0_n_n_0_1_1 (hostV m c main_v27 : S96.Idx → BitVec 32)
          (col (wrap (minsi (hostV m c main_v72 : S96.Idx → BitVec 32) (all96 (one 95#32))) 96#32)))
        (all96 (shapeCast S_ (extractStridedSlice S1 ![0] (hostV m c main_v27 : S96.Idx → BitVec 32) slices_S96_S1_0) shapeCasts_S1_S_)) := by
  rw [cut15 m c main_v86, cut15 m c main_v72, cut15 m c main_v27]; exact s86 _

end Cert.Down
-- ==== Proof.DTabs.lean ====
/- The expert-down kernel's row counts, as the words its conditions compare. -/
module

public import proofs.«01_k».proof.Proof.DReads
public import proofs.«01_k».proof.Proof.UTabs
public import proofs.«01_k».proof.Proof.URuns
public import Idealize.ShloMosaic.Lib.Routing.OpsSet

@[expose] public section

noncomputable section

namespace Cert.Down

open Cert.Kernel3Ideal Cert.Kernel3Ideal.Gen
open Cert.Up
open Idealize.ShloMosaic Idealize.ShloMosaic.TcCoe Idealize.ShloMosaic.Tactic
open Idealize.ShloMosaic.Routing (shape0 shape1)
open Idealize.ShloMosaic.StableHlo (Predicate.toInt_ofNat_small Predicate.slt_ofNat_iff Predicate.sle_ofNat_iff)

theorem cls_kOf (n : ℕ) (h : n ≤ 512) : cls (BitVec.ofNat 32 n) (kOf n) := by
  have c5 : k0_cond5 (BitVec.ofNat 32 n) = 1#1 ↔ n ≤ 0 := (cond_bit _).trans (sle_small n 0 (by omega) (by omega))
  have rng : ∀ lo hi : ℕ, lo < 2 ^ 31 → hi < 2 ^ 31 →
      (Scalar.cmpi .ne (Scalar.extui (Scalar.andi (Scalar.cmpi .sgt (BitVec.ofNat 32 n) (BitVec.ofNat 32 lo))
        (Scalar.cmpi .sle (BitVec.ofNat 32 n) (BitVec.ofNat 32 hi))) : BitVec 32) 0#32 = 1#1 ↔ lo < n ∧ n ≤ hi) := fun lo hi h1 h2 =>
    (cond_bit _).trans ((and_bit _ _).trans (and_congr (sgt_small n lo (by omega) h1) (sle_small n hi (by omega) h2)))
  have c6 : k0_cond6 (BitVec.ofNat 32 n) = 1#1 ↔ 0 < n ∧ n ≤ 128 := rng 0 128 (by omega) (by omega)
  have c7 : k0_cond7 (BitVec.ofNat 32 n) = 1#1 ↔ 128 < n ∧ n ≤ 256 := rng 128 256 (by omega) (by omega)
  have c8 : k0_cond8 (BitVec.ofNat 32 n) = 1#1 ↔ 256 < n ∧ n ≤ 384 := rng 256 384 (by omega) (by omega)
  have c9 : k0_cond9 (BitVec.ofNat 32 n) = 1#1 ↔ 384 < n ∧ n ≤ 512 := rng 384 512 (by omega) (by omega)
  unfold cls kOf
  rw [c5, c6, c7, c8, c9]
  split
  · refine ⟨?_, ?_, ?_, ?_, ?_⟩ <;> simp <;> omega
  · split
    · refine ⟨?_, ?_, ?_, ?_, ?_⟩ <;> simp <;> omega
    · split
      · refine ⟨?_, ?_, ?_, ?_, ?_⟩ <;> simp <;> omega
      · split
        · refine ⟨?_, ?_, ?_, ?_, ?_⟩ <;> simp <;> omega
        · refine ⟨?_, ?_, ?_, ?_, ?_⟩ <;> simp <;> omega

end Cert.Down
-- ==== Proof.DSteps.lean ====
/- The expert-down kernel's body up to its matmuls: the words it loads from the schedule, and the weight tile it makes
   ready. -/
module

public import proofs.«01_k».proof.Proof.DWords
public import Idealize.ShloMosaic.Lib.Pointwise.Index

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Loading a word of a table. -/
theorem tload (c : Dev nD) {α : Type} {Q : α → sProp 𝕄} {S : Shape} {m : Memref sig .tc .smem S .i32} {r : Rect S}
    {h1 : r.shape.numel = 1} {hp : EltTy.i32.packing = 1} {x : S.Idx} (hx : r.emb (Shape.Idx.first (h1.symm ▸ Nat.one_pos)) = x) {q : PosShare TreeShare}
    {f : Buf (Elt F) (m.view.loc (c : Thread nD τ))} {k : Elt F .i32 → Prog (TpuEff nD τ sig (Elt F) Λ₀ .tc) α} :
    (m.view.loc (c : Thread nD τ) ↦{q} f)
      ⊢ iprop(((m.view.loc (c : Thread nD τ) ↦{q} f) -∗ wp (M := 𝕄) frame (wpE (defs₀ (F := F)) Variants.none (c : Thread nD τ) none) Set.univ (k (m.view.read (Elt F) f x)) Q)
        -∗ wp frame (wpE (defs₀ (F := F)) Variants.none (c : Thread nD τ) none) Set.univ (smemLoad m r h1 hp >>= k) Q) := by
  subst hx
  have h := wp_smemLoadElt (Γ := ∅) (Ix := Unit) (Name := ℕ) (U := Pipeline.UD sig nD τ) (Lvl := ℕ) (defs := defs₀ (F := F)) Variants.none (c : Thread nD τ) none Set.univ (m := m) (r := r) (hw := View.loads_smem_one hp h1)
    (x := Shape.Idx.first (h1.symm ▸ Nat.one_pos)) (k := k) (Q := Q) (q := q) (f := f) (Finset.subset_univ _)
  exact h

theorem pt96 {o : Fin 1 → ℕ} {h : ∀ a, o a + S1.size a ≤ S96.size a} {it : Fin 96} (eo : o = ![it.val])
    (hp : 0 < (Rect.unit (s := S96) o S1.size h).shape.numel) :
    (Rect.unit (s := S96) o S1.size h).emb (Shape.Idx.first hp) = ix1 it := by
  subst eo
  funext a
  match a with
  | ⟨0, _⟩ => apply Fin.ext; show it.val + 1 * 0 = it.val; omega

theorem pt1 {h : ∀ a, (![0] : Fin 1 → ℕ) a + S1.size a ≤ S1.size a}
    (hp : 0 < (Rect.unit (s := S1) ![0] S1.size h).shape.numel) :
    (Rect.unit (s := S1) ![0] S1.size h).emb (Shape.Idx.first hp) = ix1 (0 : Fin 1) := by
  funext a
  match a with
  | ⟨0, _⟩ => rfl

local notation "𝕎" => wpE (defs₀ (F := F)) Variants.none

theorem pret (c : Dev nD) {α : Type} {Q : α → sProp 𝕄} (a : α) :
    Q a ⊢ wp frame (𝕎 (c : Thread nD τ) none) Set.univ (pure a : Prog (TpuEff nD τ sig (Elt F) Λ₀ .tc) α) Q := by
  show Q a ⊢ wp frame (𝕎 (c : Thread nD τ) none) Set.univ (.ret a) Q
  rw [wp_ret]
  exact BI.fupd_intro

theorem passume (c : Dev nD) {α : Type} {Q : α → sProp 𝕄} {P : Prop} {d : Decidable P} {k : PLift P → Prog (TpuEff nD τ sig (Elt F) Λ₀ .tc) α} (h : P) :
    wp frame (𝕎 (c : Thread nD τ) none) Set.univ (k ⟨h⟩) Q ⊢ wp frame (𝕎 (c : Thread nD τ) none) Set.univ (Prog.lift (.assume P d) >>= k) Q :=
  wp_assume (Γ := ∅) Variants.none (c : Thread nD τ) none Set.univ h

variable (c : Dev nD) (W : Buf (Elt F) (wM.view.loc (c : Thread nD τ)))

theorem penq {α : Type} {Q : α → sProp 𝕄} (s : Fin 2) (e : Fin 32)
    {o : Fin 4 → ℕ} {h : ∀ a, o a + S1x1x2048x2048.size a ≤ S2x1x2048x2048.size a}
    {o' : Fin 3 → ℕ} {h' : ∀ a, o' a + S1x2048x2048.size a ≤ S32x2048x2048.size a}
    {p : Fin 1 → ℕ} {hp : ∀ a, p a + S1.size a ≤ S2.size a}
    (eo : o = offS s) (eo' : o' = offW e) (ep : p = ![s.val])
    {hsrc : (srcAt o' h').view.WordExact} {hdst : (slotAt o h).view.WordExact}
    {hsem : DmaTarget.Typed (nD := nD) (τ := τ) (sig := sig) (p := .tc) .hbm (SemLoc.dma (cellAt p hp)) (.here (slotAt o h))}
    {k : PUnit → Prog (TpuEff nD τ sig (Elt F) Λ₀ .tc) α} :
    idle c W s ⊢ iprop((fly c W s e -∗ wp frame (𝕎 (c : Thread nD τ) none) Set.univ (k ⟨⟩) Q)
      -∗ wp frame (𝕎 (c : Thread nD τ) none) Set.univ
          (Prog.lift (.enqueueDma (srcAt o' h') (.here (slotAt o h)) (.dma (cellAt p hp)) hsrc hdst hsem) >>= k) Q) :=
  enq c W s e eo eo' ep

theorem pwait {α : Type} {Q : α → sProp 𝕄} (s : Fin 2) (e : Fin 32)
    {o : Fin 4 → ℕ} {h : ∀ a, o a + S1x1x2048x2048.size a ≤ S2x1x2048x2048.size a}
    {o' : Fin 3 → ℕ} {h' : ∀ a, o' a + S1x2048x2048.size a ≤ S32x2048x2048.size a}
    {p : Fin 1 → ℕ} {hp : ∀ a, p a + S1.size a ≤ S2.size a} (ep : p = ![s.val])
    {hsrc : (srcAt o' h').view.WordExact} {hdst : (slotAt o h).view.WordExact}
    {k : PUnit → Prog (TpuEff nD τ sig (Elt F) Λ₀ .tc) α} {Ws : Waits sig Unit} :
    iprop(fly c W s e ∗ owes (c : Thread nD τ) 0 Ws)
      ⊢ iprop((iprop(ready c W s e ∗ (∃ Ws', owes (c : Thread nD τ) 0 Ws'))
          -∗ wp frame (𝕎 (c : Thread nD τ) none) Set.univ (k ⟨⟩) Q)
      -∗ wp frame (𝕎 (c : Thread nD τ) none) Set.univ
          (Prog.lift (.waitDma2 (cellAt p hp) (srcAt o' h') (slotAt o h) hsrc hdst) >>= k) Q) :=
  wait c W s e ep

/-- What the other slot holds after a step that began an expert: the next run's copy, nothing at the last run. -/
def fut (s : Fin 2) (last : BitVec 32) (nx : Fin 32) : sProp 𝕄 :=
  if last = 1#32 then idle c W s else fly c W s nx

section
variable (i : grid0.Coords) (it : Fin 96) (s : Fin 2) (e nx : Fin 32)
  (a10 : Memref sig .tc .vmem S512x2048 .bf16) (h10 : a10.IsWhole)
  (a12 : Memref sig .tc .vmem S1x1x2048 .f32) (h12 : a12.IsWhole)
  (a13 : Memref sig .tc .vmem S8192x128 .f32) (h13 : a13.IsWhole)
  (tE tRun tLast tNxt : S96.Idx → BitVec 32) (tNr : S1.Idx → BitVec 32)
  (hi0 : (i 0).val = it.val)
  (hs : IsSlot (tNr (ix1 0)) (tRun (ix1 it)) s) (he : tE (ix1 it) = BitVec.ofNat 32 e.val) (hnx : tNxt (ix1 it) = BitVec.ofNat 32 nx.val)

/-- A table at its contents, at the share the body holds it under. -/
abbrev tab {S : Shape} (m : Memref sig .tc .smem S .i32) (f : Buf (Elt F) (m.view.loc (c : Thread nD τ))) : sProp 𝕄 :=
  m.view.loc (c : Thread nD τ) ↦{fullShare.right} f

theorem offI_eq {i : grid0.Coords} {it : Fin 96} (hi0 : (i 0).val = it.val) : (![(BitVec.ofNat 32 (i 0).val).toNat] : Fin 1 → ℕ) = ![it.val] := by
  rw [hi0]
  have : (BitVec.ofNat 32 it.val).toNat = it.val := by
    rw [BitVec.toNat_ofNat]; omega
  rw [this]

/-- The tables this part loads from. -/
def tabs1 : sProp 𝕄 :=
  iprop(tab c (Memref.whole main_v87) tNr ∗ tab c (Memref.whole main_v58) tRun ∗ tab c (Memref.whole main_v27) tE
    ∗ tab c (Memref.whole main_v65) tLast ∗ tab c (Memref.whole main_v86) tNxt)

set_option maxHeartbeats 1000000 in
include hi0 hs he hnx in
/-- The body's first part: the slot's copy, at the launch's first step, its wait, and the start of the next run's copy. -/
theorem part1 (v1 : BitVec 32) (h1 : k0_cond1 v1 = 1#1) (Ws : Waits sig Unit) :
    iprop(tabs1 c tE tRun tLast tNxt tNr
        ∗ owes (c : Thread nD τ) 0 Ws ∗ (if k0_cond2 i = 1#1 then idle c W s else fly c W s e) ∗ idle c W (1 - s))
      ⊢ wp frame (𝕎 (c : Thread nD τ) none) Set.univ
          (k0_part1 (F := F) i (Memref.whole main_v16) (Memref.isWhole_whole _) (Memref.whole main_v12) (Memref.isWhole_whole _) (Memref.whole main_v27) (Memref.isWhole_whole _) (Memref.whole main_v47) (Memref.isWhole_whole _) (Memref.whole main_v55) (Memref.isWhole_whole _) (Memref.whole main_v58) (Memref.isWhole_whole _) (Memref.whole main_v65) (Memref.isWhole_whole _) (Memref.whole main_v86) (Memref.isWhole_whole _) (Memref.whole main_v87) (Memref.isWhole_whole _)
            a10 h10 wM (Memref.isWhole_whole _) a12 h12 a13 h13 wbM (Memref.isWhole_whole _) cc0_scratch1 wgM (Memref.isWhole_whole _)
            (BitVec.ofNat 32 (i 0).val) v1 h1)
          (fun r => iprop(⌜r.1 = tNr (ix1 0) ∧ r.2.1 = tRun (ix1 it) ∧ r.2.2.2.2.1 = tLast (ix1 it)⌝
            ∗ tabs1 c tE tRun tLast tNxt tNr
            ∗ (∃ Ws', owes (c : Thread nD τ) 0 Ws') ∗ ready c W s e ∗ fut c W (1 - s) (tLast (ix1 it)) nx)) := by
  rw [k0_part1_eq_skeleton]
  unfold k0_part1_skel
  iintro ⟨HT, HO, HS, HI⟩
  unfold tabs1
  icases HT with ⟨Hnr, Hrun, He, Hlast, Hnxt⟩
  iapply (tload c (m := Memref.whole main_v87) (pt1 _)) $$ Hnr; iintro Hnr
  iapply (tload c (m := Memref.whole main_v58) (pt96 (offI_eq hi0) _)) $$ Hrun; iintro Hrun
  iapply (passume c (chk1_of hs i v1))
  extract_lets +onlyGivenNames hw v34 v35 v36 v37 v38 v39 v40 v41 v42 v43 v44 v45 v46 v47 v48 jp
  have hjp : iprop(tabs1 c tE tRun tLast tNxt tNr
        ∗ owes (c : Thread nD τ) 0 Ws ∗ fly c W s e ∗ idle c W (1 - s))
      ⊢ wp frame (𝕎 (c : Thread nD τ) none) Set.univ (jp ⟨⟩)
          (fun r => iprop(⌜r.1 = tNr (ix1 0) ∧ r.2.1 = tRun (ix1 it) ∧ r.2.2.2.2.1 = tLast (ix1 it)⌝
            ∗ tabs1 c tE tRun tLast tNxt tNr
            ∗ (∃ Ws', owes (c : Thread nD τ) 0 Ws') ∗ ready c W s e ∗ fut c W (1 - s) (tLast (ix1 it)) nx)) := by
    unfold jp tabs1
    iintro ⟨⟨Hnr, Hrun, He, Hlast, Hnxt⟩, HO, HS, HI⟩
    iapply (tload c (m := Memref.whole main_v27) (pt96 (offI_eq hi0) _)) $$ He; iintro He
    iapply (passume c (chk3_of he v1))
    iapply (pwait c W s e (off8_eq hs)) $$ [HS HO]
    · isplitl [HS]; · iexact HS
      iexact HO
    iintro ⟨HS, HO⟩
    iapply (tload c (m := Memref.whole main_v65) (pt96 (offI_eq hi0) _)) $$ Hlast; iintro Hlast
    iapply (passume c (chk4_of hs v1 _))
    by_cases h3 : k0_cond3 ((Memref.whole main_v65).view.read (Elt F) (tLast : Buf (Elt F) ((Memref.whole main_v65).view.loc (c : Thread nD τ))) (ix1 it)) = 1#1
    · have hl1 : ¬ tLast (ix1 it) = 1#32 := (cond3_iff _).1 h3
      simp only [dif_pos h3]
      iapply (tload c (m := Memref.whole main_v86) (pt96 (offI_eq hi0) _)) $$ Hnxt; iintro Hnxt
      iapply (passume c (chk5_of hnx _ _))
      iapply (penq c W (1 - s) nx (off14_eq hs) (off15_eq hnx) (off13_eq hs)) $$ HI
      iintro HI
      iapply (pret c)
      isplitr; · ipureintro; exact ⟨rfl, rfl, rfl⟩
      isplitl [Hnr Hrun He Hlast Hnxt]
      · isplitl [Hnr]; · iexact Hnr
        isplitl [Hrun]; · iexact Hrun
        isplitl [He]; · iexact He
        isplitl [Hlast]; · iexact Hlast
        iexact Hnxt
      isplitl [HO]; · iexact HO
      isplitl [HS]; · iexact HS
      unfold fut; simp only [if_neg hl1]; iexact HI
    · have hl1 : tLast (ix1 it) = 1#32 := by
        by_contra h
        exact h3 ((cond3_iff _).2 h)
      simp only [dif_neg h3]
      iapply (pret c)
      isplitr; · ipureintro; exact ⟨rfl, rfl, rfl⟩
      isplitl [Hnr Hrun He Hlast Hnxt]
      · isplitl [Hnr]; · iexact Hnr
        isplitl [Hrun]; · iexact Hrun
        isplitl [He]; · iexact He
        isplitl [Hlast]; · iexact Hlast
        iexact Hnxt
      isplitl [HO]; · iexact HO
      isplitl [HS]; · iexact HS
      unfold fut; simp only [if_pos hl1]; iexact HI
  clear_value jp
  by_cases h2 : k0_cond2 i = 1#1
  · simp only [dif_pos h2, if_pos h2]
    iapply (tload c (m := Memref.whole main_v27) (pt96 (offI_eq hi0) _)) $$ He; iintro He
    iapply (passume c (chk2_of he i v1))
    iapply (penq c W s e (off5_eq hs) (off6_eq he) (off4_eq hs)) $$ HS
    iintro HS
    iapply hjp
    unfold tabs1
    isplitl [Hnr Hrun He Hlast Hnxt]
    · isplitl [Hnr]; · iexact Hnr
      isplitl [Hrun]; · iexact Hrun
      isplitl [He]; · iexact He
      isplitl [Hlast]; · iexact Hlast
      iexact Hnxt
    isplitl [HO]; · iexact HO
    isplitl [HS]; · iexact HS
    iexact HI
  · simp only [dif_neg h2, if_neg h2]
    iapply hjp
    unfold tabs1
    isplitl [Hnr Hrun He Hlast Hnxt]
    · isplitl [Hnr]; · iexact Hnr
      isplitl [Hrun]; · iexact Hrun
      isplitl [He]; · iexact He
      isplitl [Hlast]; · iexact Hlast
      iexact Hnxt
    isplitl [HO]; · iexact HO
    isplitl [HS]; · iexact HS
    iexact HI
end

end Cert.Down
-- ==== Proof.DTile.lean ====
/- The expert-down kernel's body up to its matmuls, as a step: with a new expert the slot's tile is collected, the next
   copies are started, and the rounded weights are stored; with the expert of the step before nothing changes. -/
module

public import proofs.«01_k».proof.Proof.DSteps
public import Idealize.ShloMosaic.Lib.Pipeline.Value

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

/-- The program after its first load, at a word that starts no new expert. -/
def after1 {α : Type} : Prog (TpuEff nD τ sig (Elt F) Λ₀ .tc) α → Prog (TpuEff nD τ sig (Elt F) Λ₀ .tc) α
  | .op (.load (e := .i32) _ _ _) k => k (fun _ => (0#32 : BitVec 32))
  | p => p

theorem after1_load {α : Type} {S : Shape} {m : Memref sig .tc .smem S .i32} {r : Rect S} {h1 : r.shape.numel = 1} {hp : EltTy.i32.packing = 1}
    (k : Elt F .i32 → Prog (TpuEff nD τ sig (Elt F) Λ₀ .tc) α) : after1 (smemLoad m r h1 hp >>= k) = k (0#32 : BitVec 32) := rfl

variable (c : Dev nD) (W : Buf (Elt F) (wM.view.loc (c : Thread nD τ)))

/-- Expert `e`'s weights, rounded. -/
def wtile (e : Fin 32) : FVec F S2048x2048 .bf16 :=
  truncf .bf16 ((src e).view.read (Elt F) W : FVec F S2048x2048 .f32) bitsLt_bf16_f32

/-- A rounded tile's buffer, at some contents and at the contents `X`. -/
def anyTile (m : Memref sig .tc .vmem S2048x2048 .bf16) : sProp 𝕄 :=
  iprop(∃ f : Buf (Elt F) (m.view.loc (c : Thread nD τ)), m.view.loc (c : Thread nD τ) ↦{fullShare} f)
def tile (m : Memref sig .tc .vmem S2048x2048 .bf16) (X : FVec F S2048x2048 .bf16) : sProp 𝕄 :=
  iprop(∃ f : Buf (Elt F) (m.view.loc (c : Thread nD τ)), ⌜m.view.read (Elt F) f = X⌝ ∗ (m.view.loc (c : Thread nD τ) ↦{fullShare} f))

theorem pload {α : Type} {Q : α → sProp 𝕄} {m : Memref sig .tc .vmem S2048x2048 .bf16} {r : Rect S2048x2048} {hl : m.view.LoadsAt r.toLoadRect}
    {k : (r.shape.Idx → Elt F .bf16) → Prog (TpuEff nD τ sig (Elt F) Λ₀ .tc) α} {f : Buf (Elt F) (m.view.loc (c : Thread nD τ))} :
    (m.view.loc (c : Thread nD τ) ↦{fullShare} f)
      ⊢ iprop((∀ v, (m.view.loc (c : Thread nD τ) ↦{fullShare} f) -∗ wp frame (𝕎 (c : Thread nD τ) none) Set.univ (k v) Q)
        -∗ wp frame (𝕎 (c : Thread nD τ) none) Set.univ (Prog.lift (.load m r.toLoadRect hl) >>= k) Q) := by
  have h := wp_load_rect (Γ := ∅) (Ix := Unit) (Name := ℕ) (U := Pipeline.UD sig nD τ) (Lvl := ℕ) (defs := defs₀ (F := F)) Variants.none (c : Thread nD τ) none Set.univ (m := m) (r := r) (hl := hl)
    (k := k) (Q := Q) (q := fullShare) (f := f) (Finset.subset_univ _)
  iintro H Hk
  iapply h $$ H
  iintro H
  iapply Hk; iexact H

theorem full_emb {h : ∀ a, (![0, 0] : Fin 2 → ℕ) a + S2048x2048.size a ≤ S2048x2048.size a} (x : S2048x2048.Idx) :
    (Rect.unit (s := S2048x2048) ![0, 0] S2048x2048.size h).emb x = x := by
  funext a
  apply Fin.ext
  match a with
  | ⟨0, _⟩ => show 0 + 1 * (x 0).val = (x 0).val; omega
  | ⟨1, _⟩ => show 0 + 1 * (x 1).val = (x 1).val; omega

theorem pstore {α : Type} {Q : α → sProp 𝕄} {m : Memref sig .tc .vmem S2048x2048 .bf16} {h : ∀ a, (![0, 0] : Fin 2 → ℕ) a + S2048x2048.size a ≤ S2048x2048.size a}
    {w : FVec F S2048x2048 .bf16} {hx : (m.access (Rect.unit (s := S2048x2048) ![0, 0] S2048x2048.size h)).Stores Finset.univ} {hm}
    {k : PUnit → Prog (TpuEff nD τ sig (Elt F) Λ₀ .tc) α} {f : Buf (Elt F) (m.view.loc (c : Thread nD τ))} :
    (m.view.loc (c : Thread nD τ) ↦{fullShare} f)
      ⊢ iprop((tile c m w -∗ wp frame (𝕎 (c : Thread nD τ) none) Set.univ (k ⟨⟩) Q)
        -∗ wp frame (𝕎 (c : Thread nD τ) none) Set.univ (Prog.lift (.store m (Rect.unit (s := S2048x2048) ![0, 0] S2048x2048.size h) w Finset.univ hx hm) >>= k) Q) := by
  have h0 := wp_store (Γ := ∅) (Ix := Unit) (Name := ℕ) (U := Pipeline.UD sig nD τ) (Lvl := ℕ) (defs := defs₀ (F := F)) Variants.none (c : Thread nD τ) none Set.univ (m := m)
    (r := Rect.unit (s := S2048x2048) ![0, 0] S2048x2048.size h) (w := w) (Mk := Finset.univ) (hx := hx) (hm := hm)
    (k := k) (Q := Q) (f := f) (Finset.subset_univ _)
  iintro H Hk
  iapply h0 $$ H
  iintro H
  iapply Hk
  unfold tile
  iexists _
  isplitr; swap; · iexact H
  ipureintro
  have e := View.read_write_univ (v := m.access (Rect.unit (s := S2048x2048) ![0, 0] S2048x2048.size h)) f w
  funext x
  have e' := congrFun e x
  rw [← e']
  show _ = (m.view.read (Elt F) _) ((Rect.unit (s := S2048x2048) ![0, 0] S2048x2048.size h).emb x)
  rw [full_emb]

theorem ploadSlot {α : Type} {Q : α → sProp 𝕄} (s : Fin 2) (e : Fin 32)
    {o : Fin 4 → ℕ} {hb : ∀ a, o a + S1x1x2048x2048.size a ≤ S2x1x2048x2048.size a} (eo : o = offS s)
    {hl : wbM.view.LoadsAt (Rect.unit (s := S2x1x2048x2048) o S1x1x2048x2048.size hb).toLoadRect}
    {k : Vec F S1x1x2048x2048 .f32 → Prog (TpuEff nD τ sig (Elt F) Λ₀ .tc) α} :
    gotSlot c W s e
      ⊢ iprop((∀ v : Vec F S1x1x2048x2048 .f32, ⌜k0_pay1 v = wtile c W e⌝ -∗ gotSlot c W s e -∗ wp frame (𝕎 (c : Thread nD τ) none) Set.univ (k v) Q)
        -∗ wp frame (𝕎 (c : Thread nD τ) none) Set.univ (Prog.lift (.load wbM (Rect.unit (s := S2x1x2048x2048) o S1x1x2048x2048.size hb).toLoadRect hl) >>= k) Q) := by
  subst eo
  unfold gotSlot
  iintro ⟨%f, %hf, H⟩ Hk
  have h0 := wp_load_rect (Γ := ∅) (Ix := Unit) (Name := ℕ) (U := Pipeline.UD sig nD τ) (Lvl := ℕ) (defs := defs₀ (F := F)) Variants.none (c : Thread nD τ) none Set.univ (m := wbM)
    (r := Rect.unit (s := S2x1x2048x2048) (offS s) S1x1x2048x2048.size hb) (hl := hl)
    (k := k) (Q := Q) (q := fullShare) (f := f) (S := (slot s).view.set) (le_of_eq (View.set_reshape _ _).symm)
  have hv : k0_pay1 ((wbM.access (Rect.unit (s := S2x1x2048x2048) (offS s) S1x1x2048x2048.size hb)).read (Elt F) f) = wtile c W e := by
    unfold k0_pay1 wtile
    dsimp only
    rw [shapeCast_self, ← hf]
    rfl
  iapply h0 $$ H
  iintro H
  iapply Hk $$ %_ %hv
  iexists f; isplitr; · ipureintro; exact hf
  iexact H

section
variable (i : grid0.Coords)
  (a10 : Memref sig .tc .vmem S512x2048 .bf16) (h10 : a10.IsWhole)
  (a12 : Memref sig .tc .vmem S1x1x2048 .f32) (h12 : a12.IsWhole)
  (a13 : Memref sig .tc .vmem S8192x128 .f32) (h13 : a13.IsWhole)
  (tE tNew tRun tLast tNxt : S96.Idx → BitVec 32) (tNr : S1.Idx → BitVec 32)

/-- The body's program at point `i`, and its rest after the weights are ready. -/
abbrev bodyAt : Prog (TpuEff nD τ sig (Elt F) Λ₀ .tc) PUnit :=
  cc0_moe_down_skel (F := F) i (Memref.whole main_v16) (Memref.isWhole_whole _) (Memref.whole main_v12) (Memref.isWhole_whole _) (Memref.whole main_v27) (Memref.isWhole_whole _) (Memref.whole main_v47) (Memref.isWhole_whole _) (Memref.whole main_v55) (Memref.isWhole_whole _) (Memref.whole main_v58) (Memref.isWhole_whole _) (Memref.whole main_v65) (Memref.isWhole_whole _) (Memref.whole main_v86) (Memref.isWhole_whole _) (Memref.whole main_v87) (Memref.isWhole_whole _)
    a10 h10 wM (Memref.isWhole_whole _) a12 h12 a13 h13 wbM (Memref.isWhole_whole _) cc0_scratch1 wgM (Memref.isWhole_whole _)
def restB : Prog (TpuEff nD τ sig (Elt F) Λ₀ .tc) PUnit := after1 (bodyAt (F := F) i a10 h10 a12 h12 a13 h13)

/-- The tables the first part loads from. -/
def tabsA : sProp 𝕄 :=
  iprop(tab c (Memref.whole main_v55) tNew ∗ tabs1 c tE tRun tLast tNxt tNr)

end

end Cert.Down
-- ==== Proof.DStageA.lean ====
/- The expert-down kernel's body up to its matmuls, as a step: with a new expert the slot's tile is collected, the next
   copy is started, and the rounded weights are stored; with the expert of the step before nothing changes. -/
module

public import proofs.«01_k».proof.Proof.DTile
public import Idealize.ShloMosaic.Lib.Pipeline.Value

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

variable (c : Dev nD) (W : Buf (Elt F) (wM.view.loc (c : Thread nD τ)))

theorem pbind {α β : Type} {p : Prog (TpuEff nD τ sig (Elt F) Λ₀ .tc) α} {k : α → Prog (TpuEff nD τ sig (Elt F) Λ₀ .tc) β} {P : α → sProp 𝕄} {Q : β → sProp 𝕄}
    {R : sProp 𝕄} (h : R ⊢ wp frame (𝕎 (c : Thread nD τ) none) Set.univ p P) :
    R ⊢ iprop((∀ a, P a -∗ wp frame (𝕎 (c : Thread nD τ) none) Set.univ (k a) Q) -∗ wp frame (𝕎 (c : Thread nD τ) none) Set.univ (p >>= k) Q) := by
  rw [wp_bind_eq]
  exact h.trans (wp_wand _ _ _)

section
variable (i : grid0.Coords) (it : Fin 96) (s : Fin 2) (e nx : Fin 32)
  (a10 : Memref sig .tc .vmem S512x2048 .bf16) (h10 : a10.IsWhole)
  (a12 : Memref sig .tc .vmem S1x1x2048 .f32) (h12 : a12.IsWhole)
  (a13 : Memref sig .tc .vmem S8192x128 .f32) (h13 : a13.IsWhole)
  (tE tNew tRun tLast tNxt : S96.Idx → BitVec 32) (tNr : S1.Idx → BitVec 32)

variable (hi0 : (i 0).val = it.val)
  (hs : IsSlot (tNr (ix1 0)) (tRun (ix1 it)) s) (he : tE (ix1 it) = BitVec.ofNat 32 e.val) (hnx : tNxt (ix1 it) = BitVec.ofNat 32 nx.val)

set_option maxHeartbeats 1000000 in
include hi0 in
/-- A step that goes on with the expert of the step before. -/
theorem stageA_same (hnew : tNew (ix1 it) ≠ 1#32) (Q : PUnit → sProp 𝕄) :
    iprop(tabsA c tE tNew tRun tLast tNxt tNr
        ∗ (tabsA c tE tNew tRun tLast tNxt tNr -∗ wp frame (𝕎 (c : Thread nD τ) none) Set.univ (restB (F := F) i a10 h10 a12 h12 a13 h13) Q))
      ⊢ wp frame (𝕎 (c : Thread nD τ) none) Set.univ (bodyAt (F := F) i a10 h10 a12 h12 a13 h13) Q := by
  unfold tabsA bodyAt
  unfold cc0_moe_down_skel
  iintro ⟨⟨Hnew, Ht⟩, HK⟩
  iapply (tload c (m := Memref.whole main_v55) (pt96 (offI_eq hi0) _)) $$ Hnew; iintro Hnew
  extract_lets -underBinder +onlyGivenNames jp
  have hr : restB (F := F) i a10 h10 a12 h12 a13 h13 = jp ⟨⟩ := by
    unfold restB
    exact (after1_load _).trans (dif_neg (show ¬ k0_cond1 0#32 = 1#1 by decide))
  clear_value jp
  have h1 : ¬ k0_cond1 ((Memref.whole main_v55).view.read (Elt F) (tNew : Buf (Elt F) ((Memref.whole main_v55).view.loc (c : Thread nD τ))) (ix1 it)) = 1#1 :=
    fun h => hnew ((cond1_iff _).1 h)
  simp only [dif_neg h1, ← hr]
  iapply HK
  isplitl [Hnew]; · iexact Hnew
  iexact Ht

set_option maxHeartbeats 2000000 in
include hi0 hs he hnx in
/-- A step that begins a new expert. -/
theorem stageA_new (hnew : tNew (ix1 it) = 1#32) (Ws : Waits sig Unit) (Q : PUnit → sProp 𝕄) :
    iprop(tabsA c tE tNew tRun tLast tNxt tNr ∗ owes (c : Thread nD τ) 0 Ws ∗ (if k0_cond2 i = 1#1 then idle c W s else fly c W s e) ∗ idle c W (1 - s)
        ∗ anyTile (F := F) c wgM
        ∗ ((tabsA c tE tNew tRun tLast tNxt tNr ∗ (∃ Ws', owes (c : Thread nD τ) 0 Ws') ∗ idle c W s ∗ fut c W (1 - s) (tLast (ix1 it)) nx
              ∗ tile c wgM (wtile c W e))
            -∗ wp frame (𝕎 (c : Thread nD τ) none) Set.univ (restB (F := F) i a10 h10 a12 h12 a13 h13) Q))
      ⊢ wp frame (𝕎 (c : Thread nD τ) none) Set.univ (bodyAt (F := F) i a10 h10 a12 h12 a13 h13) Q := by
  unfold tabsA bodyAt
  unfold cc0_moe_down_skel
  iintro ⟨⟨Hnew, Ht⟩, HO, HS, HI, Hg, HK⟩
  iapply (tload c (m := Memref.whole main_v55) (pt96 (offI_eq hi0) _)) $$ Hnew; iintro Hnew
  extract_lets -underBinder +onlyGivenNames jp
  have hr : restB (F := F) i a10 h10 a12 h12 a13 h13 = jp ⟨⟩ := by
    unfold restB
    exact (after1_load _).trans (dif_neg (show ¬ k0_cond1 0#32 = 1#1 by decide))
  clear_value jp
  have h1 : k0_cond1 ((Memref.whole main_v55).view.read (Elt F) (tNew : Buf (Elt F) ((Memref.whole main_v55).view.loc (c : Thread nD τ))) (ix1 it)) = 1#1 :=
    (cond1_iff _).2 hnew
  simp -zeta -zetaHave only [dif_pos h1]
  iapply (pbind c (part1 c W i it s e nx a10 h10 a12 h12 a13 h13 tE tRun tLast tNxt tNr hi0 hs he hnx _ h1 Ws)) $$ [Ht HO HS HI]
  · isplitl [Ht]; · iexact Ht
    isplitl [HO]; · iexact HO
    isplitl [HS]; · iexact HS
    iexact HI
  iintro %r ⟨%hv, Ht, HO, HS, HI⟩
  obtain ⟨v30, v33, hw1, v44, v58, hw4, v63⟩ := r
  obtain ⟨rfl, rfl, rfl⟩ := hv
  simp -zeta -zetaHave only [dif_neg (cond4_not _)]
  unfold ready anyTile
  icases HS with ⟨Hv, H0, Hw⟩
  icases Hg with ⟨%g0, Hg⟩
  iapply (ploadSlot c W s e (off20_eq hs)) $$ H0; iintro %v67 %e67 H0
  iapply (pload c) $$ Hg; iintro %v70 Hg
  iapply (pstore c) $$ Hg; iintro Hg
  rw [← hr]
  iapply HK
  isplitl [Hnew Ht]
  · isplitl [Hnew]; · iexact Hnew
    iexact Ht
  isplitl [HO]; · iexact HO
  isplitl [Hv H0 Hw]
  · iapply (ready_idle c W s e)
    unfold ready
    isplitl [Hv]; · iexact Hv
    isplitl [H0]; · iexact H0
    iexact Hw
  isplitl [HI]; · iexact HI
  simp only [e67]; iexact Hg

end

end Cert.Down
-- ==== Proof.DRun.lean ====
/- The expert-down kernel's matmuls and their stores, as a step: the block's row count selects which rows are computed, and the others are
   stored as zeros. -/
module

public import proofs.«01_k».proof.Proof.DTile
public import Idealize.ShloMosaic.Lib.Pipeline.Value

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

variable (c : Dev nD) (i : grid0.Coords) (it : Fin 96)
  (a10 : Memref sig .tc .vmem S512x2048 .bf16) (h10 : a10.IsWhole)
  (a12 : Memref sig .tc .vmem S1x1x2048 .f32) (h12 : a12.IsWhole)
  (a13 : Memref sig .tc .vmem S8192x128 .f32) (h13 : a13.IsWhole)
  (x0 : Vec F S512x2048 .bf16) (g : Vec F S2048x2048 .bf16) (b : Vec F S1x1x2048 .f32)

/-- The rest of the body, at a row count of way `k`, leaves the output block written with the pieces `L`. -/
def RunsB (k : Fin 5) (L : List (View.Piece (Elt F) S8192x128 .f32)) : Prop :=
  ∀ (tNv : Buf (Elt F) ((Memref.whole main_v47).view.loc (c : Thread nD τ))) (hi0 : (i 0).val = it.val)
    (hk : cls ((Memref.whole main_v47).view.read (Elt F) tNv (ix1 it)) k) (K : PUnit → sProp 𝕄),
    iprop(tab c (Memref.whole main_v47) tNv ∗ owns (c : Thread nD τ) a10 fullShare x0 ∗ owns (c : Thread nD τ) a12 fullShare b ∗ (∃ d, owns (c : Thread nD τ) a13 fullShare d)
        ∗ owns (c : Thread nD τ) wgM fullShare g
        ∗ (iprop(tab c (Memref.whole main_v47) tNv ∗ owns (c : Thread nD τ) a10 fullShare x0 ∗ owns (c : Thread nD τ) a12 fullShare b ∗ (∃ f, a13.view.loc (c : Thread nD τ) ↦[a13.view.set]{fullShare} a13.view.writes (Elt F) f L)
            ∗ owns (c : Thread nD τ) wgM fullShare g ) -∗ K ⟨⟩))
      ⊢ wp frame (𝕎 (c : Thread nD τ) none) Set.univ (restB (F := F) i a10 h10 a12 h12 a13 h13) K

set_option maxHeartbeats 8000000 in
/-- The pieces of each way, found by its run. -/
def run (k : Fin 5) : { L : List (View.Piece (Elt F) S8192x128 .f32) // RunsB c i it a10 h10 a12 h12 a13 h13 x0 g b k L } := by
  match k with
  | 0 | 1 | 2 | 3 | 4 =>
    refine ⟨?_, fun tNv hi0 hk K => ?run⟩
    case run =>
      obtain ⟨h5, h6, h7, h8, h9⟩ := hk
      first | replace h5 := h5.2 rfl | replace h5 := mt h5.1 (by decide)
      first | replace h6 := h6.2 rfl | replace h6 := mt h6.1 (by decide)
      first | replace h7 := h7.2 rfl | replace h7 := mt h7.1 (by decide)
      first | replace h8 := h8.2 rfl | replace h8 := mt h8.1 (by decide)
      first | replace h9 := h9.2 rfl | replace h9 := mt h9.1 (by decide)
      rw [show restB (F := F) i a10 h10 a12 h12 a13 h13 = _ from (after1_load _).trans (dif_neg (show ¬ k0_cond1 0#32 = 1#1 by decide))]
      unfold owns
      iintro ⟨Hnv, ⟨%f0, %hf0, H0⟩, ⟨%f1, %hf1, H1⟩, ⟨%d3, %f3, -, H3⟩, ⟨%f4, %hf4, H4⟩, Hk⟩
      obtain rfl := h10.eq_unread hf0; obtain rfl := h12.eq_unread hf1
      obtain rfl := (Memref.isWhole_whole cc0_scratch2).eq_unread hf4
      iapply (tload c (m := Memref.whole main_v47) (pt96 (offI_eq hi0) _)) $$ Hnv; iintro Hnv
      first | simp -zeta -zetaHave only [dif_pos h5] | simp -zeta -zetaHave only [dif_neg h5]
      first | simp -zeta -zetaHave only [dif_pos h6] | simp -zeta -zetaHave only [dif_neg h6]
      first | simp -zeta -zetaHave only [dif_pos h7] | simp -zeta -zetaHave only [dif_neg h7]
      first | simp -zeta -zetaHave only [dif_pos h8] | simp -zeta -zetaHave only [dif_neg h8]
      first | simp -zeta -zetaHave only [dif_pos h9] | simp -zeta -zetaHave only [dif_neg h9]
      try simp only [k0_part2_eq_skeleton, k0_part3_eq_skeleton, k0_part4_eq_skeleton, k0_part5_eq_skeleton, k0_part6_eq_skeleton, k0_part7_eq_skeleton, k0_part8_eq_skeleton, k0_part9_eq_skeleton]
      sl_exec
      repeat (sl_step; sl_exec)
      sl_step
      iapply Hk
      isplitl [Hnv]; · iexact Hnv
      isplitl [H0]
      · iexists _; isplitr; · ipureintro; exact h10.read_unread _
        iexact H0
      isplitl [H1]
      · iexists _; isplitr; · ipureintro; exact h12.read_unread _
        iexact H1
      isplitl [H3]; · iexists _; iexact H3
      iexists _; isplitr; · ipureintro; exact (Memref.isWhole_whole _).read_unread _
      iexact H4

end Cert.Down
-- ==== Proof.DStageB.lean ====
/- The expert-down kernel's matmuls and their stores leave one value in the output block. -/
module

public import proofs.«01_k».proof.Proof.DRun
public import Idealize.ShloMosaic.Lib.Pipeline.Value

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

variable (c : Dev nD) (i : grid0.Coords) (it : Fin 96)
  (a10 : Memref sig .tc .vmem S512x2048 .bf16) (h10 : a10.IsWhole)
  (a12 : Memref sig .tc .vmem S1x1x2048 .f32) (h12 : a12.IsWhole)
  (a13 : Memref sig .tc .vmem S8192x128 .f32) (h13 : a13.IsWhole)
  (x0 : Vec F S512x2048 .bf16) (g : Vec F S2048x2048 .bf16) (b : Vec F S1x1x2048 .f32)

/-- A piece's first row, its number of rows and their spacing, with the same of its columns. -/
def key (pc : View.Piece (Elt F) S8192x128 .f32) : (ℕ × ℕ × ℕ) × (ℕ × ℕ × ℕ) :=
  ((pc.1.off 0, pc.1.size 0, pc.1.stride 0), (pc.1.off 1, pc.1.size 1, pc.1.stride 1))

/-- `n` rows from row `o` on, of all columns. -/
def rowsOf (o n : ℕ) : List ((ℕ × ℕ × ℕ) × (ℕ × ℕ × ℕ)) := [((o, n, 1), (0, 128, 1))]

/-- Sixteen strips of `n` rows each, every sixteenth from row `16 * o` on, the last one first. -/
def stripsOf (o n : ℕ) : List ((ℕ × ℕ × ℕ) × (ℕ × ℕ × ℕ)) :=
  [15, 14, 13, 12, 11, 10, 9, 8, 7, 6, 5, 4, 3, 2, 1, 0].map fun s => ((16 * o + s, n, 16), (0, 128, 1))

/-- The pieces of each way, the last one written first. -/
def keysOf : Fin 5 → List ((ℕ × ℕ × ℕ) × (ℕ × ℕ × ℕ))
  | 0 => rowsOf 0 8192
  | 1 => rowsOf 2048 6144 ++ stripsOf 0 128
  | 2 => rowsOf 4096 4096 ++ stripsOf 0 256
  | 3 => rowsOf 6144 2048 ++ (stripsOf 256 128 ++ stripsOf 0 256)
  | 4 => stripsOf 256 256 ++ stripsOf 0 256

/-- The row is one of the described ones. -/
def Has (t : (ℕ × ℕ × ℕ) × (ℕ × ℕ × ℕ)) (r : ℕ) : Prop := (∃ j < t.1.2.1, r = t.1.1 + t.1.2.2 * j) ∧ t.2 = (0, 128, 1)

theorem has_rows (o n r : ℕ) (h1 : o ≤ r) (h2 : r < o + n) : ∃ t ∈ rowsOf o n, Has t r :=
  ⟨_, List.mem_singleton.2 rfl, ⟨r - o, by show r - o < n; omega, by show r = o + 1 * (r - o); omega⟩, rfl⟩

theorem has_strips (o n r : ℕ) (h1 : 16 * o ≤ r) (h2 : r < 16 * (o + n)) : ∃ t ∈ stripsOf o n, Has t r := by
  refine ⟨_, List.mem_map.2 ⟨r % 16, ?_, rfl⟩, ⟨r / 16 - o, by show r / 16 - o < n; omega, by show r = 16 * o + r % 16 + 16 * (r / 16 - o); omega⟩, rfl⟩
  have h : r % 16 < 16 := Nat.mod_lt _ (by decide)
  revert h
  generalize r % 16 = s
  revert s
  decide

theorem has_append {L M : List ((ℕ × ℕ × ℕ) × (ℕ × ℕ × ℕ))} {r : ℕ} (h : (∃ t ∈ L, Has t r) ∨ ∃ t ∈ M, Has t r) : ∃ t ∈ L ++ M, Has t r := by
  rcases h with ⟨t, h, h'⟩ | ⟨t, h, h'⟩
  · exact ⟨t, List.mem_append_left _ h, h'⟩
  · exact ⟨t, List.mem_append_right _ h, h'⟩

theorem keys_cover (k : Fin 5) (r : ℕ) (h : r < 8192) : ∃ t ∈ keysOf k, Has t r := by
  match k with
  | 0 => exact has_rows _ _ _ (by omega) (by omega)
  | 1 =>
    refine has_append ?_
    by_cases hr : 2048 ≤ r
    · exact .inl (has_rows _ _ _ hr (by omega))
    · exact .inr (has_strips _ _ _ (by omega) (by omega))
  | 2 =>
    refine has_append ?_
    by_cases hr : 4096 ≤ r
    · exact .inl (has_rows _ _ _ hr (by omega))
    · exact .inr (has_strips _ _ _ (by omega) (by omega))
  | 3 =>
    refine has_append ?_
    by_cases hr : 6144 ≤ r
    · exact .inl (has_rows _ _ _ hr (by omega))
    · refine .inr (has_append ?_)
      by_cases hr' : 4096 ≤ r
      · exact .inl (has_strips _ _ _ (by omega) (by omega))
      · exact .inr (has_strips _ _ _ (by omega) (by omega))
  | 4 =>
    refine has_append ?_
    by_cases hr : 4096 ≤ r
    · exact .inl (has_strips _ _ _ (by omega) (by omega))
    · exact .inr (has_strips _ _ _ (by omega) (by omega))

theorem keys_run (k : Fin 5) : (run c i it a10 h10 a12 h12 a13 h13 x0 g b k).1.map key = keysOf k := by
  match k with
  | 0 | 1 | 2 | 3 | 4 => sl_kernel_rfl

/-- The pieces of each way cover the output block. -/
theorem cover (k : Fin 5) (y : S8192x128.Idx) : ∃ pc ∈ (run c i it a10 h10 a12 h12 a13 h13 x0 g b k).1, y ∈ pc.1.set := by
  obtain ⟨t, ht, ⟨j, hj, hr⟩, hc⟩ := keys_cover k (y 0).val (y 0).isLt
  rw [← keys_run c i it a10 h10 a12 h12 a13 h13 x0 g b k] at ht
  obtain ⟨pc, hpc, rfl⟩ := List.mem_map.1 ht
  have hc0 : pc.1.off 1 = 0 := congrArg (fun z => z.1) hc
  have hc1 : pc.1.size 1 = 128 := congrArg (fun z => z.2.1) hc
  have hc2 : pc.1.stride 1 = 1 := congrArg (fun z => z.2.2) hc
  refine ⟨pc, hpc, pc.1.toLoadRect.mem_set.2 fun a => ?_⟩
  match a with
  | ⟨0, _⟩ => exact ⟨j, hj, hr⟩
  | ⟨1, _⟩ =>
    have h1 : (y 1).val < 128 := (y 1).isLt
    exact ⟨(y 1).val, by show (y 1).val < pc.1.size 1; rw [hc1]; exact h1, by show (y 1).val = pc.1.off 1 + pc.1.stride 1 * (y 1).val; rw [hc0, hc2]; omega⟩

/-- The output block's staging buffer, through which its contents are stated. -/
abbrev VO : View sig .tc .vmem S8192x128 .f32 := (Memref.whole cc0_stg2_0 : Memref sig .tc .vmem S8192x128 .f32).view

/-- What a step leaves in the output block. -/
def outB (k : Fin 5) : Vec F S8192x128 .f32 := VO.read (Elt F) (VO.writes (Elt F) VO.junk (run c i it a10 h10 a12 h12 a13 h13 x0 g b k).1)

theorem stageB (k : Fin 5) (tNv : Buf (Elt F) ((Memref.whole main_v47).view.loc (c : Thread nD τ))) (hi0 : (i 0).val = it.val)
    (hk : cls ((Memref.whole main_v47).view.read (Elt F) tNv (ix1 it)) k) (K : PUnit → sProp 𝕄) :
    iprop(tab c (Memref.whole main_v47) tNv ∗ owns (c : Thread nD τ) a10 fullShare x0 ∗ owns (c : Thread nD τ) a12 fullShare b ∗ (∃ d, owns (c : Thread nD τ) a13 fullShare d)
        ∗ tile c wgM g
        ∗ (iprop(tab c (Memref.whole main_v47) tNv ∗ owns (c : Thread nD τ) a10 fullShare x0 ∗ owns (c : Thread nD τ) a12 fullShare b ∗ owns (c : Thread nD τ) a13 fullShare (outB c i it a10 h10 a12 h12 a13 h13 x0 g b k)
            ∗ tile c wgM g ) -∗ K ⟨⟩))
      ⊢ wp frame (𝕎 (c : Thread nD τ) none) Set.univ (restB (F := F) i a10 h10 a12 h12 a13 h13) K := by
  have eg : tile (F := F) c wgM g = owns (c : Thread nD τ) wgM fullShare g := by
    unfold tile owns; simp only [View.set_whole]
  rw [eg]
  iintro ⟨Hnv, H0, H1, H3, H4, Hk⟩
  iapply ((run c i it a10 h10 a12 h12 a13 h13 x0 g b k).2 tNv hi0 hk K)
  isplitl [Hnv]; · iexact Hnv
  isplitl [H0]; · iexact H0
  isplitl [H1]; · iexact H1
  isplitl [H3]; · iexact H3
  isplitl [H4]; · iexact H4
  iintro ⟨Hnv, H0, H1, ⟨%f, H3⟩, H4⟩
  iapply Hk
  isplitl [Hnv]; · iexact Hnv
  isplitl [H0]; · iexact H0
  isplitl [H1]; · iexact H1
  isplitl [H3]
  · unfold owns; iexists _; isplitr
    swap; · iexact H3
    ipureintro; exact View.read_writes_of_cover _ _ _ _ _ (cover c i it a10 h10 a12 h12 a13 h13 x0 g b k)
  iexact H4

end Cert.Down
-- ==== Proof.DSched.lean ====
/- The expert-down kernel's schedule: what its tables say of one another, what the scratch holds between two steps, and the
   body's step from one to the next. -/
module

public import proofs.«01_k».proof.Proof.DStageA
public import proofs.«01_k».proof.Proof.DStageB

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕎" => wpE (defs₀ (F := F)) Variants.none

/-- The facts the body needs of its tables: the blocks' experts in runs numbered from zero, each run's next expert, the
    last run followed by the first, and the way of each block's row count. -/
structure Sched (tE tNv tNew tRun tLast tNxt : S96.Idx → BitVec 32) (tNr : S1.Idx → BitVec 32) where
  e : Fin 96 → Fin 32
  nx : Fin 96 → Fin 32
  rn : Fin 96 → ℕ
  n : ℕ
  k : Fin 96 → Fin 5
  he : ∀ it, tE (ix1 it) = BitVec.ofNat 32 (e it).val
  hnx : ∀ it, tNxt (ix1 it) = BitVec.ofNat 32 (nx it).val
  hrn : ∀ it, tRun (ix1 it) = BitVec.ofNat 32 (rn it)
  hn : tNr (ix1 0) = BitVec.ofNat 32 n
  rn_lt : ∀ it, rn it < 96
  rn0 : rn 0 = 0
  rn95 : rn 95 + 1 = n
  new0 : tNew (ix1 0) = 1#32
  last95 : tLast (ix1 95) = 1#32
  nx95 : nx 95 = e 0
  same : ∀ it it' : Fin 96, it'.val = it.val + 1 → tNew (ix1 it') ≠ 1#32 →
    e it' = e it ∧ rn it' = rn it ∧ tLast (ix1 it') = tLast (ix1 it) ∧ nx it' = nx it
  next : ∀ it it' : Fin 96, it'.val = it.val + 1 → tNew (ix1 it') = 1#32 →
    rn it' = rn it + 1 ∧ tLast (ix1 it) ≠ 1#32 ∧ nx it = e it'
  hk : ∀ it, cls (tNv (ix1 it)) (k it)

section
variable {tE tNv tNew tRun tLast tNxt : S96.Idx → BitVec 32} {tNr : S1.Idx → BitVec 32} (S : Sched tE tNv tNew tRun tLast tNxt tNr)

/-- The slot that point `it` uses. -/
def Sched.slot (it : Fin 96) : Fin 2 := ⟨S.rn it % 2, Nat.mod_lt _ (by decide)⟩

theorem Sched.isSlot (it : Fin 96) : IsSlot (tNr (ix1 0)) (tRun (ix1 it)) (S.slot it) := by
  have h := S.rn_lt it
  unfold IsSlot
  rw [slotW_of (n := S.rn it) _ (by omega)]
  · rfl
  · unfold runNo
    rw [S.hrn]
    simp

theorem slot_succ (a b : Fin 2) (x y : ℕ) (ha : a.val = x % 2) (hb : b.val = y % 2) (h : y = x + 1) : b = 1 - a := by
  apply Fin.ext
  have : (1 - a : Fin 2).val = 1 - a.val := by
    clear ha hb; revert a; decide
  omega

variable (c : Dev nD) (W : Buf (Elt F) (wM.view.loc (c : Thread nD τ)))

/-- What the scratch holds after point `it`. -/
def Sched.post (it : Fin 96) : sProp 𝕄 :=
  iprop(idle c W (S.slot it) ∗ fut c W (1 - S.slot it) (tLast (ix1 it)) (S.nx it)
    ∗ tile c wgM (wtile c W (S.e it)))

/-- What the scratch holds before any point. -/
def start : sProp 𝕄 := iprop(idle c W 0 ∗ idle c W 1 ∗ anyTile (F := F) c wgM)

/-- What point `it` needs of the scratch: at a new expert its slot's copy, else what that expert's first point left. -/
def Sched.prep (i : grid0.Coords) (it : Fin 96) : sProp 𝕄 :=
  if tNew (ix1 it) = 1#32 then
    iprop((if k0_cond2 i = 1#1 then idle c W (S.slot it) else fly c W (S.slot it) (S.e it)) ∗ idle c W (1 - S.slot it)
      ∗ anyTile (F := F) c wgM)
  else S.post c W it

theorem tile_any (m : Memref sig .tc .vmem S2048x2048 .bf16) (X : FVec F S2048x2048 .bf16) : tile c m X ⊢ anyTile (F := F) c m := by
  unfold tile anyTile
  iintro ⟨%f, -, H⟩
  iexists f; iexact H

theorem Sched.prep_first (i : grid0.Coords) (h0 : (i 0).val = 0) : start (F := F) c W ⊢ S.prep c W i 0 := by
  unfold Sched.prep start
  have hs : S.slot 0 = 0 := by
    apply Fin.ext; show S.rn 0 % 2 = 0; rw [S.rn0]
  rw [if_pos S.new0, if_pos ((cond2_iff i).2 h0), hs]
  exact .rfl

theorem Sched.prep_next (i : grid0.Coords) (it it' : Fin 96) (hit : it'.val = it.val + 1) (h0 : (i 0).val = it'.val) :
    S.post c W it ⊢ S.prep c W i it' := by
  unfold Sched.prep
  by_cases hn : tNew (ix1 it') = 1#32
  · rw [if_pos hn]
    obtain ⟨hr, hl, hx⟩ := S.next it it' hit hn
    have hs : S.slot it' = 1 - S.slot it :=
      slot_succ _ _ (S.rn it) (S.rn it') rfl rfl (by omega)
    have hs' : 1 - S.slot it' = S.slot it := by
      rw [hs]; generalize S.slot it = a; revert a; decide
    have hc : ¬ k0_cond2 i = 1#1 := fun h => by
      have := (cond2_iff i).1 h; omega
    rw [if_neg hc, hs', hs, ← hx]
    unfold Sched.post fut
    rw [if_neg hl]
    iintro ⟨HI, HF, Hg⟩
    isplitl [HF]; · iexact HF
    isplitl [HI]; · iexact HI
    iapply (tile_any c); iexact Hg
  · rw [if_neg hn]
    obtain ⟨he, hr, hl, hx⟩ := S.same it it' hit hn
    have hs : S.slot it' = S.slot it := by unfold Sched.slot; simp only [hr]
    unfold Sched.post
    rw [he, hl, hx, hs]

theorem Sched.post_last : S.post c W 95 ⊢ start (F := F) c W := by
  unfold Sched.post fut start
  rw [if_pos S.last95]
  iintro ⟨HI, HF, Hg⟩
  have hs : S.slot 95 = 0 ∨ S.slot 95 = 1 := by generalize S.slot 95 = a; revert a; decide
  rcases hs with hs | hs <;> rw [hs]
  · isplitl [HI]; · iexact HI
    isplitl [HF]; · iexact HF
    iapply (tile_any c); iexact Hg
  · isplitl [HF]; · iexact HF
    isplitl [HI]; · iexact HI
    iapply (tile_any c); iexact Hg

/-- The body at point `it`: from what it needs of the scratch to what it leaves there, its block written. -/
theorem Sched.step (i : grid0.Coords) (it : Fin 96) (hi0 : (i 0).val = it.val)
    (a10 : Memref sig .tc .vmem S512x2048 .bf16) (h10 : a10.IsWhole)
    (a12 : Memref sig .tc .vmem S1x1x2048 .f32) (h12 : a12.IsWhole)
    (a13 : Memref sig .tc .vmem S8192x128 .f32) (h13 : a13.IsWhole)
    (x0 : Vec F S512x2048 .bf16) (b : Vec F S1x1x2048 .f32) (Ws : Waits sig Unit) (K : PUnit → sProp 𝕄) :
    iprop(tab c (Memref.whole main_v47) (tNv : Buf (Elt F) ((Memref.whole main_v47).view.loc (c : Thread nD τ)))
        ∗ tabsA c tE tNew tRun tLast tNxt tNr ∗ owes (c : Thread nD τ) 0 Ws ∗ S.prep c W i it
        ∗ owns (c : Thread nD τ) a10 fullShare x0 ∗ owns (c : Thread nD τ) a12 fullShare b
        ∗ (∃ d, owns (c : Thread nD τ) a13 fullShare d)
        ∗ (iprop(tab c (Memref.whole main_v47) (tNv : Buf (Elt F) ((Memref.whole main_v47).view.loc (c : Thread nD τ)))
            ∗ tabsA c tE tNew tRun tLast tNxt tNr ∗ (∃ Ws', owes (c : Thread nD τ) 0 Ws') ∗ S.post c W it
            ∗ owns (c : Thread nD τ) a10 fullShare x0 ∗ owns (c : Thread nD τ) a12 fullShare b
            ∗ owns (c : Thread nD τ) a13 fullShare
              (outB c i it a10 h10 a12 h12 a13 h13 x0 (wtile c W (S.e it)) b (S.k it))) -∗ K ⟨⟩))
      ⊢ wp frame (𝕎 (c : Thread nD τ) none) Set.univ (bodyAt (F := F) i a10 h10 a12 h12 a13 h13) K := by
  have hB := stageB c i it a10 h10 a12 h12 a13 h13 x0 (wtile c W (S.e it)) b (S.k it)
    (tNv : Buf (Elt F) ((Memref.whole main_v47).view.loc (c : Thread nD τ))) hi0 (S.hk it) K
  unfold Sched.prep
  by_cases hn : tNew (ix1 it) = 1#32
  · rw [if_pos hn]
    iintro ⟨Hnv, HT, HO, ⟨HS, HI, Hg⟩, H0, H1, H3, HK⟩
    iapply (stageA_new c W i it (S.slot it) (S.e it) (S.nx it) a10 h10 a12 h12 a13 h13 tE tNew tRun tLast tNxt tNr hi0
      (S.isSlot it) (S.he it) (S.hnx it) hn Ws K)
    isplitl [HT]; · iexact HT
    isplitl [HO]; · iexact HO
    isplitl [HS]; · iexact HS
    isplitl [HI]; · iexact HI
    isplitl [Hg]; · iexact Hg
    iintro ⟨HT, HO, HI, HF, Hg⟩
    iapply hB
    isplitl [Hnv]; · iexact Hnv
    isplitl [H0]; · iexact H0
    isplitl [H1]; · iexact H1
    isplitl [H3]; · iexact H3
    isplitl [Hg]; · iexact Hg
    iintro ⟨Hnv, H0, H1, H3, Hg⟩
    iapply HK
    unfold Sched.post
    isplitl [Hnv]; · iexact Hnv
    isplitl [HT]; · iexact HT
    isplitl [HO]; · iexact HO
    isplitl [HI HF Hg]
    · isplitl [HI]; · iexact HI
      isplitl [HF]; · iexact HF
      iexact Hg
    isplitl [H0]; · iexact H0
    isplitl [H1]; · iexact H1
    iexact H3
  · rw [if_neg hn]
    unfold Sched.post
    iintro ⟨Hnv, HT, HO, ⟨HI, HF, Hg⟩, H0, H1, H3, HK⟩
    iapply (stageA_same c i it a10 h10 a12 h12 a13 h13 tE tNew tRun tLast tNxt tNr hi0 hn K)
    isplitl [HT]; · iexact HT
    iintro HT
    iapply hB
    isplitl [Hnv]; · iexact Hnv
    isplitl [H0]; · iexact H0
    isplitl [H1]; · iexact H1
    isplitl [H3]; · iexact H3
    isplitl [Hg]; · iexact Hg
    iintro ⟨Hnv, H0, H1, H3, Hg⟩
    iapply HK
    isplitl [Hnv]; · iexact Hnv
    isplitl [HT]; · iexact HT
    isplitl [HO]; · iexists _; iexact HO
    isplitl [HI HF Hg]
    · isplitl [HI]; · iexact HI
      isplitl [HF]; · iexact HF
      iexact Hg
    isplitl [H0]; · iexact H0
    isplitl [H1]; · iexact H1
    iexact H3

end

end Cert.Down
-- ==== Proof.DTables.lean ====
/- The expert-down kernel's tables: each block's expert, row count, run and next run, as numbers, and the schedule they make. -/
module

public import proofs.«01_k».proof.Proof.DTabs
public import proofs.«01_k».proof.Proof.UTables
public import proofs.«01_k».proof.Proof.DSched
public import Idealize.ShloMosaic.Lib.Pipeline.Value

@[expose] public section

noncomputable section

namespace Cert.Down

open Cert.Kernel3Ideal Cert.Kernel3Ideal.Gen
open Cert.Up
open Idealize.ShloMosaic Idealize.ShloMosaic.TcCoe Idealize.ShloMosaic.Tactic
open Idealize.ShloMosaic.Routing (shape0 shape1 shape2)

variable {F : FTy → Type} [FloatOps F]
variable (m : (ℓ : Loc nD τ sig) → Buf (Elt F) ℓ) (c : Dev nD)

local notation "𝕋" => S96.Idx → BitVec 32

theorem all96_at (v : S_.Idx → BitVec 32) (j : S96.Idx) : all96 v j = v ix0 := Routing.bc0 _ _ _

theorem lead_zero (a : S1.Idx → BitVec 32) (b : S95.Idx → BitVec 32) : lead a b (ix1 0) = a (ix1 0) :=
  concatenate_pair_apply_left (t := S96) 0 a b concatenates_S1_S95_S96_d0 (ix1 0) rfl (ix1 0) fun x => by
    match x with
    | ⟨0, _⟩ => rfl

theorem lead_succ (a : S1.Idx → BitVec 32) (b : S95.Idx → BitVec 32) (j : Fin 96) (k : Fin 95) (h : j.val = k.val + 1) : lead a b (ix1 j) = b (ix1 k) :=
  concatenate_pair_apply_right (t := S96) 0 a b concatenates_S1_S95_S96_d0 (ix1 j) rfl rfl (ix1 k)
    (fun x hx => by
      match x with
      | ⟨0, _⟩ => exact absurd rfl hx)
    h.symm

theorem trail_low (a : S95.Idx → BitVec 32) (b : S1.Idx → BitVec 32) (j : Fin 96) (k : Fin 95) (h : j.val = k.val) :
    concatenate S96 0 [⟨S95, a⟩, ⟨S1, b⟩] concatenates_S95_S1_S96_d0 (ix1 j) = a (ix1 k) :=
  concatenate_pair_apply_left (t := S96) 0 a b concatenates_S95_S1_S96_d0 (ix1 j) rfl (ix1 k) fun x => by
    match x with
    | ⟨0, _⟩ => exact h.symm

theorem trail_last (a : S95.Idx → BitVec 32) (b : S1.Idx → BitVec 32) :
    concatenate S96 0 [⟨S95, a⟩, ⟨S1, b⟩] concatenates_S95_S1_S96_d0 (ix1 95) = b (ix1 0) :=
  concatenate_pair_apply_right (t := S96) 0 a b concatenates_S95_S1_S96_d0 (ix1 95) rfl rfl (ix1 0)
    (fun x hx => by
      match x with
      | ⟨0, _⟩ => exact absurd rfl hx)
    rfl

theorem cast1 (v : S1.Idx → BitVec 32) : shapeCast S_ v shapeCasts_S1_S_ ix0 = v (ix1 0) :=
  congrArg v (funext fun a => by
    match a with
    | ⟨0, _⟩ => exact Subsingleton.elim (α := Fin 1) _ _)

theorem cast0 (v : S_.Idx → BitVec 32) : shapeCast S1 v shapeCasts_S_S1 (ix1 0) = v ix0 := congrArg v (funext fun a => a.elim0)

theorem slice_95 (v : 𝕋) : extractStridedSlice S1 ![95] v slices_S96_S1_95 (ix1 0) = v (ix1 95) := Routing.slice1 95 v _ (0 : Fin 1) (by decide)
theorem slice_0 (v : 𝕋) : extractStridedSlice S1 ![0] v slices_S96_S1_0 (ix1 0) = v (ix1 0) := Routing.slice1 0 v _ (0 : Fin 1) (by decide)
theorem slice_low (v : 𝕋) (k : Fin 95) (j : Fin 96) (h : j.val = k.val) : extractStridedSlice S95 ![0] v slices_S96_S95_0 (ix1 k) = v (ix1 j) :=
  (Routing.slice1 0 v _ k (by omega)).trans (congrArg (fun x : Fin 96 => v (ix1 x)) (Fin.ext (by show 0 + k.val = j.val; omega)))
theorem slice_high (v : 𝕋) (k : Fin 95) (j : Fin 96) (h : j.val = k.val + 1) : extractStridedSlice S95 ![1] v slices_S96_S95_1 (ix1 k) = v (ix1 j) :=
  (Routing.slice1 1 v _ k (by omega)).trans (congrArg (fun x : Fin 96 => v (ix1 x)) (Fin.ext (by show 1 + k.val = j.val; omega)))

/-! ## The steps, on any vectors -/

section
variable (v w : 𝕋) (E : ℕ → ℕ) (b : Fin 96)

/-- Where each block's entry differs from the one before. -/
theorem new_at (hE : ∀ n, E n < 2 ^ 31) (hv : ∀ b : Fin 96, v (ix1 b) = BitVec.ofNat 32 (E b.val)) (a : S1.Idx → BitVec 32) :
    extui 32 (ori (cmpi .ne v (lead a (extractStridedSlice S95 ![0] v slices_S96_S95_0))) (cmpi .eq (iotaInDim S96 32 0) (all96 (one 0#32)))) natLt_1_32 (ix1 b)
      = BitVec.ofNat 32 (nw E b.val) := by
  show (IntOp.ori (IntOp.cmpi .ne (v (ix1 b)) (lead a _ (ix1 b))) (IntOp.cmpi .eq (BitVec.ofNat 32 b.val) (all96 (one 0#32) (ix1 b)))).setWidth 32 = _
  rw [all96_at, extui_bit]
  have hq : IntOp.cmpi .eq (BitVec.ofNat 32 b.val) (one 0#32 ix0) = 1#1 ↔ b.val = 0 :=
    StableHlo.Predicate.cmpi_eq_iff.trans (small_inj b.val 0 (by omega) (by decide))
  congr 1
  unfold nw
  refine if_congr ((or_bit _ _).trans ?_) rfl rfl
  rw [hq, ne_bit]
  by_cases h0 : b.val = 0
  · simp only [h0, true_or]
  · refine or_congr Iff.rfl (not_congr ?_)
    have hb := b.isLt
    rw [lead_succ _ _ b ⟨b.val - 1, by omega⟩ (by show b.val = b.val - 1 + 1; omega), slice_low v _ ⟨b.val - 1, by omega⟩ rfl, hv, hv,
      small_inj _ _ (hE _) (hE _)]
    exact eq_comm

/-- The runs counted up to each block, from zero. -/
theorem run_at (hv : ∀ b : Fin 96, v (ix1 b) = BitVec.ofNat 32 (nw E b.val)) :
    subi (Host.reduceWindow IntOp.addi ![96] ![1] ![95] ![0] v (broadcastInDim S_ ![] bcast_S_S_ (one 0#32)) reduceWindows_S96_S96_w96s1p95_0 h_S_)
      (all96 (one 1#32)) (ix1 b) = BitVec.ofNat 32 (rk E b.val - 1) := by
  have h1 := rk_pos E b.val
  have h2 := rk_le E b.val
  have e : Host.reduceWindow IntOp.addi ![96] ![1] ![95] ![0] v (broadcastInDim S_ ![] bcast_S_S_ (one 0#32)) reduceWindows_S96_S96_w96s1p95_0 h_S_ (ix1 b)
      = BitVec.ofNat 32 (rk E b.val) := Routing.cumsum1 (by rfl) v (nw E) hv _ (Routing.bc0 _ _ _) _ _ b
  show IntOp.subi (Host.reduceWindow IntOp.addi ![96] ![1] ![95] ![0] v _ _ _ (ix1 b)) (all96 (one 1#32) (ix1 b)) = _
  rw [all96_at, e]
  exact StableHlo.Predicate.sub_one_ofNat _ h1 (by have := b.isLt; omega)

theorem total_at (hv : ∀ b : Fin 96, v (ix1 b) = BitVec.ofNat 32 (rk E b.val - 1)) : total v ix0 = BitVec.ofNat 32 (rk E 95) := by
  have h1 := rk_pos E 95
  show IntOp.addi (shapeCast S_ _ shapeCasts_S1_S_ ix0) 1#32 = _
  rw [cast1, slice_95, hv]
  show BitVec.ofNat 32 (rk E 95 - 1) + BitVec.ofNat 32 1 = _
  rw [← BitVec.ofNat_add, Nat.sub_add_cancel h1]

theorem last_at (hv : ∀ b : Fin 96, v (ix1 b) = BitVec.ofNat 32 (rk E b.val - 1)) :
    extui 32 (cmpi .eq v (all96 (subi (total v) (one 1#32)))) natLt_1_32 (ix1 b) = BitVec.ofNat 32 (if rk E b.val = rk E 95 then 1 else 0) := by
  show (IntOp.cmpi .eq (v (ix1 b)) (all96 (subi (total v) (one 1#32)) (ix1 b))).setWidth 32 = _
  rw [all96_at, extui_bit]
  congr 1
  refine if_congr ?_ rfl rfl
  rw [StableHlo.Predicate.cmpi_eq_iff, hv]
  show _ = IntOp.subi (total v ix0) 1#32 ↔ _
  rw [total_at v E hv]
  have hb := b.isLt
  have h1 := rk_pos E b.val
  have h2 := rk_le E b.val
  have h3 := rk_pos E 95
  have h4 := rk_le E 95
  rw [show IntOp.subi (BitVec.ofNat 32 (rk E 95)) 1#32 = BitVec.ofNat 32 (rk E 95 - 1) from
    StableHlo.Predicate.sub_one_ofNat _ h3 (by omega), small_inj _ _ (by omega) (by omega)]
  omega

theorem first_at (hv : ∀ b : Fin 96, v (ix1 b) = BitVec.ofNat 32 (nw E b.val)) :
    Host.reduceWindow IntOp.minsi ![96] ![1] ![0] ![95] (select (cmpi .eq v (all96 (one 1#32))) (iotaInDim S96 32 0) (all96 (one 96#32)))
      (broadcastInDim S_ ![] bcast_S_S_ (one 2147483647#32)) reduceWindows_S96_S96_w96s1p0_95 h_S_ (ix1 b) = BitVec.ofNat 32 (least (Cert.Up.fp E) 96 b.val) := by
  refine cummin_small (by rfl) _ (Cert.Up.fp E) (fun n hn => lt_of_le_of_lt (fp_le _ n hn) (by decide)) (fun i => ?_) _ (Routing.bc0 _ _ _) _ _ b
  show Scalar.select (IntOp.cmpi .eq (v (ix1 i)) (all96 (one 1#32) (ix1 i))) (BitVec.ofNat 32 i.val) (all96 (one 96#32) (ix1 i)) = _
  rw [all96_at, all96_at, hv, select_if]
  unfold Cert.Up.fp
  have hl := nw_le E i.val
  have e : IntOp.cmpi .eq (BitVec.ofNat 32 (nw E i.val)) (one 1#32 ix0) = 1#1 ↔ nw E i.val = 1 :=
    StableHlo.Predicate.cmpi_eq_iff.trans (small_inj _ 1 (by omega) (by decide))
  by_cases hn : nw E i.val = 1
  · rw [if_pos (e.2 hn), if_pos hn]
  · rw [if_neg (fun h => hn (e.1 h)), if_neg hn]; rfl

theorem nextPos_at (hv : ∀ b : Fin 96, v (ix1 b) = BitVec.ofNat 32 (least (Cert.Up.fp E) 96 b.val)) :
    concatenate S96 0 [⟨S95, extractStridedSlice S95 ![1] v slices_S96_S95_1⟩, ⟨S1, (broadcastInDim S1 ![] bcast_S_S1 (one 96#32) : S1.Idx → BitVec 32)⟩]
      concatenates_S95_S1_S96_d0 (ix1 b) = BitVec.ofNat 32 (np E b.val) := by
  unfold np
  by_cases hb : b.val < 95
  · rw [if_pos hb, trail_low _ _ b ⟨b.val, hb⟩ rfl, slice_high v _ ⟨b.val + 1, by omega⟩ rfl, hv]
  · have hb' := b.isLt
    rw [if_neg hb, show b = 95 from Fin.ext (by show b.val = 95; omega), trail_last]
    exact Routing.bc0 _ _ _

theorem wrap_at (n : BitVec 32) (x : ℕ) (hx : x < 2 ^ 31) (j : S96.Idx) (hv : v j = BitVec.ofNat 32 x) : wrap v n j = BitVec.ofNat 32 x := by
  show Scalar.select (IntOp.cmpi .slt (v j) (all96 (one 0#32) j)) (addi v _ j) (v j) = _
  have e : ¬ IntOp.cmpi .slt (BitVec.ofNat 32 x) (one 0#32 ix0) = 1#1 := fun h => absurd ((slt_small x 0 hx (by decide)).1 h) (Nat.not_lt_zero _)
  rw [hv, all96_at, select_if, if_neg e]

theorem next_at (hv : ∀ b : Fin 96, v (ix1 b) = BitVec.ofNat 32 (E b.val)) (hw : ∀ b : Fin 96, w (ix1 b) = BitVec.ofNat 32 (np E b.val)) :
    select (cmpi .slt w (all96 (one 96#32)))
      (Host.gather gather_S96_S96x1_S96_n_0_n_n_0_1_1 v (col (wrap (minsi w (all96 (one 95#32))) 96#32)))
      (all96 (shapeCast S_ (extractStridedSlice S1 ![0] v slices_S96_S1_0) shapeCasts_S1_S_)) (ix1 b) = BitVec.ofNat 32 (nxt E b.val) := by
  have hn := np_le E b.val
  have hm : minsi w (all96 (one 95#32)) (ix1 b) = BitVec.ofNat 32 (min (np E b.val) 95) := by
    show IntOp.minsi (w (ix1 b)) (all96 (one 95#32) (ix1 b)) = _
    rw [all96_at, hw]
    exact minsi_small _ 95 (by omega) (by decide)
  have hg : Host.gather gather_S96_S96x1_S96_n_0_n_n_0_1_1 v (col (wrap (minsi w (all96 (one 95#32))) 96#32)) (ix1 b)
      = v (ix1 ⟨min (np E b.val) 95, by omega⟩) :=
    Routing.gather_take1 _ rfl rfl rfl rfl v _ b ⟨min (np E b.val) 95, by omega⟩
      ((Routing.bcCol _ _ b).trans (wrap_at _ 96#32 _ (by omega) _ hm)) (by decide)
  show Scalar.select (IntOp.cmpi .slt (w (ix1 b)) (all96 (one 96#32) (ix1 b))) (Host.gather _ v _ (ix1 b)) (all96 _ (ix1 b)) = _
  rw [hg, all96_at, all96_at, hw, hv, cast1, slice_0, hv, select_if]
  have e : IntOp.cmpi .slt (BitVec.ofNat 32 (np E b.val)) (one 96#32 ix0) = 1#1 ↔ np E b.val < 96 := slt_small _ 96 (by omega) (by decide)
  unfold nxt
  by_cases h : np E b.val < 96
  · rw [if_pos (e.2 h), if_pos h]
    show BitVec.ofNat 32 (E (min (np E b.val) 95)) = _
    rw [min_eq_left (by omega)]
  · rw [if_neg (fun h' => h (e.1 h')), if_neg h]; rfl

end

/-! ## The kernel's tables -/

/-- Whether expert `q`'s rows end at or before block `b`'s first row. -/
def stops : S96x32.Idx → BitVec 1 := hostV m c main_v23
/-- How many experts end at or before block `b`'s first row. -/
def cnt (b : Fin 96) : ℕ := (Finset.univ.filter fun q : Fin 32 => stops m c (ix2 b q) = 1#1).card
theorem cnt_le (b : Fin 96) : cnt m c b ≤ 32 := (Finset.card_le_univ _).trans (by simp)
/-- The expert of block `b`. -/
def ex (b : Fin 96) : Fin 32 := ⟨min (cnt m c b) 31, by omega⟩
/-- The same, over the naturals. -/
def exN (n : ℕ) : ℕ := if h : n < 96 then (ex m c ⟨n, h⟩).val else 0
theorem exN_val (b : Fin 96) : exN m c b.val = (ex m c b).val := dif_pos b.isLt
theorem exN_lt (n : ℕ) : exN m c n < 32 := by unfold exN; split <;> omega

theorem w27 (b : Fin 96) : (hostV m c main_v27 : 𝕋) (ix1 b) = BitVec.ofNat 32 (exN m c b.val) := by
  rw [exN_val, r27]
  have h1 : (Host.reduce IntOp.addi (extui 32 (hostV m c main_v23 : S96x32.Idx → BitVec 1) natLt_1_32) (one 0#32) reducesTo_S96x32_S96_d1 h_S_ (ix1 b) : BitVec 32)
      = BitVec.ofNat 32 (cnt m c b) := by
    apply BitVec.eq_of_toNat_eq
    rw [toNat_small _ (by have := cnt_le m c b; omega)]
    refine (StableHlo.Predicate.toNat_reduce_count_cols (by decide) (stops m c) natLt_1_32 reducesTo_S96x32_S96_d1 h_S_ (ix1 b)).trans ?_
    refine congrArg Finset.card (Finset.filter_congr fun q _ => ?_)
    show stops m c (StableHlo.Predicate.ij b q) = 1#1 ↔ _
    rw [Routing.ij_eq_ix2]
    exact Iff.rfl
  show IntOp.minsi _ (all96 (one 31#32) (ix1 b)) = _
  rw [h1, all96_at]
  exact minsi_small _ 31 (by have := cnt_le m c b; omega) (by decide)

theorem w16 (b : Fin 96) : (hostV m c main_v16 : 𝕋) (ix1 b) = BitVec.ofNat 32 (min b.val ((hostV m c main_v13 : S_.Idx → BitVec 32) ix0).toInt.toNat) := by
  rw [r16]
  show IntOp.minsi (BitVec.ofNat 32 b.val) (all96 _ (ix1 b)) = _
  rw [all96_at]
  show IntOp.minsi _ (IntOp.maxsi _ 0#32) = _
  rw [maxsi_zero]
  exact minsi_small _ _ (by omega) (toInt_toNat_lt _)

/-- The rows of block `b` that hold tokens. -/
def nv (b : Fin 96) : ℕ :=
  if IntOp.cmpi .slt (BitVec.ofNat 32 b.val) ((hostV m c main_v11 : S_.Idx → BitVec 32) ix0) = 1#1
  then min 512 ((hostV m c main_v43 : 𝕋) (ix1 b)).toInt.toNat else 0
theorem nv_le (b : Fin 96) : nv m c b ≤ 512 := by unfold nv; split <;> omega

theorem w47 (b : Fin 96) : (hostV m c main_v47 : 𝕋) (ix1 b) = BitVec.ofNat 32 (nv m c b) := by
  rw [r47]
  show Scalar.select (IntOp.cmpi .slt (BitVec.ofNat 32 b.val) (all96 _ (ix1 b))) (IntOp.minsi (all96 _ (ix1 b)) (IntOp.maxsi (all96 _ (ix1 b)) _)) (all96 _ (ix1 b)) = _
  rw [all96_at, all96_at, all96_at]
  show Scalar.select _ (IntOp.minsi 512#32 (IntOp.maxsi 0#32 _)) 0#32 = _
  rw [maxsi_zero', select_if, minsi_small 512 _ (by decide) (toInt_toNat_lt _)]
  unfold nv
  split <;> rfl

theorem exN_small (n : ℕ) : exN m c n < 2 ^ 31 := (exN_lt m c n).trans (by decide)

theorem w55 (b : Fin 96) : (hostV m c main_v55 : 𝕋) (ix1 b) = BitVec.ofNat 32 (nw (exN m c) b.val) := by
  rw [r55, r12]
  exact new_at _ _ b (exN_small m c) (w27 m c) _

theorem w58 (b : Fin 96) : (hostV m c main_v58 : 𝕋) (ix1 b) = BitVec.ofNat 32 (rk (exN m c) b.val - 1) := by
  rw [r58]
  exact run_at _ _ b (w55 m c)

theorem w87 : (hostV m c main_v87 : S1.Idx → BitVec 32) (ix1 0) = BitVec.ofNat 32 (rk (exN m c) 95) := by
  rw [r87, cast0]
  exact total_at _ _ (w58 m c)

theorem w65 (b : Fin 96) : (hostV m c main_v65 : 𝕋) (ix1 b) = BitVec.ofNat 32 (if rk (exN m c) b.val = rk (exN m c) 95 then 1 else 0) := by
  rw [r65]
  exact last_at _ _ b (w58 m c)

theorem w69 (b : Fin 96) : (hostV m c main_v69 : 𝕋) (ix1 b) = BitVec.ofNat 32 (least (Cert.Up.fp (exN m c)) 96 b.val) := by
  rw [r69, r12]
  exact first_at _ _ b (w55 m c)

theorem w72 (b : Fin 96) : (hostV m c main_v72 : 𝕋) (ix1 b) = BitVec.ofNat 32 (np (exN m c) b.val) := by
  rw [r72]
  exact nextPos_at _ _ b (w69 m c)

theorem w86 (b : Fin 96) : (hostV m c main_v86 : 𝕋) (ix1 b) = BitVec.ofNat 32 (nxt (exN m c) b.val) := by
  rw [r86]
  exact next_at _ _ _ b (w27 m c) (w72 m c)

theorem nxt_lt (n : ℕ) : nxt (exN m c) n < 32 := by unfold nxt; split <;> exact exN_lt m c _

theorem k47 (it : Fin 96) : cls ((hostV m c main_v47 : 𝕋) (ix1 it)) (kOf (nv m c it)) := by
  have h := cls_kOf _ (nv_le m c it)
  rw [← w47 m c it] at h
  exact h

attribute [local irreducible] ex exN nxt rk nw np

theorem last_nx : nxt (exN m c) ((95 : Fin 96)).val = (ex m c 0).val := (nxt_last (exN m c)).trans (exN_val m c 0)

theorem w65_last : (hostV m c main_v65 : 𝕋) (ix1 95) = 1#32 :=
  (w65 m c 95).trans (congrArg (BitVec.ofNat 32) (if_pos rfl))

set_option maxHeartbeats 800000 in
/-- The schedule the tables make. -/
def sched : Sched (hostV m c main_v27) (hostV m c main_v47) (hostV m c main_v55) (hostV m c main_v58) (hostV m c main_v65) (hostV m c main_v86)
    (hostV m c main_v87) where
  e it := ex m c it
  nx it := ⟨nxt (exN m c) it.val, nxt_lt m c _⟩
  rn it := rk (exN m c) it.val - 1
  n := rk (exN m c) 95
  k it := kOf (nv m c it)
  he it := (w27 m c it).trans (by rw [exN_val])
  hnx it := w86 m c it
  hrn it := w58 m c it
  hn := w87 m c
  rn_lt it := by have := rk_le (exN m c) it.val; omega
  rn0 := by show rk (exN m c) 0 - 1 = 0; rw [rk_zero]
  rn95 := Nat.sub_add_cancel (rk_pos (exN m c) 95)
  new0 := (w55 m c 0).trans (by show BitVec.ofNat 32 (nw _ 0) = _; rw [nw_zero])
  last95 := w65_last m c
  nx95 := Fin.ext (last_nx m c)
  same it it' h hn := by
    rw [w55] at hn
    have hn' : nw (exN m c) (it.val + 1) ≠ 1 := fun e => hn (by rw [h, e])
    have hz : nw (exN m c) (it.val + 1) = 0 := (nw_cases _ _).resolve_right hn'
    have hr : rk (exN m c) (it.val + 1) = rk (exN m c) it.val := by rw [rk_succ, hz]; rfl
    have hE := nw_same (exN m c) it.val hn'
    have hp := np_same (exN m c) it.val (by have := it'.isLt; omega) hn'
    refine ⟨Fin.ext ?_, ?_, ?_, Fin.ext ?_⟩
    · rw [← exN_val, ← exN_val, h, hE]
    · show rk (exN m c) it'.val - 1 = _
      rw [h, hr]
    · rw [w65, w65, h, hr]
    · show nxt (exN m c) it'.val = nxt (exN m c) it.val
      unfold nxt
      rw [h, hp]
  next it it' h hn := by
    have hl := nw_le (exN m c) (it.val + 1)
    rw [w55, h] at hn
    have hn' : nw (exN m c) (it.val + 1) = 1 := (small_inj _ 1 (by omega) (by decide)).1 hn
    have hr : rk (exN m c) (it.val + 1) = rk (exN m c) it.val + 1 := by rw [rk_succ, hn']
    have hm : rk (exN m c) (it.val + 1) ≤ rk (exN m c) 95 := rk_mono _ (by have := it'.isLt; omega)
    have hp := np_new (exN m c) it.val (by have := it'.isLt; omega) hn'
    refine ⟨?_, ?_, Fin.ext ?_⟩
    · show rk (exN m c) it'.val - 1 = _
      have := rk_pos (exN m c) it.val
      rw [h, hr]
      omega
    · rw [w65, if_neg (by omega)]
      decide
    · show nxt (exN m c) it.val = (ex m c it').val
      unfold nxt
      rw [hp, if_pos (by have := it'.isLt; omega), ← h, exN_val]
  hk it := k47 m c it

end Cert.Down
-- ==== Proof.DFrame.lean ====
/- The expert-down kernel's launch: its scratch carved into the slots its copies fill, the proof data of its pipeline, the
   body's obligation at every point, and the run. -/
module

public import proofs.«01_k».proof.Proof.DSched
public import proofs.«01_k».proof.Proof.DHost
public import Idealize.ShloMosaic.Lib.Pipeline.FrameBody
public import Idealize.ShloMosaic.Lib.Pipeline.Value

@[expose] public section

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ
local notation "𝕎" => wpE (defs₀ (F := F)) Variants.none

/-! ## The scratch -/

theorem mem_slot {s : Fin 2} {y : wbM.view.ty.Idx} (hy : y ∈ (slot s).view.set) : (y 0).val = s.val := by
  have e : (slot s).view.set = (Rect.unit (s := S2x1x2048x2048) (offS s) S1x1x2048x2048.size (offS_inb s)).set :=
    (View.set_reshape _ _).trans (View.set_slice_whole _ _)
  rw [e] at hy
  have h0 := Rect.mem_set_unit.1 hy 0
  have h2 : (offS s 0) = s.val := rfl
  have h3 : S1x1x2048x2048.size 0 = 1 := rfl
  rw [h2, h3] at h0; omega

abbrev Wb : Finset wbM.view.ty.Idx := Finset.univ
abbrev R1 : Finset wbM.view.ty.Idx := Wb \ (slot 0).view.set
abbrev R2 : Finset wbM.view.ty.Idx := R1 \ (slot 1).view.set

theorem sub1 : (slot 0).view.set ⊆ Wb := Finset.subset_univ _
theorem sub2 : (slot 1).view.set ⊆ R1 := fun y hy => Finset.mem_sdiff.2 ⟨Finset.mem_univ _, fun hy' => by
  have h1 := mem_slot hy
  have h2 := mem_slot hy'
  exact absurd (h1.symm.trans h2) (by decide)⟩

variable (c : Dev nD)

/-- What of the two-slot buffer no slot covers. -/
def restH : sProp 𝕄 :=
  iprop(∃ f : Buf (Elt F) (wbM.view.loc (c : Thread nD τ)), wbM.view.loc (c : Thread nD τ) ↦[R2]{fullShare} f)
/-- The two-slot buffer at any contents. -/
def anyWb : sProp 𝕄 :=
  iprop(∃ f : Buf (Elt F) (wbM.view.loc (c : Thread nD τ)), wbM.view.loc (c : Thread nD τ) ↦{fullShare} f)

theorem carve : anyWb (F := F) c ⊢ iprop(anySlot (F := F) c 0 ∗ anySlot (F := F) c 1 ∗ restH (F := F) c) := by
  unfold anyWb anySlot restH
  iintro ⟨%f, H⟩
  ihave H := (pointsTo_split_subset (q := fullShare) (f := f) sub1).1 $$ H
  icases H with ⟨H0, H⟩
  ihave H := (pointsTo_split_subset (q := fullShare) (f := f) sub2).1 $$ H
  icases H with ⟨H1, H⟩
  isplitl [H0]; · iexists f; iexact H0
  isplitl [H1]; · iexists f; iexact H1
  iexists f; iexact H

theorem uncarve : iprop(anySlot (F := F) c 0 ∗ anySlot (F := F) c 1 ∗ restH (F := F) c) ⊢ anyWb (F := F) c := by
  unfold anyWb anySlot restH
  iintro ⟨⟨%f0, H0⟩, ⟨%f1, H1⟩, ⟨%f, H⟩⟩
  ihave H := (pointsTo_join_subset (ℓ := wbM.view.loc (c : Thread nD τ)) (q := fullShare) sub2) $$ [H1 H]
  · isplitl [H1]; · iexact H1
    iexact H
  ihave H := (pointsTo_join_subset (ℓ := wbM.view.loc (c : Thread nD τ)) (q := fullShare) sub1) $$ [H0 H]
  · isplitl [H0]; · iexact H0
    iexact H
  iexists _; iexact H

variable (W : Buf (Elt F) (wM.view.loc (c : Thread nD τ)))

theorem deal : ((wM.view.loc (c : Thread nD τ)) ↦{fullShare} W : sProp 𝕄) ⊣⊢ iprop(wAll c W 0 ∗ wAll c W 1) := by
  unfold wAll
  exact pointsTo_share (PosShare.mem_left_op_right fullShare)

/-- The kernel's two semaphores. -/
abbrev osem0 : Fin 2 → SemLoc sig := fun s => SemLoc.dma (cell s)
theorem ownSemFacts0 : Pipeline.OwnSemFacts spec0 osem0 := by decide
theorem ownSems0_eq : (Pipeline.ownSems0 (Ix := Unit) (Name := ℕ) (U := Pipeline.UD sig nD τ) (Lvl := ℕ) (Val := Elt F) (τ := τ) osem0 c : sProp 𝕄)
    = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl

/-- The array the body's own copies read. -/
abbrev H0 : Finset (Ref sig .tc) := {main_v88}
theorem H0_sub : H0 ⊆ Pipeline.restRefsP sig pre0 spec0 := by
  intro b hb
  rw [Finset.mem_singleton.1 hb]
  exact Finset.mem_sdiff.2 ⟨Pipeline.mem_restRefs_of main_v88 (by decide) (by decide), by
    intro h
    obtain ⟨k, -, hk⟩ := Finset.mem_image.1 h
    revert k; decide⟩

variable (V : (c : Dev nD) → (b : Ref sig .tc) → Buf (Elt F) ((c.tc : Thread nD τ).loc b))

/-- What the launch hands the body beside its tables, and what the body's invariant starts and ends with. -/
theorem phi_eq : (Pipeline.ΦD osem0 spec0 H0 V c : sProp 𝕄)
    ⊣⊢ iprop((∃ r, prngReg c r) ∗ restH (F := F) c ∗ start (F := F) c (V c main_v88)) := by
  rw [Pipeline.ΦD_eq, scopedRest0_eq, ownSems0_eq, show H0 = {main_v88} from rfl, BI.bigSep_singleton]
  unfold start idle
  constructor
  · iintro ⟨⟨H0, H2⟩, Hg, ⟨Hs0, Hs1⟩, Hw⟩
    ihave H0 := (carve (F := F) c) $$ [H0]
    · unfold anyWb; iexact H0
    icases H0 with ⟨H00, H10, HR⟩
    ihave Hw := (deal c (V c main_v88)).1 $$ [Hw]
    · iexact Hw
    icases Hw with ⟨W0, W1⟩
    isplitl [Hg]; · iexact Hg
    isplitl [HR]; · iexact HR
    isplitl [Hs0 H00 W0]
    · isplitl [Hs0]; · iexact Hs0
      isplitl [H00]; · iexact H00
      iexact W0
    isplitl [Hs1 H10 W1]
    · isplitl [Hs1]; · iexact Hs1
      isplitl [H10]; · iexact H10
      iexact W1
    unfold anyTile
    iexact H2
  · iintro ⟨Hg, HR, ⟨Hs0, H00, W0⟩, ⟨Hs1, H10, W1⟩, H2⟩
    isplitl [HR H00 H10 H2]
    · isplitl [HR H00 H10]
      · ihave H0 := (uncarve (F := F) c) $$ [HR H00 H10]
        · isplitl [H00]; · iexact H00
          isplitl [H10]; · iexact H10
          iexact HR
        unfold anyWb
        iexact H0
      unfold anyTile
      iexact H2
    isplitl [Hg]; · iexact Hg
    isplitl [Hs0 Hs1]
    · isplitl [Hs0]; · iexact Hs0
      iexact Hs1
    iapply (deal c (V c main_v88)).2
    isplitl [W0]; · iexact W0
    iexact W1

/-! ## The tables -/

variable (a : (pcfg0 (F := F)).Adm)

theorem bigSep9 {M : Type} [URA M] (Φ : Fin 9 → sProp M) :
    bigSep Finset.univ Φ = iprop(Φ 0 ∗ Φ 1 ∗ Φ 2 ∗ Φ 3 ∗ Φ 4 ∗ Φ 5 ∗ Φ 6 ∗ Φ 7 ∗ Φ 8) :=
  BI.bigSep_univ_eq_bigSepL [(0 : Fin 9), 1, 2, 3, 4, 5, 6, 7, 8] (by decide) (by decide) Φ

theorem tabs_eq : (Pipeline.ΦT pre0 a.1 c : sProp 𝕄) ⊣⊢ iprop(tab c (Memref.whole main_v16) (a.1 0) ∗ tab c (Memref.whole main_v12) (a.1 1)
    ∗ tab c (Memref.whole main_v47) (a.1 3)
    ∗ tabsA c (a.1 2 : S96.Idx → BitVec 32) (a.1 4 : S96.Idx → BitVec 32) (a.1 5 : S96.Idx → BitVec 32) (a.1 6 : S96.Idx → BitVec 32) (a.1 7 : S96.Idx → BitVec 32)
        (a.1 8 : S1.Idx → BitVec 32)) := by
  unfold Pipeline.ΦT Pipeline.prefHeld tabsA tabs1
  rw [bigSep9]
  constructor
  · iintro ⟨T0, T1, T2, T3, T4, T5, T6, T7, T8⟩
    isplitl [T0]; · iexact T0
    isplitl [T1]; · iexact T1
    isplitl [T3]; · iexact T3
    isplitl [T4]; · iexact T4
    isplitl [T8]; · iexact T8
    isplitl [T5]; · iexact T5
    isplitl [T2]; · iexact T2
    isplitl [T6]; · iexact T6
    iexact T7
  · iintro ⟨T0, T1, T3, T4, T8, T5, T2, T6, T7⟩
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8

/-! ## The invariant between points -/

variable (S : Sched (a.1 2 : S96.Idx → BitVec 32) (a.1 3 : S96.Idx → BitVec 32) (a.1 4 : S96.Idx → BitVec 32) (a.1 5 : S96.Idx → BitVec 32)
  (a.1 6 : S96.Idx → BitVec 32) (a.1 7 : S96.Idx → BitVec 32) (a.1 8 : S1.Idx → BitVec 32))

/-- Point `n`'s row block. -/
def itn (n : ℕ) : Fin 96 := ⟨n % 96, Nat.mod_lt _ (by decide)⟩

theorem coords0 (t : Fin grid0.N) : (grid0.coords t 0).val = (itn t.val).val := by
  show t.val / 1 % 96 = t.val % 96
  rw [Nat.div_one]

def inv (n : ℕ) : sProp 𝕄 := if n = 0 then start c W else S.post c W (itn (n - 1))

theorem inv_prep (t : Fin grid0.N) : inv c W a S t.val ⊢ S.prep c W (grid0.coords t) (itn t.val) := by
  obtain ⟨n, hn⟩ := t
  have hN := hn
  rw [N_0] at hN
  dsimp only
  by_cases h0 : n = 0
  · subst h0
    exact S.prep_first c W _ ((coords0 ⟨0, hn⟩).trans (by simp [itn]))
  · unfold inv
    rw [if_neg h0]
    exact S.prep_next c W _ _ _ (by show n % 96 = (n - 1) % 96 + 1; omega) (coords0 ⟨n, hn⟩)

theorem inv_succ (n : ℕ) : inv c W a S (n + 1) = S.post c W (itn n) := if_neg (Nat.succ_ne_zero n)

theorem inv_last : inv c W a S 96 ⊢ start (F := F) c W := S.post_last c W

/-! ## The proof data and the body's obligation -/

abbrev ms0 (t : Fin (cfg0 a).N) := spec0_0.stage ((cfg0 a).slots t 0)
abbrev ms1 (t : Fin (cfg0 a).N) := spec0_1.stage ((cfg0 a).slots t 1)
abbrev ms2 (t : Fin (cfg0 a).N) := spec0_2.stage ((cfg0 a).slots t 2)
theorem hs0 (t : Fin (cfg0 a).N) : (ms0 a t).IsWhole := stage_whole0 0 _
theorem hs1 (t : Fin (cfg0 a).N) : (ms1 a t).IsWhole := stage_whole0 1 _
theorem hs2 (t : Fin (cfg0 a).N) : (ms2 a t).IsWhole := stage_whole0 2 _

/-- The windows' arrays as the region finds them. -/
abbrev arrs (w : Fin (cfg0 a).W) : Buf (Elt F) (((cfg0 a).win w).arr.view.loc (c.tc : Thread nD τ)) := V c (Pipeline.arrRef spec0 w)

/-- What point `t` leaves in its output block. -/
def outAt (t : Fin (cfg0 a).N) : Vec F S8192x128 .f32 :=
  outB c (grid0.coords t) (itn t.val) (ms0 a t) (hs0 a t) (ms1 a t) (hs1 a t) (ms2 a t) (hs2 a t)
    (Pipeline.heldIn (cfg0 a) (arrs c V a) 0 t.val t.isLt) (wtile c (V c main_v88) (S.e (itn t.val)))
    (Pipeline.heldIn (cfg0 a) (arrs c V a) 1 t.val t.isLt) (S.k (itn t.val))

def phi (n : ℕ) : sProp 𝕄 := iprop(Pipeline.ΦT pre0 a.1 c ∗ (∃ r, prngReg c r) ∗ restH (F := F) c ∗ inv c (V c main_v88) a S n)

def dats (_ : Fin 1) (c : Dev nD) : Dat τ (Elt F) Unit ℕ (Pipeline.UD sig nD τ) ℕ (cfg0 a) c where
  A w := arrs c V a w
  after w t := match w with
    | ⟨0, _⟩ => Pipeline.heldIn (cfg0 a) (arrs c V a) 0 t.val t.isLt
    | ⟨1, _⟩ => Pipeline.heldIn (cfg0 a) (arrs c V a) 1 t.val t.isLt
    | ⟨2, _⟩ => outAt c V a S t
  Φ t := phi c V a S t.val
  q w := Pipeline.shareOf spec0 w
  owed _ := 0

theorem phi_pre (t : Fin (cfg0 a).N) : (dats V a S 0 c).Φ t.castSucc = phi c V a S t.val := by
  dsimp only [dats]
  rw [Fin.val_castSucc]
theorem phi_post (t : Fin (cfg0 a).N) : (dats V a S 0 c).Φ t.succ = phi c V a S (t.val + 1) := by
  dsimp only [dats]
  rw [Fin.val_succ]

theorem before0 (t : Fin (cfg0 a).N) (d) : (dats V a S 0 c).before 0 t d = Pipeline.heldIn (cfg0 a) (arrs c V a) 0 t.val t.isLt :=
  (dats V a S 0 c).before_eq_heldIn 0 rfl (fun _ => rfl) (fun _ _ => rfl) (fun _ => rfl) t d
theorem before1 (t : Fin (cfg0 a).N) (d) : (dats V a S 0 c).before 1 t d = Pipeline.heldIn (cfg0 a) (arrs c V a) 1 t.val t.isLt :=
  (dats V a S 0 c).before_eq_heldIn 1 rfl (fun _ => rfl) (fun _ _ => rfl) (fun _ => rfl) t d
abbrev bodyT (t : Fin (cfg0 a).N) :=
  bodyAt (F := F) (grid0.coords t) (ms0 a t) (hs0 a t) (ms1 a t) (hs1 a t) (ms2 a t) (hs2 a t)

def bodyPre (t : Fin (cfg0 a).N) : sProp 𝕄 :=
  iprop((dats V a S 0 c).Φ t.castSucc ∗ (dats V a S 0 c).owesAt () t.castSucc
    ∗ (∃ d, owns (c : Thread nD τ) (ms0 a t) fullShare ((dats V a S 0 c).before 0 t d))
    ∗ (∃ d, owns (c : Thread nD τ) (ms1 a t) fullShare ((dats V a S 0 c).before 1 t d))
    ∗ (∃ d, owns (c : Thread nD τ) (ms2 a t) fullShare ((dats V a S 0 c).before 2 t d)))
def bodyPost (t : Fin (cfg0 a).N) : sProp 𝕄 :=
  iprop((dats V a S 0 c).Φ t.succ ∗ (dats V a S 0 c).owesAt () t.succ
    ∗ owns (c : Thread nD τ) (ms0 a t) fullShare ((dats V a S 0 c).after 0 t)
    ∗ owns (c : Thread nD τ) (ms1 a t) fullShare ((dats V a S 0 c).after 1 t)
    ∗ owns (c : Thread nD τ) (ms2 a t) fullShare ((dats V a S 0 c).after 2 t))

theorem sound_body (t : Fin (cfg0 a).N) :
    bodyPre c V a S t ⊢ wp frame (𝕎 (c : Thread nD τ) none) Set.univ (bodyT a t) (fun _ => bodyPost c V a S t) := by
  unfold bodyPre bodyPost
  rw [show (dats V a S 0 c).after 0 t = Pipeline.heldIn (cfg0 a) (arrs c V a) 0 t.val t.isLt from rfl,
    show (dats V a S 0 c).after 1 t = Pipeline.heldIn (cfg0 a) (arrs c V a) 1 t.val t.isLt from rfl,
    show (dats V a S 0 c).after 2 t = outAt c V a S t from rfl,
    phi_pre, phi_post]
  unfold phi
  rw [inv_succ]
  simp only [before0, before1]
  unfold Dat.owesAt Pipeline.owesWithin
  rw [show (dats V a S 0 c).owed t.castSucc = 0 from rfl, show (dats V a S 0 c).owed t.succ = 0 from rfl]
  unfold outAt
  iintro ⟨⟨HT, Hg, HR, HI⟩, ⟨%Ws, -, HO⟩, ⟨%d0, H0⟩, ⟨%d1, H1⟩, ⟨%d3, H3⟩⟩
  ihave HT := (tabs_eq c a).1 $$ HT
  icases HT with ⟨T0, T1, T3, TA⟩
  ihave HI := (inv_prep c (V c main_v88) a S t) $$ HI
  iapply (S.step c (V c main_v88) (grid0.coords t) (itn t.val) (coords0 t) (ms0 a t) (hs0 a t) (ms1 a t) (hs1 a t)
    (ms2 a t) (hs2 a t) _ _ Ws)
  isplitl [T3]; · iexact T3
  isplitl [TA]; · iexact TA
  isplitl [HO]; · iexact HO
  isplitl [HI]; · iexact HI
  isplitl [H0]; · iexact H0
  isplitl [H1]; · iexact H1
  isplitl [H3]; · iexists _; iexact H3
  iintro ⟨T3, TA, ⟨%Ws', HO⟩, HI, H0, H1, H3⟩
  isplitl [T0 T1 T3 TA Hg HR HI]
  · isplitl [T0 T1 T3 TA]
    · iapply (tabs_eq c a).2
      isplitl [T0]; · iexact T0
      isplitl [T1]; · iexact T1
      isplitl [T3]; · iexact T3
      iexact TA
    isplitl [Hg]; · iexact Hg
    isplitl [HR]; · iexact HR
    iexact HI
  isplitl [HO]
  · iexists Ws'; isplitr; · ipureintro; exact fun _ _ => Or.inl trivial
    iexact HO
  isplitl [H0]; · iexact H0
  isplitl [H1]; · iexact H1
  iexact H3

theorem defs₀_row (t : Fin (cfg0 a).N) :
    defs₀ (F := F) .tc (cfg0 a).body ((cfg0 a).bodyArgs t ((cfg0 a).slots t)) = bodyT a t := by
  unfold defs₀
  rw [Defs.onTc_tc]
  rw [cc0_moe_down_eq_skeleton]

theorem nv_at (i : grid0.Coords) (it : Fin 96) (hi : (i 0).val = it.val) :
    a.1.atD 3 (k0_off21 i) = (a.1 3 : S96.Idx → BitVec 32) (ix1 it) := by
  have e : k0_off21 i = ![it.val] := offI_eq hi
  rw [e]
  unfold Pipeline.Prefetch.Contents.atD
  rw [dif_pos (fun b => by
    match b with
    | ⟨0, _⟩ => exact it.isLt)]
  refine congrArg (a.1 3 : S96.Idx → BitVec 32) (funext fun b => ?_)
  match b with
  | ⟨0, _⟩ => rfl

include S in
theorem idle2 (t : Fin (cfg0 a).N) : (cfg0 a).idle 2 ((cfg0 a).grid.coords t) = false := by
  show idle0 a.1 2 (grid0.coords t) = false
  dsimp only [idle0]
  rw [nv_at a (grid0.coords t) (itn t.val) (coords0 t)]
  obtain ⟨h5, h6, h7, h8, h9⟩ := S.hk (itn t.val)
  generalize (a.1 3 : S96.Idx → BitVec 32) (ix1 (itn t.val)) = v at h5 h6 h7 h8 h9 ⊢
  generalize S.k (itn t.val) = k at h5 h6 h7 h8 h9
  match k with
  | 0 => rw [h5.2 rfl]; rfl
  | 1 => rw [h6.2 rfl]; simp
  | 2 => rw [h7.2 rfl]; simp
  | 3 => rw [h8.2 rfl]; simp
  | 4 => rw [h9.2 rfl]; simp

theorem body_obligation : BodyObligation (dats V a S 0 c) (defs₀ (F := F)) Variants.none () Set.univ := fun t => by
  rw [bigSep_W0, bigSep_W0, defs₀_row]
  simp only [idle2 a S t]
  refine triple_restated (sound_body c V a S t) rfl .rfl fun _ => ?_
  unfold bodyPost
  rw [show idle0 a.1 2 (((pcfg0 (F := F)).gridAt a.1).coords t) = false from idle2 a S t]

/-! ## The run -/

variable (m : (ℓ : Loc nD τ sig) → Buf (Elt F) ℓ) (ρ : Dev nD → PrngReg)

theorem hmain : Pipeline.HMainP (Ix := Unit) (Name := ℕ) (U := Pipeline.UD sig nD τ) (Lvl := ℕ) (pcfgs (F := F)) 0 (defs₀ (F := F)) Variants.none m main
    (hostV m) :=
  Pipeline.hmainP_prefixes _ 0 _ Variants.none m main opss
    ⟨hostOps0_sub, hostOps0_1_sub, hostOps0_2_sub, hostOps0_3_sub, hostOps0_4_sub, hostOps0_5_sub, hostOps0_6_sub, hostOps0_7_sub, hostOps0_8_sub,
      hostOps0_9_sub, hostOps0_10_sub, hostOps0_11_sub, hostOps0_12_sub, hostOps0_13_sub, hostOps0_14_sub, hostOps0_15_sub, hostOps0_16_sub, hostOps0_17_sub⟩
    (by repeat' constructor)
    (fun c => main_chain c)

set_option backward.isDefEq.respectTransparency.types false in
theorem run_main (hpf : ∀ k, hostV m c (pre0.ref k) = a.1 k) :
    θ_run defs (onTc (τ := τ) (main (F := F))) (s₀ m ρ)
      (fun r => Pipeline.FramePost (Pipeline.pin (pcfgs (F := F)) (fun _ => a)) (dats (hostV m) a S) 0 (hostV m) r ∧ r.2.sem = fun _ => 0) :=
  Pipeline.θ_run_frameP_dma_shared (Q' := _) (pcfgs (F := F)) (fun _ => a) (dats (hostV m) a S) (0 : Fin 1) launch0.to₀ osem0 defs₀ Variants.none ownSemFacts0 H0 H0_sub
    m ρ main
    (hbody := fun c => (body_obligation c (hostV m) a S).loose) (hq := fun _ _ _ => rfl) (howed := fun _ _ => rfl) (V := hostV m) (hmain := hmain m)
    (hA := fun _ _ => rfl) (hpf := fun c' k => by rw [Subsingleton.elim c' c]; exact hpf k)
    (hin := fun c => by
      show _ ⊢ phi c (hostV m) a S 0
      unfold phi
      iintro ⟨HD, HT⟩
      ihave HD := (phi_eq c (hostV m)).1 $$ HD
      icases HD with ⟨Hg, HR, HS⟩
      isplitl [HT]; · iexact HT
      isplitl [Hg]; · iexact Hg
      isplitl [HR]; · iexact HR
      unfold inv
      rw [if_pos rfl]
      iexact HS)
    (hout := fun c => by
      show phi c (hostV m) a S 96 ⊢ _
      unfold phi
      iintro ⟨HT, Hg, HR, HS⟩
      iapply (phi_eq c (hostV m)).2
      isplitl [Hg]; · iexact Hg
      isplitl [HR]; · iexact HR
      iapply (inv_last c (hostV m c main_v88) a S); iexact HS)

end Cert.Down
-- ==== Proof.DQuiet.lean ====
/- The expert-down kernel's tables are admissible, and what its run leaves. -/
module

public import proofs.«01_k».proof.Proof.DTables
public import proofs.«01_k».proof.Proof.DFrame

@[expose] public section

noncomputable section

namespace Cert.Down

open Cert.Kernel3Ideal Cert.Kernel3Ideal.Gen
open Cert.Up
open Idealize.ShloMosaic Idealize.ShloMosaic.TcCoe Idealize.ShloMosaic.Tactic
open Idealize.SL.Sem

variable {F : FTy → Type} [FloatOps F]

local notation "𝕋" => S96.Idx → BitVec 32

theorem emb_block (i : grid0.Coords) (b : Fin 96) (hb : (i 0).val = b.val)
    (h : ∀ a, (![(Scalar.indexCast (BitVec.ofNat 32 (i 0).val) : Index).toNat] : Fin 1 → ℕ) a + S1.size a ≤ S96.size a) (j : S1.Idx) :
    (Rect.unit (s := S96) ![(Scalar.indexCast (BitVec.ofNat 32 (i 0).val) : Index).toNat] S1.size h).emb j = (ix1 b : S96.Idx) := by
  have hv : (Scalar.indexCast (BitVec.ofNat 32 (i 0).val) : Index).toNat = b.val := by
    have := congrFun (offI_eq hb) 0
    exact this
  have hj := (j 0).isLt
  refine funext fun a => ?_
  match a with
  | ⟨0, _⟩ =>
    refine Fin.ext ?_
    show (Scalar.indexCast (BitVec.ofNat 32 (i 0).val) : Index).toNat + 1 * (j 0).val = b.val
    rw [hv]
    have : (j 0).val < 1 := hj
    omega

section
variable (pf : pre0.Contents (Elt F)) (i : grid0.Coords) (b : Fin 96) (hb : (i 0).val = b.val)

include hb
theorem trans0 : cc0_transform_0 k0_off1_inb numel1_S1 pf i = ![((pf 0 : 𝕋) (ix1 b)).toNat, 0] := by
  unfold cc0_transform_0
  exact congrArg (fun y : S96.Idx => ![((pf 0 : 𝕋) y).toNat, 0]) (emb_block i b hb _ _)
theorem trans2 : cc0_transform_2 k0_off1_inb numel1_S1 pf i = ![((pf 2 : 𝕋) (ix1 b)).toNat, 0, 0] := by
  unfold cc0_transform_2
  exact congrArg (fun y : S96.Idx => ![((pf 2 : 𝕋) y).toNat, 0, 0]) (emb_block i b hb _ _)
theorem trans3 : cc0_transform_3 k0_off1_inb numel1_S1 pf i = ![((pf 1 : 𝕋) (ix1 b)).toNat, 0] := by
  unfold cc0_transform_3
  exact congrArg (fun y : S96.Idx => ![((pf 1 : 𝕋) y).toNat, 0]) (emb_block i b hb _ _)
end

variable (m : (ℓ : Loc nD τ sig) → Buf (Elt F) ℓ) (ρ : Dev nD → PrngReg) (c : Dev nD)

/-- What the tables hold at the launch. -/
def pfs : pre0.Contents (Elt F) := fun k => hostV m c (pre0.ref k)

theorem pfs1 (b : Fin 96) : (pfs m c 1 : 𝕋) (ix1 b) = BitVec.ofNat 32 b.val := by
  show (hostV m c main_v12 : 𝕋) (ix1 b) = _
  rw [r12]; rfl
theorem pfs0 (b : Fin 96) : ((pfs m c 0 : 𝕋) (ix1 b)).toNat ≤ b.val := by
  show ((hostV m c main_v16 : 𝕋) (ix1 b)).toNat ≤ _
  have hb := b.isLt
  rw [w16, toNat_small _ (by omega)]
  omega
theorem pfs2 (b : Fin 96) : ((pfs m c 2 : 𝕋) (ix1 b)).toNat = (ex m c b).val := by
  show ((hostV m c main_v27 : 𝕋) (ix1 b)).toNat = _
  rw [w27, exN_val, toNat_small _ (by omega)]

theorem ok_pfs : ok0 (pfs m c) := by
  refine ⟨fun i => ⟨?_, .inr (Affine.block_words_dvd (of_decide_eq_true rfl) (by decide))⟩, fun i => ⟨?_, .inl rfl⟩, fun i => ⟨?_, .inl rfl⟩⟩
  · let b : Fin 96 := i 0
    have hb := pfs0 m c b
    have h0 : (i 0).val < 96 := (i 0).isLt
    have hb' : b.val = (i 0).val := rfl
    rw [trans0 _ i b rfl]
    intro a
    match a with
    | ⟨0, _⟩ => show (((pfs m c 0 : 𝕋) (ix1 b)).toNat + 1) * 512 ≤ 49152; omega
    | ⟨1, _⟩ => show (0 + 1) * 2048 ≤ 2048; omega
  · let b : Fin 96 := i 0
    have he := (ex m c b).isLt
    rw [trans2 _ i b rfl, pfs2]
    intro a
    match a with
    | ⟨0, _⟩ => show ((ex m c b).val + 1) * 1 ≤ 32; omega
    | ⟨1, _⟩ => show (0 + 1) * 1 ≤ 1; omega
    | ⟨2, _⟩ => show (0 + 1) * 2048 ≤ 2048; omega
  · let b : Fin 96 := i 0
    have h1 : (i 0).val < 96 := (i 0).isLt
    rw [trans3 _ i b rfl, pfs1, toNat_small _ (by omega)]
    intro a
    match a with
    | ⟨0, _⟩ => show ((i 0).val + 1) * 8192 ≤ 786432; omega
    | ⟨1, _⟩ => show (0 + 1) * 128 ≤ 128; omega

/-- The tables, as the launch admits them. -/
def adm : (pcfg0 (F := F)).Adm := ⟨pfs m c, ok_pfs m c⟩

section
variable (V : (b : Ref sig .tc) → Buf (Elt F) ((c : Thread nD τ).loc b))
theorem ref2 : (V (pre0.ref 2) : 𝕋) = V main_v27 := rfl
theorem ref3 : (V (pre0.ref 3) : 𝕋) = V main_v47 := rfl
theorem ref4 : (V (pre0.ref 4) : 𝕋) = V main_v55 := rfl
theorem ref5 : (V (pre0.ref 5) : 𝕋) = V main_v58 := rfl
theorem ref6 : (V (pre0.ref 6) : 𝕋) = V main_v65 := rfl
theorem ref7 : (V (pre0.ref 7) : 𝕋) = V main_v86 := rfl
theorem ref8 : (V (pre0.ref 8) : S1.Idx → BitVec 32) = V main_v87 := rfl
end

/-- The schedule over the tables as admitted. -/
def schedA : Sched ((adm m c).1 2 : 𝕋) ((adm m c).1 3 : 𝕋) ((adm m c).1 4 : 𝕋) ((adm m c).1 5 : 𝕋) ((adm m c).1 6 : 𝕋) ((adm m c).1 7 : 𝕋)
    ((adm m c).1 8 : S1.Idx → BitVec 32) := by
  have h2 := ref2 c (hostV m c)
  have h3 := ref3 c (hostV m c)
  have h4 := ref4 c (hostV m c)
  have h5 := ref5 c (hostV m c)
  have h6 := ref6 c (hostV m c)
  have h7 := ref7 c (hostV m c)
  have h8 := ref8 c (hostV m c)
  unfold adm pfs
  dsimp only
  rw [h2, h3, h4, h5, h6, h7, h8]
  exact sched m c

/-- The run, at the tables the host operations make. -/
theorem run_at_tables : θ_run defs (onTc (τ := τ) (main (F := F))) (s₀ m ρ)
    (fun r => Pipeline.FramePost (Pipeline.pin (pcfgs (F := F)) (fun _ => adm m c)) (dats (hostV m) (adm m c) (schedA m c)) 0 (hostV m) r ∧ r.2.sem = fun _ => 0) :=
  run_main c (adm m c) (schedA m c) m ρ fun _ => rfl

/-- The run leaves the arguments as they were and every semaphore at zero. -/
theorem run_quiet : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨((h.1 c).2 main_arg0 (Pipeline.mem_restRefs_of main_arg0 (by decide) (show ∀ w : Fin 3, (spec0 w).arr.view.ref ≠ main_arg0 by decide))).trans (r_arg0 m c),
      ((h.1 c).1 0).trans (((dats (hostV m) (adm m 0) (schedA m 0) 0 c).arrAt_in 0 rfl _).trans (r_arg1 m c)),
      ((h.1 c).2 main_arg2 (Pipeline.mem_restRefs_of main_arg2 (by decide) (show ∀ w : Fin 3, (spec0 w).arr.view.ref ≠ main_arg2 by decide))).trans (r_arg2 m c),
      ((h.1 c).2 main_arg3 (Pipeline.mem_restRefs_of main_arg3 (by decide) (show ∀ w : Fin 3, (spec0 w).arr.view.ref ≠ main_arg3 by decide))).trans (r_arg3 m c)⟩, h.2⟩)
    (run_at_tables m ρ 0)

end Cert.Down
-- ==== Proof.DFrames.lean ====
/- The expert-down kernel's frames. -/
module

public import proofs.«01_k».proof.Defs
public import proofs.«01_k».proof.Proof.DQuiet
public import proofs.«01_k».proof.Proof.Gen.Kernel3

@[expose] public section

noncomputable section

namespace Cert.Down

open Cert.Up
open Idealize.ShloMosaic Idealize.ShloMosaic.TcCoe Idealize.ShloMosaic.Tactic
open Idealize.SL.Sem

theorem frame_ideal : Cert.quiescent_Kernel3Ideal := fun m ρ _ => run_quiet (F := Ideal) m ρ

/-- The two modules' programs are the same text. -/
theorem same_text : Cert.quiescent_Kernel3 = (∀ (m : (ℓ : Loc Kernel3Ideal.nD Kernel3Ideal.τ Kernel3Ideal.sig) → Buf (Elt Bits) ℓ) (ρ : Dev Kernel3Ideal.nD → PrngReg), True →
    θ_run (Kernel3Ideal.defs (F := Bits)) (onTc (τ := Kernel3Ideal.τ) (Kernel3Ideal.main (F := Bits))) ⟨m, fun _ => 0, ρ⟩
    (fun r => (∀ c : Dev Kernel3Ideal.nD, r.2.mem ((c.tc : Thread Kernel3Ideal.nD Kernel3Ideal.τ).loc Kernel3Ideal.main_arg0) = m ((c.tc : Thread _ _).loc Kernel3Ideal.main_arg0)
      ∧ r.2.mem ((c.tc : Thread Kernel3Ideal.nD Kernel3Ideal.τ).loc Kernel3Ideal.main_arg1) = m ((c.tc : Thread _ _).loc Kernel3Ideal.main_arg1)
      ∧ r.2.mem ((c.tc : Thread Kernel3Ideal.nD Kernel3Ideal.τ).loc Kernel3Ideal.main_arg2) = m ((c.tc : Thread _ _).loc Kernel3Ideal.main_arg2)
      ∧ r.2.mem ((c.tc : Thread Kernel3Ideal.nD Kernel3Ideal.τ).loc Kernel3Ideal.main_arg3) = m ((c.tc : Thread _ _).loc Kernel3Ideal.main_arg3)) ∧ r.2.sem = fun _ => 0)) := by
  sl_kernel_rfl

theorem frame_bits : Cert.quiescent_Kernel3 := same_text.mpr fun m ρ _ => run_quiet (F := Bits) m ρ

end Cert.Down
-- ==== Proof.DCells.lean ====
/- What a step of the expert-down kernel computes, entry by entry. -/
module

public import proofs.«01_k».proof.Proof.DStageB
public import proofs.«01_k».proof.Proof.Scalars
public import Idealize.ShloMosaic.Lib.ValueIdx
public import Idealize.ShloMosaic.Lib.MatmulPlain
public import Idealize.ShloMosaic.Lib.ValueLayout

@[expose] public section

set_option maxRecDepth 16384

noncomputable section

namespace Cert.Down

open Cert.Kernel3Ideal Cert.Kernel3Ideal.Gen Cert.Scalars
open Idealize.ShloMosaic hiding ix1 ix2 ix3
open Idealize.ShloMosaic.TcCoe Idealize.ShloMosaic.Tactic
open Idealize.ShloMosaic.ValueIdx
open Idealize.SL.Sem

/-- Row `q` of the block against column `p` of the weights, with the bias. -/
def dnAt (x0 : Vec Ideal S512x2048 .bf16) (g : Vec Ideal S2048x2048 .bf16) (b : Vec Ideal S1x1x2048 .f32) (q : Fin 512) (p : Fin 2048) : EReal :=
  (∑ k : Fin 2048, x0 (ix2 q k) * g (ix2 k p)) + b (ix3 (0 : Fin 1) (0 : Fin 1) p)

variable (g : Vec Ideal S2048x2048 .bf16) (b : Vec Ideal S1x1x2048 .f32)

theorem bias_128 (r : Fin 128) (n : Fin 2048) :
    (broadcastTo S128x2048 (shapeCast S1x2048 b shapeCasts_S1x1x2048_S1x2048) broadcasts_S1x2048_S128x2048 : FVec Ideal S128x2048 .f32) (ix2 r n)
      = b (ix3 (0 : Fin 1) (0 : Fin 1) n) :=
  (broadcastTo_1b_ab_apply (a := 128) (b := 2048) _ broadcasts_S1x2048_S128x2048 r n).trans (shapeCast_1ab_ab_apply b shapeCasts_S1x1x2048_S1x2048 (0 : Fin 1) n)

/-- The product of 128 rows with the weights, with the bias. -/
theorem sum_128 (x : FVec Ideal S128x2048 .bf16) (r : Fin 128) (n : Fin 2048) :
    k0_pay24 (F := Ideal) x g b (ix2 r n) = (∑ k : Fin 2048, x (ix2 r k) * g (ix2 k n)) + b (ix3 (0 : Fin 1) (0 : Fin 1) n) := by
  rw [← bias_128 b r n]
  refine congrArg (· + _) ((Ideal.matmul_plain_apply (M := 128) (K := 2048) (N := 2048) none x g _ r n).trans ?_)
  rw [show (constant (F := Ideal) S128x2048 .f32 0x00000000#32) (ix2 r n) = 0 from word_zero, zero_add]

theorem bias_256 (r : Fin 256) (n : Fin 2048) :
    (broadcastTo S256x2048 (shapeCast S1x2048 b shapeCasts_S1x1x2048_S1x2048) broadcasts_S1x2048_S256x2048 : FVec Ideal S256x2048 .f32) (ix2 r n)
      = b (ix3 (0 : Fin 1) (0 : Fin 1) n) :=
  (broadcastTo_1b_ab_apply (a := 256) (b := 2048) _ broadcasts_S1x2048_S256x2048 r n).trans (shapeCast_1ab_ab_apply b shapeCasts_S1x1x2048_S1x2048 (0 : Fin 1) n)

/-- The product of 256 rows with the weights, with the bias. -/
theorem sum_256 (x : FVec Ideal S256x2048 .bf16) (r : Fin 256) (n : Fin 2048) :
    k0_pay34 (F := Ideal) x g b (ix2 r n) = (∑ k : Fin 2048, x (ix2 r k) * g (ix2 k n)) + b (ix3 (0 : Fin 1) (0 : Fin 1) n) := by
  rw [← bias_256 b r n]
  refine congrArg (· + _) ((Ideal.matmul_plain_apply (M := 256) (K := 2048) (N := 2048) none x g _ r n).trans ?_)
  rw [show (constant (F := Ideal) S256x2048 .f32 0x00000000#32) (ix2 r n) = 0 from word_zero, zero_add]

end Cert.Down
-- ==== Proof.DBlock.lean ====
/- What a step of the expert-down kernel leaves in its output block. -/
module

public import proofs.«01_k».proof.Proof.DCells
public import Idealize.ShloMosaic.Lib.Pipeline.Value

@[expose] public section

set_option maxRecDepth 16384

noncomputable section

namespace Cert.Down

open Cert.Kernel3Ideal Cert.Kernel3Ideal.Gen Cert.Scalars
open Idealize.ShloMosaic hiding ix1 ix2 ix3 eq_ix2
open Idealize.ShloMosaic.TcCoe Idealize.ShloMosaic.Tactic
open Idealize.ShloMosaic.ValueIdx
open Idealize.SL.Sem

/-- The block a step leaves when the first `128 k` of its rows are computed; a row lies as sixteen rows of 128 entries. -/
def dnBlock (k : Fin 5) (x0 : Vec Ideal S512x2048 .bf16) (g : Vec Ideal S2048x2048 .bf16) (b : Vec Ideal S1x1x2048 .f32) : Vec Ideal S8192x128 .f32 :=
  fun y => if (y 0).val < 2048 * k.val then
    dnAt x0 g b ⟨(y 0).val / 16, by have : (y 0).val < 8192 := (y 0).isLt; omega⟩ ⟨(y 0).val % 16 * 128 + (y 1).val, by have : (y 1).val < 128 := (y 1).isLt; omega⟩
  else 0

theorem hz2 : (![0, 0] : Fin 2 → Nat) = fun _ => 0 := by decide
theorem hz3 : (![0, 0, 0] : Fin 3 → Nat) = fun _ => 0 := by decide

variable (c : Dev nD) (i : grid0.Coords) (it : Fin 96)
  (a10 : Memref sig .tc .vmem S512x2048 .bf16) (h10 : a10.IsWhole)
  (a12 : Memref sig .tc .vmem S1x1x2048 .f32) (h12 : a12.IsWhole)
  (a13 : Memref sig .tc .vmem S8192x128 .f32) (h13 : a13.IsWhole)
  (x0 : Vec Ideal S512x2048 .bf16) (g : Vec Ideal S2048x2048 .bf16) (b : Vec Ideal S1x1x2048 .f32)

/-- Strip `s` of the rows from row `o` on, out of their sums. -/
theorem strip (n : ℕ) (k : Fin 5) (o s w : ℕ) (ho : o + n ≤ 128 * k.val) (hs : s < 16) (hw : w = 16 * o + s)
    (Y : (⟨2, ![n, 2048]⟩ : Shape).Idx → EReal)
    (hY : ∀ (r : Fin n) (p : Fin 2048), Y (ix2 r p) = dnAt x0 g b ⟨o + r.val, by have := k.isLt; have := r.isLt; omega⟩ p)
    (x : (⟨2, ![n, 128]⟩ : Shape).Idx) (z : EReal)
    (hz : z = Y (ix2 (x 0) ⟨128 * s + (x 1).val, by have : (x 1).val < 128 := (x 1).isLt; omega⟩))
    (y : S8192x128.Idx) (hy0 : (y 0).val = w + 16 * (x 0).val) (hy1 : (y 1).val = 0 + 1 * (x 1).val) : z = dnBlock k x0 g b y := by
  have h0 : (x 0).val < n := (x 0).isLt
  have h1 : (x 1).val < 128 := (x 1).isLt
  unfold dnBlock
  rw [if_pos (by omega), hz]
  refine (hY (x 0) _).trans (congrArg₂ (dnAt x0 g b) (Fin.ext ?_) (Fin.ext ?_))
  · show o + (x 0).val = (y 0).val / 16
    omega
  · show 128 * s + (x 1).val = (y 0).val % 16 * 128 + (y 1).val
    omega

theorem zeros (k : Fin 5) (o : ℕ) (ho : 2048 * k.val ≤ o) (y : S8192x128.Idx) (hy0 : o ≤ (y 0).val) (z : EReal) (hz : z = 0) : z = dnBlock k x0 g b y := by
  unfold dnBlock
  rw [if_neg (by omega), hz]

theorem sums_128 (k : Fin 5) (o : ℕ) (ho : o + 128 ≤ 128 * k.val) (hO : ∀ a, (![o, 0] : Fin 2 → Nat) a + (![128, 2048] : Fin 2 → Nat) a ≤ S512x2048.size a)
    (r : Fin 128) (p : Fin 2048) :
    k0_pay24 (F := Ideal) (View.ld x0 (Rect.unit (s := S512x2048) ![o, 0] ![128, 2048] hO)) g b (ix2 r p)
      = dnAt x0 g b ⟨o + r.val, by have := k.isLt; have := r.isLt; omega⟩ p := by
  have hk := k.isLt
  refine (sum_128 g b _ r p).trans ?_
  unfold dnAt
  refine congrArg (· + _) (Finset.sum_congr rfl fun q _ => congrArg (· * g (ix2 q p)) (congrArg x0 (funext fun a => Fin.ext ?_)))
  match a with
  | ⟨0, _⟩ => show o + 1 * r.val = o + r.val; omega
  | ⟨1, _⟩ => show 0 + 1 * q.val = q.val; omega

/-- A strip of 128 rows as it is stored: 128 columns of the sums of the rows from `o` on. -/
theorem cell_128 (k : Fin 5) (o w u : ℕ) (ho : o + 128 ≤ 128 * k.val) (hO : ∀ a, (![o, 0] : Fin 2 → Nat) a + (![128, 2048] : Fin 2 → Nat) a ≤ S512x2048.size a)
    (hw : 16 * o ≤ w) (hs : w - 16 * o < 16) (hu : u = 128 * (w - 16 * o)) (hS : S128x2048.Slices ![0, u] S128x128) (x : S128x128.Idx)
    (y : S8192x128.Idx) (hy0 : (y 0).val = w + 16 * (x 0).val) (hy1 : (y 1).val = 0 + 1 * (x 1).val) :
    extractStridedSlice S128x128 ![0, u] (k0_pay24 (F := Ideal) (View.ld x0 (Rect.unit (s := S512x2048) ![o, 0] ![128, 2048] hO)) g b) hS x
      = dnBlock k x0 g b y := by
  refine strip x0 g b 128 k o (w - 16 * o) w ho hs (by omega) _ (sums_128 x0 g b k o ho hO) x _ ?_ y hy0 hy1
  refine extractStridedSlice_apply _ _ _ _ _ fun a => ?_
  match a with
  | ⟨0, _⟩ => show (x 0).val = 0 + (x 0).val; omega
  | ⟨1, _⟩ => show 128 * (w - 16 * o) + (x 1).val = u + (x 1).val; omega

theorem sums_256 (k : Fin 5) (o : ℕ) (ho : o + 256 ≤ 128 * k.val) (hO : ∀ a, (![o, 0] : Fin 2 → Nat) a + (![256, 2048] : Fin 2 → Nat) a ≤ S512x2048.size a)
    (r : Fin 256) (p : Fin 2048) :
    k0_pay34 (F := Ideal) (View.ld x0 (Rect.unit (s := S512x2048) ![o, 0] ![256, 2048] hO)) g b (ix2 r p)
      = dnAt x0 g b ⟨o + r.val, by have := k.isLt; have := r.isLt; omega⟩ p := by
  have hk := k.isLt
  refine (sum_256 g b _ r p).trans ?_
  unfold dnAt
  refine congrArg (· + _) (Finset.sum_congr rfl fun q _ => congrArg (· * g (ix2 q p)) (congrArg x0 (funext fun a => Fin.ext ?_)))
  match a with
  | ⟨0, _⟩ => show o + 1 * r.val = o + r.val; omega
  | ⟨1, _⟩ => show 0 + 1 * q.val = q.val; omega

/-- A strip of 256 rows as it is stored: 128 columns of the sums of the rows from `o` on. -/
theorem cell_256 (k : Fin 5) (o w u : ℕ) (ho : o + 256 ≤ 128 * k.val) (hO : ∀ a, (![o, 0] : Fin 2 → Nat) a + (![256, 2048] : Fin 2 → Nat) a ≤ S512x2048.size a)
    (hw : 16 * o ≤ w) (hs : w - 16 * o < 16) (hu : u = 128 * (w - 16 * o)) (hS : S256x2048.Slices ![0, u] S256x128) (x : S256x128.Idx)
    (y : S8192x128.Idx) (hy0 : (y 0).val = w + 16 * (x 0).val) (hy1 : (y 1).val = 0 + 1 * (x 1).val) :
    extractStridedSlice S256x128 ![0, u] (k0_pay34 (F := Ideal) (View.ld x0 (Rect.unit (s := S512x2048) ![o, 0] ![256, 2048] hO)) g b) hS x
      = dnBlock k x0 g b y := by
  refine strip x0 g b 256 k o (w - 16 * o) w ho hs (by omega) _ (sums_256 x0 g b k o ho hO) x _ ?_ y hy0 hy1
  refine extractStridedSlice_apply _ _ _ _ _ fun a => ?_
  match a with
  | ⟨0, _⟩ => show (x 0).val = 0 + (x 0).val; omega
  | ⟨1, _⟩ => show 128 * (w - 16 * o) + (x 1).val = u + (x 1).val; omega

theorem outB_eq (k : Fin 5) : outB c i it a10 h10 a12 h12 a13 h13 x0 g b k = dnBlock k x0 g b := by
  have hcov := cover c i it a10 h10 a12 h12 a13 h13 x0 g b k
  funext y
  unfold outB
  rw [View.read_writes_eq_canon _ _ _ hcov]
  refine View.canon_apply_of_pieces (dnBlock k x0 g b) _ ?_ y (hcov y)
  clear hcov
  match k with
  | 0 | 1 | 2 | 3 | 4 =>
    unfold run
    dsimp only
    sl_unfold_words
    simp only [List.forall_mem_cons, View.readAt_eq_ld, h10.read_unread, h12.read_unread, (Memref.isWhole_whole cc0_scratch2).read_unread,
      View.ld_unit_zero (S := S2048x2048) hz2, View.ld_unit_zero (S := S1x1x2048) hz3]
    repeat' apply And.intro
    all_goals first
      | exact fun x => zeros x0 g b _ _ (by decide) _ (Nat.le_add_right _ _) _ word_zero
      | exact fun x => cell_128 x0 g b _ _ _ _ (by decide) _ (by decide) (by decide) (by decide) (by decide) x _ rfl rfl
      | exact fun x => cell_256 x0 g b _ _ _ _ (by decide) _ (by decide) (by decide) (by decide) (by decide) x _ rfl rfl
      | exact fun _ h => absurd h List.not_mem_nil

end Cert.Down
-- ==== Proof.DHeld.lean ====
/- What an input window that the body only reads holds, point by point: the block its index map names. -/
module

public import proofs.«01_k».proof.Proof.DQuiet
public import proofs.«01_k».proof.Proof.DBlock

@[expose] public section

set_option maxRecDepth 16384

noncomputable section

namespace Cert.Down

open Cert.Kernel3Ideal Cert.Kernel3Ideal.Gen
open Cert.Up
open Idealize.ShloMosaic hiding ix1 ix2 ix3 eq_ix2
open Idealize.ShloMosaic.TcCoe Idealize.ShloMosaic.Tactic
open Idealize.ShloMosaic.ValueIdx
open Idealize.ShloMosaic.Pipeline (Dat Cfg Window heldIn)
open Idealize.SL.Sem

section
variable {L : Labels} {c : Dev nD} (cfg : Cfg sig L) (A : (w : Fin cfg.W) → Buf (Elt Ideal) (((cfg.win w).arr.view.loc (c.tc : Thread nD τ))))
  (w : Fin cfg.W) (P : ((cfg.win w).block.Idx → Elt Ideal (cfg.win w).elt) → (Fin (cfg.win w).shape.rank → ℕ) → Prop)

/-- What holds of every block as it is fetched, together with its index, holds of what the window's buffer holds. -/
theorem held_ind (hw : (cfg.win w).isOut = false)
    (h : ∀ t : Fin cfg.N, P ((cfg.win w).fill (cfg.grid.coords t) (fun _ => Classical.arbitrary _) (((cfg.win w).blk t).view.read (Elt Ideal) (A w))) ((cfg.win w).index t)) :
    ∀ (n : ℕ) (hn : n < cfg.N), P (heldIn cfg A w n hn) ((cfg.win w).index ⟨n, hn⟩) := by
  intro n
  induction n with
  | zero => exact fun hn => h ⟨0, hn⟩
  | succ n ih =>
    intro hn
    by_cases hf : (cfg.win w).fetch ⟨n + 1, hn⟩ = true
    · rw [Pipeline.heldIn_of_fetch A w ⟨n + 1, hn⟩ hf]; exact h ⟨n + 1, hn⟩
    · rw [Pipeline.heldIn_of_not_fetch A w n hn (Bool.eq_false_iff.2 hf)]
      have e : (cfg.win w).index ⟨n + 1, hn⟩ = (cfg.win w).index ⟨n, Nat.lt_of_succ_lt hn⟩ := by
        by_contra hne
        refine hf ?_
        unfold Window.fetch
        rw [hw]
        simp only [Bool.not_false, Bool.true_and, Bool.or_eq_true, decide_eq_true_eq]
        exact .inr ⟨Nat.succ_pos n, hne⟩
      rw [e]
      exact ih _
end

section
variable (a : (pcfg0 (F := Ideal)).Adm) (c : Dev nD) (V : (c : Dev nD) → (b : Ref sig .tc) → Buf (Elt Ideal) ((c : Thread nD τ).loc b))

theorem held0 (t : Fin (cfg0 a).N) (r : Fin 512) (k : Fin 2048) (p : Fin 49152)
    (hp : p.val = ((a.1 0 : S96.Idx → BitVec 32) (ix1 (itn t.val))).toNat * 512 + r.val) :
    (heldIn (cfg0 a) (arrs c V a) 0 t.val t.isLt : Vec Ideal S512x2048 .bf16) (ix2 r k) = (V c main_arg1 : Vec Ideal S49152x2048 .bf16) (ix2 p k) := by
  refine held_ind (cfg0 a) (arrs c V a) 0 (fun X ix => ix = ![((a.1 0 : S96.Idx → BitVec 32) (ix1 (itn t.val))).toNat, 0] →
    (X : Vec Ideal S512x2048 .bf16) (ix2 r k) = (V c main_arg1 : Vec Ideal S49152x2048 .bf16) (ix2 p k)) rfl ?_ t.val t.isLt
    (trans0 _ _ (itn t.val) (coords0 t))
  intro u hu
  unfold Window.fill
  rw [dif_pos (((cfg0 a).win 0).moved_iff _ _ |>.2 fun x => (ix2 r k x).isLt)]
  show (V c main_arg1 : Vec Ideal S49152x2048 .bf16) ((((cfg0 a).win 0).blk u).view.emb (ix2 r k)) = _
  refine congrArg _ (funext fun x => Fin.ext ?_)
  match x with
  | ⟨0, _⟩ => show ((cfg0 a).win 0).index u (0 : Fin 2) * 512 + 1 * r.val = p.val; rw [congrFun hu (0 : Fin 2), hp]; show ((a.1 0 : S96.Idx → BitVec 32) (ix1 (itn t.val))).toNat * 512 + 1 * r.val = _; omega
  | ⟨1, _⟩ => show ((cfg0 a).win 0).index u (1 : Fin 2) * 2048 + 1 * k.val = k.val; rw [congrFun hu (1 : Fin 2)]; show 0 * 2048 + 1 * k.val = _; omega

theorem held1 (t : Fin (cfg0 a).N) (n : Fin 2048) (e : Fin 32)
    (he : e.val = ((a.1 2 : S96.Idx → BitVec 32) (ix1 (itn t.val))).toNat) :
    (heldIn (cfg0 a) (arrs c V a) 1 t.val t.isLt : Vec Ideal S1x1x2048 .f32) (ix3 (0 : Fin 1) (0 : Fin 1) n)
      = (V c main_v90 : Vec Ideal S32x1x2048 .f32) (ix3 e (0 : Fin 1) n) := by
  refine held_ind (cfg0 a) (arrs c V a) 1 (fun X ix => ix = ![((a.1 2 : S96.Idx → BitVec 32) (ix1 (itn t.val))).toNat, 0, 0] →
    (X : Vec Ideal S1x1x2048 .f32) (ix3 (0 : Fin 1) (0 : Fin 1) n) = (V c main_v90 : Vec Ideal S32x1x2048 .f32) (ix3 e (0 : Fin 1) n)) rfl ?_ t.val t.isLt
    (trans2 _ _ (itn t.val) (coords0 t))
  intro u hu
  unfold Window.fill
  rw [dif_pos (((cfg0 a).win 1).moved_iff _ _ |>.2 fun x => (ix3 (0 : Fin 1) (0 : Fin 1) n x).isLt)]
  show (V c main_v90 : Vec Ideal S32x1x2048 .f32) ((((cfg0 a).win 1).blk u).view.emb (ix3 (0 : Fin 1) (0 : Fin 1) n)) = _
  refine congrArg _ (funext fun x => Fin.ext ?_)
  match x with
  | ⟨0, _⟩ => show ((cfg0 a).win 1).index u (0 : Fin 3) * 1 + 1 * 0 = e.val; rw [congrFun hu (0 : Fin 3), he]; show ((a.1 2 : S96.Idx → BitVec 32) (ix1 (itn t.val))).toNat * 1 + 1 * 0 = _; omega
  | ⟨1, _⟩ => show ((cfg0 a).win 1).index u (1 : Fin 3) * 1 + 1 * 0 = 0; rw [congrFun hu (1 : Fin 3)]; rfl
  | ⟨2, _⟩ => show ((cfg0 a).win 1).index u (2 : Fin 3) * 2048 + 1 * n.val = n.val; rw [congrFun hu (2 : Fin 3)]; show 0 * 2048 + 1 * n.val = _; omega

theorem wtile_at (e : Fin 32) (k : Fin 2048) (n : Fin 2048) :
    wtile (F := Ideal) c (V c main_v88) e (ix2 k n) = (V c main_v88 : Vec Ideal S32x2048x2048 .f32) (ix3 e k n) := by
  unfold wtile
  show (src e).view.read (Elt Ideal) (V c main_v88) (ix2 k n) = _
  refine (shapeCast_1ab_ab_apply (fun y : S1x2048x2048.Idx => (V c main_v88 : Vec Ideal S32x2048x2048 .f32)
    ((Rect.unit (s := S32x2048x2048) (offW e) S1x2048x2048.size (offW_inb e)).emb y)) (by decide) k n).trans ?_
  refine congrArg _ (funext fun x => Fin.ext ?_)
  match x with
  | ⟨0, _⟩ => show e.val + 1 * 0 = e.val; omega
  | ⟨1, _⟩ => show 0 + 1 * k.val = k.val; omega
  | ⟨2, _⟩ => show 0 + 1 * n.val = n.val; omega
end

section
variable (m : (ℓ : Loc nD τ sig) → Buf (Elt Ideal) ℓ) (c : Dev nD)

theorem schedA_e (b : Fin 96) : (schedA m c).e b = ex m c b := by sl_kernel_rfl
theorem schedA_k (b : Fin 96) : (schedA m c).k b = kOf (nv m c b) := by sl_kernel_rfl
end

end Cert.Down
-- ==== Proof.DArray.lean ====
/- The expert-down kernel's result, entry by entry, in the tables its host operations make. -/
module

public import proofs.«01_k».proof.Proof.DHeld
public import Idealize.ShloMosaic.Lib.Pipeline.ValueKit.Geometry

@[expose] public section

set_option maxRecDepth 16384

noncomputable section

namespace Cert.Down

open Cert.Kernel3Ideal Cert.Kernel3Ideal.Gen
open Cert.Up
open Idealize.ShloMosaic hiding ix1 ix2 ix3 ix4 eq_ix2
open Idealize.ShloMosaic.TcCoe Idealize.ShloMosaic.Tactic
open Idealize.ShloMosaic.ValueIdx
open Idealize.ShloMosaic.Pipeline (Dat Cfg Window heldIn)
open Idealize.SL.Sem

variable (m : (ℓ : Loc nD τ sig) → Buf (Elt Ideal) ℓ) (c : Dev nD)

/-- The experts' rows; the expert weights; the expert biases. -/
abbrev Xs : Vec Ideal S49152x2048 .bf16 := m ((c : Thread nD τ).loc main_arg1)
abbrev W2 : Vec Ideal S1x32x2048x2048 .f32 := m ((c : Thread nD τ).loc main_arg2)
abbrev B2 : Vec Ideal S1x32x2048 .f32 := m ((c : Thread nD τ).loc main_arg3)

theorem r88 : (hostV m c main_v88 : Vec Ideal S32x2048x2048 .f32) = shapeCast S32x2048x2048 (W2 m c) shapeCasts_S1x32x2048x2048_S32x2048x2048 := by
  unfold hostV; after_reads_simp; rfl
theorem r90 : (hostV m c main_v90 : Vec Ideal S32x1x2048 .f32)
    = shapeCast S32x1x2048 (shapeCast S32x2048 (B2 m c) shapeCasts_S1x32x2048_S32x2048) shapeCasts_S32x2048_S32x1x2048 := by
  unfold hostV; after_reads_simp; rfl

theorem w88 (e : Fin 32) (k : Fin 2048) (p : Fin 2048) : (hostV m c main_v88 : Vec Ideal S32x2048x2048 .f32) (ix3 e k p) = W2 m c (ix4 (0 : Fin 1) e k p) := by
  rw [r88]; exact shapeCast_1abc_abc_apply (W2 m c) _ e k p
theorem w90 (e : Fin 32) (p : Fin 2048) : (hostV m c main_v90 : Vec Ideal S32x1x2048 .f32) (ix3 e (0 : Fin 1) p) = B2 m c (ix3 (0 : Fin 1) e p) := by
  rw [r90]
  refine (shapeCast_apply _ _ (ix3 e (0 : Fin 1) p) (ix2 e p) ?_).trans (shapeCast_1ab_ab_apply (B2 m c) _ e p)
  rw [Shape.rowMajor_val_three, Shape.rowMajor_val_two]
  show e.val * 2048 + p.val = (e.val * 1 + 0) * 2048 + p.val
  omega

/-- The block of rows step `b` reads. -/
def blkN (b : Fin 96) : ℕ := ((pfs m c 0 : S96.Idx → BitVec 32) (ix1 b)).toNat
theorem blkN_le (b : Fin 96) : blkN m c b ≤ b.val := pfs0 m c b

/-- Row `q` of step `b`'s block against column `p` of the step's expert, with the bias. -/
def dnSum (b : Fin 96) (q : Fin 512) (p : Fin 2048) : EReal :=
  (∑ k : Fin 2048, Xs m c (ix2 ⟨blkN m c b * 512 + q.val, by have := blkN_le m c b; omega⟩ k) * W2 m c (ix4 (0 : Fin 1) (ex m c b) k p))
    + B2 m c (ix3 (0 : Fin 1) (ex m c b) p)

/-- What the kernel leaves at row `q`, column `p` of the block of step `b`. -/
def dnEnt (b : Fin 96) (q : Fin 512) (p : Fin 2048) : EReal := if q.val < 128 * (kOf (nv m c b)).val then dnSum m c b q p else 0

theorem out_at (t : Fin (cfg0 (adm m c)).N) (y : S8192x128.Idx) (q : Fin 512) (p : Fin 2048) (hq : q.val = (y 0).val / 16) (hp : p.val = (y 0).val % 16 * 128 + (y 1).val) :
    outAt c (hostV m) (adm m c) (schedA m c) t y = dnEnt m c (itn t.val) q p := by
  unfold outAt
  rw [schedA_e, schedA_k]
  refine (congrFun (outB_eq c (grid0.coords t) (itn t.val) (ms0 (adm m c) t) (hs0 (adm m c) t) (ms1 (adm m c) t) (hs1 (adm m c) t) (ms2 (adm m c) t) (hs2 (adm m c) t)
    (heldIn (cfg0 (adm m c)) (arrs c (hostV m) (adm m c)) 0 t.val t.isLt)
    (wtile c (hostV m c main_v88) (ex m c (itn t.val)))
    (heldIn (cfg0 (adm m c)) (arrs c (hostV m) (adm m c)) 1 t.val t.isLt)
    (kOf (nv m c (itn t.val)))) y).trans ?_
  have hex : ((ex m c (itn t.val)).val) = (((adm m c).1 2 : S96.Idx → BitVec 32) (ix1 (itn t.val))).toNat := (pfs2 m c (itn t.val)).symm
  have hb := blkN_le m c (itn t.val)
  have hy0 : (y 0).val < 8192 := (y 0).isLt
  have hy1 : (y 1).val < 128 := (y 1).isLt
  have eq : (⟨(y 0).val / 16, by omega⟩ : Fin 512) = q := Fin.ext hq.symm
  have ep : (⟨(y 0).val % 16 * 128 + (y 1).val, by omega⟩ : Fin 2048) = p := Fin.ext hp.symm
  unfold dnBlock dnEnt
  rw [eq, ep]
  refine if_congr (by omega) ?_ rfl
  unfold dnAt dnSum
  refine congrArg₂ (· + ·) (Finset.sum_congr rfl fun k _ => congrArg₂ (· * ·) ?_ ?_) ((held1 (adm m c) c (hostV m) t p _ hex).trans (w90 m c _ _))
  · refine (held0 (adm m c) c (hostV m) t q k ⟨blkN m c (itn t.val) * 512 + q.val, by omega⟩ rfl).trans ?_
    rw [r_arg1]
  · exact (wtile_at c (hostV m) _ k p).trans (w88 m c _ _ _)

theorem index2 (t : Fin (cfg0 (adm m c)).N) : ((cfg0 (adm m c)).win 2).index t = ![(itn t.val).val, 0] := by
  refine (trans3 _ _ (itn t.val) (coords0 t)).trans ?_
  have e : ((adm m c).1 1 : S96.Idx → BitVec 32) (ix1 (itn t.val)) = BitVec.ofNat 32 (itn t.val).val := pfs1 m c (itn t.val)
  have hb := (itn t.val).isLt
  refine congrArg (fun z : ℕ => (![z, 0] : Fin 2 → ℕ)) ?_
  exact (congrArg BitVec.toNat e).trans (toNat_small _ (by omega))

theorem flush2 (t : Fin (cfg0 (adm m c)).N) : ((cfg0 (adm m c)).win 2).flush t = true := by
  unfold Window.flush
  have ho : ((cfg0 (adm m c)).win 2).isOut = true := rfl
  rw [ho]
  simp only [Bool.true_and, Bool.or_eq_true, decide_eq_true_eq]
  by_cases h : t.val + 1 = grid0.N
  · exact .inl h
  · refine .inr ⟨?_, fun e => ?_⟩
    · have := t.isLt; exact lt_of_le_of_ne (Nat.succ_le_of_lt this) h
    · rw [index2, index2] at e
      have e0 := congrFun e (0 : Fin 2)
      have e1 : (t.val + 1) % 96 = t.val % 96 := e0
      omega

/-- The result's entry at an index of the array, whose rows are each a sixteenth of a row of the product. -/
def dnArr (i : S786432x128.Idx) : EReal :=
  dnEnt m c ⟨(i 0).val / 8192, by have : (i 0).val < 786432 := (i 0).isLt; omega⟩ ⟨(i 0).val % 8192 / 16, by omega⟩
    ⟨(i 0).val % 16 * 128 + (i 1).val, by have : (i 1).val < 128 := (i 1).isLt; omega⟩

theorem out_emb (t : Fin (cfg0 (adm m c)).N) (y : S8192x128.Idx) (z : S786432x128.Idx) (h0 : (z 0).val = (itn t.val).val * 8192 + (y 0).val)
    (h1 : (z 1).val = (y 1).val) : outAt c (hostV m) (adm m c) (schedA m c) t y = dnArr m c z := by
  have hq : (y 0).val < 8192 := (y 0).isLt
  have hy1 : (y 1).val < 128 := (y 1).isLt
  refine (out_at m c t y ⟨(z 0).val % 8192 / 16, by omega⟩ ⟨(z 0).val % 16 * 128 + (z 1).val, by omega⟩ ?_ ?_).trans ?_
  · show (z 0).val % 8192 / 16 = _
    omega
  · show (z 0).val % 16 * 128 + (z 1).val = _
    omega
  unfold dnArr
  refine congrArg (fun b => dnEnt m c b _ _) (Fin.ext ?_)
  show (itn t.val).val = (z 0).val / 8192
  omega

theorem result : (dats (hostV m) (adm m c) (schedA m c) 0 c).arrAt 2 (cfg0 (adm m c)).N = dnArr m c := by
  refine Dat.arrAt_eq_of_emb (dats (hostV m) (adm m c) (schedA m c) 0 c) 2 (dnArr m c) ?_ ?_
  · intro t _ y
    have e := index2 m c t
    refine Eq.trans (b := outAt c (hostV m) (adm m c) (schedA m c) t y) (by sl_kernel_rfl) ?_
    refine out_emb m c t y _ ?_ ?_
    · show ((cfg0 (adm m c)).win 2).index t (0 : Fin 2) * 8192 + 1 * (y (0 : Fin 2)).val = _
      rw [congrFun e (0 : Fin 2), Nat.one_mul]; rfl
    · show ((cfg0 (adm m c)).win 2).index t (1 : Fin 2) * 128 + 1 * (y (1 : Fin 2)).val = _
      rw [congrFun e (1 : Fin 2), Nat.one_mul]
      show 0 * 128 + _ = _
      omega
  · intro i
    have i0 : (i (0 : Fin 2)).val < 786432 := (i (0 : Fin 2)).isLt
    have i1 : (i (1 : Fin 2)).val < 128 := (i (1 : Fin 2)).isLt
    let t : Fin (cfg0 (adm m c)).N := ⟨(i (0 : Fin 2)).val / 8192, by
      show _ < grid0.N
      rw [N_0]; omega⟩
    refine ⟨t, flush2 m c t, (((cfg0 (adm m c)).win 2).emb_mem_blk_iff t i).mpr fun x => ?_⟩
    have e := index2 m c t
    have t0 : (itn t.val).val = (i (0 : Fin 2)).val / 8192 := by show (i (0 : Fin 2)).val / 8192 % 96 = _; omega
    match x with
    | ⟨0, _⟩ =>
      show ((cfg0 (adm m c)).win 2).index t (0 : Fin 2) * 8192 ≤ (i (0 : Fin 2)).val ∧ (i (0 : Fin 2)).val < ((cfg0 (adm m c)).win 2).index t (0 : Fin 2) * 8192 + 8192
      rw [congrFun e (0 : Fin 2)]
      show (itn t.val).val * 8192 ≤ _ ∧ _ < (itn t.val).val * 8192 + 8192
      rw [t0]; omega
    | ⟨1, _⟩ =>
      show ((cfg0 (adm m c)).win 2).index t (1 : Fin 2) * 128 ≤ (i (1 : Fin 2)).val ∧ (i (1 : Fin 2)).val < ((cfg0 (adm m c)).win 2).index t (1 : Fin 2) * 128 + 128
      rw [congrFun e (1 : Fin 2)]
      show 0 * 128 ≤ _ ∧ _ < 0 * 128 + 128
      omega

end Cert.Down
-- ==== Proof.DReads2.lean ====
/- The expert-down kernel's host code, the operations on the experts' counts. -/
module

public import proofs.«01_k».proof.Proof.DReads

@[expose] public section

noncomputable section

namespace Cert.Down

open Cert.Kernel3Ideal Cert.Kernel3Ideal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The experts' counts. -/
abbrev Cs : S32.Idx → BitVec 32 := m (c, main_arg0)
/-- The vector of one word, over the experts. -/
abbrev all32 (v : S_.Idx → BitVec 32) : S32.Idx → BitVec 32 := broadcastInDim S32 ![] bcast_S_S32 v
/-- Division rounding down, over the experts. -/
abbrev fdiv32 (x : S32.Idx → BitVec 32) (d : S_.Idx → BitVec 32) : S32.Idx → BitVec 32 :=
  select (andi (cmpi .ne (signi x) (all32 (signi d))) (cmpi .ne (Host.remsi x (all32 d)) (all32 (one 0#32))))
    (subi (Host.divsi x (all32 d)) (all32 (one 1#32))) (Host.divsi x (all32 d))
/-- Division rounding down, of one word. -/
abbrev fdiv0 (x d : S_.Idx → BitVec 32) : S_.Idx → BitVec 32 :=
  select (andi (cmpi .ne (signi x) (signi d)) (cmpi .ne (Host.remsi x d) (one 0#32)))
    (subi (Host.divsi x d) (one 1#32)) (Host.divsi x d)

/-- The host code's first 1 stretches. -/
def pre1 : List (List (HloOp τ sig (Elt F))) := [hostOps0]
/-- The stretches after those. -/
abbrev post1 : List (List (HloOp τ sig (Elt F))) := [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]
theorem cut1 (b : Ref sig .tc) : hostV m c b
    = StableHlo.after (post1 (F := F)).flatten (StableHlo.after (pre1 (F := F)).flatten (fun b => m (c, b))) b := by
  unfold pre1; rw [← StableHlo.after_append, ← List.flatten_append]; rfl
/-- The host code's first 3 stretches. -/
def pre3 : List (List (HloOp τ sig (Elt F))) := [hostOps0, hostOps0_1, hostOps0_2]
/-- The stretches after those. -/
abbrev post3 : List (List (HloOp τ sig (Elt F))) := [hostOps0_3, hostOps0_4, hostOps0_5, hostOps0_6, hostOps0_7, hostOps0_8, hostOps0_9, hostOps0_10, hostOps0_11, hostOps0_12, hostOps0_13, hostOps0_14, hostOps0_15, hostOps0_16, hostOps0_17]
theorem cut3 (b : Ref sig .tc) : hostV m c b
    = StableHlo.after (post3 (F := F)).flatten (StableHlo.after (pre3 (F := F)).flatten (fun b => m (c, b))) b := by
  unfold pre3; rw [← StableHlo.after_append, ← List.flatten_append]; rfl
/-- The host code's first 4 stretches. -/
def pre4 : List (List (HloOp τ sig (Elt F))) := [hostOps0, hostOps0_1, hostOps0_2, hostOps0_3]
/-- The stretches after those. -/
abbrev post4 : List (List (HloOp τ sig (Elt F))) := [hostOps0_4, hostOps0_5, hostOps0_6, hostOps0_7, hostOps0_8, hostOps0_9, hostOps0_10, hostOps0_11, hostOps0_12, hostOps0_13, hostOps0_14, hostOps0_15, hostOps0_16, hostOps0_17]
theorem cut4 (b : Ref sig .tc) : hostV m c b
    = StableHlo.after (post4 (F := F)).flatten (StableHlo.after (pre4 (F := F)).flatten (fun b => m (c, b))) b := by
  unfold pre4; rw [← StableHlo.after_append, ← List.flatten_append]; rfl
/-- The host code's first 5 stretches. -/
def pre5 : List (List (HloOp τ sig (Elt F))) := [hostOps0, hostOps0_1, hostOps0_2, hostOps0_3, hostOps0_4]
/-- The stretches after those. -/
abbrev post5 : List (List (HloOp τ sig (Elt F))) := [hostOps0_5, hostOps0_6, hostOps0_7, hostOps0_8, hostOps0_9, hostOps0_10, hostOps0_11, hostOps0_12, hostOps0_13, hostOps0_14, hostOps0_15, hostOps0_16, hostOps0_17]
theorem cut5 (b : Ref sig .tc) : hostV m c b
    = StableHlo.after (post5 (F := F)).flatten (StableHlo.after (pre5 (F := F)).flatten (fun b => m (c, b))) b := by
  unfold pre5; rw [← StableHlo.after_append, ← List.flatten_append]; rfl
theorem rc1 : hostV m c main_c_1 = one 512#32 := by unfold hostV; after_reads_simp
theorem rc3 : hostV m c main_c_3 = one 512#32 := by unfold hostV; after_reads_simp
theorem r3 : hostV m c main_v3 = subi (addi (Cs m c) (all32 (one 512#32))) (all32 (one 1#32)) := by
  unfold hostV; after_reads_simp
theorem s6 (W : Valuation τ sig (Elt F)) : StableHlo.after (post1 (F := F)).flatten W main_v6
    = muli (fdiv32 (StableHlo.after (post1 (F := F)).flatten W main_v3 : S32.Idx → BitVec 32) (StableHlo.after (post1 (F := F)).flatten W main_c_1 : S_.Idx → BitVec 32)) (all32 (one 512#32)) := by
  after_reads_simp; simp -implicitDefEqProofs only [StableHlo.TRef.toBuf, StableHlo.TRef.ofBuf, cast_cast, cast_eq, id_eq]
theorem r6 : hostV m c main_v6 = muli (fdiv32 (hostV m c main_v3 : S32.Idx → BitVec 32) (hostV m c main_c_1 : S_.Idx → BitVec 32)) (all32 (one 512#32)) := by
  rw [cut1 m c main_v6, cut1 m c main_v3, cut1 m c main_c_1]; exact s6 _
theorem s7 (W : Valuation τ sig (Elt F)) : StableHlo.after (post3 (F := F)).flatten W main_v7
    = Host.reduceWindow IntOp.addi ![32] ![1] ![31] ![0] (StableHlo.after (post3 (F := F)).flatten W main_v6 : S32.Idx → BitVec 32)
        (broadcastInDim S_ ![] bcast_S_S_ (one 0#32)) reduceWindows_S32_S32_w32s1p31_0 h_S_ := by
  after_reads_simp; simp -implicitDefEqProofs only [StableHlo.TRef.toBuf, StableHlo.TRef.ofBuf, cast_cast, cast_eq, id_eq]
theorem r7 : hostV m c main_v7 = Host.reduceWindow IntOp.addi ![32] ![1] ![31] ![0] (hostV m c main_v6 : S32.Idx → BitVec 32)
    (broadcastInDim S_ ![] bcast_S_S_ (one 0#32)) reduceWindows_S32_S32_w32s1p31_0 h_S_ := by
  rw [cut3 m c main_v7, cut3 m c main_v6]; exact s7 _
theorem s10 (W : Valuation τ sig (Elt F)) : StableHlo.after (post4 (F := F)).flatten W main_v10
    = shapeCast S_ (extractStridedSlice S1 ![31] (StableHlo.after (post4 (F := F)).flatten W main_v7 : S32.Idx → BitVec 32) slices_S32_S1_31) shapeCasts_S1_S_ := by
  after_reads_simp; rfl
theorem r10 : hostV m c main_v10 = shapeCast S_ (extractStridedSlice S1 ![31] (hostV m c main_v7 : S32.Idx → BitVec 32) slices_S32_S1_31) shapeCasts_S1_S_ := by
  rw [cut4 m c main_v10, cut4 m c main_v7]; exact s10 _
theorem s11 (W : Valuation τ sig (Elt F)) : StableHlo.after (post5 (F := F)).flatten W main_v11
    = fdiv0 (StableHlo.after (post5 (F := F)).flatten W main_v10 : S_.Idx → BitVec 32) (StableHlo.after (post5 (F := F)).flatten W main_c_3 : S_.Idx → BitVec 32) := by
  after_reads_simp; simp -implicitDefEqProofs only [StableHlo.TRef.toBuf, StableHlo.TRef.ofBuf, cast_cast, cast_eq, id_eq]
theorem r11 : hostV m c main_v11 = fdiv0 (hostV m c main_v10 : S_.Idx → BitVec 32) (hostV m c main_c_3 : S_.Idx → BitVec 32) := by
  rw [cut5 m c main_v11, cut5 m c main_v10, cut5 m c main_c_3]; exact s11 _
theorem r8 : hostV m c main_v8 = subi (hostV m c main_v7 : S32.Idx → BitVec 32) (hostV m c main_v6 : S32.Idx → BitVec 32) := by
  unfold hostV; after_reads_simp
theorem r13 : hostV m c main_v13 = subi (hostV m c main_v11 : S_.Idx → BitVec 32) (one 1#32) := by
  unfold hostV; after_reads_simp
theorem r18 : hostV m c main_v18 = muli (hostV m c main_v16 : S96.Idx → BitVec 32) (all96 (one 512#32)) := by
  unfold hostV; after_reads_simp
theorem r23 : hostV m c main_v23
    = cmpi .sle (broadcastInDim S96x32 ![0, 1] bcast_S1x32_S96x32_0_1 (broadcastInDim S1x32 ![1] bcast_S32_S1x32_1 (hostV m c main_v7 : S32.Idx → BitVec 32)))
        (broadcastInDim S96x32 ![0, 1] bcast_S96x1_S96x32_0_1 (broadcastInDim S96x1 ![0] bcast_S96_S96x1_0 (hostV m c main_v18 : S96.Idx → BitVec 32))) := by
  unfold hostV; after_reads_simp
theorem r43 : hostV m c main_v43
    = subi (Host.gather gather_S32_S96x1_S96_n_0_n_n_0_1_1 (Cs m c) (col (wrap (hostV m c main_v27 : S96.Idx → BitVec 32) 32#32)))
        (subi (hostV m c main_v18 : S96.Idx → BitVec 32)
          (Host.gather gather_S32_S96x1_S96_n_0_n_n_0_1_1 (hostV m c main_v8 : S32.Idx → BitVec 32) (col (wrap (hostV m c main_v27 : S96.Idx → BitVec 32) 32#32)))) := by
  unfold hostV; after_reads_simp

end Cert.Down
-- ==== Proof.DTok.lean ====
/- The expert-down kernel's tables in the experts' counts: which block of rows a step reads, for which expert, and how many of its
   rows hold tokens. -/
module

public import proofs.«01_k».proof.Proof.DReads2
public import proofs.«01_k».proof.Proof.UDiv
public import proofs.«01_k».proof.Proof.URoute
public import proofs.«01_k».proof.Proof.DTables
public import proofs.«01_k».proof.Proof.UTok

@[expose] public section

noncomputable section

namespace Cert.Down

open Cert.Kernel3Ideal Cert.Kernel3Ideal.Gen
open Cert.Up
open Idealize.ShloMosaic Idealize.ShloMosaic.TcCoe Idealize.ShloMosaic.Tactic

local notation "𝕋" => S96.Idx → BitVec 32
local notation "𝔼" => S32.Idx → BitVec 32

theorem all32_at (v : S_.Idx → BitVec 32) (j : S32.Idx) : all32 v j = v ix0 := Routing.bc0 _ _ _

variable {F : FTy → Type} [FloatOps F]
variable (m : (ℓ : Loc nD τ sig) → Buf (Elt F) ℓ) (c : Dev nD)
variable (C : ℕ → ℕ) (hC : ∀ e, C e ≤ 8192) (hCs : ∀ e : Fin 32, Cs m c (ix1 e) = BitVec.ofNat 32 (C e.val))

include hCs
theorem w3 (e : Fin 32) : (hostV m c main_v3 : 𝔼) (ix1 e) = BitVec.ofNat 32 (C e.val + 511) := by
  rw [r3]
  show IntOp.subi (IntOp.addi (Cs m c (ix1 e)) (all32 (one 512#32) (ix1 e))) (all32 (one 1#32) (ix1 e)) = _
  rw [all32_at, all32_at, hCs]
  exact (congrArg (fun x => IntOp.subi x _) (add_word (C e.val) 512)).trans (sub_word (C e.val + 512) 1 (by omega))

include hC
theorem w6 (e : Fin 32) : (hostV m c main_v6 : 𝔼) (ix1 e) = BitVec.ofNat 32 (padN C e.val) := by
  have h := hC e.val
  rw [r6, rc1]
  show IntOp.muli (fdiv32 _ (one 512#32) (ix1 e)) (all32 (one 512#32) (ix1 e)) = _
  have hd : fdiv32 (hostV m c main_v3 : 𝔼) (one 512#32) (ix1 e) = BitVec.ofNat 32 ((C e.val + 511) / 512) :=
    floorDiv_at _ _ _ _ _ (ix1 e) (C e.val + 511) 512 (w3 m c C hCs e) (all32_at _ _) ((all32_at _ _).trans (by decide)) (all32_at _ _)
      (by omega) (by decide) (by decide)
  rw [all32_at, hd]
  exact mul_word _ 512

theorem w7 (e : Fin 32) : (hostV m c main_v7 : 𝔼) (ix1 e) = BitVec.ofNat 32 (startN C (e.val + 1)) := by
  rw [r7]
  exact Routing.cumsum1 (N := 32) (by rfl) _ (padN C) (w6 m c C hC hCs) _ (Routing.bc0 _ _ _) _ _ e

theorem w8 (e : Fin 32) : (hostV m c main_v8 : 𝔼) (ix1 e) = BitVec.ofNat 32 (startN C e.val) := by
  rw [r8]
  show IntOp.subi ((hostV m c main_v7 : 𝔼) (ix1 e)) ((hostV m c main_v6 : 𝔼) (ix1 e)) = _
  rw [w7 m c C hC hCs, w6 m c C hC hCs, sub_word _ _ (by rw [startN_succ]; omega), startN_succ, Nat.add_sub_cancel]

/-- The blocks that the experts' rows take, in all. -/
abbrev blocksN : ℕ := startN C 32 / 512

omit hCs hC in
theorem cast_one (v : S1.Idx → BitVec 32) : shapeCast S_ v shapeCasts_S1_S_ ix0 = v (ix1 0) := cast1 v

theorem w10 : (hostV m c main_v10 : S_.Idx → BitVec 32) ix0 = BitVec.ofNat 32 (startN C 32) := by
  rw [r10, cast1]
  exact (Routing.slice1 31 _ _ (0 : Fin 1) (by decide)).trans (w7 m c C hC hCs 31)

theorem w11 : (hostV m c main_v11 : S_.Idx → BitVec 32) ix0 = BitVec.ofNat 32 (blocksN C) := by
  have h := startN_le C hC 32
  rw [r11, rc3]
  exact floorDiv_at _ _ _ _ _ ix0 (startN C 32) 512 (w10 m c C hC hCs) rfl (by decide) rfl (by omega) (by decide) (by decide)

theorem w13 : ((hostV m c main_v13 : S_.Idx → BitVec 32) ix0).toInt.toNat = blocksN C - 1 := by
  have h := startN_le C hC 32
  rw [r13]
  show (IntOp.subi ((hostV m c main_v11 : S_.Idx → BitVec 32) ix0) 1#32).toInt.toNat = _
  rw [w11 m c C hC hCs]
  rcases Nat.eq_zero_or_pos (blocksN C) with h0 | h0
  · rw [h0]; decide
  · have e := sub_word (blocksN C) 1 h0
    refine (congrArg (fun w : BitVec 32 => w.toInt.toNat) e).trans ?_
    show (BitVec.ofNat 32 (blocksN C - 1)).toInt.toNat = _
    rw [StableHlo.Predicate.toInt_ofNat_small _ (by show startN C 32 / 512 - 1 < 2 ^ 31; omega)]
    omega

theorem w16' (b : Fin 96) : (hostV m c main_v16 : 𝕋) (ix1 b) = BitVec.ofNat 32 (min b.val (blocksN C - 1)) := by
  rw [w16, w13 m c C hC hCs]

theorem w18 (b : Fin 96) : (hostV m c main_v18 : 𝕋) (ix1 b) = BitVec.ofNat 32 (min b.val (blocksN C - 1) * 512) := by
  rw [r18]
  show IntOp.muli ((hostV m c main_v16 : 𝕋) (ix1 b)) (all96 (one 512#32) (ix1 b)) = _
  rw [w16' m c C hC hCs, all96_at]
  exact mul_word _ 512

theorem stops_iff (b : Fin 96) (q : Fin 32) : stops m c (ix2 b q) = 1#1 ↔ startN C (q.val + 1) ≤ min b.val (blocksN C - 1) * 512 := by
  have h := startN_le C hC (q.val + 1)
  unfold stops
  rw [r23]
  show IntOp.cmpi .sle (broadcastInDim S96x32 ![0, 1] bcast_S1x32_S96x32_0_1 (broadcastInDim S1x32 ![1] bcast_S32_S1x32_1 (hostV m c main_v7 : 𝔼)) (ix2 b q))
    (broadcastInDim S96x32 ![0, 1] bcast_S96x1_S96x32_0_1 (broadcastInDim S96x1 ![0] bcast_S96_S96x1_0 (hostV m c main_v18 : 𝕋)) (ix2 b q)) = 1#1 ↔ _
  have e1 : broadcastInDim S96x32 ![0, 1] bcast_S1x32_S96x32_0_1 (broadcastInDim S1x32 ![1] bcast_S32_S1x32_1 (hostV m c main_v7 : 𝔼)) (ix2 b q)
      = BitVec.ofNat 32 (startN C (q.val + 1)) := (Routing.bcCols _ _ _ b q).trans (w7 m c C hC hCs q)
  have e2 : broadcastInDim S96x32 ![0, 1] bcast_S96x1_S96x32_0_1 (broadcastInDim S96x1 ![0] bcast_S96_S96x1_0 (hostV m c main_v18 : 𝕋)) (ix2 b q)
      = BitVec.ofNat 32 (min b.val (blocksN C - 1) * 512) := (Routing.bcRows _ _ _ b q).trans (w18 m c C hC hCs b)
  rw [e1, e2]
  exact sle_small _ _ (by omega) (by omega)

theorem w43 (b : Fin 96) : (hostV m c main_v43 : 𝕋) (ix1 b)
    = IntOp.subi (BitVec.ofNat 32 (C (ex m c b).val)) (IntOp.subi (BitVec.ofNat 32 (min b.val (blocksN C - 1) * 512)) (BitVec.ofNat 32 (startN C (ex m c b).val))) := by
  rw [r43]
  have hi : col (wrap (hostV m c main_v27 : 𝕋) 32#32) (ix2 b (0 : Fin 1)) = BitVec.ofNat 32 (ex m c b).val :=
    (Routing.bcCol _ _ b).trans ((wrap_at _ _ _ (exN_small m c b.val) (ix1 b) (w27 m c b)).trans (by rw [exN_val]))
  show IntOp.subi (Host.gather gather_S32_S96x1_S96_n_0_n_n_0_1_1 (Cs m c) _ (ix1 b)) (IntOp.subi ((hostV m c main_v18 : 𝕋) (ix1 b))
    (Host.gather gather_S32_S96x1_S96_n_0_n_n_0_1_1 (hostV m c main_v8 : 𝔼) _ (ix1 b))) = _
  rw [w18 m c C hC hCs]
  refine congrArg₂ IntOp.subi ?_ (congrArg (IntOp.subi _) ?_)
  · exact (Routing.gather_take1 (N := 32) (n := 96) _ rfl rfl rfl rfl _ _ b (ex m c b) hi (by decide)).trans (hCs _)
  · exact (Routing.gather_take1 (N := 32) (n := 96) _ rfl rfl rfl rfl _ _ b (ex m c b) hi (by decide)).trans (w8 m c C hC hCs _)

/-- A step is past the experts' rows and works on nothing, or it works on its own block of rows, for the expert those rows are of. -/
theorem step_cases (b : Fin 96) : (startN C 32 ≤ 512 * b.val ∧ nv m c b = 0) ∨
    (startN C (ex m c b).val ≤ 512 * b.val ∧ 512 * b.val < startN C ((ex m c b).val + 1)
      ∧ (hostV m c main_v16 : 𝕋) (ix1 b) = BitVec.ofNat 32 b.val
      ∧ nv m c b = min 512 (C (ex m c b).val - (512 * b.val - startN C (ex m c b).val))) := by
  have hN := startN_le C hC 32
  have hN512 := startN_block C 32
  have hslt := slt_small b.val (blocksN C) (by omega) (by show startN C 32 / 512 < 2 ^ 31; omega)
  rcases Nat.lt_or_ge (512 * b.val) (startN C 32) with hlt | hge
  · right
    have hmin : min b.val (blocksN C - 1) = b.val := min_eq_left (by show b.val ≤ startN C 32 / 512 - 1; omega)
    obtain ⟨E, h1, h2, hcard⟩ := ends_before C (512 * b.val) hlt
    have hex : ex m c b = E := by
      refine Fin.ext ?_
      show min (cnt m c b) 31 = E.val
      have : cnt m c b = E.val := by
        rw [← hcard]
        refine congrArg Finset.card (Finset.filter_congr fun q _ => ?_)
        rw [stops_iff m c C hC hCs, hmin, Nat.mul_comm]
      rw [this]; omega
    have h43 := w43 m c C hC hCs b
    rw [hex, hmin] at h43
    rw [hex]
    refine ⟨h1, h2, by rw [w16' m c C hC hCs, hmin], ?_⟩
    have hb := startN_block C E.val
    have hs := startN_succ C E.val
    have hCE := hC E.val
    unfold padN at hs
    rw [sub_word _ _ (by omega), sub_word _ _ (by omega)] at h43
    unfold nv
    rw [w11 m c C hC hCs, if_pos (hslt.2 (by show b.val < startN C 32 / 512; omega)), h43, StableHlo.Predicate.toInt_ofNat_small _ (by omega)]
    omega
  · left
    refine ⟨hge, ?_⟩
    unfold nv
    rw [w11 m c C hC hCs, if_neg fun h => by
      have := hslt.1 h
      have h' : b.val < startN C 32 / 512 := this
      omega]

end Cert.Down
-- ==== Proof.DMask.lean ====
/- The reference's ranges of rows: row `p` is expert `e`'s exactly when it lies in the expert's chunks. -/
module

public import proofs.«01_k».proof.Proof.Gen.Reference3Ideal.Run
public import proofs.«01_k».proof.Proof.UDiv
public import proofs.«01_k».proof.Proof.URoute
public import proofs.«01_k».proof.Proof.DTok

@[expose] public section

noncomputable section

namespace Cert.Reference3Ideal.Entry

open Cert.Reference3Ideal Cert.Reference3Ideal.Gen Cert.Reference3Ideal.Value
open Cert.Up (padN startN mineN startN_succ startN_le floorDiv_at add_word mul_word sub_word sle_small slt_small both_bits)
open Idealize.ShloMosaic Idealize.ShloMosaic.TcCoe

variable (x : S32.Idx → BitVec 32)

/-- The vector of one word, over the experts. -/
abbrev each (n : BitVec 32) : S32.Idx → BitVec 32 := broadcastInDim S32 ![] bcast_S_S32 (constantI S_ 32 n)
abbrev eachId (n : BitVec 32) : S32.Idx → BitVec 32 := broadcastInDim S32 ![] bcast_S_S32 (id (constantI S_ 32 n))
abbrev eachSign (n : BitVec 32) : S32.Idx → BitVec 32 := broadcastInDim S32 ![] bcast_S_S32 (signi (id (constantI S_ 32 n)))

/-- The counts rounded up to multiples of a number `k`, where `r` is `k - 1`. -/
abbrev roundUp (r k : BitVec 32) : S32.Idx → BitVec 32 :=
  muli (select (andi (cmpi .ne (signi (addi x (each r))) (eachSign k)) (cmpi .ne (Host.remsi (addi x (each r)) (eachId k)) (each 0#32)))
    (subi (Host.divsi (addi x (each r)) (eachId k)) (each 1#32)) (Host.divsi (addi x (each r)) (eachId k))) (each k)

/-- Where the experts' rows start. -/
abbrev starts : S32.Idx → BitVec 32 :=
  subi (Host.reduceWindow IntOp.addi ![32] ![1] ![31] ![0] (roundUp x 511#32 512#32) (broadcastInDim S_ ![] bcast_S_S_ (constantI S_ 32 0#32))
    reduceWindows_S32_S32_w32s1p31_0 h_S_) (roundUp x 511#32 512#32)

/-- The rows' numbers, for every expert. -/
abbrev rowNo : S32x49152.Idx → BitVec 32 :=
  broadcastInDim S32x49152 ![0, 1] bcast_S1x49152_S32x49152_0_1 (broadcastInDim S1x49152 ![1] bcast_S49152_S1x49152_1 (iotaInDim S49152 32 0))

/-- Which rows are which expert's. -/
abbrev mask : S32x49152.Idx → BitVec 1 :=
  andi (cmpi .sle (broadcastInDim S32x49152 ![0, 1] bcast_S32x1_S32x49152_0_1 (broadcastInDim S32x1 ![0] bcast_S32_S32x1_0 (starts x))) rowNo)
    (cmpi .slt rowNo (broadcastInDim S32x49152 ![0, 1] bcast_S32x1_S32x49152_0_1
      (addi (broadcastInDim S32x1 ![0] bcast_S32_S32x1_0 (starts x)) (broadcastInDim S32x1 ![0] bcast_S32_S32x1_0 (roundUp x 127#32 128#32)))))

theorem each_at (n : BitVec 32) (j : S32.Idx) : each n j = n := Routing.bc0 _ _ _

variable (C : ℕ → ℕ) (hC : ∀ e, C e ≤ 8192) (hx : ∀ e : Fin 32, x (ix1 e) = BitVec.ofNat 32 (C e.val))

include hC hx
theorem roundUp_at (r k : ℕ) (hr : r < 2 ^ 30) (h0 : 0 < k) (hk : k < 2 ^ 31) (hs : signi (id (constantI S_ 32 (BitVec.ofNat 32 k))) ix0 = 1#32) (e : Fin 32) :
    roundUp x (BitVec.ofNat 32 r) (BitVec.ofNat 32 k) (ix1 e) = BitVec.ofNat 32 ((C e.val + r) / k * k) := by
  have h := hC e.val
  have hn : addi x (each (BitVec.ofNat 32 r)) (ix1 e) = BitVec.ofNat 32 (C e.val + r) := by
    show IntOp.addi (x (ix1 e)) (each _ (ix1 e)) = _
    rw [each_at, hx]
    exact add_word _ _
  have hd := floorDiv_at (addi x (each (BitVec.ofNat 32 r))) (eachId (BitVec.ofNat 32 k)) (eachSign (BitVec.ofNat 32 k)) (each 0#32) (each 1#32) (ix1 e)
    (C e.val + r) k hn (Routing.bc0 _ _ _) ((Routing.bc0 _ _ _).trans hs) (each_at _ _) (by omega) h0 hk
  refine (congrArg₂ IntOp.muli hd (each_at _ _)).trans ?_
  exact mul_word _ _

theorem starts_at (e : Fin 32) : starts x (ix1 e) = BitVec.ofNat 32 (startN C e.val) := by
  have hp : ∀ e : Fin 32, roundUp x 511#32 512#32 (ix1 e) = BitVec.ofNat 32 (padN C e.val) := fun e =>
    roundUp_at x C hC hx 511 512 (by decide) (by decide) (by decide) (by decide) e
  have hw : Host.reduceWindow IntOp.addi ![32] ![1] ![31] ![0] (roundUp x 511#32 512#32) (broadcastInDim S_ ![] bcast_S_S_ (constantI S_ 32 0#32))
      reduceWindows_S32_S32_w32s1p31_0 h_S_ (ix1 e) = BitVec.ofNat 32 (startN C (e.val + 1)) :=
    Routing.cumsum1 (N := 32) (by rfl) _ (padN C) hp _ (Routing.bc0 _ _ _) _ _ e
  refine (congrArg₂ IntOp.subi hw (hp e)).trans ?_
  rw [sub_word _ _ (by rw [startN_succ]; omega), startN_succ, Nat.add_sub_cancel]

theorem mask_at (e : Fin 32) (p : Fin 49152) : mask x (ix2 e p) = 1#1 ↔ mineN C e.val p.val := by
  have h := hC e.val
  have hS := startN_le C hC e.val
  have hrow : rowNo (ix2 e p) = BitVec.ofNat 32 p.val := Routing.bcCols _ _ _ e p
  have hlow : broadcastInDim S32x49152 ![0, 1] bcast_S32x1_S32x49152_0_1 (broadcastInDim S32x1 ![0] bcast_S32_S32x1_0 (starts x)) (ix2 e p)
      = BitVec.ofNat 32 (startN C e.val) := (Routing.bcRows _ _ _ e p).trans (starts_at x C hC hx e)
  have hhigh : broadcastInDim S32x49152 ![0, 1] bcast_S32x1_S32x49152_0_1
      (addi (broadcastInDim S32x1 ![0] bcast_S32_S32x1_0 (starts x)) (broadcastInDim S32x1 ![0] bcast_S32_S32x1_0 (roundUp x 127#32 128#32))) (ix2 e p)
      = BitVec.ofNat 32 (startN C e.val + (C e.val + 127) / 128 * 128) := by
    refine (broadcastInDim_apply _ _ _ _ (ix2 e (0 : Fin 1)) fun a => ?_).trans ?_
    · match a with
      | ⟨0, _⟩ => rfl
      | ⟨1, _⟩ => rfl
    · refine (congrArg₂ IntOp.addi ((Routing.bcCol _ _ e).trans (starts_at x C hC hx e))
        ((Routing.bcCol _ _ e).trans (roundUp_at x C hC hx 127 128 (by decide) (by decide) (by decide) (by decide) e))).trans ?_
      exact add_word _ _
  refine (both_bits _ _).trans (and_congr ?_ ?_)
  · refine (iff_of_eq (congrArg (· = 1#1) (congrArg₂ (IntOp.cmpi .sle) hlow hrow))).trans ?_
    exact sle_small _ _ (by omega) (by omega)
  · refine (iff_of_eq (congrArg (· = 1#1) (congrArg₂ (IntOp.cmpi .slt) hrow hhigh))).trans ?_
    exact slt_small _ _ (by omega) (by omega)

end Cert.Reference3Ideal.Entry
-- ==== Proof.DRef.lean ====
/- The reference's result for the expert-down layer, entry by entry. -/
module

public import proofs.«01_k».proof.Proof.DMask
public import proofs.«01_k».proof.Proof.UDot
public import proofs.«01_k».proof.Proof.Scalars
public import Idealize.ShloMosaic.Lib.ValueIdx
public import Idealize.ShloMosaic.Lib.ValueLayout
public import Idealize.ShloMosaic.Lib.Pointwise.Reduce

@[expose] public section

set_option maxRecDepth 16384

noncomputable section

namespace Cert.Reference3Ideal.Entry

open Cert.Reference3Ideal Cert.Reference3Ideal.Gen Cert.Reference3Ideal.Value Cert.Scalars
open Cert.Up (mineN stackRows_apply)
open Idealize.ShloMosaic hiding ix1 ix2 ix3 ix4 eq_ix2
open Idealize.ShloMosaic.TcCoe Idealize.ShloMosaic.Tactic
open Idealize.ShloMosaic.ValueIdx

variable (m : (ℓ : Loc nD τ sig) → Buf (Elt Ideal) ℓ) (c : Dev nD)

abbrev Cnt : S32.Idx → BitVec 32 := m ((c : Thread nD τ).loc main_arg0)
abbrev Xr : Vec Ideal S49152x2048 .bf16 := m ((c : Thread nD τ).loc main_arg1)
abbrev Wr : Vec Ideal S1x32x2048x2048 .f32 := m ((c : Thread nD τ).loc main_arg2)
abbrev Br : Vec Ideal S1x32x2048 .f32 := m ((c : Thread nD τ).loc main_arg3)

/-- Every row against every expert's weights, with the expert's bias. -/
abbrev Zr : FVec Ideal S32x49152x2048 .f32 :=
  addf (transpose S32x49152x2048 [0, 2, 1] (Host.dotGeneral (φ₁ := .f32) (φ₂ := .f32) dot_S32x2048x2048_S49152x2048_S32x2048x49152_1_1_02_0_n_n none
      (shapeCast S32x2048x2048 (Wr m c) shapeCasts_S1x32x2048x2048_S32x2048x2048) (extf .f32 (Xr m c) bitsLt_bf16_f32))
      transposes_S32x2048x49152_S32x49152x2048_0_2_1)
    (broadcastInDim S32x49152x2048 ![0, 1, 2] bcast_S32x1x2048_S32x49152x2048_0_1_2
      (broadcastInDim S32x1x2048 ![0, 2] bcast_S32x2048_S32x1x2048_0_2 (shapeCast S32x2048 (Br m c) shapeCasts_S1x32x2048_S32x2048)))

/-- Zero, at every expert, row and column. -/
abbrev none0 : FVec Ideal S32x49152x2048 .f32 := broadcastInDim S32x49152x2048 ![] bcast_S_S32x49152x2048 (id (constant S_ .f32 0x00000000#32))

/-- The sums where the row is the expert's, zero elsewhere. -/
abbrev Sr : FVec Ideal S32x49152x2048 .f32 :=
  select (broadcastInDim S32x49152x2048 ![0, 1, 2] bcast_S32x49152x1_S32x49152x2048_0_1_2 (broadcastInDim S32x49152x1 ![0, 1] bcast_S32x49152_S32x49152x1_0_1 (mask (Cnt m c))))
    (Zr m c) none0

theorem res_eq : (res_main_v36 m c : Vec Ideal S786432x128 .f32)
    = shapeCast S786432x128 (Host.reduceAdd (Sr m c) (constant S_ .f32 0x00000000#32) reducesTo_S32x49152x2048_S49152x2048_d0 h_S_) shapeCasts_S49152x2048_S786432x128 := by
  unfold res_main_v36
  sl_kernel_rfl

/-- Row `p` against expert `e`'s column `j`, with the bias. -/
def refSum (e : Fin 32) (p : Fin 49152) (j : Fin 2048) : EReal :=
  (∑ k : Fin 2048, Wr m c (ix4 (0 : Fin 1) e k j) * Xr m c (ix2 p k)) + Br m c (ix3 (0 : Fin 1) e j)

theorem Zr_at (e : Fin 32) (p : Fin 49152) (j : Fin 2048) : Zr m c (ix3 e p j) = refSum m c e p j := by
  unfold refSum
  refine congrArg₂ (· + ·) ?_ ?_
  · refine (transpose_ix3_021_apply _ _ e p j).trans ?_
    refine (stackRows_apply _ none _ _ e j p).trans (Finset.sum_congr rfl fun k _ => ?_)
    exact congrArg₂ (· * ·) (shapeCast_1abc_abc_apply (Wr m c) _ e k j) rfl
  · refine (broadcastInDim_apply _ _ _ (ix3 e p j) (ix3 e (0 : Fin 1) j) fun a => ?_).trans ?_
    · match a with
      | ⟨0, _⟩ => rfl
      | ⟨1, _⟩ => rfl
      | ⟨2, _⟩ => rfl
    · refine (broadcastInDim_apply _ _ _ (ix3 e (0 : Fin 1) j) (ix2 e j) fun a => ?_).trans ?_
      · match a with
        | ⟨0, _⟩ => rfl
        | ⟨1, _⟩ => rfl
      · exact shapeCast_1ab_ab_apply (Br m c) _ e j

variable (C : ℕ → ℕ) (hC : ∀ e, C e ≤ 8192) (hx : ∀ e : Fin 32, Cnt m c (ix1 e) = BitVec.ofNat 32 (C e.val))

open Classical in
include hC hx in
/-- Every row's result: the product with its expert's weights, summed over the experts whose row it is; a row lies as sixteen
    rows of 128 entries. -/
theorem entry (i : S786432x128.Idx) (p : Fin 49152) (n : Fin 2048) (hp : p.val = (i 0).val / 16) (hn : n.val = (i 0).val % 16 * 128 + (i 1).val) :
    (res_main_v36 m c : Vec Ideal S786432x128 .f32) i = ∑ e : Fin 32, if mineN C e.val p.val then refSum m c e p n else 0 := by
  rw [res_eq]
  refine (shapeCast_apply _ _ i (ix2 p n) ?_).trans ?_
  · rw [Shape.rowMajor_val_two, Shape.rowMajor_val_two]
    show p.val * 2048 + n.val = (i 0).val * 128 + (i 1).val
    omega
  refine (Ideal.hostReduceAdd_r3_a0 (n0 := 32) (n1 := 49152) (n2 := 2048) reducesTo_S32x49152x2048_S49152x2048_d0 (Sr m c) _ (ix2 p n)).trans ?_
  have h0 : (constant S_ .f32 0x00000000#32 : FVec Ideal S_ .f32) (Shape.Idx.first h_S_) = 0 := word_zero
  refine (congrArg₂ (· + ·) h0 (Finset.sum_congr rfl fun e _ => ?_)).trans (zero_add _)
  show Sr m c (ix3 e p n) = _
  have hm : broadcastInDim S32x49152x2048 ![0, 1, 2] bcast_S32x49152x1_S32x49152x2048_0_1_2 (broadcastInDim S32x49152x1 ![0, 1] bcast_S32x49152_S32x49152x1_0_1 (mask (Cnt m c)))
      (ix3 e p n) = mask (Cnt m c) (ix2 e p) := by
    refine (broadcastInDim_apply _ _ _ (ix3 e p n) (ix3 e p (0 : Fin 1)) fun a => ?_).trans (broadcastInDim_apply _ _ _ (ix3 e p (0 : Fin 1)) (ix2 e p) fun a => ?_)
    · match a with
      | ⟨0, _⟩ => rfl
      | ⟨1, _⟩ => rfl
      | ⟨2, _⟩ => rfl
    · match a with
      | ⟨0, _⟩ => rfl
      | ⟨1, _⟩ => rfl
  have hz : none0 (ix3 e p n) = 0 := (Routing.bc0 _ _ _).trans word_zero
  have hmask : mask (Cnt m c) (ix2 e p) = 1#1 ↔ mineN C e.val p.val := mask_at (Cnt m c) C hC hx e p
  show Scalar.select _ (Zr m c (ix3 e p n)) (none0 (ix3 e p n)) = _
  rw [hm, hz, Zr_at]
  unfold Scalar.select
  by_cases h : mineN C e.val p.val
  · exact (if_pos (hmask.2 h)).trans (if_pos h).symm
  · exact (if_neg fun h' => h (hmask.1 h')).trans (if_neg h).symm

end Cert.Reference3Ideal.Entry
-- ==== Proof.DTie.lean ====
/- The expert-down layer: the kernel's result and the reference's agree, entry by entry. -/
module

public import proofs.«01_k».proof.Proof.DArray
public import proofs.«01_k».proof.Proof.DTok
public import proofs.«01_k».proof.Proof.DRef

@[expose] public section

set_option maxRecDepth 16384

noncomputable section

namespace Cert.Down

open Cert.Up
open Idealize.ShloMosaic hiding ix1 ix2 ix3 ix4 eq_ix2
open Idealize.ShloMosaic.TcCoe
open Idealize.ShloMosaic.ValueIdx
open Cert.Reference3Ideal.Entry (Cnt Xr Wr Br refSum)

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ) (c : Dev Cert.Kernel3Ideal.nD)
variable (C : ℕ → ℕ) (hC : ∀ e, C e ≤ 8192) (hx : ∀ e : Fin 32, Cs m c (ix1 e) = BitVec.ofNat 32 (C e.val))
variable (h0 : Cnt m' c = Cs m c) (h1 : Xr m' c = Xs m c) (h2 : Wr m' c = W2 m c) (h3 : Br m' c = B2 m c)

include h1 h2 h3 in
/-- A row's sum is the same on both sides, once the step reads the row's own block. -/
theorem sum_same (b : Fin 96) (q : Fin 512) (p : Fin 49152) (j : Fin 2048) (hp : p.val = b.val * 512 + q.val) (hb : blkN m c b = b.val) :
    dnSum m c b q j = refSum m' c (ex m c b) p j := by
  unfold dnSum refSum
  rw [h1, h2, h3]
  refine congrArg (· + _) (Finset.sum_congr rfl fun k _ => ?_)
  rw [mul_comm]
  refine congrArg (_ * ·) (congrArg (Xs m c) (congrArg (fun r => ix2 r k) (Fin.ext ?_)))
  show blkN m c b * 512 + q.val = p.val
  rw [hb, hp]

include hC hx h0 h1 h2 h3 in
theorem agree : (Cert.Reference3Ideal.Value.res_main_v36 m' c : Vec Ideal Cert.Reference3Ideal.S786432x128 .f32) = dnArr m c := by
  classical
  funext i
  have i0 : (i 0).val < 786432 := (i 0).isLt
  have i1 : (i 1).val < 128 := (i 1).isLt
  let p : Fin 49152 := ⟨(i 0).val / 16, by omega⟩
  let n : Fin 2048 := ⟨(i 0).val % 16 * 128 + (i 1).val, by omega⟩
  let b : Fin 96 := ⟨(i 0).val / 8192, by omega⟩
  let q : Fin 512 := ⟨(i 0).val % 8192 / 16, by omega⟩
  refine (Cert.Reference3Ideal.Entry.entry m' c C hC (fun e => (congrFun h0 (ix1 e)).trans (hx e)) i p n rfl rfl).trans ?_
  have hpq : p.val = b.val * 512 + q.val := by show (i 0).val / 16 = (i 0).val / 8192 * 512 + (i 0).val % 8192 / 16; omega
  have hpq' : p.val = 512 * b.val + q.val := by omega
  show _ = dnEnt m c b q n
  unfold dnEnt
  rcases step_cases m c C hC hx b with ⟨hpast, hn⟩ | ⟨hlo, hhi, h16, hn⟩
  · have hq : ¬ q.val < 128 * (kOf (nv m c b)).val := by
      rw [hn, show (kOf 0).val = 0 from rfl]; omega
    rw [if_neg hq]
    refine Finset.sum_eq_zero fun e _ => if_neg ?_
    rw [hpq']
    exact not_mine_past C e.isLt hpast
  · have hb : blkN m c b = b.val := by
      unfold blkN
      have e : (pfs m c 0 : Cert.Kernel3Ideal.S96.Idx → BitVec 32) (ix1 b) = BitVec.ofNat 32 b.val := h16
      rw [e]
      exact toNat_small _ (by omega)
    have hmine : ∀ e, mineN C e p.val ↔ e = (ex m c b).val ∧ q.val < 128 * (kOf (nv m c b)).val := fun e => by
      rw [hpq']
      exact mine_iff C q.isLt hlo hhi hn
    rw [Finset.sum_eq_single (ex m c b) (fun e _ he => if_neg fun h => he (Fin.ext ((hmine e.val).1 h).1)) (fun h => absurd (Finset.mem_univ _) h)]
    by_cases hq : q.val < 128 * (kOf (nv m c b)).val
    · rw [if_pos hq, if_pos ((hmine _).2 ⟨rfl, hq⟩)]
      exact (sum_same m m' c h1 h2 h3 b q p n hpq hb).symm
    · rw [if_neg hq, if_neg fun h => hq ((hmine _).1 h).2]

end Cert.Down
-- ==== Proof.DValue.lean ====
/- The expert-down layer's value claim. -/
module

public import proofs.«01_k».proof.Proof.DTie
public import proofs.«01_k».proof.Proof.DFrames
public import proofs.«01_k».proof.Proof.Gen.Pre_counts_of_a_routing_down
public import proofs.«01_k».proof.Proof.UValue

@[expose] public section

set_option maxRecDepth 16384

noncomputable section

namespace Cert.Down

open Cert.Up
open Idealize.ShloMosaic Idealize.ShloMosaic.TcCoe Idealize.ShloMosaic.Tactic
open Idealize.SL.Sem

section
open Cert.Kernel3Ideal Cert.Kernel3Ideal.Gen
variable (m : (ℓ : Loc nD τ sig) → Buf (Elt Ideal) ℓ) (ρ : Dev nD → PrngReg)

/-- The kernel's run, its result read. -/
theorem run_value : θ_run (defs (F := Ideal)) (onTc (τ := τ) (main (F := Ideal))) ⟨m, fun _ => 0, ρ⟩
    (fun r => ∀ c : Dev nD, r.2.mem ((c : Thread nD τ).loc main_v91) = dnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain rfl : c = 0 := Subsingleton.elim (α := Fin 1) _ _
    exact ⟨((h.1 0).1 2).trans (result m 0),
      ((h.1 0).2 main_arg0 (Pipeline.mem_restRefs_of main_arg0 (by decide) (show ∀ w : Fin 3, (spec0 w).arr.view.ref ≠ main_arg0 by decide))).trans (r_arg0 m 0),
      ((h.1 0).1 0).trans (((dats (hostV m) (adm m 0) (schedA m 0) 0 0).arrAt_in 0 rfl _).trans (r_arg1 m 0)),
      ((h.1 0).2 main_arg2 (Pipeline.mem_restRefs_of main_arg2 (by decide) (show ∀ w : Fin 3, (spec0 w).arr.view.ref ≠ main_arg2 by decide))).trans (r_arg2 m 0),
      ((h.1 0).2 main_arg3 (Pipeline.mem_restRefs_of main_arg3 (by decide) (show ∀ w : Fin 3, (spec0 w).arr.view.ref ≠ main_arg3 by decide))).trans (r_arg3 m 0)⟩)
    (run_at_tables m ρ 0)
end

theorem algebraic_down : Cert.algebraic_Kernel3Ideal_Reference3Ideal_pre_counts_of_a_routing_down := by
  intro m ρ m' ρ' hpre hagree
  refine ⟨_, run_value m ρ, ?_⟩
  refine (θ_run Cert.Reference3Ideal.defs _ _).mono (fun _ h c => ⟨?_, (h c).2⟩) (Cert.Reference3Ideal.Value.run (F := Ideal) m' ρ')
  rw [(h c).1]
  have hsmall : ∀ e : Fin 32, (Cs m c (ix1 e)).toNat ≤ 8192 := fun e => count_small _ (congrFun (hpre c) (ix1 e))
  refine agree m m' c (counts (Cs m c)) (fun e => ?_) (fun e => ?_) (hagree c).1 (hagree c).2.1 (hagree c).2.2.1 (hagree c).2.2.2
  · unfold counts
    split
    · exact hsmall _
    · omega
  · unfold counts
    rw [dif_pos e.isLt]
    apply BitVec.eq_of_toNat_eq
    rw [BitVec.toNat_ofNat]
    exact (Nat.mod_eq_of_lt (BitVec.isLt _)).symm

end Cert.Down
-- ==== Proof.lean ====
/- The claim put together: each frame from its generated run, the value from the comparison of the two results
   entry by entry in Proof/Tie.lean, and in Proof/UValue.lean and Proof/DValue.lean for the experts' layers. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Tie
public import proofs.«01_k».proof.Proof.Gen.Kernel2
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Pre_counts_of_a_routing
public import proofs.«01_k».proof.Proof.UValue
public import proofs.«01_k».proof.Proof.Gen.Kernel3Ideal.Launch
public import proofs.«01_k».proof.Proof.Gen.Kernel3Ideal.Skeleton
public import proofs.«01_k».proof.Proof.Gen.Kernel3
public import proofs.«01_k».proof.Proof.Gen.Pre_counts_of_a_routing_down
public import proofs.«01_k».proof.Proof.Gen.Reference3Ideal.Run
public import proofs.«01_k».proof.Proof.DFrames
public import proofs.«01_k».proof.Proof.DValue

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Tie.agree m m' c (hagree c).1 (hagree c).2

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_counts_of_a_routing.Gen.facts, Cert.Pre_counts_of_a_routing_down.Gen.facts,
  fun m ρ _ => Cert.Kernel.Gen.frame m ρ, fun m ρ _ => Cert.KernelIdeal.Gen.frame m ρ, quiescent_ReferenceIdeal,
  Cert.Up.frame_bits, Cert.Up.frame_ideal, fun m ρ _ => Cert.Up.frame_ideal m ρ trivial, quiescent_Reference2Ideal,
  fun m ρ _ => quiescent_Reference2Ideal m ρ trivial,
  Cert.Down.frame_bits, Cert.Down.frame_ideal, fun m ρ _ => Cert.Down.frame_ideal m ρ trivial, quiescent_Reference3Ideal,
  fun m ρ _ => quiescent_Reference3Ideal m ρ trivial,
  IdealRules.named_const.statement Cert.KernelIdeal.κ "gelu_c_cubic" .f32 0x3D122279#32 _ rfl, algebraic_KernelIdeal_ReferenceIdeal,
  trivial, Cert.Up.algebraic_up, trivial, Cert.Down.algebraic_down⟩

end Cert.Proof

end
